-- ==== Defs.lean ====
def Pre_Rowmm (m : (ℓ : Loc Cert.Rowmm.nD Cert.Rowmm.τ Cert.Rowmm.sig) → Buf (Elt Bits) ℓ) : Prop :=
  True

def Pre_RowmmIdeal (m : (ℓ : Loc Cert.RowmmIdeal.nD Cert.RowmmIdeal.τ Cert.RowmmIdeal.sig) → Buf (Elt Ideal) ℓ) : Prop :=
  True

def Pre_RowmmReferenceIdeal (m : (ℓ : Loc Cert.RowmmReferenceIdeal.nD Cert.RowmmReferenceIdeal.τ Cert.RowmmReferenceIdeal.sig) → Buf (Elt Ideal) ℓ) : Prop :=
  True

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanIdeal_scan_finite [hPre_scan_finite : Cert.Pre_scan_finite.Facts] (m : (ℓ : Loc Cert.ScanIdeal.nD Cert.ScanIdeal.τ Cert.ScanIdeal.sig) → Buf (Elt Ideal) ℓ) : Prop :=
  ∀ c : Dev Cert.ScanIdeal.nD,
    (Cert.Pre_scan_finite.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5))) = (fun _ => 1#1)

def Pre_ScanReferenceIdeal (m : (ℓ : Loc Cert.ScanReferenceIdeal.nD Cert.ScanReferenceIdeal.τ Cert.ScanReferenceIdeal.sig) → Buf (Elt Ideal) ℓ) : Prop :=
  True

def Pre_ScanReferenceIdeal_scan_finite [hPre_scan_finite : Cert.Pre_scan_finite.Facts] (m : (ℓ : Loc Cert.ScanReferenceIdeal.nD Cert.ScanReferenceIdeal.τ Cert.ScanReferenceIdeal.sig) → Buf (Elt Ideal) ℓ) : Prop :=
  ∀ c : Dev Cert.ScanReferenceIdeal.nD,
    (Cert.Pre_scan_finite.fn (F := Ideal) (m ((c.tc : Thread Cert.ScanReferenceIdeal.nD Cert.ScanReferenceIdeal.τ).loc Cert.ScanReferenceIdeal.main_arg0)) (m ((c.tc : Thread Cert.ScanReferenceIdeal.nD Cert.ScanReferenceIdeal.τ).loc Cert.ScanReferenceIdeal.main_arg1)) (m ((c.tc : Thread Cert.ScanReferenceIdeal.nD Cert.ScanReferenceIdeal.τ).loc Cert.ScanReferenceIdeal.main_arg2)) (m ((c.tc : Thread Cert.ScanReferenceIdeal.nD Cert.ScanReferenceIdeal.τ).loc Cert.ScanReferenceIdeal.main_arg3)) (m ((c.tc : Thread Cert.ScanReferenceIdeal.nD Cert.ScanReferenceIdeal.τ).loc Cert.ScanReferenceIdeal.main_arg4)) (m ((c.tc : Thread Cert.ScanReferenceIdeal.nD Cert.ScanReferenceIdeal.τ).loc Cert.ScanReferenceIdeal.main_arg5))) = (fun _ => 1#1)

def Pre_Layers (m : (ℓ : Loc Cert.Layers.nD Cert.Layers.τ Cert.Layers.sig) → Buf (Elt Bits) ℓ) : Prop :=
  True

def Pre_LayersIdeal (m : (ℓ : Loc Cert.LayersIdeal.nD Cert.LayersIdeal.τ Cert.LayersIdeal.sig) → Buf (Elt Ideal) ℓ) : Prop :=
  True

def Pre_LayersIdeal_layers_finite [hPre_layers_finite : Cert.Pre_layers_finite.Facts] (m : (ℓ : Loc Cert.LayersIdeal.nD Cert.LayersIdeal.τ Cert.LayersIdeal.sig) → Buf (Elt Ideal) ℓ) : Prop :=
  ∀ c : Dev Cert.LayersIdeal.nD,
    (Cert.Pre_layers_finite.fn (F := Ideal) (m ((c.tc : Thread Cert.LayersIdeal.nD Cert.LayersIdeal.τ).loc Cert.LayersIdeal.main_arg0)) (m ((c.tc : Thread Cert.LayersIdeal.nD Cert.LayersIdeal.τ).loc Cert.LayersIdeal.main_arg1)) (m ((c.tc : Thread Cert.LayersIdeal.nD Cert.LayersIdeal.τ).loc Cert.LayersIdeal.main_arg2)) (m ((c.tc : Thread Cert.LayersIdeal.nD Cert.LayersIdeal.τ).loc Cert.LayersIdeal.main_arg3)) (m ((c.tc : Thread Cert.LayersIdeal.nD Cert.LayersIdeal.τ).loc Cert.LayersIdeal.main_arg4)) (m ((c.tc : Thread Cert.LayersIdeal.nD Cert.LayersIdeal.τ).loc Cert.LayersIdeal.main_arg5)) (m ((c.tc : Thread Cert.LayersIdeal.nD Cert.LayersIdeal.τ).loc Cert.LayersIdeal.main_arg6)) (m ((c.tc : Thread Cert.LayersIdeal.nD Cert.LayersIdeal.τ).loc Cert.LayersIdeal.main_arg7)) (m ((c.tc : Thread Cert.LayersIdeal.nD Cert.LayersIdeal.τ).loc Cert.LayersIdeal.main_arg8))) = (fun _ => 1#1)

def Pre_LayersReferenceIdeal (m : (ℓ : Loc Cert.LayersReferenceIdeal.nD Cert.LayersReferenceIdeal.τ Cert.LayersReferenceIdeal.sig) → Buf (Elt Ideal) ℓ) : Prop :=
  True

def Pre_LayersReferenceIdeal_layers_finite [hPre_layers_finite : Cert.Pre_layers_finite.Facts] (m : (ℓ : Loc Cert.LayersReferenceIdeal.nD Cert.LayersReferenceIdeal.τ Cert.LayersReferenceIdeal.sig) → Buf (Elt Ideal) ℓ) : Prop :=
  ∀ c : Dev Cert.LayersReferenceIdeal.nD,
    (Cert.Pre_layers_finite.fn (F := Ideal) (m ((c.tc : Thread Cert.LayersReferenceIdeal.nD Cert.LayersReferenceIdeal.τ).loc Cert.LayersReferenceIdeal.main_arg0)) (m ((c.tc : Thread Cert.LayersReferenceIdeal.nD Cert.LayersReferenceIdeal.τ).loc Cert.LayersReferenceIdeal.main_arg1)) (m ((c.tc : Thread Cert.LayersReferenceIdeal.nD Cert.LayersReferenceIdeal.τ).loc Cert.LayersReferenceIdeal.main_arg2)) (m ((c.tc : Thread Cert.LayersReferenceIdeal.nD Cert.LayersReferenceIdeal.τ).loc Cert.LayersReferenceIdeal.main_arg3)) (m ((c.tc : Thread Cert.LayersReferenceIdeal.nD Cert.LayersReferenceIdeal.τ).loc Cert.LayersReferenceIdeal.main_arg4)) (m ((c.tc : Thread Cert.LayersReferenceIdeal.nD Cert.LayersReferenceIdeal.τ).loc Cert.LayersReferenceIdeal.main_arg5)) (m ((c.tc : Thread Cert.LayersReferenceIdeal.nD Cert.LayersReferenceIdeal.τ).loc Cert.LayersReferenceIdeal.main_arg6)) (m ((c.tc : Thread Cert.LayersReferenceIdeal.nD Cert.LayersReferenceIdeal.τ).loc Cert.LayersReferenceIdeal.main_arg7)) (m ((c.tc : Thread Cert.LayersReferenceIdeal.nD Cert.LayersReferenceIdeal.τ).loc Cert.LayersReferenceIdeal.main_arg8))) = (fun _ => 1#1)

def Pre_Memvec (m : (ℓ : Loc Cert.Memvec.nD Cert.Memvec.τ Cert.Memvec.sig) → Buf (Elt Bits) ℓ) : Prop :=
  True

def Pre_MemvecIdeal (m : (ℓ : Loc Cert.MemvecIdeal.nD Cert.MemvecIdeal.τ Cert.MemvecIdeal.sig) → Buf (Elt Ideal) ℓ) : Prop :=
  True

def Pre_MemvecReferenceIdeal (m : (ℓ : Loc Cert.MemvecReferenceIdeal.nD Cert.MemvecReferenceIdeal.τ Cert.MemvecReferenceIdeal.sig) → Buf (Elt Ideal) ℓ) : Prop :=
  True

def Pre_Logits (m : (ℓ : Loc Cert.Logits.nD Cert.Logits.τ Cert.Logits.sig) → Buf (Elt Bits) ℓ) : Prop :=
  True

def Pre_LogitsIdeal (m : (ℓ : Loc Cert.LogitsIdeal.nD Cert.LogitsIdeal.τ Cert.LogitsIdeal.sig) → Buf (Elt Ideal) ℓ) : Prop :=
  True

def Pre_LogitsReferenceIdeal (m : (ℓ : Loc Cert.LogitsReferenceIdeal.nD Cert.LogitsReferenceIdeal.τ Cert.LogitsReferenceIdeal.sig) → Buf (Elt Ideal) ℓ) : Prop :=
  True

def quiescent_Rowmm [hRowmm : Cert.Rowmm.Facts] : Prop :=
  ∀ (m : (ℓ : Loc Cert.Rowmm.nD Cert.Rowmm.τ Cert.Rowmm.sig) → Buf (Elt Bits) ℓ) (g : Dev Cert.Rowmm.nD → PrngReg), Pre_Rowmm m →
    θ_run (Cert.Rowmm.defs (F := Bits)) (onTc (τ := Cert.Rowmm.τ) (Cert.Rowmm.main (F := Bits))) ⟨m, fun _ => 0, g⟩ (fun r => (∀ c : Dev Cert.Rowmm.nD,
      r.2.mem ((c.tc : Thread Cert.Rowmm.nD Cert.Rowmm.τ).loc Cert.Rowmm.main_arg0) = m ((c.tc : Thread Cert.Rowmm.nD Cert.Rowmm.τ).loc Cert.Rowmm.main_arg0)
      ∧ r.2.mem ((c.tc : Thread Cert.Rowmm.nD Cert.Rowmm.τ).loc Cert.Rowmm.main_arg1) = m ((c.tc : Thread Cert.Rowmm.nD Cert.Rowmm.τ).loc Cert.Rowmm.main_arg1))
      ∧ r.2.sem = fun _ => 0)

def quiescent_RowmmIdeal [hRowmmIdeal : Cert.RowmmIdeal.Facts] : Prop :=
  ∀ (m : (ℓ : Loc Cert.RowmmIdeal.nD Cert.RowmmIdeal.τ Cert.RowmmIdeal.sig) → Buf (Elt Ideal) ℓ) (g : Dev Cert.RowmmIdeal.nD → PrngReg), Pre_RowmmIdeal m →
    θ_run (Cert.RowmmIdeal.defs (F := Ideal)) (onTc (τ := Cert.RowmmIdeal.τ) (Cert.RowmmIdeal.main (F := Ideal))) ⟨m, fun _ => 0, g⟩ (fun r => (∀ c : Dev Cert.RowmmIdeal.nD,
      r.2.mem ((c.tc : Thread Cert.RowmmIdeal.nD Cert.RowmmIdeal.τ).loc Cert.RowmmIdeal.main_arg0) = m ((c.tc : Thread Cert.RowmmIdeal.nD Cert.RowmmIdeal.τ).loc Cert.RowmmIdeal.main_arg0)
      ∧ r.2.mem ((c.tc : Thread Cert.RowmmIdeal.nD Cert.RowmmIdeal.τ).loc Cert.RowmmIdeal.main_arg1) = m ((c.tc : Thread Cert.RowmmIdeal.nD Cert.RowmmIdeal.τ).loc Cert.RowmmIdeal.main_arg1))
      ∧ r.2.sem = fun _ => 0)

def quiescent_RowmmReferenceIdeal [hRowmmReferenceIdeal : Cert.RowmmReferenceIdeal.Facts] : Prop :=
  ∀ (m : (ℓ : Loc Cert.RowmmReferenceIdeal.nD Cert.RowmmReferenceIdeal.τ Cert.RowmmReferenceIdeal.sig) → Buf (Elt Ideal) ℓ) (g : Dev Cert.RowmmReferenceIdeal.nD → PrngReg), Pre_RowmmReferenceIdeal m →
    θ_run (Cert.RowmmReferenceIdeal.defs (F := Ideal)) (onTc (τ := Cert.RowmmReferenceIdeal.τ) (Cert.RowmmReferenceIdeal.main (F := Ideal))) ⟨m, fun _ => 0, g⟩ (fun r => (∀ c : Dev Cert.RowmmReferenceIdeal.nD,
      r.2.mem ((c.tc : Thread Cert.RowmmReferenceIdeal.nD Cert.RowmmReferenceIdeal.τ).loc Cert.RowmmReferenceIdeal.main_arg0) = m ((c.tc : Thread Cert.RowmmReferenceIdeal.nD Cert.RowmmReferenceIdeal.τ).loc Cert.RowmmReferenceIdeal.main_arg0)
      ∧ r.2.mem ((c.tc : Thread Cert.RowmmReferenceIdeal.nD Cert.RowmmReferenceIdeal.τ).loc Cert.RowmmReferenceIdeal.main_arg1) = m ((c.tc : Thread Cert.RowmmReferenceIdeal.nD Cert.RowmmReferenceIdeal.τ).loc Cert.RowmmReferenceIdeal.main_arg1))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4)
      ∧ r.2.mem ((c.tc : Thread Cert.Scan.nD Cert.Scan.τ).loc Cert.Scan.main_arg5) = m ((c.tc : Thread Cert.Scan.nD Cert.Scan.τ).loc Cert.Scan.main_arg5))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5))
      ∧ r.2.sem = fun _ => 0)

def quiescent_ScanIdeal_pre_scan_finite [hScanIdeal : Cert.ScanIdeal.Facts] [hPre_scan_finite : Cert.Pre_scan_finite.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal_scan_finite m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5))
      ∧ r.2.sem = fun _ => 0)

def quiescent_ScanReferenceIdeal [hScanReferenceIdeal : Cert.ScanReferenceIdeal.Facts] : Prop :=
  ∀ (m : (ℓ : Loc Cert.ScanReferenceIdeal.nD Cert.ScanReferenceIdeal.τ Cert.ScanReferenceIdeal.sig) → Buf (Elt Ideal) ℓ) (g : Dev Cert.ScanReferenceIdeal.nD → PrngReg), Pre_ScanReferenceIdeal m →
    θ_run (Cert.ScanReferenceIdeal.defs (F := Ideal)) (onTc (τ := Cert.ScanReferenceIdeal.τ) (Cert.ScanReferenceIdeal.main (F := Ideal))) ⟨m, fun _ => 0, g⟩ (fun r => (∀ c : Dev Cert.ScanReferenceIdeal.nD,
      r.2.mem ((c.tc : Thread Cert.ScanReferenceIdeal.nD Cert.ScanReferenceIdeal.τ).loc Cert.ScanReferenceIdeal.main_arg0) = m ((c.tc : Thread Cert.ScanReferenceIdeal.nD Cert.ScanReferenceIdeal.τ).loc Cert.ScanReferenceIdeal.main_arg0)
      ∧ r.2.mem ((c.tc : Thread Cert.ScanReferenceIdeal.nD Cert.ScanReferenceIdeal.τ).loc Cert.ScanReferenceIdeal.main_arg1) = m ((c.tc : Thread Cert.ScanReferenceIdeal.nD Cert.ScanReferenceIdeal.τ).loc Cert.ScanReferenceIdeal.main_arg1)
      ∧ r.2.mem ((c.tc : Thread Cert.ScanReferenceIdeal.nD Cert.ScanReferenceIdeal.τ).loc Cert.ScanReferenceIdeal.main_arg2) = m ((c.tc : Thread Cert.ScanReferenceIdeal.nD Cert.ScanReferenceIdeal.τ).loc Cert.ScanReferenceIdeal.main_arg2)
      ∧ r.2.mem ((c.tc : Thread Cert.ScanReferenceIdeal.nD Cert.ScanReferenceIdeal.τ).loc Cert.ScanReferenceIdeal.main_arg3) = m ((c.tc : Thread Cert.ScanReferenceIdeal.nD Cert.ScanReferenceIdeal.τ).loc Cert.ScanReferenceIdeal.main_arg3)
      ∧ r.2.mem ((c.tc : Thread Cert.ScanReferenceIdeal.nD Cert.ScanReferenceIdeal.τ).loc Cert.ScanReferenceIdeal.main_arg4) = m ((c.tc : Thread Cert.ScanReferenceIdeal.nD Cert.ScanReferenceIdeal.τ).loc Cert.ScanReferenceIdeal.main_arg4)
      ∧ r.2.mem ((c.tc : Thread Cert.ScanReferenceIdeal.nD Cert.ScanReferenceIdeal.τ).loc Cert.ScanReferenceIdeal.main_arg5) = m ((c.tc : Thread Cert.ScanReferenceIdeal.nD Cert.ScanReferenceIdeal.τ).loc Cert.ScanReferenceIdeal.main_arg5))
      ∧ r.2.sem = fun _ => 0)

def quiescent_ScanReferenceIdeal_pre_scan_finite [hScanReferenceIdeal : Cert.ScanReferenceIdeal.Facts] [hPre_scan_finite : Cert.Pre_scan_finite.Facts] : Prop :=
  ∀ (m : (ℓ : Loc Cert.ScanReferenceIdeal.nD Cert.ScanReferenceIdeal.τ Cert.ScanReferenceIdeal.sig) → Buf (Elt Ideal) ℓ) (g : Dev Cert.ScanReferenceIdeal.nD → PrngReg), Pre_ScanReferenceIdeal_scan_finite m →
    θ_run (Cert.ScanReferenceIdeal.defs (F := Ideal)) (onTc (τ := Cert.ScanReferenceIdeal.τ) (Cert.ScanReferenceIdeal.main (F := Ideal))) ⟨m, fun _ => 0, g⟩ (fun r => (∀ c : Dev Cert.ScanReferenceIdeal.nD,
      r.2.mem ((c.tc : Thread Cert.ScanReferenceIdeal.nD Cert.ScanReferenceIdeal.τ).loc Cert.ScanReferenceIdeal.main_arg0) = m ((c.tc : Thread Cert.ScanReferenceIdeal.nD Cert.ScanReferenceIdeal.τ).loc Cert.ScanReferenceIdeal.main_arg0)
      ∧ r.2.mem ((c.tc : Thread Cert.ScanReferenceIdeal.nD Cert.ScanReferenceIdeal.τ).loc Cert.ScanReferenceIdeal.main_arg1) = m ((c.tc : Thread Cert.ScanReferenceIdeal.nD Cert.ScanReferenceIdeal.τ).loc Cert.ScanReferenceIdeal.main_arg1)
      ∧ r.2.mem ((c.tc : Thread Cert.ScanReferenceIdeal.nD Cert.ScanReferenceIdeal.τ).loc Cert.ScanReferenceIdeal.main_arg2) = m ((c.tc : Thread Cert.ScanReferenceIdeal.nD Cert.ScanReferenceIdeal.τ).loc Cert.ScanReferenceIdeal.main_arg2)
      ∧ r.2.mem ((c.tc : Thread Cert.ScanReferenceIdeal.nD Cert.ScanReferenceIdeal.τ).loc Cert.ScanReferenceIdeal.main_arg3) = m ((c.tc : Thread Cert.ScanReferenceIdeal.nD Cert.ScanReferenceIdeal.τ).loc Cert.ScanReferenceIdeal.main_arg3)
      ∧ r.2.mem ((c.tc : Thread Cert.ScanReferenceIdeal.nD Cert.ScanReferenceIdeal.τ).loc Cert.ScanReferenceIdeal.main_arg4) = m ((c.tc : Thread Cert.ScanReferenceIdeal.nD Cert.ScanReferenceIdeal.τ).loc Cert.ScanReferenceIdeal.main_arg4)
      ∧ r.2.mem ((c.tc : Thread Cert.ScanReferenceIdeal.nD Cert.ScanReferenceIdeal.τ).loc Cert.ScanReferenceIdeal.main_arg5) = m ((c.tc : Thread Cert.ScanReferenceIdeal.nD Cert.ScanReferenceIdeal.τ).loc Cert.ScanReferenceIdeal.main_arg5))
      ∧ r.2.sem = fun _ => 0)

def quiescent_Layers [hLayers : Cert.Layers.Facts] : Prop :=
  ∀ (m : (ℓ : Loc Cert.Layers.nD Cert.Layers.τ Cert.Layers.sig) → Buf (Elt Bits) ℓ) (g : Dev Cert.Layers.nD → PrngReg), Pre_Layers m →
    θ_run (Cert.Layers.defs (F := Bits)) (onTc (τ := Cert.Layers.τ) (Cert.Layers.main (F := Bits))) ⟨m, fun _ => 0, g⟩ (fun r => (∀ c : Dev Cert.Layers.nD,
      r.2.mem ((c.tc : Thread Cert.Layers.nD Cert.Layers.τ).loc Cert.Layers.main_arg0) = m ((c.tc : Thread Cert.Layers.nD Cert.Layers.τ).loc Cert.Layers.main_arg0)
      ∧ r.2.mem ((c.tc : Thread Cert.Layers.nD Cert.Layers.τ).loc Cert.Layers.main_arg1) = m ((c.tc : Thread Cert.Layers.nD Cert.Layers.τ).loc Cert.Layers.main_arg1)
      ∧ r.2.mem ((c.tc : Thread Cert.Layers.nD Cert.Layers.τ).loc Cert.Layers.main_arg2) = m ((c.tc : Thread Cert.Layers.nD Cert.Layers.τ).loc Cert.Layers.main_arg2)
      ∧ r.2.mem ((c.tc : Thread Cert.Layers.nD Cert.Layers.τ).loc Cert.Layers.main_arg3) = m ((c.tc : Thread Cert.Layers.nD Cert.Layers.τ).loc Cert.Layers.main_arg3)
      ∧ r.2.mem ((c.tc : Thread Cert.Layers.nD Cert.Layers.τ).loc Cert.Layers.main_arg4) = m ((c.tc : Thread Cert.Layers.nD Cert.Layers.τ).loc Cert.Layers.main_arg4)
      ∧ r.2.mem ((c.tc : Thread Cert.Layers.nD Cert.Layers.τ).loc Cert.Layers.main_arg5) = m ((c.tc : Thread Cert.Layers.nD Cert.Layers.τ).loc Cert.Layers.main_arg5)
      ∧ r.2.mem ((c.tc : Thread Cert.Layers.nD Cert.Layers.τ).loc Cert.Layers.main_arg6) = m ((c.tc : Thread Cert.Layers.nD Cert.Layers.τ).loc Cert.Layers.main_arg6)
      ∧ r.2.mem ((c.tc : Thread Cert.Layers.nD Cert.Layers.τ).loc Cert.Layers.main_arg7) = m ((c.tc : Thread Cert.Layers.nD Cert.Layers.τ).loc Cert.Layers.main_arg7)
      ∧ r.2.mem ((c.tc : Thread Cert.Layers.nD Cert.Layers.τ).loc Cert.Layers.main_arg8) = m ((c.tc : Thread Cert.Layers.nD Cert.Layers.τ).loc Cert.Layers.main_arg8))
      ∧ r.2.sem = fun _ => 0)

def quiescent_LayersIdeal [hLayersIdeal : Cert.LayersIdeal.Facts] : Prop :=
  ∀ (m : (ℓ : Loc Cert.LayersIdeal.nD Cert.LayersIdeal.τ Cert.LayersIdeal.sig) → Buf (Elt Ideal) ℓ) (g : Dev Cert.LayersIdeal.nD → PrngReg), Pre_LayersIdeal m →
    θ_run (Cert.LayersIdeal.defs (F := Ideal)) (onTc (τ := Cert.LayersIdeal.τ) (Cert.LayersIdeal.main (F := Ideal))) ⟨m, fun _ => 0, g⟩ (fun r => (∀ c : Dev Cert.LayersIdeal.nD,
      r.2.mem ((c.tc : Thread Cert.LayersIdeal.nD Cert.LayersIdeal.τ).loc Cert.LayersIdeal.main_arg0) = m ((c.tc : Thread Cert.LayersIdeal.nD Cert.LayersIdeal.τ).loc Cert.LayersIdeal.main_arg0)
      ∧ r.2.mem ((c.tc : Thread Cert.LayersIdeal.nD Cert.LayersIdeal.τ).loc Cert.LayersIdeal.main_arg1) = m ((c.tc : Thread Cert.LayersIdeal.nD Cert.LayersIdeal.τ).loc Cert.LayersIdeal.main_arg1)
      ∧ r.2.mem ((c.tc : Thread Cert.LayersIdeal.nD Cert.LayersIdeal.τ).loc Cert.LayersIdeal.main_arg2) = m ((c.tc : Thread Cert.LayersIdeal.nD Cert.LayersIdeal.τ).loc Cert.LayersIdeal.main_arg2)
      ∧ r.2.mem ((c.tc : Thread Cert.LayersIdeal.nD Cert.LayersIdeal.τ).loc Cert.LayersIdeal.main_arg3) = m ((c.tc : Thread Cert.LayersIdeal.nD Cert.LayersIdeal.τ).loc Cert.LayersIdeal.main_arg3)
      ∧ r.2.mem ((c.tc : Thread Cert.LayersIdeal.nD Cert.LayersIdeal.τ).loc Cert.LayersIdeal.main_arg4) = m ((c.tc : Thread Cert.LayersIdeal.nD Cert.LayersIdeal.τ).loc Cert.LayersIdeal.main_arg4)
      ∧ r.2.mem ((c.tc : Thread Cert.LayersIdeal.nD Cert.LayersIdeal.τ).loc Cert.LayersIdeal.main_arg5) = m ((c.tc : Thread Cert.LayersIdeal.nD Cert.LayersIdeal.τ).loc Cert.LayersIdeal.main_arg5)
      ∧ r.2.mem ((c.tc : Thread Cert.LayersIdeal.nD Cert.LayersIdeal.τ).loc Cert.LayersIdeal.main_arg6) = m ((c.tc : Thread Cert.LayersIdeal.nD Cert.LayersIdeal.τ).loc Cert.LayersIdeal.main_arg6)
      ∧ r.2.mem ((c.tc : Thread Cert.LayersIdeal.nD Cert.LayersIdeal.τ).loc Cert.LayersIdeal.main_arg7) = m ((c.tc : Thread Cert.LayersIdeal.nD Cert.LayersIdeal.τ).loc Cert.LayersIdeal.main_arg7)
      ∧ r.2.mem ((c.tc : Thread Cert.LayersIdeal.nD Cert.LayersIdeal.τ).loc Cert.LayersIdeal.main_arg8) = m ((c.tc : Thread Cert.LayersIdeal.nD Cert.LayersIdeal.τ).loc Cert.LayersIdeal.main_arg8))
      ∧ r.2.sem = fun _ => 0)

def quiescent_LayersIdeal_pre_layers_finite [hLayersIdeal : Cert.LayersIdeal.Facts] [hPre_layers_finite : Cert.Pre_layers_finite.Facts] : Prop :=
  ∀ (m : (ℓ : Loc Cert.LayersIdeal.nD Cert.LayersIdeal.τ Cert.LayersIdeal.sig) → Buf (Elt Ideal) ℓ) (g : Dev Cert.LayersIdeal.nD → PrngReg), Pre_LayersIdeal_layers_finite m →
    θ_run (Cert.LayersIdeal.defs (F := Ideal)) (onTc (τ := Cert.LayersIdeal.τ) (Cert.LayersIdeal.main (F := Ideal))) ⟨m, fun _ => 0, g⟩ (fun r => (∀ c : Dev Cert.LayersIdeal.nD,
      r.2.mem ((c.tc : Thread Cert.LayersIdeal.nD Cert.LayersIdeal.τ).loc Cert.LayersIdeal.main_arg0) = m ((c.tc : Thread Cert.LayersIdeal.nD Cert.LayersIdeal.τ).loc Cert.LayersIdeal.main_arg0)
      ∧ r.2.mem ((c.tc : Thread Cert.LayersIdeal.nD Cert.LayersIdeal.τ).loc Cert.LayersIdeal.main_arg1) = m ((c.tc : Thread Cert.LayersIdeal.nD Cert.LayersIdeal.τ).loc Cert.LayersIdeal.main_arg1)
      ∧ r.2.mem ((c.tc : Thread Cert.LayersIdeal.nD Cert.LayersIdeal.τ).loc Cert.LayersIdeal.main_arg2) = m ((c.tc : Thread Cert.LayersIdeal.nD Cert.LayersIdeal.τ).loc Cert.LayersIdeal.main_arg2)
      ∧ r.2.mem ((c.tc : Thread Cert.LayersIdeal.nD Cert.LayersIdeal.τ).loc Cert.LayersIdeal.main_arg3) = m ((c.tc : Thread Cert.LayersIdeal.nD Cert.LayersIdeal.τ).loc Cert.LayersIdeal.main_arg3)
      ∧ r.2.mem ((c.tc : Thread Cert.LayersIdeal.nD Cert.LayersIdeal.τ).loc Cert.LayersIdeal.main_arg4) = m ((c.tc : Thread Cert.LayersIdeal.nD Cert.LayersIdeal.τ).loc Cert.LayersIdeal.main_arg4)
      ∧ r.2.mem ((c.tc : Thread Cert.LayersIdeal.nD Cert.LayersIdeal.τ).loc Cert.LayersIdeal.main_arg5) = m ((c.tc : Thread Cert.LayersIdeal.nD Cert.LayersIdeal.τ).loc Cert.LayersIdeal.main_arg5)
      ∧ r.2.mem ((c.tc : Thread Cert.LayersIdeal.nD Cert.LayersIdeal.τ).loc Cert.LayersIdeal.main_arg6) = m ((c.tc : Thread Cert.LayersIdeal.nD Cert.LayersIdeal.τ).loc Cert.LayersIdeal.main_arg6)
      ∧ r.2.mem ((c.tc : Thread Cert.LayersIdeal.nD Cert.LayersIdeal.τ).loc Cert.LayersIdeal.main_arg7) = m ((c.tc : Thread Cert.LayersIdeal.nD Cert.LayersIdeal.τ).loc Cert.LayersIdeal.main_arg7)
      ∧ r.2.mem ((c.tc : Thread Cert.LayersIdeal.nD Cert.LayersIdeal.τ).loc Cert.LayersIdeal.main_arg8) = m ((c.tc : Thread Cert.LayersIdeal.nD Cert.LayersIdeal.τ).loc Cert.LayersIdeal.main_arg8))
      ∧ r.2.sem = fun _ => 0)

def quiescent_LayersReferenceIdeal [hLayersReferenceIdeal : Cert.LayersReferenceIdeal.Facts] : Prop :=
  ∀ (m : (ℓ : Loc Cert.LayersReferenceIdeal.nD Cert.LayersReferenceIdeal.τ Cert.LayersReferenceIdeal.sig) → Buf (Elt Ideal) ℓ) (g : Dev Cert.LayersReferenceIdeal.nD → PrngReg), Pre_LayersReferenceIdeal m →
    θ_run (Cert.LayersReferenceIdeal.defs (F := Ideal)) (onTc (τ := Cert.LayersReferenceIdeal.τ) (Cert.LayersReferenceIdeal.main (F := Ideal))) ⟨m, fun _ => 0, g⟩ (fun r => (∀ c : Dev Cert.LayersReferenceIdeal.nD,
      r.2.mem ((c.tc : Thread Cert.LayersReferenceIdeal.nD Cert.LayersReferenceIdeal.τ).loc Cert.LayersReferenceIdeal.main_arg0) = m ((c.tc : Thread Cert.LayersReferenceIdeal.nD Cert.LayersReferenceIdeal.τ).loc Cert.LayersReferenceIdeal.main_arg0)
      ∧ r.2.mem ((c.tc : Thread Cert.LayersReferenceIdeal.nD Cert.LayersReferenceIdeal.τ).loc Cert.LayersReferenceIdeal.main_arg1) = m ((c.tc : Thread Cert.LayersReferenceIdeal.nD Cert.LayersReferenceIdeal.τ).loc Cert.LayersReferenceIdeal.main_arg1)
      ∧ r.2.mem ((c.tc : Thread Cert.LayersReferenceIdeal.nD Cert.LayersReferenceIdeal.τ).loc Cert.LayersReferenceIdeal.main_arg2) = m ((c.tc : Thread Cert.LayersReferenceIdeal.nD Cert.LayersReferenceIdeal.τ).loc Cert.LayersReferenceIdeal.main_arg2)
      ∧ r.2.mem ((c.tc : Thread Cert.LayersReferenceIdeal.nD Cert.LayersReferenceIdeal.τ).loc Cert.LayersReferenceIdeal.main_arg3) = m ((c.tc : Thread Cert.LayersReferenceIdeal.nD Cert.LayersReferenceIdeal.τ).loc Cert.LayersReferenceIdeal.main_arg3)
      ∧ r.2.mem ((c.tc : Thread Cert.LayersReferenceIdeal.nD Cert.LayersReferenceIdeal.τ).loc Cert.LayersReferenceIdeal.main_arg4) = m ((c.tc : Thread Cert.LayersReferenceIdeal.nD Cert.LayersReferenceIdeal.τ).loc Cert.LayersReferenceIdeal.main_arg4)
      ∧ r.2.mem ((c.tc : Thread Cert.LayersReferenceIdeal.nD Cert.LayersReferenceIdeal.τ).loc Cert.LayersReferenceIdeal.main_arg5) = m ((c.tc : Thread Cert.LayersReferenceIdeal.nD Cert.LayersReferenceIdeal.τ).loc Cert.LayersReferenceIdeal.main_arg5)
      ∧ r.2.mem ((c.tc : Thread Cert.LayersReferenceIdeal.nD Cert.LayersReferenceIdeal.τ).loc Cert.LayersReferenceIdeal.main_arg6) = m ((c.tc : Thread Cert.LayersReferenceIdeal.nD Cert.LayersReferenceIdeal.τ).loc Cert.LayersReferenceIdeal.main_arg6)
      ∧ r.2.mem ((c.tc : Thread Cert.LayersReferenceIdeal.nD Cert.LayersReferenceIdeal.τ).loc Cert.LayersReferenceIdeal.main_arg7) = m ((c.tc : Thread Cert.LayersReferenceIdeal.nD Cert.LayersReferenceIdeal.τ).loc Cert.LayersReferenceIdeal.main_arg7)
      ∧ r.2.mem ((c.tc : Thread Cert.LayersReferenceIdeal.nD Cert.LayersReferenceIdeal.τ).loc Cert.LayersReferenceIdeal.main_arg8) = m ((c.tc : Thread Cert.LayersReferenceIdeal.nD Cert.LayersReferenceIdeal.τ).loc Cert.LayersReferenceIdeal.main_arg8))
      ∧ r.2.sem = fun _ => 0)

def quiescent_LayersReferenceIdeal_pre_layers_finite [hLayersReferenceIdeal : Cert.LayersReferenceIdeal.Facts] [hPre_layers_finite : Cert.Pre_layers_finite.Facts] : Prop :=
  ∀ (m : (ℓ : Loc Cert.LayersReferenceIdeal.nD Cert.LayersReferenceIdeal.τ Cert.LayersReferenceIdeal.sig) → Buf (Elt Ideal) ℓ) (g : Dev Cert.LayersReferenceIdeal.nD → PrngReg), Pre_LayersReferenceIdeal_layers_finite m →
    θ_run (Cert.LayersReferenceIdeal.defs (F := Ideal)) (onTc (τ := Cert.LayersReferenceIdeal.τ) (Cert.LayersReferenceIdeal.main (F := Ideal))) ⟨m, fun _ => 0, g⟩ (fun r => (∀ c : Dev Cert.LayersReferenceIdeal.nD,
      r.2.mem ((c.tc : Thread Cert.LayersReferenceIdeal.nD Cert.LayersReferenceIdeal.τ).loc Cert.LayersReferenceIdeal.main_arg0) = m ((c.tc : Thread Cert.LayersReferenceIdeal.nD Cert.LayersReferenceIdeal.τ).loc Cert.LayersReferenceIdeal.main_arg0)
      ∧ r.2.mem ((c.tc : Thread Cert.LayersReferenceIdeal.nD Cert.LayersReferenceIdeal.τ).loc Cert.LayersReferenceIdeal.main_arg1) = m ((c.tc : Thread Cert.LayersReferenceIdeal.nD Cert.LayersReferenceIdeal.τ).loc Cert.LayersReferenceIdeal.main_arg1)
      ∧ r.2.mem ((c.tc : Thread Cert.LayersReferenceIdeal.nD Cert.LayersReferenceIdeal.τ).loc Cert.LayersReferenceIdeal.main_arg2) = m ((c.tc : Thread Cert.LayersReferenceIdeal.nD Cert.LayersReferenceIdeal.τ).loc Cert.LayersReferenceIdeal.main_arg2)
      ∧ r.2.mem ((c.tc : Thread Cert.LayersReferenceIdeal.nD Cert.LayersReferenceIdeal.τ).loc Cert.LayersReferenceIdeal.main_arg3) = m ((c.tc : Thread Cert.LayersReferenceIdeal.nD Cert.LayersReferenceIdeal.τ).loc Cert.LayersReferenceIdeal.main_arg3)
      ∧ r.2.mem ((c.tc : Thread Cert.LayersReferenceIdeal.nD Cert.LayersReferenceIdeal.τ).loc Cert.LayersReferenceIdeal.main_arg4) = m ((c.tc : Thread Cert.LayersReferenceIdeal.nD Cert.LayersReferenceIdeal.τ).loc Cert.LayersReferenceIdeal.main_arg4)
      ∧ r.2.mem ((c.tc : Thread Cert.LayersReferenceIdeal.nD Cert.LayersReferenceIdeal.τ).loc Cert.LayersReferenceIdeal.main_arg5) = m ((c.tc : Thread Cert.LayersReferenceIdeal.nD Cert.LayersReferenceIdeal.τ).loc Cert.LayersReferenceIdeal.main_arg5)
      ∧ r.2.mem ((c.tc : Thread Cert.LayersReferenceIdeal.nD Cert.LayersReferenceIdeal.τ).loc Cert.LayersReferenceIdeal.main_arg6) = m ((c.tc : Thread Cert.LayersReferenceIdeal.nD Cert.LayersReferenceIdeal.τ).loc Cert.LayersReferenceIdeal.main_arg6)
      ∧ r.2.mem ((c.tc : Thread Cert.LayersReferenceIdeal.nD Cert.LayersReferenceIdeal.τ).loc Cert.LayersReferenceIdeal.main_arg7) = m ((c.tc : Thread Cert.LayersReferenceIdeal.nD Cert.LayersReferenceIdeal.τ).loc Cert.LayersReferenceIdeal.main_arg7)
      ∧ r.2.mem ((c.tc : Thread Cert.LayersReferenceIdeal.nD Cert.LayersReferenceIdeal.τ).loc Cert.LayersReferenceIdeal.main_arg8) = m ((c.tc : Thread Cert.LayersReferenceIdeal.nD Cert.LayersReferenceIdeal.τ).loc Cert.LayersReferenceIdeal.main_arg8))
      ∧ r.2.sem = fun _ => 0)

def quiescent_Memvec [hMemvec : Cert.Memvec.Facts] : Prop :=
  ∀ (m : (ℓ : Loc Cert.Memvec.nD Cert.Memvec.τ Cert.Memvec.sig) → Buf (Elt Bits) ℓ) (g : Dev Cert.Memvec.nD → PrngReg), Pre_Memvec m →
    θ_run (Cert.Memvec.defs (F := Bits)) (onTc (τ := Cert.Memvec.τ) (Cert.Memvec.main (F := Bits))) ⟨m, fun _ => 0, g⟩ (fun r => (∀ c : Dev Cert.Memvec.nD,
      r.2.mem ((c.tc : Thread Cert.Memvec.nD Cert.Memvec.τ).loc Cert.Memvec.main_arg0) = m ((c.tc : Thread Cert.Memvec.nD Cert.Memvec.τ).loc Cert.Memvec.main_arg0)
      ∧ r.2.mem ((c.tc : Thread Cert.Memvec.nD Cert.Memvec.τ).loc Cert.Memvec.main_arg1) = m ((c.tc : Thread Cert.Memvec.nD Cert.Memvec.τ).loc Cert.Memvec.main_arg1)
      ∧ r.2.mem ((c.tc : Thread Cert.Memvec.nD Cert.Memvec.τ).loc Cert.Memvec.main_arg2) = m ((c.tc : Thread Cert.Memvec.nD Cert.Memvec.τ).loc Cert.Memvec.main_arg2)
      ∧ r.2.mem ((c.tc : Thread Cert.Memvec.nD Cert.Memvec.τ).loc Cert.Memvec.main_arg3) = m ((c.tc : Thread Cert.Memvec.nD Cert.Memvec.τ).loc Cert.Memvec.main_arg3)
      ∧ r.2.mem ((c.tc : Thread Cert.Memvec.nD Cert.Memvec.τ).loc Cert.Memvec.main_arg4) = m ((c.tc : Thread Cert.Memvec.nD Cert.Memvec.τ).loc Cert.Memvec.main_arg4))
      ∧ r.2.sem = fun _ => 0)

def quiescent_MemvecIdeal [hMemvecIdeal : Cert.MemvecIdeal.Facts] : Prop :=
  ∀ (m : (ℓ : Loc Cert.MemvecIdeal.nD Cert.MemvecIdeal.τ Cert.MemvecIdeal.sig) → Buf (Elt Ideal) ℓ) (g : Dev Cert.MemvecIdeal.nD → PrngReg), Pre_MemvecIdeal m →
    θ_run (Cert.MemvecIdeal.defs (F := Ideal)) (onTc (τ := Cert.MemvecIdeal.τ) (Cert.MemvecIdeal.main (F := Ideal))) ⟨m, fun _ => 0, g⟩ (fun r => (∀ c : Dev Cert.MemvecIdeal.nD,
      r.2.mem ((c.tc : Thread Cert.MemvecIdeal.nD Cert.MemvecIdeal.τ).loc Cert.MemvecIdeal.main_arg0) = m ((c.tc : Thread Cert.MemvecIdeal.nD Cert.MemvecIdeal.τ).loc Cert.MemvecIdeal.main_arg0)
      ∧ r.2.mem ((c.tc : Thread Cert.MemvecIdeal.nD Cert.MemvecIdeal.τ).loc Cert.MemvecIdeal.main_arg1) = m ((c.tc : Thread Cert.MemvecIdeal.nD Cert.MemvecIdeal.τ).loc Cert.MemvecIdeal.main_arg1)
      ∧ r.2.mem ((c.tc : Thread Cert.MemvecIdeal.nD Cert.MemvecIdeal.τ).loc Cert.MemvecIdeal.main_arg2) = m ((c.tc : Thread Cert.MemvecIdeal.nD Cert.MemvecIdeal.τ).loc Cert.MemvecIdeal.main_arg2)
      ∧ r.2.mem ((c.tc : Thread Cert.MemvecIdeal.nD Cert.MemvecIdeal.τ).loc Cert.MemvecIdeal.main_arg3) = m ((c.tc : Thread Cert.MemvecIdeal.nD Cert.MemvecIdeal.τ).loc Cert.MemvecIdeal.main_arg3)
      ∧ r.2.mem ((c.tc : Thread Cert.MemvecIdeal.nD Cert.MemvecIdeal.τ).loc Cert.MemvecIdeal.main_arg4) = m ((c.tc : Thread Cert.MemvecIdeal.nD Cert.MemvecIdeal.τ).loc Cert.MemvecIdeal.main_arg4))
      ∧ r.2.sem = fun _ => 0)

def quiescent_MemvecReferenceIdeal [hMemvecReferenceIdeal : Cert.MemvecReferenceIdeal.Facts] : Prop :=
  ∀ (m : (ℓ : Loc Cert.MemvecReferenceIdeal.nD Cert.MemvecReferenceIdeal.τ Cert.MemvecReferenceIdeal.sig) → Buf (Elt Ideal) ℓ) (g : Dev Cert.MemvecReferenceIdeal.nD → PrngReg), Pre_MemvecReferenceIdeal m →
    θ_run (Cert.MemvecReferenceIdeal.defs (F := Ideal)) (onTc (τ := Cert.MemvecReferenceIdeal.τ) (Cert.MemvecReferenceIdeal.main (F := Ideal))) ⟨m, fun _ => 0, g⟩ (fun r => (∀ c : Dev Cert.MemvecReferenceIdeal.nD,
      r.2.mem ((c.tc : Thread Cert.MemvecReferenceIdeal.nD Cert.MemvecReferenceIdeal.τ).loc Cert.MemvecReferenceIdeal.main_arg0) = m ((c.tc : Thread Cert.MemvecReferenceIdeal.nD Cert.MemvecReferenceIdeal.τ).loc Cert.MemvecReferenceIdeal.main_arg0)
      ∧ r.2.mem ((c.tc : Thread Cert.MemvecReferenceIdeal.nD Cert.MemvecReferenceIdeal.τ).loc Cert.MemvecReferenceIdeal.main_arg1) = m ((c.tc : Thread Cert.MemvecReferenceIdeal.nD Cert.MemvecReferenceIdeal.τ).loc Cert.MemvecReferenceIdeal.main_arg1)
      ∧ r.2.mem ((c.tc : Thread Cert.MemvecReferenceIdeal.nD Cert.MemvecReferenceIdeal.τ).loc Cert.MemvecReferenceIdeal.main_arg2) = m ((c.tc : Thread Cert.MemvecReferenceIdeal.nD Cert.MemvecReferenceIdeal.τ).loc Cert.MemvecReferenceIdeal.main_arg2)
      ∧ r.2.mem ((c.tc : Thread Cert.MemvecReferenceIdeal.nD Cert.MemvecReferenceIdeal.τ).loc Cert.MemvecReferenceIdeal.main_arg3) = m ((c.tc : Thread Cert.MemvecReferenceIdeal.nD Cert.MemvecReferenceIdeal.τ).loc Cert.MemvecReferenceIdeal.main_arg3)
      ∧ r.2.mem ((c.tc : Thread Cert.MemvecReferenceIdeal.nD Cert.MemvecReferenceIdeal.τ).loc Cert.MemvecReferenceIdeal.main_arg4) = m ((c.tc : Thread Cert.MemvecReferenceIdeal.nD Cert.MemvecReferenceIdeal.τ).loc Cert.MemvecReferenceIdeal.main_arg4))
      ∧ r.2.sem = fun _ => 0)

def quiescent_Logits [hLogits : Cert.Logits.Facts] : Prop :=
  ∀ (m : (ℓ : Loc Cert.Logits.nD Cert.Logits.τ Cert.Logits.sig) → Buf (Elt Bits) ℓ) (g : Dev Cert.Logits.nD → PrngReg), Pre_Logits m →
    θ_run (Cert.Logits.defs (F := Bits)) (onTc (τ := Cert.Logits.τ) (Cert.Logits.main (F := Bits))) ⟨m, fun _ => 0, g⟩ (fun r => (∀ c : Dev Cert.Logits.nD,
      r.2.mem ((c.tc : Thread Cert.Logits.nD Cert.Logits.τ).loc Cert.Logits.main_arg0) = m ((c.tc : Thread Cert.Logits.nD Cert.Logits.τ).loc Cert.Logits.main_arg0)
      ∧ r.2.mem ((c.tc : Thread Cert.Logits.nD Cert.Logits.τ).loc Cert.Logits.main_arg1) = m ((c.tc : Thread Cert.Logits.nD Cert.Logits.τ).loc Cert.Logits.main_arg1)
      ∧ r.2.mem ((c.tc : Thread Cert.Logits.nD Cert.Logits.τ).loc Cert.Logits.main_arg2) = m ((c.tc : Thread Cert.Logits.nD Cert.Logits.τ).loc Cert.Logits.main_arg2))
      ∧ r.2.sem = fun _ => 0)

def quiescent_LogitsIdeal [hLogitsIdeal : Cert.LogitsIdeal.Facts] : Prop :=
  ∀ (m : (ℓ : Loc Cert.LogitsIdeal.nD Cert.LogitsIdeal.τ Cert.LogitsIdeal.sig) → Buf (Elt Ideal) ℓ) (g : Dev Cert.LogitsIdeal.nD → PrngReg), Pre_LogitsIdeal m →
    θ_run (Cert.LogitsIdeal.defs (F := Ideal)) (onTc (τ := Cert.LogitsIdeal.τ) (Cert.LogitsIdeal.main (F := Ideal))) ⟨m, fun _ => 0, g⟩ (fun r => (∀ c : Dev Cert.LogitsIdeal.nD,
      r.2.mem ((c.tc : Thread Cert.LogitsIdeal.nD Cert.LogitsIdeal.τ).loc Cert.LogitsIdeal.main_arg0) = m ((c.tc : Thread Cert.LogitsIdeal.nD Cert.LogitsIdeal.τ).loc Cert.LogitsIdeal.main_arg0)
      ∧ r.2.mem ((c.tc : Thread Cert.LogitsIdeal.nD Cert.LogitsIdeal.τ).loc Cert.LogitsIdeal.main_arg1) = m ((c.tc : Thread Cert.LogitsIdeal.nD Cert.LogitsIdeal.τ).loc Cert.LogitsIdeal.main_arg1)
      ∧ r.2.mem ((c.tc : Thread Cert.LogitsIdeal.nD Cert.LogitsIdeal.τ).loc Cert.LogitsIdeal.main_arg2) = m ((c.tc : Thread Cert.LogitsIdeal.nD Cert.LogitsIdeal.τ).loc Cert.LogitsIdeal.main_arg2))
      ∧ r.2.sem = fun _ => 0)

def quiescent_LogitsReferenceIdeal [hLogitsReferenceIdeal : Cert.LogitsReferenceIdeal.Facts] : Prop :=
  ∀ (m : (ℓ : Loc Cert.LogitsReferenceIdeal.nD Cert.LogitsReferenceIdeal.τ Cert.LogitsReferenceIdeal.sig) → Buf (Elt Ideal) ℓ) (g : Dev Cert.LogitsReferenceIdeal.nD → PrngReg), Pre_LogitsReferenceIdeal m →
    θ_run (Cert.LogitsReferenceIdeal.defs (F := Ideal)) (onTc (τ := Cert.LogitsReferenceIdeal.τ) (Cert.LogitsReferenceIdeal.main (F := Ideal))) ⟨m, fun _ => 0, g⟩ (fun r => (∀ c : Dev Cert.LogitsReferenceIdeal.nD,
      r.2.mem ((c.tc : Thread Cert.LogitsReferenceIdeal.nD Cert.LogitsReferenceIdeal.τ).loc Cert.LogitsReferenceIdeal.main_arg0) = m ((c.tc : Thread Cert.LogitsReferenceIdeal.nD Cert.LogitsReferenceIdeal.τ).loc Cert.LogitsReferenceIdeal.main_arg0)
      ∧ r.2.mem ((c.tc : Thread Cert.LogitsReferenceIdeal.nD Cert.LogitsReferenceIdeal.τ).loc Cert.LogitsReferenceIdeal.main_arg1) = m ((c.tc : Thread Cert.LogitsReferenceIdeal.nD Cert.LogitsReferenceIdeal.τ).loc Cert.LogitsReferenceIdeal.main_arg1)
      ∧ r.2.mem ((c.tc : Thread Cert.LogitsReferenceIdeal.nD Cert.LogitsReferenceIdeal.τ).loc Cert.LogitsReferenceIdeal.main_arg2) = m ((c.tc : Thread Cert.LogitsReferenceIdeal.nD Cert.LogitsReferenceIdeal.τ).loc Cert.LogitsReferenceIdeal.main_arg2))
      ∧ r.2.sem = fun _ => 0)

def preserves_Rowmm_RowmmIdeal : Prop :=
  True

def algebraic_RowmmIdeal_RowmmReferenceIdeal [hRowmmIdeal : Cert.RowmmIdeal.Facts] [hRowmmReferenceIdeal : Cert.RowmmReferenceIdeal.Facts] : Prop :=
  ∀ (m : (ℓ : Loc Cert.RowmmIdeal.nD Cert.RowmmIdeal.τ Cert.RowmmIdeal.sig) → Buf (Elt Ideal) ℓ) (g : Dev Cert.RowmmIdeal.nD → PrngReg)
    (m' : (ℓ : Loc Cert.RowmmReferenceIdeal.nD Cert.RowmmReferenceIdeal.τ Cert.RowmmReferenceIdeal.sig) → Buf (Elt Ideal) ℓ) (g' : Dev Cert.RowmmReferenceIdeal.nD → PrngReg), Pre_RowmmIdeal m →
    (∀ c : Dev Cert.RowmmIdeal.nD,
      m' ((c.tc : Thread Cert.RowmmReferenceIdeal.nD Cert.RowmmReferenceIdeal.τ).loc Cert.RowmmReferenceIdeal.main_arg0) = m ((c.tc : Thread Cert.RowmmIdeal.nD Cert.RowmmIdeal.τ).loc Cert.RowmmIdeal.main_arg0)
      ∧ m' ((c.tc : Thread Cert.RowmmReferenceIdeal.nD Cert.RowmmReferenceIdeal.τ).loc Cert.RowmmReferenceIdeal.main_arg1) = m ((c.tc : Thread Cert.RowmmIdeal.nD Cert.RowmmIdeal.τ).loc Cert.RowmmIdeal.main_arg1)) →
    ∃ (v0 : (c : Dev Cert.RowmmIdeal.nD) → Buf (Elt Ideal) ((c.tc : Thread Cert.RowmmIdeal.nD Cert.RowmmIdeal.τ).loc Cert.RowmmIdeal.main_v0)),
      θ_run (Cert.RowmmIdeal.defs (F := Ideal)) (onTc (τ := Cert.RowmmIdeal.τ) (Cert.RowmmIdeal.main (F := Ideal))) ⟨m, fun _ => 0, g⟩ (fun r => ∀ c : Dev Cert.RowmmIdeal.nD,
          r.2.mem ((c.tc : Thread Cert.RowmmIdeal.nD Cert.RowmmIdeal.τ).loc Cert.RowmmIdeal.main_v0) = v0 c
          ∧ r.2.mem ((c.tc : Thread Cert.RowmmIdeal.nD Cert.RowmmIdeal.τ).loc Cert.RowmmIdeal.main_arg0) = m ((c.tc : Thread Cert.RowmmIdeal.nD Cert.RowmmIdeal.τ).loc Cert.RowmmIdeal.main_arg0)
          ∧ r.2.mem ((c.tc : Thread Cert.RowmmIdeal.nD Cert.RowmmIdeal.τ).loc Cert.RowmmIdeal.main_arg1) = m ((c.tc : Thread Cert.RowmmIdeal.nD Cert.RowmmIdeal.τ).loc Cert.RowmmIdeal.main_arg1))
      ∧ θ_run (Cert.RowmmReferenceIdeal.defs (F := Ideal)) (onTc (τ := Cert.RowmmReferenceIdeal.τ) (Cert.RowmmReferenceIdeal.main (F := Ideal))) ⟨m', fun _ => 0, g'⟩ (fun r => ∀ c : Dev Cert.RowmmReferenceIdeal.nD,
          r.2.mem ((c.tc : Thread Cert.RowmmReferenceIdeal.nD Cert.RowmmReferenceIdeal.τ).loc Cert.RowmmReferenceIdeal.main_v0) = v0 c
          ∧ r.2.mem ((c.tc : Thread Cert.RowmmReferenceIdeal.nD Cert.RowmmReferenceIdeal.τ).loc Cert.RowmmReferenceIdeal.main_arg0) = m' ((c.tc : Thread Cert.RowmmReferenceIdeal.nD Cert.RowmmReferenceIdeal.τ).loc Cert.RowmmReferenceIdeal.main_arg0)
          ∧ r.2.mem ((c.tc : Thread Cert.RowmmReferenceIdeal.nD Cert.RowmmReferenceIdeal.τ).loc Cert.RowmmReferenceIdeal.main_arg1) = m' ((c.tc : Thread Cert.RowmmReferenceIdeal.nD Cert.RowmmReferenceIdeal.τ).loc Cert.RowmmReferenceIdeal.main_arg1))

def preserves_Scan_ScanIdeal : Prop :=
  True

def algebraic_ScanIdeal_ScanReferenceIdeal_pre_scan_finite [hScanIdeal : Cert.ScanIdeal.Facts] [hScanReferenceIdeal : Cert.ScanReferenceIdeal.Facts] [hPre_scan_finite : Cert.Pre_scan_finite.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanReferenceIdeal.nD Cert.ScanReferenceIdeal.τ Cert.ScanReferenceIdeal.sig) → Buf (Elt Ideal) ℓ) (g' : Dev Cert.ScanReferenceIdeal.nD → PrngReg), Pre_ScanIdeal_scan_finite m →
    (∀ c : Dev Cert.ScanIdeal.nD,
      m' ((c.tc : Thread Cert.ScanReferenceIdeal.nD Cert.ScanReferenceIdeal.τ).loc Cert.ScanReferenceIdeal.main_arg0) = m ((c.tc : Thread Cert.ScanIdeal.nD Cert.ScanIdeal.τ).loc Cert.ScanIdeal.main_arg0)
      ∧ m' ((c.tc : Thread Cert.ScanReferenceIdeal.nD Cert.ScanReferenceIdeal.τ).loc Cert.ScanReferenceIdeal.main_arg1) = m ((c.tc : Thread Cert.ScanIdeal.nD Cert.ScanIdeal.τ).loc Cert.ScanIdeal.main_arg1)
      ∧ m' ((c.tc : Thread Cert.ScanReferenceIdeal.nD Cert.ScanReferenceIdeal.τ).loc Cert.ScanReferenceIdeal.main_arg2) = m ((c.tc : Thread Cert.ScanIdeal.nD Cert.ScanIdeal.τ).loc Cert.ScanIdeal.main_arg2)
      ∧ m' ((c.tc : Thread Cert.ScanReferenceIdeal.nD Cert.ScanReferenceIdeal.τ).loc Cert.ScanReferenceIdeal.main_arg3) = m ((c.tc : Thread Cert.ScanIdeal.nD Cert.ScanIdeal.τ).loc Cert.ScanIdeal.main_arg3)
      ∧ m' ((c.tc : Thread Cert.ScanReferenceIdeal.nD Cert.ScanReferenceIdeal.τ).loc Cert.ScanReferenceIdeal.main_arg4) = m ((c.tc : Thread Cert.ScanIdeal.nD Cert.ScanIdeal.τ).loc Cert.ScanIdeal.main_arg4)
      ∧ m' ((c.tc : Thread Cert.ScanReferenceIdeal.nD Cert.ScanReferenceIdeal.τ).loc Cert.ScanReferenceIdeal.main_arg5) = m ((c.tc : Thread Cert.ScanIdeal.nD Cert.ScanIdeal.τ).loc Cert.ScanIdeal.main_arg5)) →
    ∃ (v0 : (c : Dev Cert.ScanIdeal.nD) → Buf (Elt Ideal) ((c.tc : Thread Cert.ScanIdeal.nD Cert.ScanIdeal.τ).loc Cert.ScanIdeal.main_v0_0)) (v1 : (c : Dev Cert.ScanIdeal.nD) → Buf (Elt Ideal) ((c.tc : Thread Cert.ScanIdeal.nD Cert.ScanIdeal.τ).loc Cert.ScanIdeal.main_v0_1)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v0_0) = v0 c
          ∧ r.2.mem ((c.tc : Thread Cert.ScanIdeal.nD Cert.ScanIdeal.τ).loc Cert.ScanIdeal.main_v0_1) = v1 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
          ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
          ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5))
      ∧ θ_run (Cert.ScanReferenceIdeal.defs (F := Ideal)) (onTc (τ := Cert.ScanReferenceIdeal.τ) (Cert.ScanReferenceIdeal.main (F := Ideal))) ⟨m', fun _ => 0, g'⟩ (fun r => ∀ c : Dev Cert.ScanReferenceIdeal.nD,
          r.2.mem ((c.tc : Thread Cert.ScanReferenceIdeal.nD Cert.ScanReferenceIdeal.τ).loc Cert.ScanReferenceIdeal.main_v5_9) = v0 c
          ∧ r.2.mem ((c.tc : Thread Cert.ScanReferenceIdeal.nD Cert.ScanReferenceIdeal.τ).loc Cert.ScanReferenceIdeal.main_v10) = v1 c
          ∧ r.2.mem ((c.tc : Thread Cert.ScanReferenceIdeal.nD Cert.ScanReferenceIdeal.τ).loc Cert.ScanReferenceIdeal.main_arg0) = m' ((c.tc : Thread Cert.ScanReferenceIdeal.nD Cert.ScanReferenceIdeal.τ).loc Cert.ScanReferenceIdeal.main_arg0)
          ∧ r.2.mem ((c.tc : Thread Cert.ScanReferenceIdeal.nD Cert.ScanReferenceIdeal.τ).loc Cert.ScanReferenceIdeal.main_arg1) = m' ((c.tc : Thread Cert.ScanReferenceIdeal.nD Cert.ScanReferenceIdeal.τ).loc Cert.ScanReferenceIdeal.main_arg1)
          ∧ r.2.mem ((c.tc : Thread Cert.ScanReferenceIdeal.nD Cert.ScanReferenceIdeal.τ).loc Cert.ScanReferenceIdeal.main_arg2) = m' ((c.tc : Thread Cert.ScanReferenceIdeal.nD Cert.ScanReferenceIdeal.τ).loc Cert.ScanReferenceIdeal.main_arg2)
          ∧ r.2.mem ((c.tc : Thread Cert.ScanReferenceIdeal.nD Cert.ScanReferenceIdeal.τ).loc Cert.ScanReferenceIdeal.main_arg3) = m' ((c.tc : Thread Cert.ScanReferenceIdeal.nD Cert.ScanReferenceIdeal.τ).loc Cert.ScanReferenceIdeal.main_arg3)
          ∧ r.2.mem ((c.tc : Thread Cert.ScanReferenceIdeal.nD Cert.ScanReferenceIdeal.τ).loc Cert.ScanReferenceIdeal.main_arg4) = m' ((c.tc : Thread Cert.ScanReferenceIdeal.nD Cert.ScanReferenceIdeal.τ).loc Cert.ScanReferenceIdeal.main_arg4)
          ∧ r.2.mem ((c.tc : Thread Cert.ScanReferenceIdeal.nD Cert.ScanReferenceIdeal.τ).loc Cert.ScanReferenceIdeal.main_arg5) = m' ((c.tc : Thread Cert.ScanReferenceIdeal.nD Cert.ScanReferenceIdeal.τ).loc Cert.ScanReferenceIdeal.main_arg5))

def preserves_Layers_LayersIdeal : Prop :=
  IdealRules.named_const.Statement Cert.LayersIdeal.κ "mask" .f32 0xF149F2CA#32 ⊥

def algebraic_LayersIdeal_LayersReferenceIdeal_pre_layers_finite [hLayersIdeal : Cert.LayersIdeal.Facts] [hLayersReferenceIdeal : Cert.LayersReferenceIdeal.Facts] [hPre_layers_finite : Cert.Pre_layers_finite.Facts] : Prop :=
  ∀ (m : (ℓ : Loc Cert.LayersIdeal.nD Cert.LayersIdeal.τ Cert.LayersIdeal.sig) → Buf (Elt Ideal) ℓ) (g : Dev Cert.LayersIdeal.nD → PrngReg)
    (m' : (ℓ : Loc Cert.LayersReferenceIdeal.nD Cert.LayersReferenceIdeal.τ Cert.LayersReferenceIdeal.sig) → Buf (Elt Ideal) ℓ) (g' : Dev Cert.LayersReferenceIdeal.nD → PrngReg), Pre_LayersIdeal_layers_finite m →
    (∀ c : Dev Cert.LayersIdeal.nD,
      m' ((c.tc : Thread Cert.LayersReferenceIdeal.nD Cert.LayersReferenceIdeal.τ).loc Cert.LayersReferenceIdeal.main_arg0) = m ((c.tc : Thread Cert.LayersIdeal.nD Cert.LayersIdeal.τ).loc Cert.LayersIdeal.main_arg0)
      ∧ m' ((c.tc : Thread Cert.LayersReferenceIdeal.nD Cert.LayersReferenceIdeal.τ).loc Cert.LayersReferenceIdeal.main_arg1) = m ((c.tc : Thread Cert.LayersIdeal.nD Cert.LayersIdeal.τ).loc Cert.LayersIdeal.main_arg1)
      ∧ m' ((c.tc : Thread Cert.LayersReferenceIdeal.nD Cert.LayersReferenceIdeal.τ).loc Cert.LayersReferenceIdeal.main_arg2) = m ((c.tc : Thread Cert.LayersIdeal.nD Cert.LayersIdeal.τ).loc Cert.LayersIdeal.main_arg2)
      ∧ m' ((c.tc : Thread Cert.LayersReferenceIdeal.nD Cert.LayersReferenceIdeal.τ).loc Cert.LayersReferenceIdeal.main_arg3) = m ((c.tc : Thread Cert.LayersIdeal.nD Cert.LayersIdeal.τ).loc Cert.LayersIdeal.main_arg3)
      ∧ m' ((c.tc : Thread Cert.LayersReferenceIdeal.nD Cert.LayersReferenceIdeal.τ).loc Cert.LayersReferenceIdeal.main_arg4) = m ((c.tc : Thread Cert.LayersIdeal.nD Cert.LayersIdeal.τ).loc Cert.LayersIdeal.main_arg4)
      ∧ m' ((c.tc : Thread Cert.LayersReferenceIdeal.nD Cert.LayersReferenceIdeal.τ).loc Cert.LayersReferenceIdeal.main_arg5) = m ((c.tc : Thread Cert.LayersIdeal.nD Cert.LayersIdeal.τ).loc Cert.LayersIdeal.main_arg5)
      ∧ m' ((c.tc : Thread Cert.LayersReferenceIdeal.nD Cert.LayersReferenceIdeal.τ).loc Cert.LayersReferenceIdeal.main_arg6) = m ((c.tc : Thread Cert.LayersIdeal.nD Cert.LayersIdeal.τ).loc Cert.LayersIdeal.main_arg6)
      ∧ m' ((c.tc : Thread Cert.LayersReferenceIdeal.nD Cert.LayersReferenceIdeal.τ).loc Cert.LayersReferenceIdeal.main_arg7) = m ((c.tc : Thread Cert.LayersIdeal.nD Cert.LayersIdeal.τ).loc Cert.LayersIdeal.main_arg7)
      ∧ m' ((c.tc : Thread Cert.LayersReferenceIdeal.nD Cert.LayersReferenceIdeal.τ).loc Cert.LayersReferenceIdeal.main_arg8) = m ((c.tc : Thread Cert.LayersIdeal.nD Cert.LayersIdeal.τ).loc Cert.LayersIdeal.main_arg8)) →
    ∃ (v0 : (c : Dev Cert.LayersIdeal.nD) → Buf (Elt Ideal) ((c.tc : Thread Cert.LayersIdeal.nD Cert.LayersIdeal.τ).loc Cert.LayersIdeal.main_v0_0)) (v1 : (c : Dev Cert.LayersIdeal.nD) → Buf (Elt Ideal) ((c.tc : Thread Cert.LayersIdeal.nD Cert.LayersIdeal.τ).loc Cert.LayersIdeal.main_v0_1)),
      θ_run (Cert.LayersIdeal.defs (F := Ideal)) (onTc (τ := Cert.LayersIdeal.τ) (Cert.LayersIdeal.main (F := Ideal))) ⟨m, fun _ => 0, g⟩ (fun r => ∀ c : Dev Cert.LayersIdeal.nD,
          r.2.mem ((c.tc : Thread Cert.LayersIdeal.nD Cert.LayersIdeal.τ).loc Cert.LayersIdeal.main_v0_0) = v0 c
          ∧ r.2.mem ((c.tc : Thread Cert.LayersIdeal.nD Cert.LayersIdeal.τ).loc Cert.LayersIdeal.main_v0_1) = v1 c
          ∧ r.2.mem ((c.tc : Thread Cert.LayersIdeal.nD Cert.LayersIdeal.τ).loc Cert.LayersIdeal.main_arg0) = m ((c.tc : Thread Cert.LayersIdeal.nD Cert.LayersIdeal.τ).loc Cert.LayersIdeal.main_arg0)
          ∧ r.2.mem ((c.tc : Thread Cert.LayersIdeal.nD Cert.LayersIdeal.τ).loc Cert.LayersIdeal.main_arg1) = m ((c.tc : Thread Cert.LayersIdeal.nD Cert.LayersIdeal.τ).loc Cert.LayersIdeal.main_arg1)
          ∧ r.2.mem ((c.tc : Thread Cert.LayersIdeal.nD Cert.LayersIdeal.τ).loc Cert.LayersIdeal.main_arg2) = m ((c.tc : Thread Cert.LayersIdeal.nD Cert.LayersIdeal.τ).loc Cert.LayersIdeal.main_arg2)
          ∧ r.2.mem ((c.tc : Thread Cert.LayersIdeal.nD Cert.LayersIdeal.τ).loc Cert.LayersIdeal.main_arg3) = m ((c.tc : Thread Cert.LayersIdeal.nD Cert.LayersIdeal.τ).loc Cert.LayersIdeal.main_arg3)
          ∧ r.2.mem ((c.tc : Thread Cert.LayersIdeal.nD Cert.LayersIdeal.τ).loc Cert.LayersIdeal.main_arg4) = m ((c.tc : Thread Cert.LayersIdeal.nD Cert.LayersIdeal.τ).loc Cert.LayersIdeal.main_arg4)
          ∧ r.2.mem ((c.tc : Thread Cert.LayersIdeal.nD Cert.LayersIdeal.τ).loc Cert.LayersIdeal.main_arg5) = m ((c.tc : Thread Cert.LayersIdeal.nD Cert.LayersIdeal.τ).loc Cert.LayersIdeal.main_arg5)
          ∧ r.2.mem ((c.tc : Thread Cert.LayersIdeal.nD Cert.LayersIdeal.τ).loc Cert.LayersIdeal.main_arg6) = m ((c.tc : Thread Cert.LayersIdeal.nD Cert.LayersIdeal.τ).loc Cert.LayersIdeal.main_arg6)
          ∧ r.2.mem ((c.tc : Thread Cert.LayersIdeal.nD Cert.LayersIdeal.τ).loc Cert.LayersIdeal.main_arg7) = m ((c.tc : Thread Cert.LayersIdeal.nD Cert.LayersIdeal.τ).loc Cert.LayersIdeal.main_arg7)
          ∧ r.2.mem ((c.tc : Thread Cert.LayersIdeal.nD Cert.LayersIdeal.τ).loc Cert.LayersIdeal.main_arg8) = m ((c.tc : Thread Cert.LayersIdeal.nD Cert.LayersIdeal.τ).loc Cert.LayersIdeal.main_arg8))
      ∧ θ_run (Cert.LayersReferenceIdeal.defs (F := Ideal)) (onTc (τ := Cert.LayersReferenceIdeal.τ) (Cert.LayersReferenceIdeal.main (F := Ideal))) ⟨m', fun _ => 0, g'⟩ (fun r => ∀ c : Dev Cert.LayersReferenceIdeal.nD,
          r.2.mem ((c.tc : Thread Cert.LayersReferenceIdeal.nD Cert.LayersReferenceIdeal.τ).loc Cert.LayersReferenceIdeal.main_v389) = v0 c
          ∧ r.2.mem ((c.tc : Thread Cert.LayersReferenceIdeal.nD Cert.LayersReferenceIdeal.τ).loc Cert.LayersReferenceIdeal.main_v401) = v1 c
          ∧ r.2.mem ((c.tc : Thread Cert.LayersReferenceIdeal.nD Cert.LayersReferenceIdeal.τ).loc Cert.LayersReferenceIdeal.main_arg0) = m' ((c.tc : Thread Cert.LayersReferenceIdeal.nD Cert.LayersReferenceIdeal.τ).loc Cert.LayersReferenceIdeal.main_arg0)
          ∧ r.2.mem ((c.tc : Thread Cert.LayersReferenceIdeal.nD Cert.LayersReferenceIdeal.τ).loc Cert.LayersReferenceIdeal.main_arg1) = m' ((c.tc : Thread Cert.LayersReferenceIdeal.nD Cert.LayersReferenceIdeal.τ).loc Cert.LayersReferenceIdeal.main_arg1)
          ∧ r.2.mem ((c.tc : Thread Cert.LayersReferenceIdeal.nD Cert.LayersReferenceIdeal.τ).loc Cert.LayersReferenceIdeal.main_arg2) = m' ((c.tc : Thread Cert.LayersReferenceIdeal.nD Cert.LayersReferenceIdeal.τ).loc Cert.LayersReferenceIdeal.main_arg2)
          ∧ r.2.mem ((c.tc : Thread Cert.LayersReferenceIdeal.nD Cert.LayersReferenceIdeal.τ).loc Cert.LayersReferenceIdeal.main_arg3) = m' ((c.tc : Thread Cert.LayersReferenceIdeal.nD Cert.LayersReferenceIdeal.τ).loc Cert.LayersReferenceIdeal.main_arg3)
          ∧ r.2.mem ((c.tc : Thread Cert.LayersReferenceIdeal.nD Cert.LayersReferenceIdeal.τ).loc Cert.LayersReferenceIdeal.main_arg4) = m' ((c.tc : Thread Cert.LayersReferenceIdeal.nD Cert.LayersReferenceIdeal.τ).loc Cert.LayersReferenceIdeal.main_arg4)
          ∧ r.2.mem ((c.tc : Thread Cert.LayersReferenceIdeal.nD Cert.LayersReferenceIdeal.τ).loc Cert.LayersReferenceIdeal.main_arg5) = m' ((c.tc : Thread Cert.LayersReferenceIdeal.nD Cert.LayersReferenceIdeal.τ).loc Cert.LayersReferenceIdeal.main_arg5)
          ∧ r.2.mem ((c.tc : Thread Cert.LayersReferenceIdeal.nD Cert.LayersReferenceIdeal.τ).loc Cert.LayersReferenceIdeal.main_arg6) = m' ((c.tc : Thread Cert.LayersReferenceIdeal.nD Cert.LayersReferenceIdeal.τ).loc Cert.LayersReferenceIdeal.main_arg6)
          ∧ r.2.mem ((c.tc : Thread Cert.LayersReferenceIdeal.nD Cert.LayersReferenceIdeal.τ).loc Cert.LayersReferenceIdeal.main_arg7) = m' ((c.tc : Thread Cert.LayersReferenceIdeal.nD Cert.LayersReferenceIdeal.τ).loc Cert.LayersReferenceIdeal.main_arg7)
          ∧ r.2.mem ((c.tc : Thread Cert.LayersReferenceIdeal.nD Cert.LayersReferenceIdeal.τ).loc Cert.LayersReferenceIdeal.main_arg8) = m' ((c.tc : Thread Cert.LayersReferenceIdeal.nD Cert.LayersReferenceIdeal.τ).loc Cert.LayersReferenceIdeal.main_arg8))

def preserves_Memvec_MemvecIdeal : Prop :=
  True

def algebraic_MemvecIdeal_MemvecReferenceIdeal [hMemvecIdeal : Cert.MemvecIdeal.Facts] [hMemvecReferenceIdeal : Cert.MemvecReferenceIdeal.Facts] : Prop :=
  ∀ (m : (ℓ : Loc Cert.MemvecIdeal.nD Cert.MemvecIdeal.τ Cert.MemvecIdeal.sig) → Buf (Elt Ideal) ℓ) (g : Dev Cert.MemvecIdeal.nD → PrngReg)
    (m' : (ℓ : Loc Cert.MemvecReferenceIdeal.nD Cert.MemvecReferenceIdeal.τ Cert.MemvecReferenceIdeal.sig) → Buf (Elt Ideal) ℓ) (g' : Dev Cert.MemvecReferenceIdeal.nD → PrngReg), Pre_MemvecIdeal m →
    (∀ c : Dev Cert.MemvecIdeal.nD,
      m' ((c.tc : Thread Cert.MemvecReferenceIdeal.nD Cert.MemvecReferenceIdeal.τ).loc Cert.MemvecReferenceIdeal.main_arg0) = m ((c.tc : Thread Cert.MemvecIdeal.nD Cert.MemvecIdeal.τ).loc Cert.MemvecIdeal.main_arg0)
      ∧ m' ((c.tc : Thread Cert.MemvecReferenceIdeal.nD Cert.MemvecReferenceIdeal.τ).loc Cert.MemvecReferenceIdeal.main_arg1) = m ((c.tc : Thread Cert.MemvecIdeal.nD Cert.MemvecIdeal.τ).loc Cert.MemvecIdeal.main_arg1)
      ∧ m' ((c.tc : Thread Cert.MemvecReferenceIdeal.nD Cert.MemvecReferenceIdeal.τ).loc Cert.MemvecReferenceIdeal.main_arg2) = m ((c.tc : Thread Cert.MemvecIdeal.nD Cert.MemvecIdeal.τ).loc Cert.MemvecIdeal.main_arg2)
      ∧ m' ((c.tc : Thread Cert.MemvecReferenceIdeal.nD Cert.MemvecReferenceIdeal.τ).loc Cert.MemvecReferenceIdeal.main_arg3) = m ((c.tc : Thread Cert.MemvecIdeal.nD Cert.MemvecIdeal.τ).loc Cert.MemvecIdeal.main_arg3)
      ∧ m' ((c.tc : Thread Cert.MemvecReferenceIdeal.nD Cert.MemvecReferenceIdeal.τ).loc Cert.MemvecReferenceIdeal.main_arg4) = m ((c.tc : Thread Cert.MemvecIdeal.nD Cert.MemvecIdeal.τ).loc Cert.MemvecIdeal.main_arg4)) →
    ∃ (v0 : (c : Dev Cert.MemvecIdeal.nD) → Buf (Elt Ideal) ((c.tc : Thread Cert.MemvecIdeal.nD Cert.MemvecIdeal.τ).loc Cert.MemvecIdeal.main_v3)),
      θ_run (Cert.MemvecIdeal.defs (F := Ideal)) (onTc (τ := Cert.MemvecIdeal.τ) (Cert.MemvecIdeal.main (F := Ideal))) ⟨m, fun _ => 0, g⟩ (fun r => ∀ c : Dev Cert.MemvecIdeal.nD,
          r.2.mem ((c.tc : Thread Cert.MemvecIdeal.nD Cert.MemvecIdeal.τ).loc Cert.MemvecIdeal.main_v3) = v0 c
          ∧ r.2.mem ((c.tc : Thread Cert.MemvecIdeal.nD Cert.MemvecIdeal.τ).loc Cert.MemvecIdeal.main_arg0) = m ((c.tc : Thread Cert.MemvecIdeal.nD Cert.MemvecIdeal.τ).loc Cert.MemvecIdeal.main_arg0)
          ∧ r.2.mem ((c.tc : Thread Cert.MemvecIdeal.nD Cert.MemvecIdeal.τ).loc Cert.MemvecIdeal.main_arg1) = m ((c.tc : Thread Cert.MemvecIdeal.nD Cert.MemvecIdeal.τ).loc Cert.MemvecIdeal.main_arg1)
          ∧ r.2.mem ((c.tc : Thread Cert.MemvecIdeal.nD Cert.MemvecIdeal.τ).loc Cert.MemvecIdeal.main_arg2) = m ((c.tc : Thread Cert.MemvecIdeal.nD Cert.MemvecIdeal.τ).loc Cert.MemvecIdeal.main_arg2)
          ∧ r.2.mem ((c.tc : Thread Cert.MemvecIdeal.nD Cert.MemvecIdeal.τ).loc Cert.MemvecIdeal.main_arg3) = m ((c.tc : Thread Cert.MemvecIdeal.nD Cert.MemvecIdeal.τ).loc Cert.MemvecIdeal.main_arg3)
          ∧ r.2.mem ((c.tc : Thread Cert.MemvecIdeal.nD Cert.MemvecIdeal.τ).loc Cert.MemvecIdeal.main_arg4) = m ((c.tc : Thread Cert.MemvecIdeal.nD Cert.MemvecIdeal.τ).loc Cert.MemvecIdeal.main_arg4))
      ∧ θ_run (Cert.MemvecReferenceIdeal.defs (F := Ideal)) (onTc (τ := Cert.MemvecReferenceIdeal.τ) (Cert.MemvecReferenceIdeal.main (F := Ideal))) ⟨m', fun _ => 0, g'⟩ (fun r => ∀ c : Dev Cert.MemvecReferenceIdeal.nD,
          r.2.mem ((c.tc : Thread Cert.MemvecReferenceIdeal.nD Cert.MemvecReferenceIdeal.τ).loc Cert.MemvecReferenceIdeal.main_v29) = v0 c
          ∧ r.2.mem ((c.tc : Thread Cert.MemvecReferenceIdeal.nD Cert.MemvecReferenceIdeal.τ).loc Cert.MemvecReferenceIdeal.main_arg0) = m' ((c.tc : Thread Cert.MemvecReferenceIdeal.nD Cert.MemvecReferenceIdeal.τ).loc Cert.MemvecReferenceIdeal.main_arg0)
          ∧ r.2.mem ((c.tc : Thread Cert.MemvecReferenceIdeal.nD Cert.MemvecReferenceIdeal.τ).loc Cert.MemvecReferenceIdeal.main_arg1) = m' ((c.tc : Thread Cert.MemvecReferenceIdeal.nD Cert.MemvecReferenceIdeal.τ).loc Cert.MemvecReferenceIdeal.main_arg1)
          ∧ r.2.mem ((c.tc : Thread Cert.MemvecReferenceIdeal.nD Cert.MemvecReferenceIdeal.τ).loc Cert.MemvecReferenceIdeal.main_arg2) = m' ((c.tc : Thread Cert.MemvecReferenceIdeal.nD Cert.MemvecReferenceIdeal.τ).loc Cert.MemvecReferenceIdeal.main_arg2)
          ∧ r.2.mem ((c.tc : Thread Cert.MemvecReferenceIdeal.nD Cert.MemvecReferenceIdeal.τ).loc Cert.MemvecReferenceIdeal.main_arg3) = m' ((c.tc : Thread Cert.MemvecReferenceIdeal.nD Cert.MemvecReferenceIdeal.τ).loc Cert.MemvecReferenceIdeal.main_arg3)
          ∧ r.2.mem ((c.tc : Thread Cert.MemvecReferenceIdeal.nD Cert.MemvecReferenceIdeal.τ).loc Cert.MemvecReferenceIdeal.main_arg4) = m' ((c.tc : Thread Cert.MemvecReferenceIdeal.nD Cert.MemvecReferenceIdeal.τ).loc Cert.MemvecReferenceIdeal.main_arg4))

def preserves_Logits_LogitsIdeal : Prop :=
  True

def algebraic_LogitsIdeal_LogitsReferenceIdeal [hLogitsIdeal : Cert.LogitsIdeal.Facts] [hLogitsReferenceIdeal : Cert.LogitsReferenceIdeal.Facts] : Prop :=
  ∀ (m : (ℓ : Loc Cert.LogitsIdeal.nD Cert.LogitsIdeal.τ Cert.LogitsIdeal.sig) → Buf (Elt Ideal) ℓ) (g : Dev Cert.LogitsIdeal.nD → PrngReg)
    (m' : (ℓ : Loc Cert.LogitsReferenceIdeal.nD Cert.LogitsReferenceIdeal.τ Cert.LogitsReferenceIdeal.sig) → Buf (Elt Ideal) ℓ) (g' : Dev Cert.LogitsReferenceIdeal.nD → PrngReg), Pre_LogitsIdeal m →
    (∀ c : Dev Cert.LogitsIdeal.nD,
      m' ((c.tc : Thread Cert.LogitsReferenceIdeal.nD Cert.LogitsReferenceIdeal.τ).loc Cert.LogitsReferenceIdeal.main_arg0) = m ((c.tc : Thread Cert.LogitsIdeal.nD Cert.LogitsIdeal.τ).loc Cert.LogitsIdeal.main_arg0)
      ∧ m' ((c.tc : Thread Cert.LogitsReferenceIdeal.nD Cert.LogitsReferenceIdeal.τ).loc Cert.LogitsReferenceIdeal.main_arg1) = m ((c.tc : Thread Cert.LogitsIdeal.nD Cert.LogitsIdeal.τ).loc Cert.LogitsIdeal.main_arg1)
      ∧ m' ((c.tc : Thread Cert.LogitsReferenceIdeal.nD Cert.LogitsReferenceIdeal.τ).loc Cert.LogitsReferenceIdeal.main_arg2) = m ((c.tc : Thread Cert.LogitsIdeal.nD Cert.LogitsIdeal.τ).loc Cert.LogitsIdeal.main_arg2)) →
    ∃ (v0 : (c : Dev Cert.LogitsIdeal.nD) → Buf (Elt Ideal) ((c.tc : Thread Cert.LogitsIdeal.nD Cert.LogitsIdeal.τ).loc Cert.LogitsIdeal.main_v1)),
      θ_run (Cert.LogitsIdeal.defs (F := Ideal)) (onTc (τ := Cert.LogitsIdeal.τ) (Cert.LogitsIdeal.main (F := Ideal))) ⟨m, fun _ => 0, g⟩ (fun r => ∀ c : Dev Cert.LogitsIdeal.nD,
          r.2.mem ((c.tc : Thread Cert.LogitsIdeal.nD Cert.LogitsIdeal.τ).loc Cert.LogitsIdeal.main_v1) = v0 c
          ∧ r.2.mem ((c.tc : Thread Cert.LogitsIdeal.nD Cert.LogitsIdeal.τ).loc Cert.LogitsIdeal.main_arg0) = m ((c.tc : Thread Cert.LogitsIdeal.nD Cert.LogitsIdeal.τ).loc Cert.LogitsIdeal.main_arg0)
          ∧ r.2.mem ((c.tc : Thread Cert.LogitsIdeal.nD Cert.LogitsIdeal.τ).loc Cert.LogitsIdeal.main_arg1) = m ((c.tc : Thread Cert.LogitsIdeal.nD Cert.LogitsIdeal.τ).loc Cert.LogitsIdeal.main_arg1)
          ∧ r.2.mem ((c.tc : Thread Cert.LogitsIdeal.nD Cert.LogitsIdeal.τ).loc Cert.LogitsIdeal.main_arg2) = m ((c.tc : Thread Cert.LogitsIdeal.nD Cert.LogitsIdeal.τ).loc Cert.LogitsIdeal.main_arg2))
      ∧ θ_run (Cert.LogitsReferenceIdeal.defs (F := Ideal)) (onTc (τ := Cert.LogitsReferenceIdeal.τ) (Cert.LogitsReferenceIdeal.main (F := Ideal))) ⟨m', fun _ => 0, g'⟩ (fun r => ∀ c : Dev Cert.LogitsReferenceIdeal.nD,
          r.2.mem ((c.tc : Thread Cert.LogitsReferenceIdeal.nD Cert.LogitsReferenceIdeal.τ).loc Cert.LogitsReferenceIdeal.main_v4) = v0 c
          ∧ r.2.mem ((c.tc : Thread Cert.LogitsReferenceIdeal.nD Cert.LogitsReferenceIdeal.τ).loc Cert.LogitsReferenceIdeal.main_arg0) = m' ((c.tc : Thread Cert.LogitsReferenceIdeal.nD Cert.LogitsReferenceIdeal.τ).loc Cert.LogitsReferenceIdeal.main_arg0)
          ∧ r.2.mem ((c.tc : Thread Cert.LogitsReferenceIdeal.nD Cert.LogitsReferenceIdeal.τ).loc Cert.LogitsReferenceIdeal.main_arg1) = m' ((c.tc : Thread Cert.LogitsReferenceIdeal.nD Cert.LogitsReferenceIdeal.τ).loc Cert.LogitsReferenceIdeal.main_arg1)
          ∧ r.2.mem ((c.tc : Thread Cert.LogitsReferenceIdeal.nD Cert.LogitsReferenceIdeal.τ).loc Cert.LogitsReferenceIdeal.main_arg2) = m' ((c.tc : Thread Cert.LogitsReferenceIdeal.nD Cert.LogitsReferenceIdeal.τ).loc Cert.LogitsReferenceIdeal.main_arg2))

def Claim : Prop :=
  ∃ (hRowmm : Cert.Rowmm.Facts) (hRowmmIdeal : Cert.RowmmIdeal.Facts) (hRowmmReferenceIdeal : Cert.RowmmReferenceIdeal.Facts) (hScan : Cert.Scan.Facts) (hScanIdeal : Cert.ScanIdeal.Facts) (hScanReferenceIdeal : Cert.ScanReferenceIdeal.Facts) (hLayers : Cert.Layers.Facts) (hLayersIdeal : Cert.LayersIdeal.Facts) (hLayersReferenceIdeal : Cert.LayersReferenceIdeal.Facts) (hMemvec : Cert.Memvec.Facts) (hMemvecIdeal : Cert.MemvecIdeal.Facts) (hMemvecReferenceIdeal : Cert.MemvecReferenceIdeal.Facts) (hLogits : Cert.Logits.Facts) (hLogitsIdeal : Cert.LogitsIdeal.Facts) (hLogitsReferenceIdeal : Cert.LogitsReferenceIdeal.Facts) (hPre_scan_finite : Cert.Pre_scan_finite.Facts) (hPre_layers_finite : Cert.Pre_layers_finite.Facts),
    quiescent_Rowmm (hRowmm := hRowmm)
    ∧ quiescent_RowmmIdeal (hRowmmIdeal := hRowmmIdeal)
    ∧ quiescent_RowmmReferenceIdeal (hRowmmReferenceIdeal := hRowmmReferenceIdeal)
    ∧ quiescent_Scan (hScan := hScan)
    ∧ quiescent_ScanIdeal (hScanIdeal := hScanIdeal)
    ∧ quiescent_ScanIdeal_pre_scan_finite (hScanIdeal := hScanIdeal) (hPre_scan_finite := hPre_scan_finite)
    ∧ quiescent_ScanReferenceIdeal (hScanReferenceIdeal := hScanReferenceIdeal)
    ∧ quiescent_ScanReferenceIdeal_pre_scan_finite (hScanReferenceIdeal := hScanReferenceIdeal) (hPre_scan_finite := hPre_scan_finite)
    ∧ quiescent_Layers (hLayers := hLayers)
    ∧ quiescent_LayersIdeal (hLayersIdeal := hLayersIdeal)
    ∧ quiescent_LayersIdeal_pre_layers_finite (hLayersIdeal := hLayersIdeal) (hPre_layers_finite := hPre_layers_finite)
    ∧ quiescent_LayersReferenceIdeal (hLayersReferenceIdeal := hLayersReferenceIdeal)
    ∧ quiescent_LayersReferenceIdeal_pre_layers_finite (hLayersReferenceIdeal := hLayersReferenceIdeal) (hPre_layers_finite := hPre_layers_finite)
    ∧ quiescent_Memvec (hMemvec := hMemvec)
    ∧ quiescent_MemvecIdeal (hMemvecIdeal := hMemvecIdeal)
    ∧ quiescent_MemvecReferenceIdeal (hMemvecReferenceIdeal := hMemvecReferenceIdeal)
    ∧ quiescent_Logits (hLogits := hLogits)
    ∧ quiescent_LogitsIdeal (hLogitsIdeal := hLogitsIdeal)
    ∧ quiescent_LogitsReferenceIdeal (hLogitsReferenceIdeal := hLogitsReferenceIdeal)
    ∧ preserves_Rowmm_RowmmIdeal
    ∧ algebraic_RowmmIdeal_RowmmReferenceIdeal (hRowmmIdeal := hRowmmIdeal) (hRowmmReferenceIdeal := hRowmmReferenceIdeal)
    ∧ preserves_Scan_ScanIdeal
    ∧ algebraic_ScanIdeal_ScanReferenceIdeal_pre_scan_finite (hScanIdeal := hScanIdeal) (hScanReferenceIdeal := hScanReferenceIdeal) (hPre_scan_finite := hPre_scan_finite)
    ∧ preserves_Layers_LayersIdeal
    ∧ algebraic_LayersIdeal_LayersReferenceIdeal_pre_layers_finite (hLayersIdeal := hLayersIdeal) (hLayersReferenceIdeal := hLayersReferenceIdeal) (hPre_layers_finite := hPre_layers_finite)
    ∧ preserves_Memvec_MemvecIdeal
    ∧ algebraic_MemvecIdeal_MemvecReferenceIdeal (hMemvecIdeal := hMemvecIdeal) (hMemvecReferenceIdeal := hMemvecReferenceIdeal)
    ∧ preserves_Logits_LogitsIdeal
    ∧ algebraic_LogitsIdeal_LogitsReferenceIdeal (hLogitsIdeal := hLogitsIdeal) (hLogitsReferenceIdeal := hLogitsReferenceIdeal)
-- ==== Pre_layers_finite.lean ====
abbrev S4x1024x512 : Shape := ⟨3, ![4, 1024, 512]⟩
abbrev S4x1040x512 : Shape := ⟨3, ![4, 1040, 512]⟩
abbrev S8x512x512 : Shape := ⟨3, ![8, 512, 512]⟩
abbrev S8x1x512 : Shape := ⟨3, ![8, 1, 512]⟩
abbrev S512x6 : Shape := ⟨2, ![512, 6]⟩
abbrev S8x512x6 : Shape := ⟨3, ![8, 512, 6]⟩
abbrev S512x512 : Shape := ⟨2, ![512, 512]⟩
abbrev S_ : Shape := ⟨0, ![]⟩
abbrev S7x512x512 : Shape := ⟨3, ![7, 512, 512]⟩
abbrev S6x1x512 : Shape := ⟨3, ![6, 1, 512]⟩

class Facts : Prop where
  bcast_S_S4x1024x512 : S_.BroadcastsInDim S4x1024x512 (![] : Fin 0 → Fin S4x1024x512.rank)
  reducesTo_S4x1024x512_S_d0_1_2 : S4x1024x512.ReducesTo [0, 1, 2] S_
  h_S_ : 0 < S_.numel
  bcast_S_S4x1040x512 : S_.BroadcastsInDim S4x1040x512 (![] : Fin 0 → Fin S4x1040x512.rank)
  reducesTo_S4x1040x512_S_d0_1_2 : S4x1040x512.ReducesTo [0, 1, 2] S_
  slices_S8x512x512_S7x512x512_1_0_0 : S8x512x512.Slices ![1, 0, 0] S7x512x512
  bcast_S_S7x512x512 : S_.BroadcastsInDim S7x512x512 (![] : Fin 0 → Fin S7x512x512.rank)
  reducesTo_S7x512x512_S_d0_1_2 : S7x512x512.ReducesTo [0, 1, 2] S_
  slices_S8x1x512_S6x1x512_1_0_0 : S8x1x512.Slices ![1, 0, 0] S6x1x512
  bcast_S_S6x1x512 : S_.BroadcastsInDim S6x1x512 (![] : Fin 0 → Fin S6x1x512.rank)
  reducesTo_S6x1x512_S_d0_1_2 : S6x1x512.ReducesTo [0, 1, 2] S_

variable [Facts]

def fn_part1 {F : FTy → Type} [FloatOps F] (main_arg5 : FVec F S8x1x512 .f32) (main_v14 : IVec S_ 1) (main_v16 : FVec F S6x1x512 .f32) (main_cst_4 : FVec F S_ .f32) : IVec S_ 1 :=
  let main_v17 : FVec F S6x1x512 .f32 := broadcastInDim S6x1x512 ![] bcast_S_S6x1x512 main_cst_4
  let main_v18 : IVec S6x1x512 1 := cmpf .olt main_v16 main_v17
  let main_c_5 : IVec S_ 1 := constantI S_ 1 1#1
  let main_v19 : IVec S_ 1 := (fun x v => Host.reduce IntOp.andi x v reducesTo_S6x1x512_S_d0_1_2 h_S_) main_v18 main_c_5
  let main_v20 : IVec S_ 1 := andi main_v14 main_v19
  let main_v21 : FVec F S6x1x512 .f32 := (extractStridedSlice S6x1x512 ![1, 0, 0] · slices_S8x1x512_S6x1x512_1_0_0) main_arg5
  let main_v22 : FVec F S6x1x512 .f32 := Host.absf main_v21
  let main_cst_6 : FVec F S_ .f32 := constant S_ .f32 0x7F800000#32
  let main_v23 : FVec F S6x1x512 .f32 := broadcastInDim S6x1x512 ![] bcast_S_S6x1x512 main_cst_6
  let main_v24 : IVec S6x1x512 1 := cmpf .olt main_v22 main_v23
  let main_c_7 : IVec S_ 1 := constantI S_ 1 1#1
  let main_v25 : IVec S_ 1 := (fun x v => Host.reduce IntOp.andi x v reducesTo_S6x1x512_S_d0_1_2 h_S_) main_v24 main_c_7
  let main_v26 : IVec S_ 1 := andi main_v20 main_v25
  main_v26

def fn {F : FTy → Type} [FloatOps F] (main_arg0 : FVec F S4x1024x512 .f32) (main_arg1 : FVec F S4x1040x512 .f32) (main_arg2 : FVec F S8x512x512 .f32) (main_arg3 : FVec F S8x512x512 .f32) (main_arg4 : FVec F S8x1x512 .f32) (main_arg5 : FVec F S8x1x512 .f32) (main_arg6 : FVec F S512x6 .f32) (main_arg7 : FVec F S8x512x6 .f32) (main_arg8 : FVec F S512x512 .f32) : IVec S_ 1 :=
  let main_v0 : FVec F S4x1024x512 .f32 := Host.absf main_arg0
  let main_cst : FVec F S_ .f32 := constant S_ .f32 0x7F800000#32
  let main_v1 : FVec F S4x1024x512 .f32 := broadcastInDim S4x1024x512 ![] bcast_S_S4x1024x512 main_cst
  let main_v2 : IVec S4x1024x512 1 := cmpf .olt main_v0 main_v1
  let main_c : IVec S_ 1 := constantI S_ 1 1#1
  let main_v3 : IVec S_ 1 := (fun x v => Host.reduce IntOp.andi x v reducesTo_S4x1024x512_S_d0_1_2 h_S_) main_v2 main_c
  let main_v4 : FVec F S4x1040x512 .f32 := Host.absf main_arg1
  let main_cst_0 : FVec F S_ .f32 := constant S_ .f32 0x7F800000#32
  let main_v5 : FVec F S4x1040x512 .f32 := broadcastInDim S4x1040x512 ![] bcast_S_S4x1040x512 main_cst_0
  let main_v6 : IVec S4x1040x512 1 := cmpf .olt main_v4 main_v5
  let main_c_1 : IVec S_ 1 := constantI S_ 1 1#1
  let main_v7 : IVec S_ 1 := (fun x v => Host.reduce IntOp.andi x v reducesTo_S4x1040x512_S_d0_1_2 h_S_) main_v6 main_c_1
  let main_v8 : IVec S_ 1 := andi main_v3 main_v7
  let main_v9 : FVec F S7x512x512 .f32 := (extractStridedSlice S7x512x512 ![1, 0, 0] · slices_S8x512x512_S7x512x512_1_0_0) main_arg2
  let main_v10 : FVec F S7x512x512 .f32 := Host.absf main_v9
  let main_cst_2 : FVec F S_ .f32 := constant S_ .f32 0x7F800000#32
  let main_v11 : FVec F S7x512x512 .f32 := broadcastInDim S7x512x512 ![] bcast_S_S7x512x512 main_cst_2
  let main_v12 : IVec S7x512x512 1 := cmpf .olt main_v10 main_v11
  let main_c_3 : IVec S_ 1 := constantI S_ 1 1#1
  let main_v13 : IVec S_ 1 := (fun x v => Host.reduce IntOp.andi x v reducesTo_S7x512x512_S_d0_1_2 h_S_) main_v12 main_c_3
  let main_v14 : IVec S_ 1 := andi main_v8 main_v13
  let main_v15 : FVec F S6x1x512 .f32 := (extractStridedSlice S6x1x512 ![1, 0, 0] · slices_S8x1x512_S6x1x512_1_0_0) main_arg4
  let main_v16 : FVec F S6x1x512 .f32 := Host.absf main_v15
  let main_cst_4 : FVec F S_ .f32 := constant S_ .f32 0x7F800000#32
  fn_part1 (F := F) main_arg5 main_v14 main_v16 main_cst_4
-- ==== Pre_scan_finite.lean ====
abbrev S1024x4x512 : Shape := ⟨3, ![1024, 4, 512]⟩
abbrev S512x512 : Shape := ⟨2, ![512, 512]⟩
abbrev S1x512 : Shape := ⟨2, ![1, 512]⟩
abbrev S_ : Shape := ⟨0, ![]⟩

class Facts : Prop where
  bcast_S_S1024x4x512 : S_.BroadcastsInDim S1024x4x512 (![] : Fin 0 → Fin S1024x4x512.rank)
  reducesTo_S1024x4x512_S_d0_1_2 : S1024x4x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_arg4 : FVec F S1x512 .f32) (main_arg5 : FVec F S1x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S1x512 .f32 := Host.absf main_arg4
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  let main_v24 : FVec F S1x512 .f32 := Host.absf main_arg5
  let main_cst_8 : FVec F S_ .f32 := constant S_ .f32 0x7F800000#32
  let main_v25 : FVec F S1x512 .f32 := broadcastInDim S1x512 ![] bcast_S_S1x512 main_cst_8
  let main_v26 : IVec S1x512 1 := cmpf .olt main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v23 main_v27
  main_v28

def fn {F : FTy → Type} [FloatOps F] (main_arg0 : FVec F S1024x4x512 .f32) (main_arg1 : FVec F S1024x4x512 .f32) (main_arg2 : FVec F S512x512 .f32) (main_arg3 : FVec F S512x512 .f32) (main_arg4 : FVec F S1x512 .f32) (main_arg5 : FVec F S1x512 .f32) : IVec S_ 1 :=
  let main_v0 : FVec F S1024x4x512 .f32 := Host.absf main_arg0
  let main_cst : FVec F S_ .f32 := constant S_ .f32 0x7F800000#32
  let main_v1 : FVec F S1024x4x512 .f32 := broadcastInDim S1024x4x512 ![] bcast_S_S1024x4x512 main_cst
  let main_v2 : IVec S1024x4x512 1 := cmpf .olt main_v0 main_v1
  let main_c : IVec S_ 1 := constantI S_ 1 1#1
  let main_v3 : IVec S_ 1 := (fun x v => Host.reduce IntOp.andi x v reducesTo_S1024x4x512_S_d0_1_2 h_S_) main_v2 main_c
  let main_v4 : FVec F S1024x4x512 .f32 := Host.absf main_arg1
  let main_cst_0 : FVec F S_ .f32 := constant S_ .f32 0x7F800000#32
  let main_v5 : FVec F S1024x4x512 .f32 := broadcastInDim S1024x4x512 ![] bcast_S_S1024x4x512 main_cst_0
  let main_v6 : IVec S1024x4x512 1 := cmpf .olt main_v4 main_v5
  let main_c_1 : IVec S_ 1 := constantI S_ 1 1#1
  let main_v7 : IVec S_ 1 := (fun x v => Host.reduce IntOp.andi x v reducesTo_S1024x4x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_v13 main_v16
-- ==== Rowmm.lean ====
abbrev S4096x512 : Shape := ⟨2, ![4096, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S512x512, .f32⟩
  | .hbm, ⟨2, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RowmmReferenceIdeal.lean ====
abbrev S4096x512 : Shape := ⟨2, ![4096, 512]⟩
abbrev S512x512 : Shape := ⟨2, ![512, 512]⟩

abbrev nBuf : Space → Nat
  | .hbm => 3
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x512, .f32⟩
  | .hbm, ⟨2, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Scan.lean ====
abbrev S1024x4x512 : Shape := ⟨3, ![1024, 4, 512]⟩
abbrev S512x512 : Shape := ⟨2, ![512, 512]⟩
abbrev S1x512 : Shape := ⟨2, ![1, 512]⟩
abbrev S1040x4x512 : Shape := ⟨3, ![1040, 4, 512]⟩
abbrev S16x4x512 : Shape := ⟨3, ![16, 4, 512]⟩
abbrev S1x4x512 : Shape := ⟨3, ![1, 4, 512]⟩
abbrev S4x512 : Shape := ⟨2, ![4, 512]⟩
abbrev S16x4 : Shape := ⟨2, ![16, 4]⟩
abbrev S4 : Shape := ⟨1, ![4]⟩
abbrev S1x4 : Shape := ⟨2, ![1, 4]⟩
abbrev S16x4x1 : Shape := ⟨3, ![16, 4, 1]⟩
abbrev S4x1 : Shape := ⟨2, ![4, 1]⟩

abbrev nBuf : Space → Nat
  | .hbm => 8
  | .vmem => 9
  | .smem => 0
  | _ => 0

abbrev bufTy : (tb : Table) → Fin (tcTables nBuf tb) → BufTy
  | .hbm, ⟨0, _⟩ => ⟨S1024x4x512, .f32⟩
  | .hbm, ⟨1, _⟩ => ⟨S1024x4x512, .f32⟩
  | .hbm, ⟨2, _⟩ => ⟨S512x512, .f32⟩
  | .hbm, ⟨3, _⟩ => ⟨S512x512, .f32⟩
  | .hbm, ⟨4, _⟩ => ⟨S1x512, .f32⟩
  | .hbm, ⟨5, _⟩ => ⟨S1x512, .f32⟩
  | .hbm, ⟨6, _⟩ => ⟨S1024x4x512, .f32⟩
  | .hbm, ⟨7, _⟩ => ⟨S1040x4x512, .f32⟩
  | .local _ .vmem, ⟨0, _⟩ => ⟨S1024x4x512, .f32⟩
  | .local _ .vmem, ⟨1, _⟩ => ⟨S1024x4x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S1024x4x512, .f32⟩
  | .local _ .vmem, ⟨7, _⟩ => ⟨S1040x4x512, .f32⟩
  | .local _ .vmem, ⟨8, _⟩ => ⟨S16x4x512, .f32⟩
  | _, _ => ⟨S1024x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c64_i32 : BitVec 32 := 64#32
  let v6 : BitVec 32 := Scalar.addi c0_i32 c64_i32
  let c1_i32 : BitVec 32 := 1#32
  ⟨c0_i32, v6, c1_i32⟩
def k0_off1 (k0_t1 : Fin k0_t1_loop.trips) (c0_i32_7 : BitVec 32) : Fin 3 → Nat :=
  let c0_i32 : BitVec 32 := 0#32
  let c1_i32 : BitVec 32 := 1#32
  let arg9 : BitVec 32 := Scf.iv c0_i32 c1_i32 k0_t1
  let c16_i32 : BitVec 32 := 16#32
  let v7 : BitVec 32 := Scalar.muli arg9 c16_i32
  let v8 : BitVec 32 := Scalar.addi v7 c0_i32_7
  let v9 : Index := Scalar.indexCast v8
  let c0_8 : Index := 0#32
  let c0_9 : Index := 0#32
  ![v9.toNat, 0, 0]
def k0_off2 (k0_t1 : Fin k0_t1_loop.trips) (c0_i32_7 : BitVec 32) : Fin 3 → Nat :=
  let c0_i32 : BitVec 32 := 0#32
  let c1_i32 : BitVec 32 := 1#32
  let arg9 : BitVec 32 := Scf.iv c0_i32 c1_i32 k0_t1
  let c16_i32 : BitVec 32 := 16#32
  let v7 : BitVec 32 := Scalar.muli arg9 c16_i32
  let v8 : BitVec 32 := Scalar.addi v7 c0_i32_7
  let c16_i32_39 : BitVec 32 := 16#32
  let v75 : BitVec 32 := Scalar.addi v8 c16_i32_39
  let v76 : Index := Scalar.indexCast v75
  let c0_40 : Index := 0#32
  let c0_41 : Index := 0#32
  ![v76.toNat, 0, 0]
abbrev stage0_0 : Fin 1 → Memref sig .tc .vmem S1024x4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1040x4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ScanReferenceIdeal.lean ====
abbrev S1024x4x512 : Shape := ⟨3, ![1024, 4, 512]⟩
abbrev S512x512 : Shape := ⟨2, ![512, 512]⟩
abbrev S1x512 : Shape := ⟨2, ![1, 512]⟩
abbrev S_ : Shape := ⟨0, ![]⟩
abbrev S16x512 : Shape := ⟨2, ![16, 512]⟩
abbrev S1024 : Shape := ⟨1, ![1024]⟩
abbrev S4x16x512 : Shape := ⟨3, ![4, 16, 512]⟩
abbrev S1x4x512 : Shape := ⟨3, ![1, 4, 512]⟩
abbrev S4x512 : Shape := ⟨2, ![4, 512]⟩
abbrev S1 : Shape := ⟨1, ![1]⟩
abbrev S4x16 : Shape := ⟨2, ![4, 16]⟩
abbrev S4 : Shape := ⟨1, ![4]⟩
abbrev S4x1 : Shape := ⟨2, ![4, 1]⟩
abbrev S512 : Shape := ⟨1, ![512]⟩
abbrev S4x1024x512 : Shape := ⟨3, ![4, 1024, 512]⟩
abbrev S4x1040x512 : Shape := ⟨3, ![4, 1040, 512]⟩
abbrev S1040x4x512 : Shape := ⟨3, ![1040, 4, 512]⟩

abbrev nBuf : Space → Nat
  | .hbm => 113
  | .vmem => 0
  | .smem => 0
  | _ => 0

abbrev bufTy : (tb : Table) → Fin (tcTables nBuf tb) → BufTy
  | .hbm, ⟨0, _⟩ => ⟨S1024x4x512, .f32⟩
  | .hbm, ⟨1, _⟩ => ⟨S1024x4x512, .f32⟩
  | .hbm, ⟨2, _⟩ => ⟨S512x512, .f32⟩
  | .hbm, ⟨3, _⟩ => ⟨S512x512, .f32⟩
  | .hbm, ⟨4, _⟩ => ⟨S1x512, .f32⟩
  | .hbm, ⟨5, _⟩ => ⟨S1x512, .f32⟩
  | .hbm, ⟨6, _⟩ => ⟨S_, .f32⟩
  | .hbm, ⟨7, _⟩ => ⟨S16x512, .f32⟩
  | .hbm, ⟨8, _⟩ => ⟨S1024, .i32⟩
  | .hbm, ⟨9, _⟩ => ⟨S4x16x512, .f32⟩
  | .hbm, ⟨10, _⟩ => ⟨S_, .f32⟩
  | .hbm, ⟨11, _⟩ => ⟨S1024x4x512, .f32⟩
  | .hbm, ⟨12, _⟩ => ⟨S_, .f32⟩
  | .hbm, ⟨13, _⟩ => ⟨S1024x4x512, .f32⟩
  | .hbm, ⟨14, _⟩ => ⟨S_, .i32⟩
  | .hbm, ⟨15, _⟩ => ⟨S1024x4x512, .f32⟩
  | .hbm, ⟨16, _⟩ => ⟨S1024x4x512, .f32⟩
  | .hbm, ⟨17, _⟩ => ⟨S1024, .i32⟩
  | .hbm, ⟨18, _⟩ => ⟨S512x512, .f32⟩
  | .hbm, ⟨19, _⟩ => ⟨S1x512, .f32⟩
  | .hbm, ⟨20, _⟩ => ⟨S1x512, .f32⟩
  | .hbm, ⟨21, _⟩ => ⟨S512x512, .f32⟩
  | .hbm, ⟨22, _⟩ => ⟨S_, .i32⟩
  | .hbm, ⟨23, _⟩ => ⟨S4x16x512, .f32⟩
  | .hbm, ⟨24, _⟩ => ⟨S1024x4x512, .f32⟩
  | .hbm, ⟨25, _⟩ => ⟨S1024x4x512, .f32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S1x4x512, .f32⟩
  | .hbm, ⟨31, _⟩ => ⟨S4x512, .f32⟩
  | .hbm, ⟨32, _⟩ => ⟨S_, .i32⟩
  | .hbm, ⟨33, _⟩ => ⟨S_, .i32⟩
  | .hbm, ⟨34, _⟩ => ⟨S1x4x512, .f32⟩
  | .hbm, ⟨35, _⟩ => ⟨S4x512, .f32⟩
  | .hbm, ⟨36, _⟩ => ⟨S1, .i32⟩
  | .hbm, ⟨37, _⟩ => ⟨S_, .i32⟩
  | .hbm, ⟨38, _⟩ => ⟨S4x16, .f32⟩
  | .hbm, ⟨39, _⟩ => ⟨S_, .f32⟩
  | .hbm, ⟨40, _⟩ => ⟨S4, .f32⟩
  | .hbm, ⟨41, _⟩ => ⟨S_, .f32⟩
  | .hbm, ⟨42, _⟩ => ⟨S4, .f32⟩
  | .hbm, ⟨43, _⟩ => ⟨S4, .f32⟩
  | .hbm, ⟨44, _⟩ => ⟨S4x1, .f32⟩
  | .hbm, ⟨45, _⟩ => ⟨S4x16, .f32⟩
  | .hbm, ⟨46, _⟩ => ⟨S4x16, .f32⟩
  | .hbm, ⟨47, _⟩ => ⟨S4x16, .f32⟩
  | .hbm, ⟨48, _⟩ => ⟨S_, .f32⟩
  | .hbm, ⟨49, _⟩ => ⟨S4, .f32⟩
  | .hbm, ⟨50, _⟩ => ⟨S4x1, .f32⟩
  | .hbm, ⟨51, _⟩ => ⟨S4x16, .f32⟩
  | .hbm, ⟨52, _⟩ => ⟨S4x16, .f32⟩
  | .hbm, ⟨53, _⟩ => ⟨S4x512, .f32⟩
  | .hbm, ⟨54, _⟩ => ⟨S4x512, .f32⟩
  | .hbm, ⟨55, _⟩ => ⟨S4x512, .f32⟩
  | .hbm, ⟨56, _⟩ => ⟨S512, .f32⟩
  | .hbm, ⟨57, _⟩ => ⟨S512, .f32⟩
  | .hbm, ⟨58, _⟩ => ⟨S_, .f32⟩
  | .hbm, ⟨59, _⟩ => ⟨S4, .f32⟩
  | .hbm, ⟨60, _⟩ => ⟨S4x1, .f32⟩
  | .hbm, ⟨61, _⟩ => ⟨S_, .f32⟩
  | .hbm, ⟨62, _⟩ => ⟨S4x1, .f32⟩
  | .hbm, ⟨63, _⟩ => ⟨S4x1, .f32⟩
  | .hbm, ⟨64, _⟩ => ⟨S4x512, .f32⟩
  | .hbm, ⟨65, _⟩ => ⟨S4x512, .f32⟩
  | .hbm, ⟨66, _⟩ => ⟨S4x512, .f32⟩
  | .hbm, ⟨67, _⟩ => ⟨S_, .f32⟩
  | .hbm, ⟨68, _⟩ => ⟨S4, .f32⟩
  | .hbm, ⟨69, _⟩ => ⟨S4x1, .f32⟩
  | .hbm, ⟨70, _⟩ => ⟨S_, .f32⟩
  | .hbm, ⟨71, _⟩ => ⟨S4x1, .f32⟩
  | .hbm, ⟨72, _⟩ => ⟨S4x1, .f32⟩
  | .hbm, ⟨73, _⟩ => ⟨S4x512, .f32⟩
  | .hbm, ⟨74, _⟩ => ⟨S4x512, .f32⟩
  | .hbm, ⟨75, _⟩ => ⟨S_, .f32⟩
  | .hbm, ⟨76, _⟩ => ⟨S4x1, .f32⟩
  | .hbm, ⟨77, _⟩ => ⟨S4x1, .f32⟩
  | .hbm, ⟨78, _⟩ => ⟨S4x1, .f32⟩
  | .hbm, ⟨79, _⟩ => ⟨S4x512, .f32⟩
  | .hbm, ⟨80, _⟩ => ⟨S4x512, .f32⟩
  | .hbm, ⟨81, _⟩ => ⟨S1x512, .f32⟩
  | .hbm, ⟨82, _⟩ => ⟨S4x512, .f32⟩
  | .hbm, ⟨83, _⟩ => ⟨S4x512, .f32⟩
  | .hbm, ⟨84, _⟩ => ⟨S1x512, .f32⟩
  | .hbm, ⟨85, _⟩ => ⟨S4x512, .f32⟩
  | .hbm, ⟨86, _⟩ => ⟨S4x512, .f32⟩
  | .hbm, ⟨87, _⟩ => ⟨S4x512, .f32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S_, .i1⟩
  | .hbm, ⟨92, _⟩ => ⟨S_, .i32⟩
  | .hbm, ⟨93, _⟩ => ⟨S_, .i32⟩
  | .hbm, ⟨94, _⟩ => ⟨S_, .i32⟩
  | .hbm, ⟨95, _⟩ => ⟨S1, .i32⟩
  | .hbm, ⟨96, _⟩ => ⟨S4x16x512, .f32⟩
  | .hbm, ⟨97, _⟩ => ⟨S1x4x512, .f32⟩
  | .hbm, ⟨98, _⟩ => ⟨S_, .i32⟩
  | .hbm, ⟨99, _⟩ => ⟨S_, .i32⟩
  | .hbm, ⟨100, _⟩ => ⟨S1024x4x512, .f32⟩
  | .hbm, ⟨101, _⟩ => ⟨S1x4x512, .f32⟩
  | .hbm, ⟨102, _⟩ => ⟨S_, .i32⟩
  | .hbm, ⟨103, _⟩ => ⟨S_, .i32⟩
  | .hbm, ⟨104, _⟩ => ⟨S1024x4x512, .f32⟩
  | .hbm, ⟨105, _⟩ => ⟨S_, .i32⟩
  | .hbm, ⟨106, _⟩ => ⟨S_, .i32⟩
  | .hbm, ⟨107, _⟩ => ⟨S_, .f32⟩
  | .hbm, ⟨108, _⟩ => ⟨S16x512, .f32⟩
  | .hbm, ⟨109, _⟩ => ⟨S4x16x512, .f32⟩
  | .hbm, ⟨110, _⟩ => ⟨S4x1024x512, .f32⟩
  | .hbm, ⟨111, _⟩ => ⟨S4x1040x512, .f32⟩
  | .hbm, ⟨112, _⟩ => ⟨S1040x4x512, .f32⟩
  | _, _ => ⟨S1024x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_c : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev main_v5_4 : Ref sig .tc := ⟨.hbm, 19, rfl⟩
abbrev main_v5_5 : Ref sig .tc := ⟨.hbm, 20, rfl⟩
abbrev main_v5_6 : Ref sig .tc := ⟨.hbm, 21, rfl⟩
abbrev main_v5_7 : Ref sig .tc := ⟨.hbm, 22, rfl⟩
abbrev main_v5_8 : Ref sig .tc := ⟨.hbm, 23, rfl⟩
abbrev main_v5_9 : Ref sig .tc := ⟨.hbm, 24, rfl⟩
abbrev main_v5_10 : Ref sig .tc := ⟨.hbm, 25, rfl⟩
abbrev main_while0c_c_13 : Ref sig .tc := ⟨.hbm, 26, rfl⟩
abbrev main_while0c_v11 : Ref sig .tc := ⟨.hbm, 27, rfl⟩
abbrev main_while0b_call0_c : Ref sig .tc := ⟨.hbm, 28, rfl⟩
abbrev main_while0b_call0_c_0 : Ref sig .tc := ⟨.hbm, 29, rfl⟩
abbrev main_while0b_call0_v0 : Ref sig .tc := ⟨.hbm, 30, rfl⟩
abbrev main_while0b_v11 : Ref sig .tc := ⟨.hbm, 31, rfl⟩
abbrev main_while0b_call1_c : Ref sig .tc := ⟨.hbm, 32, rfl⟩
abbrev main_while0b_call1_c_0 : Ref sig .tc := ⟨.hbm, 33, rfl⟩
abbrev main_while0b_call1_v0 : Ref sig .tc := ⟨.hbm, 34, rfl⟩
abbrev main_while0b_v12 : Ref sig .tc := ⟨.hbm, 35, rfl⟩
abbrev main_while0b_call2_v0 : Ref sig .tc := ⟨.hbm, 36, rfl⟩
abbrev main_while0b_v13 : Ref sig .tc := ⟨.hbm, 37, rfl⟩
abbrev main_while0b_v14 : Ref sig .tc := ⟨.hbm, 38, rfl⟩
abbrev main_while0b_cst_13 : Ref sig .tc := ⟨.hbm, 39, rfl⟩
abbrev main_while0b_v15 : Ref sig .tc := ⟨.hbm, 40, rfl⟩
abbrev main_while0b_cst_14 : Ref sig .tc := ⟨.hbm, 41, rfl⟩
abbrev main_while0b_v16 : Ref sig .tc := ⟨.hbm, 42, rfl⟩
abbrev main_while0b_v17 : Ref sig .tc := ⟨.hbm, 43, rfl⟩
abbrev main_while0b_v18 : Ref sig .tc := ⟨.hbm, 44, rfl⟩
abbrev main_while0b_v19 : Ref sig .tc := ⟨.hbm, 45, rfl⟩
abbrev main_while0b_v20 : Ref sig .tc := ⟨.hbm, 46, rfl⟩
abbrev main_while0b_v21 : Ref sig .tc := ⟨.hbm, 47, rfl⟩
abbrev main_while0b_cst_15 : Ref sig .tc := ⟨.hbm, 48, rfl⟩
abbrev main_while0b_v22 : Ref sig .tc := ⟨.hbm, 49, rfl⟩
abbrev main_while0b_v23 : Ref sig .tc := ⟨.hbm, 50, rfl⟩
abbrev main_while0b_v24 : Ref sig .tc := ⟨.hbm, 51, rfl⟩
abbrev main_while0b_v25 : Ref sig .tc := ⟨.hbm, 52, rfl⟩
abbrev main_while0b_v26 : Ref sig .tc := ⟨.hbm, 53, rfl⟩
abbrev main_while0b_v27 : Ref sig .tc := ⟨.hbm, 54, rfl⟩
abbrev main_while0b_v28 : Ref sig .tc := ⟨.hbm, 55, rfl⟩
abbrev main_while0b_v29 : Ref sig .tc := ⟨.hbm, 56, rfl⟩
abbrev main_while0b_v30 : Ref sig .tc := ⟨.hbm, 57, rfl⟩
abbrev main_while0b_cst_16 : Ref sig .tc := ⟨.hbm, 58, rfl⟩
abbrev main_while0b_v31 : Ref sig .tc := ⟨.hbm, 59, rfl⟩
abbrev main_while0b_v32 : Ref sig .tc := ⟨.hbm, 60, rfl⟩
abbrev main_while0b_cst_17 : Ref sig .tc := ⟨.hbm, 61, rfl⟩
abbrev main_while0b_v33 : Ref sig .tc := ⟨.hbm, 62, rfl⟩
abbrev main_while0b_v34 : Ref sig .tc := ⟨.hbm, 63, rfl⟩
abbrev main_while0b_v35 : Ref sig .tc := ⟨.hbm, 64, rfl⟩
abbrev main_while0b_v36 : Ref sig .tc := ⟨.hbm, 65, rfl⟩
abbrev main_while0b_v37 : Ref sig .tc := ⟨.hbm, 66, rfl⟩
abbrev main_while0b_cst_18 : Ref sig .tc := ⟨.hbm, 67, rfl⟩
abbrev main_while0b_v38 : Ref sig .tc := ⟨.hbm, 68, rfl⟩
abbrev main_while0b_v39 : Ref sig .tc := ⟨.hbm, 69, rfl⟩
abbrev main_while0b_cst_19 : Ref sig .tc := ⟨.hbm, 70, rfl⟩
abbrev main_while0b_v40 : Ref sig .tc := ⟨.hbm, 71, rfl⟩
abbrev main_while0b_v41 : Ref sig .tc := ⟨.hbm, 72, rfl⟩
abbrev main_while0b_v42 : Ref sig .tc := ⟨.hbm, 73, rfl⟩
abbrev main_while0b_v43 : Ref sig .tc := ⟨.hbm, 74, rfl⟩
abbrev main_while0b_cst_20 : Ref sig .tc := ⟨.hbm, 75, rfl⟩
abbrev main_while0b_v44 : Ref sig .tc := ⟨.hbm, 76, rfl⟩
abbrev main_while0b_v45 : Ref sig .tc := ⟨.hbm, 77, rfl⟩
abbrev main_while0b_v46 : Ref sig .tc := ⟨.hbm, 78, rfl⟩
abbrev main_while0b_v47 : Ref sig .tc := ⟨.hbm, 79, rfl⟩
abbrev main_while0b_v48 : Ref sig .tc := ⟨.hbm, 80, rfl⟩
abbrev main_while0b_v49 : Ref sig .tc := ⟨.hbm, 81, rfl⟩
abbrev main_while0b_v50 : Ref sig .tc := ⟨.hbm, 82, rfl⟩
abbrev main_while0b_v51 : Ref sig .tc := ⟨.hbm, 83, rfl⟩
abbrev main_while0b_v52 : Ref sig .tc := ⟨.hbm, 84, rfl⟩
abbrev main_while0b_v53 : Ref sig .tc := ⟨.hbm, 85, rfl⟩
abbrev main_while0b_v54 : Ref sig .tc := ⟨.hbm, 86, rfl⟩
abbrev main_while0b_v55 : Ref sig .tc := ⟨.hbm, 87, rfl⟩
abbrev main_while0b_c_21 : Ref sig .tc := ⟨.hbm, 88, rfl⟩
abbrev main_while0b_v56 : Ref sig .tc := ⟨.hbm, 89, rfl⟩
abbrev main_while0b_c_22 : Ref sig .tc := ⟨.hbm, 90, rfl⟩
abbrev main_while0b_v57 : Ref sig .tc := ⟨.hbm, 91, rfl⟩
abbrev main_while0b_c_23 : Ref sig .tc := ⟨.hbm, 92, rfl⟩
abbrev main_while0b_v58 : Ref sig .tc := ⟨.hbm, 93, rfl⟩
abbrev main_while0b_v59 : Ref sig .tc := ⟨.hbm, 94, rfl⟩
abbrev main_while0b_v60 : Ref sig .tc := ⟨.hbm, 95, rfl⟩
abbrev main_while0b_v61 : Ref sig .tc := ⟨.hbm, 96, rfl⟩
abbrev main_while0b_call3_v0 : Ref sig .tc := ⟨.hbm, 97, rfl⟩
abbrev main_while0b_call3_c : Ref sig .tc := ⟨.hbm, 98, rfl⟩
abbrev main_while0b_call3_c_0 : Ref sig .tc := ⟨.hbm, 99, rfl⟩
abbrev main_while0b_v62 : Ref sig .tc := ⟨.hbm, 100, rfl⟩
abbrev main_while0b_call4_v0 : Ref sig .tc := ⟨.hbm, 101, rfl⟩
abbrev main_while0b_call4_c : Ref sig .tc := ⟨.hbm, 102, rfl⟩
abbrev main_while0b_call4_c_0 : Ref sig .tc := ⟨.hbm, 103, rfl⟩
abbrev main_while0b_v63 : Ref sig .tc := ⟨.hbm, 104, rfl⟩
abbrev main_while0b_c_24 : Ref sig .tc := ⟨.hbm, 105, rfl⟩
abbrev main_while0b_v64 : Ref sig .tc := ⟨.hbm, 106, rfl⟩
abbrev main_cst_2 : Ref sig .tc := ⟨.hbm, 107, rfl⟩
abbrev main_v6 : Ref sig .tc := ⟨.hbm, 108, rfl⟩
abbrev main_v7 : Ref sig .tc := ⟨.hbm, 109, rfl⟩
abbrev main_v8 : Ref sig .tc := ⟨.hbm, 110, rfl⟩
abbrev main_v9 : Ref sig .tc := ⟨.hbm, 111, rfl⟩
abbrev main_v10 : Ref sig .tc := ⟨.hbm, 112, rfl⟩

abbrev nD : Nat := 1
abbrev τ : Topo := Topo.v7x

variable {F : FTy → Type} [FloatOps F]

abbrev main_while0_count : Scf.Loop 32 := ⟨0#32, 1024#32, 1#32⟩
-- ==== Layers.lean ====
abbrev S4x1024x512 : Shape := ⟨3, ![4, 1024, 512]⟩
abbrev S4x1040x512 : Shape := ⟨3, ![4, 1040, 512]⟩
abbrev S8x512x512 : Shape := ⟨3, ![8, 512, 512]⟩
abbrev S8x1x512 : Shape := ⟨3, ![8, 1, 512]⟩
abbrev S512x6 : Shape := ⟨2, ![512, 6]⟩
abbrev S8x512x6 : Shape := ⟨3, ![8, 512, 6]⟩
abbrev S512x512 : Shape := ⟨2, ![512, 512]⟩
abbrev S4x1024x6 : Shape := ⟨3, ![4, 1024, 6]⟩
abbrev S1x256x512 : Shape := ⟨3, ![1, 256, 512]⟩
abbrev S1x1040x512 : Shape := ⟨3, ![1, 1040, 512]⟩
abbrev S1x512x512 : Shape := ⟨3, ![1, 512, 512]⟩
abbrev S1x1x512 : Shape := ⟨3, ![1, 1, 512]⟩
abbrev S1x512x6 : Shape := ⟨3, ![1, 512, 6]⟩
abbrev S1x256x6 : Shape := ⟨3, ![1, 256, 6]⟩
abbrev S256x512 : Shape := ⟨2, ![256, 512]⟩
abbrev S256x6 : Shape := ⟨2, ![256, 6]⟩
abbrev S1x272x512 : Shape := ⟨3, ![1, 272, 512]⟩
abbrev S272x512 : Shape := ⟨2, ![272, 512]⟩
abbrev S256x272 : Shape := ⟨2, ![256, 272]⟩
abbrev S256 : Shape := ⟨1, ![256]⟩
abbrev S256x1 : Shape := ⟨2, ![256, 1]⟩
abbrev S1x512 : Shape := ⟨2, ![1, 512]⟩

abbrev nBuf : Space → Nat
  | .hbm => 11
  | .vmem => 22
  | .smem => 0
  | _ => 0

abbrev bufTy : (tb : Table) → Fin (tcTables nBuf tb) → BufTy
  | .hbm, ⟨0, _⟩ => ⟨S4x1024x512, .f32⟩
  | .hbm, ⟨1, _⟩ => ⟨S4x1040x512, .f32⟩
  | .hbm, ⟨2, _⟩ => ⟨S8x512x512, .f32⟩
  | .hbm, ⟨3, _⟩ => ⟨S8x512x512, .f32⟩
  | .hbm, ⟨4, _⟩ => ⟨S8x1x512, .f32⟩
  | .hbm, ⟨5, _⟩ => ⟨S8x1x512, .f32⟩
  | .hbm, ⟨6, _⟩ => ⟨S512x6, .f32⟩
  | .hbm, ⟨7, _⟩ => ⟨S8x512x6, .f32⟩
  | .hbm, ⟨8, _⟩ => ⟨S512x512, .f32⟩
  | .hbm, ⟨9, _⟩ => ⟨S4x1024x512, .f32⟩
  | .hbm, ⟨10, _⟩ => ⟨S4x1024x6, .f32⟩
  | .local _ .vmem, ⟨0, _⟩ => ⟨S1x256x512, .f32⟩
  | .local _ .vmem, ⟨1, _⟩ => ⟨S1x256x512, .f32⟩
  | .local _ .vmem, ⟨2, _⟩ => ⟨S1x1040x512, .f32⟩
  | .local _ .vmem, ⟨3, _⟩ => ⟨S1x1040x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x1x512, .f32⟩
  | .local _ .vmem, ⟨9, _⟩ => ⟨S1x1x512, .f32⟩
  | .local _ .vmem, ⟨10, _⟩ => ⟨S1x1x512, .f32⟩
  | .local _ .vmem, ⟨11, _⟩ => ⟨S1x1x512, .f32⟩
  | .local _ .vmem, ⟨12, _⟩ => ⟨S512x6, .f32⟩
  | .local _ .vmem, ⟨13, _⟩ => ⟨S1x512x6, .f32⟩
  | .local _ .vmem, ⟨14, _⟩ => ⟨S1x512x6, .f32⟩
  | .local _ .vmem, ⟨15, _⟩ => ⟨S512x512, .f32⟩
  | .local _ .vmem, ⟨16, _⟩ => ⟨S1x256x512, .f32⟩
  | .local _ .vmem, ⟨17, _⟩ => ⟨S1x256x512, .f32⟩
  | .local _ .vmem, ⟨18, _⟩ => ⟨S1x256x6, .f32⟩
  | .local _ .vmem, ⟨19, _⟩ => ⟨S1x256x6, .f32⟩
  | .local _ .vmem, ⟨20, _⟩ => ⟨S256x512, .f32⟩
  | .local _ .vmem, ⟨21, _⟩ => ⟨S256x6, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨3, ![4, 4, 7], ![false, false, false]⟩

def k0_off1 (i : grid0.Coords) : Fin 3 → Nat :=
  let c0_8 : Index := 0#32
  let arg1 : BitVec 32 := BitVec.ofNat 32 (i 1).val
  let c256_i32 : BitVec 32 := 256#32
  let v9 : BitVec 32 := Scalar.muli arg1 c256_i32
  let v10 : Index := Scalar.indexCast v9
  let c0_9 : Index := 0#32
  ![0, v10.toNat, 0]
def k0_cond2 (i : grid0.Coords) : BitVec 1 :=
  let arg2 : BitVec 32 := BitVec.ofNat 32 (i 2).val
  let c6_i32 : BitVec 32 := 6#32
  let v76 : BitVec 1 := Scalar.cmpi .eq arg2 c6_i32
  let v77 : BitVec 32 := Scalar.extui v76
  let c0_i32_40 : BitVec 32 := 0#32
  let v78 : BitVec 1 := Scalar.cmpi .ne v77 c0_i32_40
  v78

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1040x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 1 → Memref sig .tc .vmem S512x6 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x512x6 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x256x6 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== LayersIdeal.lean ====
variable {F : FTy → Type} [FloatOps F] [Named F]
def κ : String → Option EReal := fun
  | "mask" => some ⊥
  | _ => none
-- ==== LayersReferenceIdeal.lean ====
abbrev S4x1024x512 : Shape := ⟨3, ![4, 1024, 512]⟩
abbrev S4x1040x512 : Shape := ⟨3, ![4, 1040, 512]⟩
abbrev S8x512x512 : Shape := ⟨3, ![8, 512, 512]⟩
abbrev S8x1x512 : Shape := ⟨3, ![8, 1, 512]⟩
abbrev S512x6 : Shape := ⟨2, ![512, 6]⟩
abbrev S8x512x6 : Shape := ⟨3, ![8, 512, 6]⟩
abbrev S512x512 : Shape := ⟨2, ![512, 512]⟩
abbrev S1024 : Shape := ⟨1, ![1024]⟩
abbrev S_ : Shape := ⟨0, ![]⟩
abbrev S16 : Shape := ⟨1, ![16]⟩
abbrev S1x16 : Shape := ⟨2, ![1, 16]⟩
abbrev S1024x1 : Shape := ⟨2, ![1024, 1]⟩
abbrev S1024x16 : Shape := ⟨2, ![1024, 16]⟩
abbrev S1024x16x1 : Shape := ⟨3, ![1024, 16, 1]⟩
abbrev S4x1024x16x512 : Shape := ⟨4, ![4, 1024, 16, 512]⟩
abbrev S4x1024x6 : Shape := ⟨3, ![4, 1024, 6]⟩
abbrev S1x512x512 : Shape := ⟨3, ![1, 512, 512]⟩
abbrev S4x1024x16 : Shape := ⟨3, ![4, 1024, 16]⟩
abbrev S4x1024 : Shape := ⟨2, ![4, 1024]⟩
abbrev S4x1024x1 : Shape := ⟨3, ![4, 1024, 1]⟩
abbrev S1x1x512 : Shape := ⟨3, ![1, 1, 512]⟩
abbrev S512 : Shape := ⟨1, ![512]⟩
abbrev S1x512 : Shape := ⟨2, ![1, 512]⟩
abbrev S1x512x6 : Shape := ⟨3, ![1, 512, 6]⟩
abbrev S1x4x1024x6 : Shape := ⟨4, ![1, 4, 1024, 6]⟩
abbrev S8x4x1024x6 : Shape := ⟨4, ![8, 4, 1024, 6]⟩

abbrev nBuf : Space → Nat
  | .hbm => 472
  | .vmem => 0
  | .smem => 0
  | _ => 0

abbrev hbmTy0_0 (i : Nat) : BufTy := match i % 128 with
  | 0 => ⟨S4x1024x512, .f32⟩
  | 1 => ⟨S4x1040x512, .f32⟩
  | 2 => ⟨S8x512x512, .f32⟩
  | 3 => ⟨S8x512x512, .f32⟩
  | 4 => ⟨S8x1x512, .f32⟩
  | 5 => ⟨S8x1x512, .f32⟩
  | 6 => ⟨S512x6, .f32⟩
  | 7 => ⟨S8x512x6, .f32⟩
  | 8 => ⟨S512x512, .f32⟩
  | 9 => ⟨S1024, .i32⟩
  | 10 => ⟨S_, .i32⟩
  | 11 => ⟨S1024, .i32⟩
  | 12 => ⟨S1024, .i32⟩
  | 13 => ⟨S16, .i32⟩
  | 14 => ⟨S1x16, .i32⟩
  | 15 => ⟨S1024x1, .i32⟩
  | 16 => ⟨S1024x16, .i32⟩
  | 17 => ⟨S1024x16, .i32⟩
  | 18 => ⟨S1024x16, .i32⟩
  | 19 => ⟨S_, .i32⟩
  | 20 => ⟨S1024x16, .i32⟩
  | 21 => ⟨S1024x16, .i1⟩
  | 22 => ⟨S_, .i32⟩
  | 23 => ⟨S1024x16, .i32⟩
  | 24 => ⟨S1024x16, .i32⟩
  | 25 => ⟨S1024x16, .i32⟩
  | 26 => ⟨S1024x16x1, .i32⟩
  | 27 => ⟨S4x1024x16x512, .f32⟩
  | 28 => ⟨S4x1024x6, .f32⟩
  | 29 => ⟨S1x512x512, .f32⟩
  | 30 => ⟨S512x512, .f32⟩
  | 31 => ⟨S4x1024x512, .f32⟩
  | 32 => ⟨S4x1024x16, .f32⟩
  | 33 => ⟨S_, .f32⟩
  | 34 => ⟨S4x1024, .f32⟩
  | 35 => ⟨S_, .f32⟩
  | 36 => ⟨S4x1024, .f32⟩
  | 37 => ⟨S4x1024, .f32⟩
  | 38 => ⟨S4x1024x1, .f32⟩
  | 39 => ⟨S4x1024x16, .f32⟩
  | 40 => ⟨S4x1024x16, .f32⟩
  | 41 => ⟨S4x1024x16, .f32⟩
  | 42 => ⟨S_, .f32⟩
  | 43 => ⟨S4x1024, .f32⟩
  | 44 => ⟨S4x1024x1, .f32⟩
  | 45 => ⟨S4x1024x16, .f32⟩
  | 46 => ⟨S4x1024x16, .f32⟩
  | 47 => ⟨S4x1024x512, .f32⟩
  | 48 => ⟨S1x512x512, .f32⟩
  | 49 => ⟨S512x512, .f32⟩
  | 50 => ⟨S4x1024x512, .f32⟩
  | 51 => ⟨S4x1024x512, .f32⟩
  | 52 => ⟨S1x1x512, .f32⟩
  | 53 => ⟨S512, .f32⟩
  | 54 => ⟨S1x1x512, .f32⟩
  | 55 => ⟨S512, .f32⟩
  | 56 => ⟨S_, .f32⟩
  | 57 => ⟨S4x1024, .f32⟩
  | 58 => ⟨S4x1024x1, .f32⟩
  | 59 => ⟨S_, .f32⟩
  | 60 => ⟨S4x1024x1, .f32⟩
  | 61 => ⟨S4x1024x1, .f32⟩
  | 62 => ⟨S4x1024x512, .f32⟩
  | 63 => ⟨S4x1024x512, .f32⟩
  | 64 => ⟨S4x1024x512, .f32⟩
  | 65 => ⟨S_, .f32⟩
  | 66 => ⟨S4x1024, .f32⟩
  | 67 => ⟨S4x1024x1, .f32⟩
  | 68 => ⟨S_, .f32⟩
  | 69 => ⟨S4x1024x1, .f32⟩
  | 70 => ⟨S4x1024x1, .f32⟩
  | 71 => ⟨S4x1024x512, .f32⟩
  | 72 => ⟨S4x1024x512, .f32⟩
  | 73 => ⟨S_, .f32⟩
  | 74 => ⟨S4x1024x1, .f32⟩
  | 75 => ⟨S4x1024x1, .f32⟩
  | 76 => ⟨S4x1024x1, .f32⟩
  | 77 => ⟨S4x1024x512, .f32⟩
  | 78 => ⟨S4x1024x512, .f32⟩
  | 79 => ⟨S1x512, .f32⟩
  | 80 => ⟨S1x1x512, .f32⟩
  | 81 => ⟨S4x1024x512, .f32⟩
  | 82 => ⟨S4x1024x512, .f32⟩
  | 83 => ⟨S1x512, .f32⟩
  | 84 => ⟨S1x1x512, .f32⟩
  | 85 => ⟨S4x1024x512, .f32⟩
  | 86 => ⟨S4x1024x512, .f32⟩
  | 87 => ⟨S1x512x6, .f32⟩
  | 88 => ⟨S512x6, .f32⟩
  | 89 => ⟨S4x1024x6, .f32⟩
  | 90 => ⟨S1x512x512, .f32⟩
  | 91 => ⟨S512x512, .f32⟩
  | 92 => ⟨S4x1024x512, .f32⟩
  | 93 => ⟨S4x1024x16, .f32⟩
  | 94 => ⟨S_, .f32⟩
  | 95 => ⟨S4x1024, .f32⟩
  | 96 => ⟨S_, .f32⟩
  | 97 => ⟨S4x1024, .f32⟩
  | 98 => ⟨S4x1024, .f32⟩
  | 99 => ⟨S4x1024x1, .f32⟩
  | 100 => ⟨S4x1024x16, .f32⟩
  | 101 => ⟨S4x1024x16, .f32⟩
  | 102 => ⟨S4x1024x16, .f32⟩
  | 103 => ⟨S_, .f32⟩
  | 104 => ⟨S4x1024, .f32⟩
  | 105 => ⟨S4x1024x1, .f32⟩
  | 106 => ⟨S4x1024x16, .f32⟩
  | 107 => ⟨S4x1024x16, .f32⟩
  | 108 => ⟨S4x1024x512, .f32⟩
  | 109 => ⟨S1x512x512, .f32⟩
  | 110 => ⟨S512x512, .f32⟩
  | 111 => ⟨S4x1024x512, .f32⟩
  | 112 => ⟨S4x1024x512, .f32⟩
  | 113 => ⟨S1x1x512, .f32⟩
  | 114 => ⟨S512, .f32⟩
  | 115 => ⟨S1x1x512, .f32⟩
  | 116 => ⟨S512, .f32⟩
  | 117 => ⟨S_, .f32⟩
  | 118 => ⟨S4x1024, .f32⟩
  | 119 => ⟨S4x1024x1, .f32⟩
  | 120 => ⟨S_, .f32⟩
  | 121 => ⟨S4x1024x1, .f32⟩
  | 122 => ⟨S4x1024x1, .f32⟩
  | 123 => ⟨S4x1024x512, .f32⟩
  | 124 => ⟨S4x1024x512, .f32⟩
  | 125 => ⟨S4x1024x512, .f32⟩
  | 126 => ⟨S_, .f32⟩
  | 127 => ⟨S4x1024, .f32⟩
  | _ => ⟨S4x1024x512, .f32⟩

abbrev hbmTy0_1 (i : Nat) : BufTy := match i % 128 with
  | 0 => ⟨S4x1024x1, .f32⟩
  | 1 => ⟨S_, .f32⟩
  | 2 => ⟨S4x1024x1, .f32⟩
  | 3 => ⟨S4x1024x1, .f32⟩
  | 4 => ⟨S4x1024x512, .f32⟩
  | 5 => ⟨S4x1024x512, .f32⟩
  | 6 => ⟨S_, .f32⟩
  | 7 => ⟨S4x1024x1, .f32⟩
  | 8 => ⟨S4x1024x1, .f32⟩
  | 9 => ⟨S4x1024x1, .f32⟩
  | 10 => ⟨S4x1024x512, .f32⟩
  | 11 => ⟨S4x1024x512, .f32⟩
  | 12 => ⟨S1x512, .f32⟩
  | 13 => ⟨S1x1x512, .f32⟩
  | 14 => ⟨S4x1024x512, .f32⟩
  | 15 => ⟨S4x1024x512, .f32⟩
  | 16 => ⟨S1x512, .f32⟩
  | 17 => ⟨S1x1x512, .f32⟩
  | 18 => ⟨S4x1024x512, .f32⟩
  | 19 => ⟨S4x1024x512, .f32⟩
  | 20 => ⟨S1x512x6, .f32⟩
  | 21 => ⟨S512x6, .f32⟩
  | 22 => ⟨S4x1024x6, .f32⟩
  | 23 => ⟨S1x512x512, .f32⟩
  | 24 => ⟨S512x512, .f32⟩
  | 25 => ⟨S4x1024x512, .f32⟩
  | 26 => ⟨S4x1024x16, .f32⟩
  | 27 => ⟨S_, .f32⟩
  | 28 => ⟨S4x1024, .f32⟩
  | 29 => ⟨S_, .f32⟩
  | 30 => ⟨S4x1024, .f32⟩
  | 31 => ⟨S4x1024, .f32⟩
  | 32 => ⟨S4x1024x1, .f32⟩
  | 33 => ⟨S4x1024x16, .f32⟩
  | 34 => ⟨S4x1024x16, .f32⟩
  | 35 => ⟨S4x1024x16, .f32⟩
  | 36 => ⟨S_, .f32⟩
  | 37 => ⟨S4x1024, .f32⟩
  | 38 => ⟨S4x1024x1, .f32⟩
  | 39 => ⟨S4x1024x16, .f32⟩
  | 40 => ⟨S4x1024x16, .f32⟩
  | 41 => ⟨S4x1024x512, .f32⟩
  | 42 => ⟨S1x512x512, .f32⟩
  | 43 => ⟨S512x512, .f32⟩
  | 44 => ⟨S4x1024x512, .f32⟩
  | 45 => ⟨S4x1024x512, .f32⟩
  | 46 => ⟨S1x1x512, .f32⟩
  | 47 => ⟨S512, .f32⟩
  | 48 => ⟨S1x1x512, .f32⟩
  | 49 => ⟨S512, .f32⟩
  | 50 => ⟨S_, .f32⟩
  | 51 => ⟨S4x1024, .f32⟩
  | 52 => ⟨S4x1024x1, .f32⟩
  | 53 => ⟨S_, .f32⟩
  | 54 => ⟨S4x1024x1, .f32⟩
  | 55 => ⟨S4x1024x1, .f32⟩
  | 56 => ⟨S4x1024x512, .f32⟩
  | 57 => ⟨S4x1024x512, .f32⟩
  | 58 => ⟨S4x1024x512, .f32⟩
  | 59 => ⟨S_, .f32⟩
  | 60 => ⟨S4x1024, .f32⟩
  | 61 => ⟨S4x1024x1, .f32⟩
  | 62 => ⟨S_, .f32⟩
  | 63 => ⟨S4x1024x1, .f32⟩
  | 64 => ⟨S4x1024x1, .f32⟩
  | 65 => ⟨S4x1024x512, .f32⟩
  | 66 => ⟨S4x1024x512, .f32⟩
  | 67 => ⟨S_, .f32⟩
  | 68 => ⟨S4x1024x1, .f32⟩
  | 69 => ⟨S4x1024x1, .f32⟩
  | 70 => ⟨S4x1024x1, .f32⟩
  | 71 => ⟨S4x1024x512, .f32⟩
  | 72 => ⟨S4x1024x512, .f32⟩
  | 73 => ⟨S1x512, .f32⟩
  | 74 => ⟨S1x1x512, .f32⟩
  | 75 => ⟨S4x1024x512, .f32⟩
  | 76 => ⟨S4x1024x512, .f32⟩
  | 77 => ⟨S1x512, .f32⟩
  | 78 => ⟨S1x1x512, .f32⟩
  | 79 => ⟨S4x1024x512, .f32⟩
  | 80 => ⟨S4x1024x512, .f32⟩
  | 81 => ⟨S1x512x6, .f32⟩
  | 82 => ⟨S512x6, .f32⟩
  | 83 => ⟨S4x1024x6, .f32⟩
  | 84 => ⟨S1x512x512, .f32⟩
  | 85 => ⟨S512x512, .f32⟩
  | 86 => ⟨S4x1024x512, .f32⟩
  | 87 => ⟨S4x1024x16, .f32⟩
  | 88 => ⟨S_, .f32⟩
  | 89 => ⟨S4x1024, .f32⟩
  | 90 => ⟨S_, .f32⟩
  | 91 => ⟨S4x1024, .f32⟩
  | 92 => ⟨S4x1024, .f32⟩
  | 93 => ⟨S4x1024x1, .f32⟩
  | 94 => ⟨S4x1024x16, .f32⟩
  | 95 => ⟨S4x1024x16, .f32⟩
  | 96 => ⟨S4x1024x16, .f32⟩
  | 97 => ⟨S_, .f32⟩
  | 98 => ⟨S4x1024, .f32⟩
  | 99 => ⟨S4x1024x1, .f32⟩
  | 100 => ⟨S4x1024x16, .f32⟩
  | 101 => ⟨S4x1024x16, .f32⟩
  | 102 => ⟨S4x1024x512, .f32⟩
  | 103 => ⟨S1x512x512, .f32⟩
  | 104 => ⟨S512x512, .f32⟩
  | 105 => ⟨S4x1024x512, .f32⟩
  | 106 => ⟨S4x1024x512, .f32⟩
  | 107 => ⟨S1x1x512, .f32⟩
  | 108 => ⟨S512, .f32⟩
  | 109 => ⟨S1x1x512, .f32⟩
  | 110 => ⟨S512, .f32⟩
  | 111 => ⟨S_, .f32⟩
  | 112 => ⟨S4x1024, .f32⟩
  | 113 => ⟨S4x1024x1, .f32⟩
  | 114 => ⟨S_, .f32⟩
  | 115 => ⟨S4x1024x1, .f32⟩
  | 116 => ⟨S4x1024x1, .f32⟩
  | 117 => ⟨S4x1024x512, .f32⟩
  | 118 => ⟨S4x1024x512, .f32⟩
  | 119 => ⟨S4x1024x512, .f32⟩
  | 120 => ⟨S_, .f32⟩
  | 121 => ⟨S4x1024, .f32⟩
  | 122 => ⟨S4x1024x1, .f32⟩
  | 123 => ⟨S_, .f32⟩
  | 124 => ⟨S4x1024x1, .f32⟩
  | 125 => ⟨S4x1024x1, .f32⟩
  | 126 => ⟨S4x1024x512, .f32⟩
  | 127 => ⟨S4x1024x512, .f32⟩
  | _ => ⟨S4x1024x512, .f32⟩

abbrev hbmTy0_2 (i : Nat) : BufTy := match i % 128 with
  | 0 => ⟨S_, .f32⟩
  | 1 => ⟨S4x1024x1, .f32⟩
  | 2 => ⟨S4x1024x1, .f32⟩
  | 3 => ⟨S4x1024x1, .f32⟩
  | 4 => ⟨S4x1024x512, .f32⟩
  | 5 => ⟨S4x1024x512, .f32⟩
  | 6 => ⟨S1x512, .f32⟩
  | 7 => ⟨S1x1x512, .f32⟩
  | 8 => ⟨S4x1024x512, .f32⟩
  | 9 => ⟨S4x1024x512, .f32⟩
  | 10 => ⟨S1x512, .f32⟩
  | 11 => ⟨S1x1x512, .f32⟩
  | 12 => ⟨S4x1024x512, .f32⟩
  | 13 => ⟨S4x1024x512, .f32⟩
  | 14 => ⟨S1x512x6, .f32⟩
  | 15 => ⟨S512x6, .f32⟩
  | 16 => ⟨S4x1024x6, .f32⟩
  | 17 => ⟨S1x512x512, .f32⟩
  | 18 => ⟨S512x512, .f32⟩
  | 19 => ⟨S4x1024x512, .f32⟩
  | 20 => ⟨S4x1024x16, .f32⟩
  | 21 => ⟨S_, .f32⟩
  | 22 => ⟨S4x1024, .f32⟩
  | 23 => ⟨S_, .f32⟩
  | 24 => ⟨S4x1024, .f32⟩
  | 25 => ⟨S4x1024, .f32⟩
  | 26 => ⟨S4x1024x1, .f32⟩
  | 27 => ⟨S4x1024x16, .f32⟩
  | 28 => ⟨S4x1024x16, .f32⟩
  | 29 => ⟨S4x1024x16, .f32⟩
  | 30 => ⟨S_, .f32⟩
  | 31 => ⟨S4x1024, .f32⟩
  | 32 => ⟨S4x1024x1, .f32⟩
  | 33 => ⟨S4x1024x16, .f32⟩
  | 34 => ⟨S4x1024x16, .f32⟩
  | 35 => ⟨S4x1024x512, .f32⟩
  | 36 => ⟨S1x512x512, .f32⟩
  | 37 => ⟨S512x512, .f32⟩
  | 38 => ⟨S4x1024x512, .f32⟩
  | 39 => ⟨S4x1024x512, .f32⟩
  | 40 => ⟨S1x1x512, .f32⟩
  | 41 => ⟨S512, .f32⟩
  | 42 => ⟨S1x1x512, .f32⟩
  | 43 => ⟨S512, .f32⟩
  | 44 => ⟨S_, .f32⟩
  | 45 => ⟨S4x1024, .f32⟩
  | 46 => ⟨S4x1024x1, .f32⟩
  | 47 => ⟨S_, .f32⟩
  | 48 => ⟨S4x1024x1, .f32⟩
  | 49 => ⟨S4x1024x1, .f32⟩
  | 50 => ⟨S4x1024x512, .f32⟩
  | 51 => ⟨S4x1024x512, .f32⟩
  | 52 => ⟨S4x1024x512, .f32⟩
  | 53 => ⟨S_, .f32⟩
  | 54 => ⟨S4x1024, .f32⟩
  | 55 => ⟨S4x1024x1, .f32⟩
  | 56 => ⟨S_, .f32⟩
  | 57 => ⟨S4x1024x1, .f32⟩
  | 58 => ⟨S4x1024x1, .f32⟩
  | 59 => ⟨S4x1024x512, .f32⟩
  | 60 => ⟨S4x1024x512, .f32⟩
  | 61 => ⟨S_, .f32⟩
  | 62 => ⟨S4x1024x1, .f32⟩
  | 63 => ⟨S4x1024x1, .f32⟩
  | 64 => ⟨S4x1024x1, .f32⟩
  | 65 => ⟨S4x1024x512, .f32⟩
  | 66 => ⟨S4x1024x512, .f32⟩
  | 67 => ⟨S1x512, .f32⟩
  | 68 => ⟨S1x1x512, .f32⟩
  | 69 => ⟨S4x1024x512, .f32⟩
  | 70 => ⟨S4x1024x512, .f32⟩
  | 71 => ⟨S1x512, .f32⟩
  | 72 => ⟨S1x1x512, .f32⟩
  | 73 => ⟨S4x1024x512, .f32⟩
  | 74 => ⟨S4x1024x512, .f32⟩
  | 75 => ⟨S1x512x6, .f32⟩
  | 76 => ⟨S512x6, .f32⟩
  | 77 => ⟨S4x1024x6, .f32⟩
  | 78 => ⟨S1x512x512, .f32⟩
  | 79 => ⟨S512x512, .f32⟩
  | 80 => ⟨S4x1024x512, .f32⟩
  | 81 => ⟨S4x1024x16, .f32⟩
  | 82 => ⟨S_, .f32⟩
  | 83 => ⟨S4x1024, .f32⟩
  | 84 => ⟨S_, .f32⟩
  | 85 => ⟨S4x1024, .f32⟩
  | 86 => ⟨S4x1024, .f32⟩
  | 87 => ⟨S4x1024x1, .f32⟩
  | 88 => ⟨S4x1024x16, .f32⟩
  | 89 => ⟨S4x1024x16, .f32⟩
  | 90 => ⟨S4x1024x16, .f32⟩
  | 91 => ⟨S_, .f32⟩
  | 92 => ⟨S4x1024, .f32⟩
  | 93 => ⟨S4x1024x1, .f32⟩
  | 94 => ⟨S4x1024x16, .f32⟩
  | 95 => ⟨S4x1024x16, .f32⟩
  | 96 => ⟨S4x1024x512, .f32⟩
  | 97 => ⟨S1x512x512, .f32⟩
  | 98 => ⟨S512x512, .f32⟩
  | 99 => ⟨S4x1024x512, .f32⟩
  | 100 => ⟨S4x1024x512, .f32⟩
  | 101 => ⟨S1x1x512, .f32⟩
  | 102 => ⟨S512, .f32⟩
  | 103 => ⟨S1x1x512, .f32⟩
  | 104 => ⟨S512, .f32⟩
  | 105 => ⟨S_, .f32⟩
  | 106 => ⟨S4x1024, .f32⟩
  | 107 => ⟨S4x1024x1, .f32⟩
  | 108 => ⟨S_, .f32⟩
  | 109 => ⟨S4x1024x1, .f32⟩
  | 110 => ⟨S4x1024x1, .f32⟩
  | 111 => ⟨S4x1024x512, .f32⟩
  | 112 => ⟨S4x1024x512, .f32⟩
  | 113 => ⟨S4x1024x512, .f32⟩
  | 114 => ⟨S_, .f32⟩
  | 115 => ⟨S4x1024, .f32⟩
  | 116 => ⟨S4x1024x1, .f32⟩
  | 117 => ⟨S_, .f32⟩
  | 118 => ⟨S4x1024x1, .f32⟩
  | 119 => ⟨S4x1024x1, .f32⟩
  | 120 => ⟨S4x1024x512, .f32⟩
  | 121 => ⟨S4x1024x512, .f32⟩
  | 122 => ⟨S_, .f32⟩
  | 123 => ⟨S4x1024x1, .f32⟩
  | 124 => ⟨S4x1024x1, .f32⟩
  | 125 => ⟨S4x1024x1, .f32⟩
  | 126 => ⟨S4x1024x512, .f32⟩
  | 127 => ⟨S4x1024x512, .f32⟩
  | _ => ⟨S4x1024x512, .f32⟩

abbrev hbmTy0_3 (i : Nat) : BufTy := match i % 128 with
  | 0 => ⟨S1x512, .f32⟩
  | 1 => ⟨S1x1x512, .f32⟩
  | 2 => ⟨S4x1024x512, .f32⟩
  | 3 => ⟨S4x1024x512, .f32⟩
  | 4 => ⟨S1x512, .f32⟩
  | 5 => ⟨S1x1x512, .f32⟩
  | 6 => ⟨S4x1024x512, .f32⟩
  | 7 => ⟨S4x1024x512, .f32⟩
  | 8 => ⟨S1x512x6, .f32⟩
  | 9 => ⟨S512x6, .f32⟩
  | 10 => ⟨S4x1024x6, .f32⟩
  | 11 => ⟨S1x512x512, .f32⟩
  | 12 => ⟨S512x512, .f32⟩
  | 13 => ⟨S4x1024x512, .f32⟩
  | 14 => ⟨S4x1024x16, .f32⟩
  | 15 => ⟨S_, .f32⟩
  | 16 => ⟨S4x1024, .f32⟩
  | 17 => ⟨S_, .f32⟩
  | 18 => ⟨S4x1024, .f32⟩
  | 19 => ⟨S4x1024, .f32⟩
  | 20 => ⟨S4x1024x1, .f32⟩
  | 21 => ⟨S4x1024x16, .f32⟩
  | 22 => ⟨S4x1024x16, .f32⟩
  | 23 => ⟨S4x1024x16, .f32⟩
  | 24 => ⟨S_, .f32⟩
  | 25 => ⟨S4x1024, .f32⟩
  | 26 => ⟨S4x1024x1, .f32⟩
  | 27 => ⟨S4x1024x16, .f32⟩
  | 28 => ⟨S4x1024x16, .f32⟩
  | 29 => ⟨S4x1024x512, .f32⟩
  | 30 => ⟨S1x512x512, .f32⟩
  | 31 => ⟨S512x512, .f32⟩
  | 32 => ⟨S4x1024x512, .f32⟩
  | 33 => ⟨S4x1024x512, .f32⟩
  | 34 => ⟨S1x1x512, .f32⟩
  | 35 => ⟨S512, .f32⟩
  | 36 => ⟨S1x1x512, .f32⟩
  | 37 => ⟨S512, .f32⟩
  | 38 => ⟨S_, .f32⟩
  | 39 => ⟨S4x1024, .f32⟩
  | 40 => ⟨S4x1024x1, .f32⟩
  | 41 => ⟨S_, .f32⟩
  | 42 => ⟨S4x1024x1, .f32⟩
  | 43 => ⟨S4x1024x1, .f32⟩
  | 44 => ⟨S4x1024x512, .f32⟩
  | 45 => ⟨S4x1024x512, .f32⟩
  | 46 => ⟨S4x1024x512, .f32⟩
  | 47 => ⟨S_, .f32⟩
  | 48 => ⟨S4x1024, .f32⟩
  | 49 => ⟨S4x1024x1, .f32⟩
  | 50 => ⟨S_, .f32⟩
  | 51 => ⟨S4x1024x1, .f32⟩
  | 52 => ⟨S4x1024x1, .f32⟩
  | 53 => ⟨S4x1024x512, .f32⟩
  | 54 => ⟨S4x1024x512, .f32⟩
  | 55 => ⟨S_, .f32⟩
  | 56 => ⟨S4x1024x1, .f32⟩
  | 57 => ⟨S4x1024x1, .f32⟩
  | 58 => ⟨S4x1024x1, .f32⟩
  | 59 => ⟨S4x1024x512, .f32⟩
  | 60 => ⟨S4x1024x512, .f32⟩
  | 61 => ⟨S1x512, .f32⟩
  | 62 => ⟨S1x1x512, .f32⟩
  | 63 => ⟨S4x1024x512, .f32⟩
  | 64 => ⟨S4x1024x512, .f32⟩
  | 65 => ⟨S1x512, .f32⟩
  | 66 => ⟨S1x1x512, .f32⟩
  | 67 => ⟨S4x1024x512, .f32⟩
  | 68 => ⟨S4x1024x512, .f32⟩
  | 69 => ⟨S1x512x6, .f32⟩
  | 70 => ⟨S512x6, .f32⟩
  | 71 => ⟨S4x1024x6, .f32⟩
  | 72 => ⟨S4x1024x512, .f32⟩
  | 73 => ⟨S4x1024x512, .f32⟩
  | 74 => ⟨S1x4x1024x6, .f32⟩
  | 75 => ⟨S1x4x1024x6, .f32⟩
  | 76 => ⟨S1x4x1024x6, .f32⟩
  | 77 => ⟨S1x4x1024x6, .f32⟩
  | 78 => ⟨S1x4x1024x6, .f32⟩
  | 79 => ⟨S1x4x1024x6, .f32⟩
  | 80 => ⟨S1x4x1024x6, .f32⟩
  | 81 => ⟨S1x4x1024x6, .f32⟩
  | 82 => ⟨S8x4x1024x6, .f32⟩
  | 83 => ⟨S_, .f32⟩
  | 84 => ⟨S4x1024x6, .f32⟩
  | 85 => ⟨S_, .f32⟩
  | 86 => ⟨S4x1024x6, .f32⟩
  | 87 => ⟨S4x1024x6, .f32⟩
  | _ => ⟨S4x1024x512, .f32⟩

abbrev hbmTy (i : Nat) : BufTy := match i / 128 with
  | 0 => hbmTy0_0 i
  | 1 => hbmTy0_1 i
  | 2 => hbmTy0_2 i
  | 3 => hbmTy0_3 i
  | _ => ⟨S4x1024x512, .f32⟩

abbrev bufTy : (tb : Table) → Fin (tcTables nBuf tb) → BufTy
  | .hbm, ⟨i, _⟩ => hbmTy i
  | _, _ => ⟨S4x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_cst_7 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_8 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_9 : Ref sig .tc := ⟨.hbm, 94, rfl⟩
abbrev main_v74 : Ref sig .tc := ⟨.hbm, 95, rfl⟩
abbrev main_cst_10 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_11 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_cst_12 : Ref sig .tc := ⟨.hbm, 117, rfl⟩
abbrev main_v94 : Ref sig .tc := ⟨.hbm, 118, rfl⟩
abbrev main_v95 : Ref sig .tc := ⟨.hbm, 119, rfl⟩
abbrev main_cst_13 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_cst_14 : Ref sig .tc := ⟨.hbm, 126, rfl⟩
abbrev main_v101 : Ref sig .tc := ⟨.hbm, 127, rfl⟩
abbrev main_v102 : Ref sig .tc := ⟨.hbm, 128, rfl⟩
abbrev main_cst_15 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_cst_16 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_cst_17 : Ref sig .tc := ⟨.hbm, 155, rfl⟩
abbrev main_v127 : Ref sig .tc := ⟨.hbm, 156, rfl⟩
abbrev main_cst_18 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_cst_19 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_cst_20 : Ref sig .tc := ⟨.hbm, 178, rfl⟩
abbrev main_v147 : Ref sig .tc := ⟨.hbm, 179, rfl⟩
abbrev main_v148 : Ref sig .tc := ⟨.hbm, 180, rfl⟩
abbrev main_cst_21 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_cst_22 : Ref sig .tc := ⟨.hbm, 187, rfl⟩
abbrev main_v154 : Ref sig .tc := ⟨.hbm, 188, rfl⟩
abbrev main_v155 : Ref sig .tc := ⟨.hbm, 189, rfl⟩
abbrev main_cst_23 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_cst_24 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_cst_25 : Ref sig .tc := ⟨.hbm, 216, rfl⟩
abbrev main_v180 : Ref sig .tc := ⟨.hbm, 217, rfl⟩
abbrev main_cst_26 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_cst_27 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_cst_28 : Ref sig .tc := ⟨.hbm, 239, rfl⟩
abbrev main_v200 : Ref sig .tc := ⟨.hbm, 240, rfl⟩
abbrev main_v201 : Ref sig .tc := ⟨.hbm, 241, rfl⟩
abbrev main_cst_29 : Ref sig .tc := ⟨.hbm, 242, rfl⟩
abbrev main_v202 : Ref sig .tc := ⟨.hbm, 243, rfl⟩
abbrev main_v203 : Ref sig .tc := ⟨.hbm, 244, rfl⟩
abbrev main_v204 : Ref sig .tc := ⟨.hbm, 245, rfl⟩
abbrev main_v205 : Ref sig .tc := ⟨.hbm, 246, rfl⟩
abbrev main_v206 : Ref sig .tc := ⟨.hbm, 247, rfl⟩
abbrev main_cst_30 : Ref sig .tc := ⟨.hbm, 248, rfl⟩
abbrev main_v207 : Ref sig .tc := ⟨.hbm, 249, rfl⟩
abbrev main_v208 : Ref sig .tc := ⟨.hbm, 250, rfl⟩
abbrev main_cst_31 : Ref sig .tc := ⟨.hbm, 251, rfl⟩
abbrev main_v209 : Ref sig .tc := ⟨.hbm, 252, rfl⟩
abbrev main_v210 : Ref sig .tc := ⟨.hbm, 253, rfl⟩
abbrev main_v211 : Ref sig .tc := ⟨.hbm, 254, rfl⟩
abbrev main_v212 : Ref sig .tc := ⟨.hbm, 255, rfl⟩
abbrev main_cst_32 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩
abbrev main_v226 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩
abbrev main_v230 : Ref sig .tc := ⟨.hbm, 274, rfl⟩
abbrev main_v231 : Ref sig .tc := ⟨.hbm, 275, rfl⟩
abbrev main_v232 : Ref sig .tc := ⟨.hbm, 276, rfl⟩
abbrev main_cst_33 : Ref sig .tc := ⟨.hbm, 277, rfl⟩
abbrev main_v233 : Ref sig .tc := ⟨.hbm, 278, rfl⟩
abbrev main_cst_34 : Ref sig .tc := ⟨.hbm, 279, rfl⟩
abbrev main_v234 : Ref sig .tc := ⟨.hbm, 280, rfl⟩
abbrev main_v235 : Ref sig .tc := ⟨.hbm, 281, rfl⟩
abbrev main_v236 : Ref sig .tc := ⟨.hbm, 282, rfl⟩
abbrev main_v237 : Ref sig .tc := ⟨.hbm, 283, rfl⟩
abbrev main_v238 : Ref sig .tc := ⟨.hbm, 284, rfl⟩
abbrev main_v239 : Ref sig .tc := ⟨.hbm, 285, rfl⟩
abbrev main_cst_35 : Ref sig .tc := ⟨.hbm, 286, rfl⟩
abbrev main_v240 : Ref sig .tc := ⟨.hbm, 287, rfl⟩
abbrev main_v241 : Ref sig .tc := ⟨.hbm, 288, rfl⟩
abbrev main_v242 : Ref sig .tc := ⟨.hbm, 289, rfl⟩
abbrev main_v243 : Ref sig .tc := ⟨.hbm, 290, rfl⟩
abbrev main_v244 : Ref sig .tc := ⟨.hbm, 291, rfl⟩
abbrev main_v245 : Ref sig .tc := ⟨.hbm, 292, rfl⟩
abbrev main_v246 : Ref sig .tc := ⟨.hbm, 293, rfl⟩
abbrev main_v247 : Ref sig .tc := ⟨.hbm, 294, rfl⟩
abbrev main_v248 : Ref sig .tc := ⟨.hbm, 295, rfl⟩
abbrev main_v249 : Ref sig .tc := ⟨.hbm, 296, rfl⟩
abbrev main_v250 : Ref sig .tc := ⟨.hbm, 297, rfl⟩
abbrev main_v251 : Ref sig .tc := ⟨.hbm, 298, rfl⟩
abbrev main_v252 : Ref sig .tc := ⟨.hbm, 299, rfl⟩
abbrev main_cst_36 : Ref sig .tc := ⟨.hbm, 300, rfl⟩
abbrev main_v253 : Ref sig .tc := ⟨.hbm, 301, rfl⟩
abbrev main_v254 : Ref sig .tc := ⟨.hbm, 302, rfl⟩
abbrev main_cst_37 : Ref sig .tc := ⟨.hbm, 303, rfl⟩
abbrev main_v255 : Ref sig .tc := ⟨.hbm, 304, rfl⟩
abbrev main_v256 : Ref sig .tc := ⟨.hbm, 305, rfl⟩
abbrev main_v257 : Ref sig .tc := ⟨.hbm, 306, rfl⟩
abbrev main_v258 : Ref sig .tc := ⟨.hbm, 307, rfl⟩
abbrev main_v259 : Ref sig .tc := ⟨.hbm, 308, rfl⟩
abbrev main_cst_38 : Ref sig .tc := ⟨.hbm, 309, rfl⟩
abbrev main_v260 : Ref sig .tc := ⟨.hbm, 310, rfl⟩
abbrev main_v261 : Ref sig .tc := ⟨.hbm, 311, rfl⟩
abbrev main_cst_39 : Ref sig .tc := ⟨.hbm, 312, rfl⟩
abbrev main_v262 : Ref sig .tc := ⟨.hbm, 313, rfl⟩
abbrev main_v263 : Ref sig .tc := ⟨.hbm, 314, rfl⟩
abbrev main_v264 : Ref sig .tc := ⟨.hbm, 315, rfl⟩
abbrev main_v265 : Ref sig .tc := ⟨.hbm, 316, rfl⟩
abbrev main_cst_40 : Ref sig .tc := ⟨.hbm, 317, rfl⟩
abbrev main_v266 : Ref sig .tc := ⟨.hbm, 318, rfl⟩
abbrev main_v267 : Ref sig .tc := ⟨.hbm, 319, rfl⟩
abbrev main_v268 : Ref sig .tc := ⟨.hbm, 320, rfl⟩
abbrev main_v269 : Ref sig .tc := ⟨.hbm, 321, rfl⟩
abbrev main_v270 : Ref sig .tc := ⟨.hbm, 322, rfl⟩
abbrev main_v271 : Ref sig .tc := ⟨.hbm, 323, rfl⟩
abbrev main_v272 : Ref sig .tc := ⟨.hbm, 324, rfl⟩
abbrev main_v273 : Ref sig .tc := ⟨.hbm, 325, rfl⟩
abbrev main_v274 : Ref sig .tc := ⟨.hbm, 326, rfl⟩
abbrev main_v275 : Ref sig .tc := ⟨.hbm, 327, rfl⟩
abbrev main_v276 : Ref sig .tc := ⟨.hbm, 328, rfl⟩
abbrev main_v277 : Ref sig .tc := ⟨.hbm, 329, rfl⟩
abbrev main_v278 : Ref sig .tc := ⟨.hbm, 330, rfl⟩
abbrev main_v279 : Ref sig .tc := ⟨.hbm, 331, rfl⟩
abbrev main_v280 : Ref sig .tc := ⟨.hbm, 332, rfl⟩
abbrev main_v281 : Ref sig .tc := ⟨.hbm, 333, rfl⟩
abbrev main_v282 : Ref sig .tc := ⟨.hbm, 334, rfl⟩
abbrev main_v283 : Ref sig .tc := ⟨.hbm, 335, rfl⟩
abbrev main_v284 : Ref sig .tc := ⟨.hbm, 336, rfl⟩
abbrev main_v285 : Ref sig .tc := ⟨.hbm, 337, rfl⟩
abbrev main_cst_41 : Ref sig .tc := ⟨.hbm, 338, rfl⟩
abbrev main_v286 : Ref sig .tc := ⟨.hbm, 339, rfl⟩
abbrev main_cst_42 : Ref sig .tc := ⟨.hbm, 340, rfl⟩
abbrev main_v287 : Ref sig .tc := ⟨.hbm, 341, rfl⟩
abbrev main_v288 : Ref sig .tc := ⟨.hbm, 342, rfl⟩
abbrev main_v289 : Ref sig .tc := ⟨.hbm, 343, rfl⟩
abbrev main_v290 : Ref sig .tc := ⟨.hbm, 344, rfl⟩
abbrev main_v291 : Ref sig .tc := ⟨.hbm, 345, rfl⟩
abbrev main_v292 : Ref sig .tc := ⟨.hbm, 346, rfl⟩
abbrev main_cst_43 : Ref sig .tc := ⟨.hbm, 347, rfl⟩
abbrev main_v293 : Ref sig .tc := ⟨.hbm, 348, rfl⟩
abbrev main_v294 : Ref sig .tc := ⟨.hbm, 349, rfl⟩
abbrev main_v295 : Ref sig .tc := ⟨.hbm, 350, rfl⟩
abbrev main_v296 : Ref sig .tc := ⟨.hbm, 351, rfl⟩
abbrev main_v297 : Ref sig .tc := ⟨.hbm, 352, rfl⟩
abbrev main_v298 : Ref sig .tc := ⟨.hbm, 353, rfl⟩
abbrev main_v299 : Ref sig .tc := ⟨.hbm, 354, rfl⟩
abbrev main_v300 : Ref sig .tc := ⟨.hbm, 355, rfl⟩
abbrev main_v301 : Ref sig .tc := ⟨.hbm, 356, rfl⟩
abbrev main_v302 : Ref sig .tc := ⟨.hbm, 357, rfl⟩
abbrev main_v303 : Ref sig .tc := ⟨.hbm, 358, rfl⟩
abbrev main_v304 : Ref sig .tc := ⟨.hbm, 359, rfl⟩
abbrev main_v305 : Ref sig .tc := ⟨.hbm, 360, rfl⟩
abbrev main_cst_44 : Ref sig .tc := ⟨.hbm, 361, rfl⟩
abbrev main_v306 : Ref sig .tc := ⟨.hbm, 362, rfl⟩
abbrev main_v307 : Ref sig .tc := ⟨.hbm, 363, rfl⟩
abbrev main_cst_45 : Ref sig .tc := ⟨.hbm, 364, rfl⟩
abbrev main_v308 : Ref sig .tc := ⟨.hbm, 365, rfl⟩
abbrev main_v309 : Ref sig .tc := ⟨.hbm, 366, rfl⟩
abbrev main_v310 : Ref sig .tc := ⟨.hbm, 367, rfl⟩
abbrev main_v311 : Ref sig .tc := ⟨.hbm, 368, rfl⟩
abbrev main_v312 : Ref sig .tc := ⟨.hbm, 369, rfl⟩
abbrev main_cst_46 : Ref sig .tc := ⟨.hbm, 370, rfl⟩
abbrev main_v313 : Ref sig .tc := ⟨.hbm, 371, rfl⟩
abbrev main_v314 : Ref sig .tc := ⟨.hbm, 372, rfl⟩
abbrev main_cst_47 : Ref sig .tc := ⟨.hbm, 373, rfl⟩
abbrev main_v315 : Ref sig .tc := ⟨.hbm, 374, rfl⟩
abbrev main_v316 : Ref sig .tc := ⟨.hbm, 375, rfl⟩
abbrev main_v317 : Ref sig .tc := ⟨.hbm, 376, rfl⟩
abbrev main_v318 : Ref sig .tc := ⟨.hbm, 377, rfl⟩
abbrev main_cst_48 : Ref sig .tc := ⟨.hbm, 378, rfl⟩
abbrev main_v319 : Ref sig .tc := ⟨.hbm, 379, rfl⟩
abbrev main_v320 : Ref sig .tc := ⟨.hbm, 380, rfl⟩
abbrev main_v321 : Ref sig .tc := ⟨.hbm, 381, rfl⟩
abbrev main_v322 : Ref sig .tc := ⟨.hbm, 382, rfl⟩
abbrev main_v323 : Ref sig .tc := ⟨.hbm, 383, rfl⟩
abbrev main_v324 : Ref sig .tc := ⟨.hbm, 384, rfl⟩
abbrev main_v325 : Ref sig .tc := ⟨.hbm, 385, rfl⟩
abbrev main_v326 : Ref sig .tc := ⟨.hbm, 386, rfl⟩
abbrev main_v327 : Ref sig .tc := ⟨.hbm, 387, rfl⟩
abbrev main_v328 : Ref sig .tc := ⟨.hbm, 388, rfl⟩
abbrev main_v329 : Ref sig .tc := ⟨.hbm, 389, rfl⟩
abbrev main_v330 : Ref sig .tc := ⟨.hbm, 390, rfl⟩
abbrev main_v331 : Ref sig .tc := ⟨.hbm, 391, rfl⟩
abbrev main_v332 : Ref sig .tc := ⟨.hbm, 392, rfl⟩
abbrev main_v333 : Ref sig .tc := ⟨.hbm, 393, rfl⟩
abbrev main_v334 : Ref sig .tc := ⟨.hbm, 394, rfl⟩
abbrev main_v335 : Ref sig .tc := ⟨.hbm, 395, rfl⟩
abbrev main_v336 : Ref sig .tc := ⟨.hbm, 396, rfl⟩
abbrev main_v337 : Ref sig .tc := ⟨.hbm, 397, rfl⟩
abbrev main_v338 : Ref sig .tc := ⟨.hbm, 398, rfl⟩
abbrev main_cst_49 : Ref sig .tc := ⟨.hbm, 399, rfl⟩
abbrev main_v339 : Ref sig .tc := ⟨.hbm, 400, rfl⟩
abbrev main_cst_50 : Ref sig .tc := ⟨.hbm, 401, rfl⟩
abbrev main_v340 : Ref sig .tc := ⟨.hbm, 402, rfl⟩
abbrev main_v341 : Ref sig .tc := ⟨.hbm, 403, rfl⟩
abbrev main_v342 : Ref sig .tc := ⟨.hbm, 404, rfl⟩
abbrev main_v343 : Ref sig .tc := ⟨.hbm, 405, rfl⟩
abbrev main_v344 : Ref sig .tc := ⟨.hbm, 406, rfl⟩
abbrev main_v345 : Ref sig .tc := ⟨.hbm, 407, rfl⟩
abbrev main_cst_51 : Ref sig .tc := ⟨.hbm, 408, rfl⟩
abbrev main_v346 : Ref sig .tc := ⟨.hbm, 409, rfl⟩
abbrev main_v347 : Ref sig .tc := ⟨.hbm, 410, rfl⟩
abbrev main_v348 : Ref sig .tc := ⟨.hbm, 411, rfl⟩
abbrev main_v349 : Ref sig .tc := ⟨.hbm, 412, rfl⟩
abbrev main_v350 : Ref sig .tc := ⟨.hbm, 413, rfl⟩
abbrev main_v351 : Ref sig .tc := ⟨.hbm, 414, rfl⟩
abbrev main_v352 : Ref sig .tc := ⟨.hbm, 415, rfl⟩
abbrev main_v353 : Ref sig .tc := ⟨.hbm, 416, rfl⟩
abbrev main_v354 : Ref sig .tc := ⟨.hbm, 417, rfl⟩
abbrev main_v355 : Ref sig .tc := ⟨.hbm, 418, rfl⟩
abbrev main_v356 : Ref sig .tc := ⟨.hbm, 419, rfl⟩
abbrev main_v357 : Ref sig .tc := ⟨.hbm, 420, rfl⟩
abbrev main_v358 : Ref sig .tc := ⟨.hbm, 421, rfl⟩
abbrev main_cst_52 : Ref sig .tc := ⟨.hbm, 422, rfl⟩
abbrev main_v359 : Ref sig .tc := ⟨.hbm, 423, rfl⟩
abbrev main_v360 : Ref sig .tc := ⟨.hbm, 424, rfl⟩
abbrev main_cst_53 : Ref sig .tc := ⟨.hbm, 425, rfl⟩
abbrev main_v361 : Ref sig .tc := ⟨.hbm, 426, rfl⟩
abbrev main_v362 : Ref sig .tc := ⟨.hbm, 427, rfl⟩
abbrev main_v363 : Ref sig .tc := ⟨.hbm, 428, rfl⟩
abbrev main_v364 : Ref sig .tc := ⟨.hbm, 429, rfl⟩
abbrev main_v365 : Ref sig .tc := ⟨.hbm, 430, rfl⟩
abbrev main_cst_54 : Ref sig .tc := ⟨.hbm, 431, rfl⟩
abbrev main_v366 : Ref sig .tc := ⟨.hbm, 432, rfl⟩
abbrev main_v367 : Ref sig .tc := ⟨.hbm, 433, rfl⟩
abbrev main_cst_55 : Ref sig .tc := ⟨.hbm, 434, rfl⟩
abbrev main_v368 : Ref sig .tc := ⟨.hbm, 435, rfl⟩
abbrev main_v369 : Ref sig .tc := ⟨.hbm, 436, rfl⟩
abbrev main_v370 : Ref sig .tc := ⟨.hbm, 437, rfl⟩
abbrev main_v371 : Ref sig .tc := ⟨.hbm, 438, rfl⟩
abbrev main_cst_56 : Ref sig .tc := ⟨.hbm, 439, rfl⟩
abbrev main_v372 : Ref sig .tc := ⟨.hbm, 440, rfl⟩
abbrev main_v373 : Ref sig .tc := ⟨.hbm, 441, rfl⟩
abbrev main_v374 : Ref sig .tc := ⟨.hbm, 442, rfl⟩
abbrev main_v375 : Ref sig .tc := ⟨.hbm, 443, rfl⟩
abbrev main_v376 : Ref sig .tc := ⟨.hbm, 444, rfl⟩
abbrev main_v377 : Ref sig .tc := ⟨.hbm, 445, rfl⟩
abbrev main_v378 : Ref sig .tc := ⟨.hbm, 446, rfl⟩
abbrev main_v379 : Ref sig .tc := ⟨.hbm, 447, rfl⟩
abbrev main_v380 : Ref sig .tc := ⟨.hbm, 448, rfl⟩
abbrev main_v381 : Ref sig .tc := ⟨.hbm, 449, rfl⟩
abbrev main_v382 : Ref sig .tc := ⟨.hbm, 450, rfl⟩
abbrev main_v383 : Ref sig .tc := ⟨.hbm, 451, rfl⟩
abbrev main_v384 : Ref sig .tc := ⟨.hbm, 452, rfl⟩
abbrev main_v385 : Ref sig .tc := ⟨.hbm, 453, rfl⟩
abbrev main_v386 : Ref sig .tc := ⟨.hbm, 454, rfl⟩
abbrev main_v387 : Ref sig .tc := ⟨.hbm, 455, rfl⟩
abbrev main_v388 : Ref sig .tc := ⟨.hbm, 456, rfl⟩
abbrev main_v389 : Ref sig .tc := ⟨.hbm, 457, rfl⟩
abbrev main_v390 : Ref sig .tc := ⟨.hbm, 458, rfl⟩
abbrev main_v391 : Ref sig .tc := ⟨.hbm, 459, rfl⟩
abbrev main_v392 : Ref sig .tc := ⟨.hbm, 460, rfl⟩
abbrev main_v393 : Ref sig .tc := ⟨.hbm, 461, rfl⟩
abbrev main_v394 : Ref sig .tc := ⟨.hbm, 462, rfl⟩
abbrev main_v395 : Ref sig .tc := ⟨.hbm, 463, rfl⟩
abbrev main_v396 : Ref sig .tc := ⟨.hbm, 464, rfl⟩
abbrev main_v397 : Ref sig .tc := ⟨.hbm, 465, rfl⟩
abbrev main_v398 : Ref sig .tc := ⟨.hbm, 466, rfl⟩
abbrev main_cst_57 : Ref sig .tc := ⟨.hbm, 467, rfl⟩
abbrev main_v399 : Ref sig .tc := ⟨.hbm, 468, rfl⟩
abbrev main_cst_58 : Ref sig .tc := ⟨.hbm, 469, rfl⟩
abbrev main_v400 : Ref sig .tc := ⟨.hbm, 470, rfl⟩
abbrev main_v401 : Ref sig .tc := ⟨.hbm, 471, rfl⟩

abbrev nD : Nat := 1
abbrev τ : Topo := Topo.v7x

variable {F : FTy → Type} [FloatOps F]
-- ==== Memvec.lean ====
abbrev S16x4x512 : Shape := ⟨3, ![16, 4, 512]⟩
abbrev S8192x512 : Shape := ⟨2, ![8192, 512]⟩
abbrev S512 : Shape := ⟨1, ![512]⟩
abbrev S1x512 : Shape := ⟨2, ![1, 512]⟩
abbrev S4x512 : Shape := ⟨2, ![4, 512]⟩
abbrev S1x4x512 : Shape := ⟨3, ![1, 4, 512]⟩
abbrev S512x512 : Shape := ⟨2, ![512, 512]⟩
abbrev S4 : Shape := ⟨1, ![4]⟩
abbrev S4x1 : Shape := ⟨2, ![4, 1]⟩

abbrev nBuf : Space → Nat
  | .hbm => 9
  | .vmem => 6
  | .smem => 0
  | _ => 0

abbrev bufTy : (tb : Table) → Fin (tcTables nBuf tb) → BufTy
  | .hbm, ⟨0, _⟩ => ⟨S16x4x512, .f32⟩
  | .hbm, ⟨1, _⟩ => ⟨S8192x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S4x512, .f32⟩
  | .local _ .vmem, ⟨0, _⟩ => ⟨S16x4x512, .f32⟩
  | .local _ .vmem, ⟨1, _⟩ => ⟨S8192x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S4x512, .f32⟩
  | _, _ => ⟨S16x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16x4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== MemvecReferenceIdeal.lean ====
abbrev S16x4x512 : Shape := ⟨3, ![16, 4, 512]⟩
abbrev S8192x512 : Shape := ⟨2, ![8192, 512]⟩
abbrev S512 : Shape := ⟨1, ![512]⟩
abbrev S4x16x512 : Shape := ⟨3, ![4, 16, 512]⟩
abbrev S4x8192 : Shape := ⟨2, ![4, 8192]⟩
abbrev S4x512 : Shape := ⟨2, ![4, 512]⟩
abbrev S1x512 : Shape := ⟨2, ![1, 512]⟩
abbrev S_ : Shape := ⟨0, ![]⟩
abbrev S4 : Shape := ⟨1, ![4]⟩
abbrev S4x1 : Shape := ⟨2, ![4, 1]⟩

abbrev nBuf : Space → Nat
  | .hbm => 40
  | .vmem => 0
  | .smem => 0
  | _ => 0

abbrev bufTy : (tb : Table) → Fin (tcTables nBuf tb) → BufTy
  | .hbm, ⟨0, _⟩ => ⟨S16x4x512, .f32⟩
  | .hbm, ⟨1, _⟩ => ⟨S8192x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S4x16x512, .f32⟩
  | .hbm, ⟨6, _⟩ => ⟨S4x8192, .f32⟩
  | .hbm, ⟨7, _⟩ => ⟨S4x512, .f32⟩
  | .hbm, ⟨8, _⟩ => ⟨S1x512, .f32⟩
  | .hbm, ⟨9, _⟩ => ⟨S4x512, .f32⟩
  | .hbm, ⟨10, _⟩ => ⟨S4x512, .f32⟩
  | .hbm, ⟨11, _⟩ => ⟨S_, .f32⟩
  | .hbm, ⟨12, _⟩ => ⟨S4, .f32⟩
  | .hbm, ⟨13, _⟩ => ⟨S4x1, .f32⟩
  | .hbm, ⟨14, _⟩ => ⟨S_, .f32⟩
  | .hbm, ⟨15, _⟩ => ⟨S4x1, .f32⟩
  | .hbm, ⟨16, _⟩ => ⟨S4x1, .f32⟩
  | .hbm, ⟨17, _⟩ => ⟨S4x512, .f32⟩
  | .hbm, ⟨18, _⟩ => ⟨S4x512, .f32⟩
  | .hbm, ⟨19, _⟩ => ⟨S4x512, .f32⟩
  | .hbm, ⟨20, _⟩ => ⟨S_, .f32⟩
  | .hbm, ⟨21, _⟩ => ⟨S4, .f32⟩
  | .hbm, ⟨22, _⟩ => ⟨S4x1, .f32⟩
  | .hbm, ⟨23, _⟩ => ⟨S_, .f32⟩
  | .hbm, ⟨24, _⟩ => ⟨S4x1, .f32⟩
  | .hbm, ⟨25, _⟩ => ⟨S4x1, .f32⟩
  | .hbm, ⟨26, _⟩ => ⟨S4x512, .f32⟩
  | .hbm, ⟨27, _⟩ => ⟨S4x512, .f32⟩
  | .hbm, ⟨28, _⟩ => ⟨S_, .f32⟩
  | .hbm, ⟨29, _⟩ => ⟨S4x1, .f32⟩
  | .hbm, ⟨30, _⟩ => ⟨S4x1, .f32⟩
  | .hbm, ⟨31, _⟩ => ⟨S4x1, .f32⟩
  | .hbm, ⟨32, _⟩ => ⟨S4x512, .f32⟩
  | .hbm, ⟨33, _⟩ => ⟨S4x512, .f32⟩
  | .hbm, ⟨34, _⟩ => ⟨S1x512, .f32⟩
  | .hbm, ⟨35, _⟩ => ⟨S4x512, .f32⟩
  | .hbm, ⟨36, _⟩ => ⟨S4x512, .f32⟩
  | .hbm, ⟨37, _⟩ => ⟨S1x512, .f32⟩
  | .hbm, ⟨38, _⟩ => ⟨S4x512, .f32⟩
  | .hbm, ⟨39, _⟩ => ⟨S4x512, .f32⟩
  | _, _ => ⟨S16x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Logits.lean ====
abbrev S4x1024x512 : Shape := ⟨3, ![4, 1024, 512]⟩
abbrev S4x512 : Shape := ⟨2, ![4, 512]⟩
abbrev S32000x512 : Shape := ⟨2, ![32000, 512]⟩
abbrev S4x1x512 : Shape := ⟨3, ![4, 1, 512]⟩
abbrev S4x1024x32000 : Shape := ⟨3, ![4, 1024, 32000]⟩
abbrev S1x512x512 : Shape := ⟨3, ![1, 512, 512]⟩
abbrev S1x1x512 : Shape := ⟨3, ![1, 1, 512]⟩
abbrev S3200x512 : Shape := ⟨2, ![3200, 512]⟩
abbrev S1x512x3200 : Shape := ⟨3, ![1, 512, 3200]⟩
abbrev S512x512 : Shape := ⟨2, ![512, 512]⟩
abbrev S1x512 : Shape := ⟨2, ![1, 512]⟩
abbrev S512x3200 : Shape := ⟨2, ![512, 3200]⟩

abbrev nBuf : Space → Nat
  | .hbm => 5
  | .vmem => 8
  | .smem => 0
  | _ => 0

abbrev bufTy : (tb : Table) → Fin (tcTables nBuf tb) → BufTy
  | .hbm, ⟨0, _⟩ => ⟨S4x1024x512, .f32⟩
  | .hbm, ⟨1, _⟩ => ⟨S4x512, .f32⟩
  | .hbm, ⟨2, _⟩ => ⟨S32000x512, .f32⟩
  | .hbm, ⟨3, _⟩ => ⟨S4x1x512, .f32⟩
  | .hbm, ⟨4, _⟩ => ⟨S4x1024x32000, .f32⟩
  | .local _ .vmem, ⟨0, _⟩ => ⟨S1x512x512, .f32⟩
  | .local _ .vmem, ⟨1, _⟩ => ⟨S1x512x512, .f32⟩
  | .local _ .vmem, ⟨2, _⟩ => ⟨S1x1x512, .f32⟩
  | .local _ .vmem, ⟨3, _⟩ => ⟨S1x1x512, .f32⟩
  | .local _ .vmem, ⟨4, _⟩ => ⟨S3200x512, .f32⟩
  | .local _ .vmem, ⟨5, _⟩ => ⟨S3200x512, .f32⟩
  | .local _ .vmem, ⟨6, _⟩ => ⟨S1x512x3200, .f32⟩
  | .local _ .vmem, ⟨7, _⟩ => ⟨S1x512x3200, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![10, 4, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S3200x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x512x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== LogitsReferenceIdeal.lean ====
abbrev S4x1024x512 : Shape := ⟨3, ![4, 1024, 512]⟩
abbrev S4x512 : Shape := ⟨2, ![4, 512]⟩
abbrev S32000x512 : Shape := ⟨2, ![32000, 512]⟩
abbrev S4x1x512 : Shape := ⟨3, ![4, 1, 512]⟩
abbrev S512x32000 : Shape := ⟨2, ![512, 32000]⟩
abbrev S4x1024x32000 : Shape := ⟨3, ![4, 1024, 32000]⟩

abbrev nBuf : Space → Nat
  | .hbm => 8
  | .vmem => 0
  | .smem => 0
  | _ => 0

abbrev bufTy : (tb : Table) → Fin (tcTables nBuf tb) → BufTy
  | .hbm, ⟨0, _⟩ => ⟨S4x1024x512, .f32⟩
  | .hbm, ⟨1, _⟩ => ⟨S4x512, .f32⟩
  | .hbm, ⟨2, _⟩ => ⟨S32000x512, .f32⟩
  | .hbm, ⟨3, _⟩ => ⟨S4x1x512, .f32⟩
  | .hbm, ⟨4, _⟩ => ⟨S4x1024x512, .f32⟩
  | .hbm, ⟨5, _⟩ => ⟨S4x1024x512, .f32⟩
  | .hbm, ⟨6, _⟩ => ⟨S512x32000, .f32⟩
  | .hbm, ⟨7, _⟩ => ⟨S4x1024x32000, .f32⟩
  | _, _ => ⟨S4x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.ScanIdealRun.lean ====
/- A run of the scan kernel's body, laid out as the other kernels' runs are. The pieces the loop stores are named apart from
   what the output buffers and the scratch hold before it: they do not depend on it, the memory being cleared first. -/
module

public import proofs.«01_k».proof.Proof.Gen.ScanIdeal.Frame.Runs

@[expose] public section

-- membership in a rectangle of production extents (`View.cover_of_tiled`): the elaborator's structural look
-- recurses once per coordinate of the long axes
set_option maxRecDepth 16384

noncomputable section

namespace Cert.ScanIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A trip's pieces do not depend on what the output buffers hold. -/
theorem trip_free (c : Dev nD) (arg0 : Memref sig .tc .vmem S1024x4x512 .f32) (harg0 : arg0.IsWhole) (arg1 : Memref sig .tc .vmem S1024x4x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x4x512 .f32) (harg6 : arg6.IsWhole) (arg7 : Memref sig .tc .vmem S1040x4x512 .f32) (harg7 : arg7.IsWhole) (arg8 : Memref sig .tc .vmem S16x4x512 .f32) (harg8 : arg8.IsWhole)
    (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (k : Fin k0_t1_loop.trips) (f6 g6 : BufTy.Contents (Elt F) arg6.view.ty) (f7 g7 : BufTy.Contents (Elt F) arg7.view.ty) (f8 : BufTy.Contents (Elt F) arg8.view.ty) :
    tripL_k0_t1 (F := F) Variants.none c none arg0 harg0 arg1 harg1 arg2 harg2 arg3 harg3 arg4 harg4 arg5 harg5 arg6 harg6 arg7 harg7 arg8 harg8 X0 X1 X2 X3 X4 X5 k f6 f7 f8 = tripL_k0_t1 (F := F) Variants.none c none arg0 harg0 arg1 harg1 arg2 harg2 arg3 harg3 arg4 harg4 arg5 harg5 arg6 harg6 arg7 harg7 arg8 harg8 X0 X1 X2 X3 X4 X5 k g6 g7 f8 := by
  unfold tripL_k0_t1 trip_k0_t1
  rfl

/-- Nor do the pieces of any number of trips. -/
theorem trips_free (c : Dev nD) (arg0 : Memref sig .tc .vmem S1024x4x512 .f32) (harg0 : arg0.IsWhole) (arg1 : Memref sig .tc .vmem S1024x4x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x4x512 .f32) (harg6 : arg6.IsWhole) (arg7 : Memref sig .tc .vmem S1040x4x512 .f32) (harg7 : arg7.IsWhole) (arg8 : Memref sig .tc .vmem S16x4x512 .f32) (harg8 : arg8.IsWhole)
    (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (f6 g6 : BufTy.Contents (Elt F) arg6.view.ty) (f7 g7 : BufTy.Contents (Elt F) arg7.view.ty) (f8 : BufTy.Contents (Elt F) arg8.view.ty) : ∀ n ≤ k0_t1_loop.trips,
    pb_k0_t1 (F := F) Variants.none c none arg0 harg0 arg1 harg1 arg2 harg2 arg3 harg3 arg4 harg4 arg5 harg5 arg6 harg6 arg7 harg7 arg8 harg8 X0 X1 X2 X3 X4 X5 f6 f7 f8 n = pb_k0_t1 (F := F) Variants.none c none arg0 harg0 arg1 harg1 arg2 harg2 arg3 harg3 arg4 harg4 arg5 harg5 arg6 harg6 arg7 harg7 arg8 harg8 X0 X1 X2 X3 X4 X5 g6 g7 f8 n
  | 0, _ => rfl
  | n + 1, h => by
    have ih := trips_free c arg0 harg0 arg1 harg1 arg2 harg2 arg3 harg3 arg4 harg4 arg5 harg5 arg6 harg6 arg7 harg7 arg8 harg8 X0 X1 X2 X3 X4 X5 f6 g6 f7 g7 f8 n (Nat.le_of_succ_le h)
    refine (pb_k0_t1_succ Variants.none c none arg0 harg0 arg1 harg1 arg2 harg2 arg3 harg3 arg4 harg4 arg5 harg5 arg6 harg6 arg7 harg7 arg8 harg8 X0 X1 X2 X3 X4 X5 f6 f7 f8 ⟨n, h⟩).trans (Eq.trans ?_ (pb_k0_t1_succ Variants.none c none arg0 harg0 arg1 harg1 arg2 harg2 arg3 harg3 arg4 harg4 arg5 harg5 arg6 harg6 arg7 harg7 arg8 harg8 X0 X1 X2 X3 X4 X5 g6 g7 f8 ⟨n, h⟩).symm)
    have ih' : pb_k0_t1 (F := F) Variants.none c none arg0 harg0 arg1 harg1 arg2 harg2 arg3 harg3 arg4 harg4 arg5 harg5 arg6 harg6 arg7 harg7 arg8 harg8 X0 X1 X2 X3 X4 X5 f6 f7 f8 (⟨n, h⟩ : Fin k0_t1_loop.trips).val = pb_k0_t1 (F := F) Variants.none c none arg0 harg0 arg1 harg1 arg2 harg2 arg3 harg3 arg4 harg4 arg5 harg5 arg6 harg6 arg7 harg7 arg8 harg8 X0 X1 X2 X3 X4 X5 g6 g7 f8 n := ih
    rw [ih']
    exact congrArg (fun T : List (View.Piece (Elt F) S1024x4x512 .f32) × List (View.Piece (Elt F) S1040x4x512 .f32) × List (View.Piece (Elt F) S16x4x512 .f32) =>
      (T.1 ++ (pb_k0_t1 (F := F) Variants.none c none arg0 harg0 arg1 harg1 arg2 harg2 arg3 harg3 arg4 harg4 arg5 harg5 arg6 harg6 arg7 harg7 arg8 harg8 X0 X1 X2 X3 X4 X5 g6 g7 f8 n).1, T.2.1 ++ (pb_k0_t1 (F := F) Variants.none c none arg0 harg0 arg1 harg1 arg2 harg2 arg3 harg3 arg4 harg4 arg5 harg5 arg6 harg6 arg7 harg7 arg8 harg8 X0 X1 X2 X3 X4 X5 g6 g7 f8 n).2.1, T.2.2 ++ (pb_k0_t1 (F := F) Variants.none c none arg0 harg0 arg1 harg1 arg2 harg2 arg3 harg3 arg4 harg4 arg5 harg5 arg6 harg6 arg7 harg7 arg8 harg8 X0 X1 X2 X3 X4 X5 g6 g7 f8 n).2.2))
      (trip_free c arg0 harg0 arg1 harg1 arg2 harg2 arg3 harg3 arg4 harg4 arg5 harg5 arg6 harg6 arg7 harg7 arg8 harg8 X0 X1 X2 X3 X4 X5 ⟨n, h⟩ _ _ _ _ _)

/-- The pieces of all the trips, from a cleared memory. -/
abbrev allTrips (c : Dev nD) (arg0 : Memref sig .tc .vmem S1024x4x512 .f32) (harg0 : arg0.IsWhole) (arg1 : Memref sig .tc .vmem S1024x4x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x4x512 .f32) (harg6 : arg6.IsWhole) (arg7 : Memref sig .tc .vmem S1040x4x512 .f32) (harg7 : arg7.IsWhole) (arg8 : Memref sig .tc .vmem S16x4x512 .f32) (harg8 : arg8.IsWhole)
    (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) :=
  pb_k0_t1 (F := F) Variants.none c none arg0 harg0 arg1 harg1 arg2 harg2 arg3 harg3 arg4 harg4 arg5 harg5 arg6 harg6 arg7 harg7 arg8 harg8 X0 X1 X2 X3 X4 X5 arg6.view.junk arg7.view.junk (arg8.view.writes (Elt F) arg8.view.junk [⟨Rect.unit (s := S16x4x512) ![0, 0, 0] S16x4x512.size inb_S16x4x512_S16x4x512_0_0_0, k0_pay1 (F := F)⟩]) k0_t1_loop.trips

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (arg0 : Memref sig .tc .vmem S1024x4x512 .f32) (harg0 : arg0.IsWhole) (arg1 : Memref sig .tc .vmem S1024x4x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x4x512 .f32) (harg6 : arg6.IsWhole) (arg7 : Memref sig .tc .vmem S1040x4x512 .f32) (harg7 : arg7.IsWhole) (arg8 : Memref sig .tc .vmem S16x4x512 .f32) (harg8 : arg8.IsWhole)
    (x0 : Vec F S1024x4x512 .f32) (x1 : Vec F S1024x4x512 .f32) (x2 : Vec F S512x512 .f32) (x3 : Vec F S512x512 .f32) (x4 : Vec F S1x512 .f32) (x5 : Vec F S1x512 .f32) :
    Σ' (L6 : List (View.Piece (Elt F) S1024x4x512 .f32)), { L7 : List (View.Piece (Elt F) S1040x4x512 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ d, owns (c : Thread nD τ) arg8 fullShare d)) -∗ K ⟨⟩))
          ⊢ wp frame (wpE (defs₀ (F := F)) Variants.none c none) E (cc0__scan_kernel arg0 harg0 arg1 harg1 arg2 harg2 arg3 harg3 arg4 harg4 arg5 harg5 arg6 harg6 arg7 harg7 arg8 harg8) K } := by
  refine ⟨(allTrips c arg0 harg0 arg1 harg1 arg2 harg2 arg3 harg3 arg4 harg4 arg5 harg5 arg6 harg6 arg7 harg7 arg8 harg8 (harg0.unread x0) (harg1.unread x1) (harg2.unread x2) (harg3.unread x3) (harg4.unread x4) (harg5.unread x5)).1,
    (allTrips c arg0 harg0 arg1 harg1 arg2 harg2 arg3 harg3 arg4 harg4 arg5 harg5 arg6 harg6 arg7 harg7 arg8 harg8 (harg0.unread x0) (harg1.unread x1) (harg2.unread x2) (harg3.unread x3) (harg4.unread x4) (harg5.unread x5)).2.1 ++ [⟨Rect.unit (s := S1040x4x512) ![0, 0, 0] S16x4x512.size inb_S1040x4x512_S16x4x512_0_0_0, k0_pay2 (F := F)⟩], fun E K => ?run⟩
  case run =>
    simp only [cc0__scan_kernel_eq_skeleton]; unfold cc0__scan_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    unfold kernelRun0_A.sl.HS0_1
    isplitl [H6]
    · iexists f6
      unfold allTrips
      rw [← trips_free c arg0 harg0 arg1 harg1 arg2 harg2 arg3 harg3 arg4 harg4 arg5 harg5 arg6 harg6 arg7 harg7 arg8 harg8 (harg0.unread x0) (harg1.unread x1) (harg2.unread x2) (harg3.unread x3) (harg4.unread x4) (harg5.unread x5) f6 arg6.view.junk (arg7.view.writes (Elt F) f7 [⟨Rect.unit (s := S1040x4x512) ![0, 0, 0] S16x4x512.size inb_S1040x4x512_S16x4x512_0_0_0, k0_pay2 (F := F)⟩]) arg7.view.junk _ _ le_rfl]
      iexact H6
    isplitl [H7]
    · iexists f7
      unfold allTrips
      rw [← trips_free c arg0 harg0 arg1 harg1 arg2 harg2 arg3 harg3 arg4 harg4 arg5 harg5 arg6 harg6 arg7 harg7 arg8 harg8 (harg0.unread x0) (harg1.unread x1) (harg2.unread x2) (harg3.unread x3) (harg4.unread x4) (harg5.unread x5) f6 arg6.view.junk (arg7.view.writes (Elt F) f7 [⟨Rect.unit (s := S1040x4x512) ![0, 0, 0] S16x4x512.size inb_S1040x4x512_S16x4x512_0_0_0, k0_pay2 (F := F)⟩]) arg7.view.junk _ _ le_rfl]
      iexact H7
    iexists _, _; isplitr; swap; · iexact HS0
    ipureintro; rfl

end Cert.ScanIdeal.Gen

end
-- ==== Proof.ScanIdealFrame.lean ====
/- The frame of the scan program over the run of its body: the pieces cover both outputs, and the launch around the body. -/
module

public import proofs.«01_k».proof.Proof.ScanIdealRun
public import Idealize.ShloMosaic.Lib.Claim

@[expose] public section

-- membership in a rectangle of production extents (`View.cover_of_tiled`): the elaborator's structural look
-- recurses once per coordinate of the long axes
set_option maxRecDepth 16384

noncomputable section

namespace Cert.ScanIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 6 tile its block (1024 stores of `S1x4x512`, checked by the kernel's evaluation: Lib/Ring.lean `Piece.tiledL`, linear in the pieces, through a loop's `@[irreducible]` trip theorem too), so they cover it. -/
theorem cover0_A_6 (c : Dev nD) (arg0 : Memref sig .tc .vmem S1024x4x512 .f32) (harg0 : arg0.IsWhole) (arg1 : Memref sig .tc .vmem S1024x4x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x4x512 .f32) (harg6 : arg6.IsWhole) (arg7 : Memref sig .tc .vmem S1040x4x512 .f32) (harg7 : arg7.IsWhole) (arg8 : Memref sig .tc .vmem S16x4x512 .f32) (harg8 : arg8.IsWhole)
    (x0 : Vec F S1024x4x512 .f32) (x1 : Vec F S1024x4x512 .f32) (x2 : Vec F S512x512 .f32) (x3 : Vec F S512x512 .f32) (x4 : Vec F S1x512 .f32) (x5 : Vec F S1x512 .f32) (y : S1024x4x512.Idx) :
    ∃ pc ∈ (kernelRun0_A c arg0 harg0 arg1 harg1 arg2 harg2 arg3 harg3 arg4 harg4 arg5 harg5 arg6 harg6 arg7 harg7 arg8 harg8 x0 x1 x2 x3 x4 x5).1, y ∈ pc.1.set :=
  View.cover_of_tiledL (kernelRun0_A c arg0 harg0 arg1 harg1 arg2 harg2 arg3 harg3 arg4 harg4 arg5 harg5 arg6 harg6 arg7 harg7 arg8 harg8 x0 x1 x2 x3 x4 x5).1 S1x4x512.size (by sl_kernel_rfl) y

/-- What the run leaves in output 6's staging buffer: its pieces read back over junk. -/
def out0_A_6 (c : Dev nD) (arg0 : Memref sig .tc .vmem S1024x4x512 .f32) (harg0 : arg0.IsWhole) (arg1 : Memref sig .tc .vmem S1024x4x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x4x512 .f32) (harg6 : arg6.IsWhole) (arg7 : Memref sig .tc .vmem S1040x4x512 .f32) (harg7 : arg7.IsWhole) (arg8 : Memref sig .tc .vmem S16x4x512 .f32) (harg8 : arg8.IsWhole)
    (x0 : Vec F S1024x4x512 .f32) (x1 : Vec F S1024x4x512 .f32) (x2 : Vec F S512x512 .f32) (x3 : Vec F S512x512 .f32) (x4 : Vec F S1x512 .f32) (x5 : Vec F S1x512 .f32) : Vec F S1024x4x512 .f32 :=
  VO0_6.read (Elt F) (VO0_6.writes (Elt F) VO0_6.junk (kernelRun0_A c arg0 harg0 arg1 harg1 arg2 harg2 arg3 harg3 arg4 harg4 arg5 harg5 arg6 harg6 arg7 harg7 arg8 harg8 x0 x1 x2 x3 x4 x5).1)

/-- The run's pieces for output 7 are of SEVERAL sizes (1025 stores of `S16x4x512`, `S1x4x512`): cut into blocks of `![1, 4, 512]` they tile its block (checked by the kernel's evaluation: Lib/Ring.lean `Piece.tiledBy`), so they cover it. -/
theorem cover0_A_7 (c : Dev nD) (arg0 : Memref sig .tc .vmem S1024x4x512 .f32) (harg0 : arg0.IsWhole) (arg1 : Memref sig .tc .vmem S1024x4x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x4x512 .f32) (harg6 : arg6.IsWhole) (arg7 : Memref sig .tc .vmem S1040x4x512 .f32) (harg7 : arg7.IsWhole) (arg8 : Memref sig .tc .vmem S16x4x512 .f32) (harg8 : arg8.IsWhole)
    (x0 : Vec F S1024x4x512 .f32) (x1 : Vec F S1024x4x512 .f32) (x2 : Vec F S512x512 .f32) (x3 : Vec F S512x512 .f32) (x4 : Vec F S1x512 .f32) (x5 : Vec F S1x512 .f32) (y : S1040x4x512.Idx) :
    ∃ pc ∈ (kernelRun0_A c arg0 harg0 arg1 harg1 arg2 harg2 arg3 harg3 arg4 harg4 arg5 harg5 arg6 harg6 arg7 harg7 arg8 harg8 x0 x1 x2 x3 x4 x5).2.1, y ∈ pc.1.set :=
  View.cover_of_tiledBy (kernelRun0_A c arg0 harg0 arg1 harg1 arg2 harg2 arg3 harg3 arg4 harg4 arg5 harg5 arg6 harg6 arg7 harg7 arg8 harg8 x0 x1 x2 x3 x4 x5).2.1 ![1, 4, 512] (by sl_kernel_rfl) y

/-- What the run leaves in output 7's staging buffer: its pieces read back over junk. -/
def out0_A_7 (c : Dev nD) (arg0 : Memref sig .tc .vmem S1024x4x512 .f32) (harg0 : arg0.IsWhole) (arg1 : Memref sig .tc .vmem S1024x4x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x4x512 .f32) (harg6 : arg6.IsWhole) (arg7 : Memref sig .tc .vmem S1040x4x512 .f32) (harg7 : arg7.IsWhole) (arg8 : Memref sig .tc .vmem S16x4x512 .f32) (harg8 : arg8.IsWhole)
    (x0 : Vec F S1024x4x512 .f32) (x1 : Vec F S1024x4x512 .f32) (x2 : Vec F S512x512 .f32) (x3 : Vec F S512x512 .f32) (x4 : Vec F S1x512 .f32) (x5 : Vec F S1x512 .f32) : Vec F S1040x4x512 .f32 :=
  VO0_7.read (Elt F) (VO0_7.writes (Elt F) VO0_7.junk (kernelRun0_A c arg0 harg0 arg1 harg1 arg2 harg2 arg3 harg3 arg4 harg4 arg5 harg5 arg6 harg6 arg7 harg7 arg8 harg8 x0 x1 x2 x3 x4 x5).2.1)

/-! ## What the outputs hold after each point -/

/-- What the outputs' staging buffers hold after the body at point `t` (as a tuple, in window order): the run's contents at
    the point's memrefs and input blocks. -/
def outsAt0 (c : Dev nD) (t : Fin cfg0.N) : Vec F S1024x4x512 .f32 × Vec F S1040x4x512 .f32 :=
  (out0_A_6 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t), out0_A_7 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t).1
    | ⟨7, _⟩ => (outsAt0 m c t).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t).1 := by dsimp only [dats]
theorem after0_7 (c : Dev nD) (t : Fin cfg0.N) : (dats m 0 c).after 7 t = (outsAt0 m c t).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  unfold outsAt0
  unfold out0_A_6 out0_A_7; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c _ _ _ _ _ _ _ _ _ _ _ _ _ _ _ _ _ _ (iblk m c 0 t) (iblk m c 1 t) (iblk m c 2 t) (iblk m c 3 t) (iblk m c 4 t) (iblk m c 5 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  iintro ⟨H0, H1, H2, H3, H4, H5, ⟨%e6, H6⟩, ⟨%e7, H7⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _)
  unfold owns; iexists _; isplitr
  swap; · iexact H7
  ipureintro; exact View.read_writes_of_cover _ _ _ _ _ (cover0_A_7 c _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_ScanIdeal`'s statement (Defs.lean) at any `F` — Proof.lean cites it at `Bits`:
    `theorem Cert.Proof.claim : Cert.Claim := ⟨Cert.ScanIdeal.Gen.facts, fun m ρ _ => Cert.ScanIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.ScanIdeal.Gen

end
-- ==== Proof.ScanBlocks.lean ====
/- What the scan program leaves in its outputs, block by block. -/
module

public import proofs.«01_k».proof.Proof.ScanIdealFrame
public import Idealize.ShloMosaic.Lib.Pipeline.Value

@[expose] public section

noncomputable section

namespace Cert.ScanIdeal.Value

open Cert.ScanIdeal Cert.ScanIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 6's array: the run's contents for that window after the body (`Gen.outsAt0`: its component 0), read through the window's block. -/
theorem flushed6 (c : Dev nD) (t : Fin cfg0.N) :
    (dats m 0 c).flushed 6 t = (cfg0.win 6).cut (grid0.coords t) ((outsAt0 m c t).1) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — the kernel's one case, `Gen.outsAt0` by definition. -/
theorem flushed6_A (c : Dev nD) (t : Fin cfg0.N) :
    (dats m 0 c).flushed 6 t = (cfg0.win 6).cut (grid0.coords t) (out0_A_6 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t)) := by
  simp only [flushed6, outsAt0]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S1024x4x512.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the run's contents for that window after the body (`Gen.outsAt0`: its component 1), read through the window's block. -/
theorem flushed7 (c : Dev nD) (t : Fin cfg0.N) :
    (dats m 0 c).flushed 7 t = (cfg0.win 7).cut (grid0.coords t) ((outsAt0 m c t).2) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — the kernel's one case, `Gen.outsAt0` by definition. -/
theorem flushed7_A (c : Dev nD) (t : Fin cfg0.N) :
    (dats m 0 c).flushed 7 t = (cfg0.win 7).cut (grid0.coords t) (out0_A_7 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t)) := by
  simp only [flushed7, outsAt0]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S1040x4x512.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_1) = (dats m 0 c).arrAt 7 cfg0.N :=
  (h c).1 7

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 6 cfg0.N
      ∧ r.2.mem ((c : Thread nD τ).loc main_v0_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      post7 m r h c,
      kept_main_arg0 m r h c,
      kept_main_arg1 m r h c,
      kept_main_arg2 m r h c,
      kept_main_arg3 m r h c,
      kept_main_arg4 m r h c,
      kept_main_arg5 m r h c⟩)
    (run_main m ρ)

end Cert.ScanIdeal.Value

end
-- ==== Proof.ScanStep.lean ====
/- One trip of the scan reference's loop: the state a trip hands the next, every operation of the body a value of its own, and
   the step they make. -/
module

public import proofs.«01_k».proof.ScanReferenceIdeal
public import proofs.«01_k».proof.Proof.Gen.ScanReferenceIdeal

@[expose] public section

noncomputable section

namespace Cert.ScanReferenceIdeal.Step

open Idealize.ShloMosaic Cert.ScanReferenceIdeal Cert.ScanReferenceIdeal.Gen

variable {F : FTy → Type} [FloatOps F]

/-- What a trip hands the next. -/
structure State (F : FTy → Type) [FloatOps F] where
  main_v5_8 : (⟨S4x16x512, .f32⟩ : BufTy).Contents (Elt F)
  main_v5_9 : (⟨S1024x4x512, .f32⟩ : BufTy).Contents (Elt F)
  main_v5_10 : (⟨S1024x4x512, .f32⟩ : BufTy).Contents (Elt F)
  main_v5_0 : (⟨S1024x4x512, .f32⟩ : BufTy).Contents (Elt F)
  main_v5_1 : (⟨S1024x4x512, .f32⟩ : BufTy).Contents (Elt F)
  main_v5_3 : (⟨S512x512, .f32⟩ : BufTy).Contents (Elt F)
  main_v5_4 : (⟨S1x512, .f32⟩ : BufTy).Contents (Elt F)
  main_v5_5 : (⟨S1x512, .f32⟩ : BufTy).Contents (Elt F)
  main_v5_6 : (⟨S512x512, .f32⟩ : BufTy).Contents (Elt F)

/-! What @main computes before the loop without reading an argument. -/

def K_main_cst : (⟨S_, .f32⟩ : BufTy).Contents (Elt F) := constant S_ .f32 0x00000000#32
def K_main_v0 : (⟨S16x512, .f32⟩ : BufTy).Contents (Elt F) := broadcastInDim S16x512 ![] bcast_S_S16x512 ((K_main_cst (F := F)))
def K_main_v1 : (⟨S1024, .i32⟩ : BufTy).Contents (Elt F) := iotaInDim S1024 32 0
def K_main_v2 : (⟨S4x16x512, .f32⟩ : BufTy).Contents (Elt F) := broadcastInDim S4x16x512 ![1, 2] bcast_S16x512_S4x16x512_1_2 ((K_main_v0 (F := F)))
def K_main_cst_0 : (⟨S_, .f32⟩ : BufTy).Contents (Elt F) := constant S_ .f32 0x00000000#32
def K_main_v3 : (⟨S1024x4x512, .f32⟩ : BufTy).Contents (Elt F) := broadcastInDim S1024x4x512 ![] bcast_S_S1024x4x512 ((K_main_cst_0 (F := F)))
def K_main_cst_1 : (⟨S_, .f32⟩ : BufTy).Contents (Elt F) := constant S_ .f32 0x00000000#32
def K_main_v4 : (⟨S1024x4x512, .f32⟩ : BufTy).Contents (Elt F) := broadcastInDim S1024x4x512 ![] bcast_S_S1024x4x512 ((K_main_cst_1 (F := F)))
def K_main_c : (⟨S_, .i32⟩ : BufTy).Contents (Elt F) := constantI S_ 32 0#32

/-! One trip's values, in the body's order. -/

def b0 (j : ℕ) (s : State F) : (⟨S_, .i32⟩ : BufTy).Contents (Elt F) :=
  constantI S_ 32 0#32
def b1 (j : ℕ) (s : State F) : (⟨S_, .i32⟩ : BufTy).Contents (Elt F) :=
  constantI S_ 32 0#32
def b2 (j : ℕ) (s : State F) : (⟨S1x4x512, .f32⟩ : BufTy).Contents (Elt F) :=
  Host.dynamicSlice S1x4x512 (s.main_v5_0) (fun k => (((![(constantI S_ 32 (BitVec.ofNat 32 j) : (⟨S_, .i32⟩ : BufTy).Contents (Elt F)), (b0 j s), (b1 j s)] : Fin 3 → (⟨S_, .i32⟩ : BufTy).Contents (Elt F))) k (Shape.Idx.first h_S_)).toInt) sliceFits_S1024x4x512_S1x4x512
def b3 (j : ℕ) (s : State F) : (⟨S4x512, .f32⟩ : BufTy).Contents (Elt F) :=
  shapeCast S4x512 ((b2 j s)) shapeCasts_S1x4x512_S4x512
def b4 (j : ℕ) (s : State F) : (⟨S_, .i32⟩ : BufTy).Contents (Elt F) :=
  constantI S_ 32 0#32
def b5 (j : ℕ) (s : State F) : (⟨S_, .i32⟩ : BufTy).Contents (Elt F) :=
  constantI S_ 32 0#32
def b6 (j : ℕ) (s : State F) : (⟨S1x4x512, .f32⟩ : BufTy).Contents (Elt F) :=
  Host.dynamicSlice S1x4x512 (s.main_v5_1) (fun k => (((![(constantI S_ 32 (BitVec.ofNat 32 j) : (⟨S_, .i32⟩ : BufTy).Contents (Elt F)), (b4 j s), (b5 j s)] : Fin 3 → (⟨S_, .i32⟩ : BufTy).Contents (Elt F))) k (Shape.Idx.first h_S_)).toInt) sliceFits_S1024x4x512_S1x4x512
def b7 (j : ℕ) (s : State F) : (⟨S4x512, .f32⟩ : BufTy).Contents (Elt F) :=
  shapeCast S4x512 ((b6 j s)) shapeCasts_S1x4x512_S4x512
def b8 (j : ℕ) (s : State F) : (⟨S1, .i32⟩ : BufTy).Contents (Elt F) :=
  Host.dynamicSlice S1 ((K_main_v1 (F := F))) (fun k => (((![(constantI S_ 32 (BitVec.ofNat 32 j) : (⟨S_, .i32⟩ : BufTy).Contents (Elt F))] : Fin 1 → (⟨S_, .i32⟩ : BufTy).Contents (Elt F))) k (Shape.Idx.first h_S_)).toInt) sliceFits_S1024_S1
def b9 (j : ℕ) (s : State F) : (⟨S_, .i32⟩ : BufTy).Contents (Elt F) :=
  shapeCast S_ ((b8 j s)) shapeCasts_S1_S_
def b10 (j : ℕ) (s : State F) : (⟨S4x16, .f32⟩ : BufTy).Contents (Elt F) :=
  Host.dotGeneral dot_S4x16x512_S4x512_S4x16_2_1_1_n_0_0 none (s.main_v5_8) ((b7 j s))
def b11 (j : ℕ) (s : State F) : (⟨S_, .f32⟩ : BufTy).Contents (Elt F) :=
  constant S_ .f32 0xFF800000#32
def b12 (j : ℕ) (s : State F) : (⟨S4, .f32⟩ : BufTy).Contents (Elt F) :=
  Host.reduce FloatOps.maximumf ((b10 j s)) ((b11 j s)) reducesTo_S4x16_S4_d1 h_S_
def b13 (j : ℕ) (s : State F) : (⟨S_, .f32⟩ : BufTy).Contents (Elt F) :=
  constant S_ .f32 0xFF800000#32
def b14 (j : ℕ) (s : State F) : (⟨S4, .f32⟩ : BufTy).Contents (Elt F) :=
  broadcastInDim S4 ![] bcast_S_S4 ((b13 j s))
def b15 (j : ℕ) (s : State F) : (⟨S4, .f32⟩ : BufTy).Contents (Elt F) :=
  maximumf ((b14 j s)) ((b12 j s))
def b16 (j : ℕ) (s : State F) : (⟨S4x1, .f32⟩ : BufTy).Contents (Elt F) :=
  broadcastInDim S4x1 ![0] bcast_S4_S4x1_0 ((b15 j s))
def b17 (j : ℕ) (s : State F) : (⟨S4x16, .f32⟩ : BufTy).Contents (Elt F) :=
  broadcastInDim S4x16 ![0, 1] bcast_S4x1_S4x16_0_1 ((b16 j s))
def b18 (j : ℕ) (s : State F) : (⟨S4x16, .f32⟩ : BufTy).Contents (Elt F) :=
  subf ((b10 j s)) ((b17 j s))
def b19 (j : ℕ) (s : State F) : (⟨S4x16, .f32⟩ : BufTy).Contents (Elt F) :=
  Host.exp ((b18 j s))
def b20 (j : ℕ) (s : State F) : (⟨S_, .f32⟩ : BufTy).Contents (Elt F) :=
  constant S_ .f32 0x00000000#32
def b21 (j : ℕ) (s : State F) : (⟨S4, .f32⟩ : BufTy).Contents (Elt F) :=
  Host.reduceAdd ((b19 j s)) ((b20 j s)) reducesTo_S4x16_S4_d1 h_S_
def b22 (j : ℕ) (s : State F) : (⟨S4x1, .f32⟩ : BufTy).Contents (Elt F) :=
  broadcastInDim S4x1 ![0] bcast_S4_S4x1_0 ((b21 j s))
def b23 (j : ℕ) (s : State F) : (⟨S4x16, .f32⟩ : BufTy).Contents (Elt F) :=
  broadcastInDim S4x16 ![0, 1] bcast_S4x1_S4x16_0_1 ((b22 j s))
def b24 (j : ℕ) (s : State F) : (⟨S4x16, .f32⟩ : BufTy).Contents (Elt F) :=
  Host.divf ((b19 j s)) ((b23 j s))
def b25 (j : ℕ) (s : State F) : (⟨S4x512, .f32⟩ : BufTy).Contents (Elt F) :=
  Host.dotGeneral dot_S4x16_S4x16x512_S4x512_1_1_n_2_0_0 none ((b24 j s)) (s.main_v5_8)
def b26 (j : ℕ) (s : State F) : (⟨S4x512, .f32⟩ : BufTy).Contents (Elt F) :=
  Host.dotGeneral dot_S4x512_S512x512_S4x512_1_0_0_1_n_n none ((b25 j s)) (s.main_v5_3)
def b27 (j : ℕ) (s : State F) : (⟨S4x512, .f32⟩ : BufTy).Contents (Elt F) :=
  addf ((b3 j s)) ((b26 j s))
def b28 (j : ℕ) (s : State F) : (⟨S512, .f32⟩ : BufTy).Contents (Elt F) :=
  shapeCast S512 (s.main_v5_4) shapeCasts_S1x512_S512
def b29 (j : ℕ) (s : State F) : (⟨S512, .f32⟩ : BufTy).Contents (Elt F) :=
  shapeCast S512 (s.main_v5_5) shapeCasts_S1x512_S512
def b30 (j : ℕ) (s : State F) : (⟨S_, .f32⟩ : BufTy).Contents (Elt F) :=
  constant S_ .f32 0x00000000#32
def b31 (j : ℕ) (s : State F) : (⟨S4, .f32⟩ : BufTy).Contents (Elt F) :=
  Host.reduceAdd ((b27 j s)) ((b30 j s)) reducesTo_S4x512_S4_d1 h_S_
def b32 (j : ℕ) (s : State F) : (⟨S4x1, .f32⟩ : BufTy).Contents (Elt F) :=
  broadcastInDim S4x1 ![0] bcast_S4_S4x1_0 ((b31 j s))
def b33 (j : ℕ) (s : State F) : (⟨S_, .f32⟩ : BufTy).Contents (Elt F) :=
  constant S_ .f32 0x44000000#32
def b34 (j : ℕ) (s : State F) : (⟨S4x1, .f32⟩ : BufTy).Contents (Elt F) :=
  broadcastInDim S4x1 ![] bcast_S_S4x1 ((b33 j s))
def b35 (j : ℕ) (s : State F) : (⟨S4x1, .f32⟩ : BufTy).Contents (Elt F) :=
  Host.divf ((b32 j s)) ((b34 j s))
def b36 (j : ℕ) (s : State F) : (⟨S4x512, .f32⟩ : BufTy).Contents (Elt F) :=
  broadcastInDim S4x512 ![0, 1] bcast_S4x1_S4x512_0_1 ((b35 j s))
def b37 (j : ℕ) (s : State F) : (⟨S4x512, .f32⟩ : BufTy).Contents (Elt F) :=
  subf ((b27 j s)) ((b36 j s))
def b38 (j : ℕ) (s : State F) : (⟨S4x512, .f32⟩ : BufTy).Contents (Elt F) :=
  mulf ((b37 j s)) ((b37 j s))
def b39 (j : ℕ) (s : State F) : (⟨S_, .f32⟩ : BufTy).Contents (Elt F) :=
  constant S_ .f32 0x00000000#32
def b40 (j : ℕ) (s : State F) : (⟨S4, .f32⟩ : BufTy).Contents (Elt F) :=
  Host.reduceAdd ((b38 j s)) ((b39 j s)) reducesTo_S4x512_S4_d1 h_S_
def b41 (j : ℕ) (s : State F) : (⟨S4x1, .f32⟩ : BufTy).Contents (Elt F) :=
  broadcastInDim S4x1 ![0] bcast_S4_S4x1_0 ((b40 j s))
def b42 (j : ℕ) (s : State F) : (⟨S_, .f32⟩ : BufTy).Contents (Elt F) :=
  constant S_ .f32 0x44000000#32
def b43 (j : ℕ) (s : State F) : (⟨S4x1, .f32⟩ : BufTy).Contents (Elt F) :=
  broadcastInDim S4x1 ![] bcast_S_S4x1 ((b42 j s))
def b44 (j : ℕ) (s : State F) : (⟨S4x1, .f32⟩ : BufTy).Contents (Elt F) :=
  Host.divf ((b41 j s)) ((b43 j s))
def b45 (j : ℕ) (s : State F) : (⟨S4x512, .f32⟩ : BufTy).Contents (Elt F) :=
  broadcastInDim S4x512 ![0, 1] bcast_S4x1_S4x512_0_1 ((b35 j s))
def b46 (j : ℕ) (s : State F) : (⟨S4x512, .f32⟩ : BufTy).Contents (Elt F) :=
  subf ((b27 j s)) ((b45 j s))
def b47 (j : ℕ) (s : State F) : (⟨S_, .f32⟩ : BufTy).Contents (Elt F) :=
  constant S_ .f32 0x3727C5AC#32
def b48 (j : ℕ) (s : State F) : (⟨S4x1, .f32⟩ : BufTy).Contents (Elt F) :=
  broadcastInDim S4x1 ![] bcast_S_S4x1 ((b47 j s))
def b49 (j : ℕ) (s : State F) : (⟨S4x1, .f32⟩ : BufTy).Contents (Elt F) :=
  addf ((b44 j s)) ((b48 j s))
def b50 (j : ℕ) (s : State F) : (⟨S4x1, .f32⟩ : BufTy).Contents (Elt F) :=
  Host.sqrt ((b49 j s))
def b51 (j : ℕ) (s : State F) : (⟨S4x512, .f32⟩ : BufTy).Contents (Elt F) :=
  broadcastInDim S4x512 ![0, 1] bcast_S4x1_S4x512_0_1 ((b50 j s))
def b52 (j : ℕ) (s : State F) : (⟨S4x512, .f32⟩ : BufTy).Contents (Elt F) :=
  Host.divf ((b46 j s)) ((b51 j s))
def b53 (j : ℕ) (s : State F) : (⟨S1x512, .f32⟩ : BufTy).Contents (Elt F) :=
  broadcastInDim S1x512 ![1] bcast_S512_S1x512_1 ((b28 j s))
def b54 (j : ℕ) (s : State F) : (⟨S4x512, .f32⟩ : BufTy).Contents (Elt F) :=
  broadcastInDim S4x512 ![0, 1] bcast_S1x512_S4x512_0_1 ((b53 j s))
def b55 (j : ℕ) (s : State F) : (⟨S4x512, .f32⟩ : BufTy).Contents (Elt F) :=
  mulf ((b52 j s)) ((b54 j s))
def b56 (j : ℕ) (s : State F) : (⟨S1x512, .f32⟩ : BufTy).Contents (Elt F) :=
  broadcastInDim S1x512 ![1] bcast_S512_S1x512_1 ((b29 j s))
def b57 (j : ℕ) (s : State F) : (⟨S4x512, .f32⟩ : BufTy).Contents (Elt F) :=
  broadcastInDim S4x512 ![0, 1] bcast_S1x512_S4x512_0_1 ((b56 j s))
def b58 (j : ℕ) (s : State F) : (⟨S4x512, .f32⟩ : BufTy).Contents (Elt F) :=
  addf ((b55 j s)) ((b57 j s))
def b59 (j : ℕ) (s : State F) : (⟨S4x512, .f32⟩ : BufTy).Contents (Elt F) :=
  Host.dotGeneral dot_S4x512_S512x512_S4x512_1_0_0_1_n_n none ((b58 j s)) (s.main_v5_6)
def b60 (j : ℕ) (s : State F) : (⟨S_, .i32⟩ : BufTy).Contents (Elt F) :=
  constantI S_ 32 16#32
def b61 (j : ℕ) (s : State F) : (⟨S_, .i32⟩ : BufTy).Contents (Elt F) :=
  Host.remsi ((b9 j s)) ((b60 j s))
def b62 (j : ℕ) (s : State F) : (⟨S_, .i32⟩ : BufTy).Contents (Elt F) :=
  constantI S_ 32 0#32
def b63 (j : ℕ) (s : State F) : (⟨S_, .i1⟩ : BufTy).Contents (Elt F) :=
  cmpi .slt ((b61 j s)) ((b62 j s))
def b64 (j : ℕ) (s : State F) : (⟨S_, .i32⟩ : BufTy).Contents (Elt F) :=
  constantI S_ 32 16#32
def b65 (j : ℕ) (s : State F) : (⟨S_, .i32⟩ : BufTy).Contents (Elt F) :=
  addi ((b61 j s)) ((b64 j s))
def b66 (j : ℕ) (s : State F) : (⟨S_, .i32⟩ : BufTy).Contents (Elt F) :=
  select ((b63 j s)) ((b65 j s)) ((b61 j s))
def b67 (j : ℕ) (s : State F) : (⟨S1, .i32⟩ : BufTy).Contents (Elt F) :=
  broadcastInDim S1 ![] bcast_S_S1 ((b66 j s))
def b68 (j : ℕ) (s : State F) : (⟨S4x16x512, .f32⟩ : BufTy).Contents (Elt F) :=
  Host.scatter scatter_S4x16x512_S1_S4x512_01_1_1_0 (fun _ b => b) (s.main_v5_8) ((b67 j s)) ((b59 j s))
def b69 (j : ℕ) (s : State F) : (⟨S1x4x512, .f32⟩ : BufTy).Contents (Elt F) :=
  broadcastInDim S1x4x512 ![1, 2] bcast_S4x512_S1x4x512_1_2 ((b58 j s))
def b70 (j : ℕ) (s : State F) : (⟨S_, .i32⟩ : BufTy).Contents (Elt F) :=
  constantI S_ 32 0#32
def b71 (j : ℕ) (s : State F) : (⟨S_, .i32⟩ : BufTy).Contents (Elt F) :=
  constantI S_ 32 0#32
def b72 (j : ℕ) (s : State F) : (⟨S1024x4x512, .f32⟩ : BufTy).Contents (Elt F) :=
  Host.dynamicUpdateSlice (s.main_v5_9) ((b69 j s)) (fun k => (((![(constantI S_ 32 (BitVec.ofNat 32 j) : (⟨S_, .i32⟩ : BufTy).Contents (Elt F)), (b70 j s), (b71 j s)] : Fin 3 → (⟨S_, .i32⟩ : BufTy).Contents (Elt F))) k (Shape.Idx.first h_S_)).toInt) updateFits_S1024x4x512_S1x4x512
def b73 (j : ℕ) (s : State F) : (⟨S1x4x512, .f32⟩ : BufTy).Contents (Elt F) :=
  broadcastInDim S1x4x512 ![1, 2] bcast_S4x512_S1x4x512_1_2 ((b59 j s))
def b74 (j : ℕ) (s : State F) : (⟨S_, .i32⟩ : BufTy).Contents (Elt F) :=
  constantI S_ 32 0#32
def b75 (j : ℕ) (s : State F) : (⟨S_, .i32⟩ : BufTy).Contents (Elt F) :=
  constantI S_ 32 0#32
def b76 (j : ℕ) (s : State F) : (⟨S1024x4x512, .f32⟩ : BufTy).Contents (Elt F) :=
  Host.dynamicUpdateSlice (s.main_v5_10) ((b73 j s)) (fun k => (((![(constantI S_ 32 (BitVec.ofNat 32 j) : (⟨S_, .i32⟩ : BufTy).Contents (Elt F)), (b74 j s), (b75 j s)] : Fin 3 → (⟨S_, .i32⟩ : BufTy).Contents (Elt F))) k (Shape.Idx.first h_S_)).toInt) updateFits_S1024x4x512_S1x4x512

/-- The state @main hands the first trip, of the arguments it copies in. -/
def init (main_arg0 : (⟨S1024x4x512, .f32⟩ : BufTy).Contents (Elt F)) (main_arg1 : (⟨S1024x4x512, .f32⟩ : BufTy).Contents (Elt F)) (main_arg2 : (⟨S512x512, .f32⟩ : BufTy).Contents (Elt F)) (main_arg4 : (⟨S1x512, .f32⟩ : BufTy).Contents (Elt F)) (main_arg5 : (⟨S1x512, .f32⟩ : BufTy).Contents (Elt F)) (main_arg3 : (⟨S512x512, .f32⟩ : BufTy).Contents (Elt F)) : State F :=
  { main_v5_8 := K_main_v2 (F := F), main_v5_9 := K_main_v3 (F := F), main_v5_10 := K_main_v4 (F := F), main_v5_0 := main_arg0, main_v5_1 := main_arg1, main_v5_3 := main_arg2, main_v5_4 := main_arg4, main_v5_5 := main_arg5, main_v5_6 := main_arg3 }

/-- One trip. -/
def step (j : ℕ) (s : State F) : State F :=
  { main_v5_8 := b68 j s, main_v5_9 := b72 j s, main_v5_10 := b76 j s, main_v5_0 := s.main_v5_0, main_v5_1 := s.main_v5_1, main_v5_3 := s.main_v5_3, main_v5_4 := s.main_v5_4, main_v5_5 := s.main_v5_5, main_v5_6 := s.main_v5_6 }
theorem step_main_v5_8 (j : ℕ) (s : State F) : (step j s).main_v5_8 = b68 j s := by simp only [step]
theorem step_main_v5_9 (j : ℕ) (s : State F) : (step j s).main_v5_9 = b72 j s := by simp only [step]
theorem step_main_v5_10 (j : ℕ) (s : State F) : (step j s).main_v5_10 = b76 j s := by simp only [step]

/-- `main_v10`, which the operations after the loop make, of the loop's last state. -/
def R_main_v10 (s : State F) : (⟨S1040x4x512, .f32⟩ : BufTy).Contents (Elt F) :=
  transpose S1040x4x512 [1, 0, 2] (concatenate S4x1040x512 1 [⟨S4x16x512, (broadcastInDim S4x16x512 ![1, 2] bcast_S16x512_S4x16x512_1_2 (broadcastInDim S16x512 ![] bcast_S_S16x512 (constant S_ .f32 0x00000000#32)))⟩, ⟨S4x1024x512, (transpose S4x1024x512 [1, 0, 2] (s.main_v5_10) transposes_S1024x4x512_S4x1024x512_1_0_2)⟩] concatenates_S4x16x512_S4x1024x512_S4x1040x512_d1) transposes_S4x1040x512_S1040x4x512_1_0_2

end Cert.ScanReferenceIdeal.Step

end
-- ==== Proof.ScanStepRun.lean ====
/- The scan reference's run stated over the step of its loop: at a valuation that holds a state every value of one trip is
   the step's, one lemma each; so the run's results are the fields of the step iterated. -/
module

public import proofs.«01_k».proof.Proof.Gen.ScanReferenceIdeal.Run
public import proofs.«01_k».proof.Proof.ScanStep

@[expose] public section

noncomputable section

namespace Cert.ScanReferenceIdeal.StepRun

open Idealize.ShloMosaic Idealize.ShloMosaic.TcCoe Idealize.SL.Sem Idealize.ShloMosaic.StableHlo
open Cert.ScanReferenceIdeal Cert.ScanReferenceIdeal.Gen Cert.ScanReferenceIdeal.Value
open Cert.ScanReferenceIdeal.Step (State step init)

variable {F : FTy → Type} [FloatOps F]

variable (V0 : Valuation τ sig (Elt F)) (s : State F) (j : ℕ)

/-- The valuation holds the state, the set-up values and the trip's number. -/
structure Holds : Prop where
  f_8 : V0 (Proc.devRef .tc main_v5_8) = s.main_v5_8
  f_9 : V0 (Proc.devRef .tc main_v5_9) = s.main_v5_9
  f_10 : V0 (Proc.devRef .tc main_v5_10) = s.main_v5_10
  f_0 : V0 (Proc.devRef .tc main_v5_0) = s.main_v5_0
  f_1 : V0 (Proc.devRef .tc main_v5_1) = s.main_v5_1
  f_3 : V0 (Proc.devRef .tc main_v5_3) = s.main_v5_3
  f_4 : V0 (Proc.devRef .tc main_v5_4) = s.main_v5_4
  f_5 : V0 (Proc.devRef .tc main_v5_5) = s.main_v5_5
  f_6 : V0 (Proc.devRef .tc main_v5_6) = s.main_v5_6
  n_7 : V0 (Proc.devRef .tc main_v5_7) = constantI S_ 32 (BitVec.ofNat 32 j)
  k_2 : V0 (Proc.devRef .tc main_v5_2) = Cert.ScanReferenceIdeal.Step.K_main_v1 (F := F)

variable {V0 s j}

set_option maxRecDepth 8192 in
theorem al_0 (h : Holds V0 s j) : (constantI S_ 32 0#32 : (Proc.devRef .tc main_while0b_call0_c : DevRef τ sig).ty.Contents (Elt F)) = Cert.ScanReferenceIdeal.Step.b0 j s := by
  unfold Cert.ScanReferenceIdeal.Step.b0
  rfl
set_option maxRecDepth 8192 in
theorem al_1 (h : Holds V0 s j) : (constantI S_ 32 0#32 : (Proc.devRef .tc main_while0b_call0_c_0 : DevRef τ sig).ty.Contents (Elt F)) = Cert.ScanReferenceIdeal.Step.b1 j s := by
  unfold Cert.ScanReferenceIdeal.Step.b1
  rfl
set_option maxRecDepth 8192 in
theorem al_2 (h : Holds V0 s j) : (Host.dynamicSlice S1x4x512 (V0 (Proc.devRef .tc main_v5_0)) (fun k => (((![V0 (Proc.devRef .tc main_v5_7), constantI S_ 32 0#32, constantI S_ 32 0#32] : Fin 3 → (⟨S_, .i32⟩ : BufTy).Contents (Elt F))) k (Shape.Idx.first h_S_)).toInt) sliceFits_S1024x4x512_S1x4x512 : (Proc.devRef .tc main_while0b_call0_v0 : DevRef τ sig).ty.Contents (Elt F)) = Cert.ScanReferenceIdeal.Step.b2 j s := by
  unfold Cert.ScanReferenceIdeal.Step.b2
  rw [← al_0 h, ← al_1 h, h.f_0, h.n_7]
  try rfl
set_option maxRecDepth 8192 in
theorem al_3 (h : Holds V0 s j) : (shapeCast S4x512 (Host.dynamicSlice S1x4x512 (V0 (Proc.devRef .tc main_v5_0)) (fun k => (((![V0 (Proc.devRef .tc main_v5_7), constantI S_ 32 0#32, constantI S_ 32 0#32] : Fin 3 → (⟨S_, .i32⟩ : BufTy).Contents (Elt F))) k (Shape.Idx.first h_S_)).toInt) sliceFits_S1024x4x512_S1x4x512) shapeCasts_S1x4x512_S4x512 : (Proc.devRef .tc main_while0b_v11 : DevRef τ sig).ty.Contents (Elt F)) = Cert.ScanReferenceIdeal.Step.b3 j s := by
  unfold Cert.ScanReferenceIdeal.Step.b3
  rw [← al_2 h]
  try rfl
set_option maxRecDepth 8192 in
theorem al_4 (h : Holds V0 s j) : (constantI S_ 32 0#32 : (Proc.devRef .tc main_while0b_call1_c : DevRef τ sig).ty.Contents (Elt F)) = Cert.ScanReferenceIdeal.Step.b4 j s := by
  unfold Cert.ScanReferenceIdeal.Step.b4
  rfl
set_option maxRecDepth 8192 in
theorem al_5 (h : Holds V0 s j) : (constantI S_ 32 0#32 : (Proc.devRef .tc main_while0b_call1_c_0 : DevRef τ sig).ty.Contents (Elt F)) = Cert.ScanReferenceIdeal.Step.b5 j s := by
  unfold Cert.ScanReferenceIdeal.Step.b5
  rfl
set_option maxRecDepth 8192 in
theorem al_6 (h : Holds V0 s j) : (Host.dynamicSlice S1x4x512 (V0 (Proc.devRef .tc main_v5_1)) (fun k => (((![V0 (Proc.devRef .tc main_v5_7), constantI S_ 32 0#32, constantI S_ 32 0#32] : Fin 3 → (⟨S_, .i32⟩ : BufTy).Contents (Elt F))) k (Shape.Idx.first h_S_)).toInt) sliceFits_S1024x4x512_S1x4x512 : (Proc.devRef .tc main_while0b_call1_v0 : DevRef τ sig).ty.Contents (Elt F)) = Cert.ScanReferenceIdeal.Step.b6 j s := by
  unfold Cert.ScanReferenceIdeal.Step.b6
  rw [← al_4 h, ← al_5 h, h.f_1, h.n_7]
  try rfl
set_option maxRecDepth 8192 in
theorem al_7 (h : Holds V0 s j) : (shapeCast S4x512 (Host.dynamicSlice S1x4x512 (V0 (Proc.devRef .tc main_v5_1)) (fun k => (((![V0 (Proc.devRef .tc main_v5_7), constantI S_ 32 0#32, constantI S_ 32 0#32] : Fin 3 → (⟨S_, .i32⟩ : BufTy).Contents (Elt F))) k (Shape.Idx.first h_S_)).toInt) sliceFits_S1024x4x512_S1x4x512) shapeCasts_S1x4x512_S4x512 : (Proc.devRef .tc main_while0b_v12 : DevRef τ sig).ty.Contents (Elt F)) = Cert.ScanReferenceIdeal.Step.b7 j s := by
  unfold Cert.ScanReferenceIdeal.Step.b7
  rw [← al_6 h]
  try rfl
set_option maxRecDepth 8192 in
theorem al_8 (h : Holds V0 s j) : (Host.dynamicSlice S1 (V0 (Proc.devRef .tc main_v5_2)) (fun k => (((![V0 (Proc.devRef .tc main_v5_7)] : Fin 1 → (⟨S_, .i32⟩ : BufTy).Contents (Elt F))) k (Shape.Idx.first h_S_)).toInt) sliceFits_S1024_S1 : (Proc.devRef .tc main_while0b_call2_v0 : DevRef τ sig).ty.Contents (Elt F)) = Cert.ScanReferenceIdeal.Step.b8 j s := by
  unfold Cert.ScanReferenceIdeal.Step.b8
  rw [h.k_2, h.n_7]
  try rfl
set_option maxRecDepth 8192 in
theorem al_9 (h : Holds V0 s j) : (shapeCast S_ (Host.dynamicSlice S1 (V0 (Proc.devRef .tc main_v5_2)) (fun k => (((![V0 (Proc.devRef .tc main_v5_7)] : Fin 1 → (⟨S_, .i32⟩ : BufTy).Contents (Elt F))) k (Shape.Idx.first h_S_)).toInt) sliceFits_S1024_S1) shapeCasts_S1_S_ : (Proc.devRef .tc main_while0b_v13 : DevRef τ sig).ty.Contents (Elt F)) = Cert.ScanReferenceIdeal.Step.b9 j s := by
  unfold Cert.ScanReferenceIdeal.Step.b9
  rw [← al_8 h]
  try rfl
set_option maxRecDepth 8192 in
theorem al_10 (h : Holds V0 s j) : (res_main_while0b_v14 V0 : (Proc.devRef .tc main_while0b_v14 : DevRef τ sig).ty.Contents (Elt F)) = Cert.ScanReferenceIdeal.Step.b10 j s := by
  unfold res_main_while0b_v14 Cert.ScanReferenceIdeal.Step.b10
  rw [← al_7 h, h.f_8]
  try rfl
set_option maxRecDepth 8192 in
theorem al_11 (h : Holds V0 s j) : (constant S_ .f32 0xFF800000#32 : (Proc.devRef .tc main_while0b_cst_13 : DevRef τ sig).ty.Contents (Elt F)) = Cert.ScanReferenceIdeal.Step.b11 j s := by
  unfold Cert.ScanReferenceIdeal.Step.b11
  rfl
set_option maxRecDepth 8192 in
theorem al_12 (h : Holds V0 s j) : (Host.reduce FloatOps.maximumf (res_main_while0b_v14 V0) (constant S_ .f32 0xFF800000#32) reducesTo_S4x16_S4_d1 h_S_ : (Proc.devRef .tc main_while0b_v15 : DevRef τ sig).ty.Contents (Elt F)) = Cert.ScanReferenceIdeal.Step.b12 j s := by
  unfold Cert.ScanReferenceIdeal.Step.b12
  rw [← al_10 h, ← al_11 h]
  try rfl
set_option maxRecDepth 8192 in
theorem al_13 (h : Holds V0 s j) : (constant S_ .f32 0xFF800000#32 : (Proc.devRef .tc main_while0b_cst_14 : DevRef τ sig).ty.Contents (Elt F)) = Cert.ScanReferenceIdeal.Step.b13 j s := by
  unfold Cert.ScanReferenceIdeal.Step.b13
  rfl
set_option maxRecDepth 8192 in
theorem al_14 (h : Holds V0 s j) : (broadcastInDim S4 ![] bcast_S_S4 (constant S_ .f32 0xFF800000#32) : (Proc.devRef .tc main_while0b_v16 : DevRef τ sig).ty.Contents (Elt F)) = Cert.ScanReferenceIdeal.Step.b14 j s := by
  unfold Cert.ScanReferenceIdeal.Step.b14
  rw [← al_13 h]
  try rfl
set_option maxRecDepth 8192 in
theorem al_15 (h : Holds V0 s j) : (maximumf (broadcastInDim S4 ![] bcast_S_S4 (constant S_ .f32 0xFF800000#32)) (Host.reduce FloatOps.maximumf (res_main_while0b_v14 V0) (constant S_ .f32 0xFF800000#32) reducesTo_S4x16_S4_d1 h_S_) : (Proc.devRef .tc main_while0b_v17 : DevRef τ sig).ty.Contents (Elt F)) = Cert.ScanReferenceIdeal.Step.b15 j s := by
  unfold Cert.ScanReferenceIdeal.Step.b15
  rw [← al_14 h, ← al_12 h]
  try rfl
set_option maxRecDepth 8192 in
theorem al_16 (h : Holds V0 s j) : (broadcastInDim S4x1 ![0] bcast_S4_S4x1_0 (maximumf (broadcastInDim S4 ![] bcast_S_S4 (constant S_ .f32 0xFF800000#32)) (Host.reduce FloatOps.maximumf (res_main_while0b_v14 V0) (constant S_ .f32 0xFF800000#32) reducesTo_S4x16_S4_d1 h_S_)) : (Proc.devRef .tc main_while0b_v18 : DevRef τ sig).ty.Contents (Elt F)) = Cert.ScanReferenceIdeal.Step.b16 j s := by
  unfold Cert.ScanReferenceIdeal.Step.b16
  rw [← al_15 h]
  try rfl
set_option maxRecDepth 8192 in
theorem al_17 (h : Holds V0 s j) : (broadcastInDim S4x16 ![0, 1] bcast_S4x1_S4x16_0_1 (broadcastInDim S4x1 ![0] bcast_S4_S4x1_0 (maximumf (broadcastInDim S4 ![] bcast_S_S4 (constant S_ .f32 0xFF800000#32)) (Host.reduce FloatOps.maximumf (res_main_while0b_v14 V0) (constant S_ .f32 0xFF800000#32) reducesTo_S4x16_S4_d1 h_S_))) : (Proc.devRef .tc main_while0b_v19 : DevRef τ sig).ty.Contents (Elt F)) = Cert.ScanReferenceIdeal.Step.b17 j s := by
  unfold Cert.ScanReferenceIdeal.Step.b17
  rw [← al_16 h]
  try rfl
set_option maxRecDepth 8192 in
theorem al_18 (h : Holds V0 s j) : (subf (res_main_while0b_v14 V0) (broadcastInDim S4x16 ![0, 1] bcast_S4x1_S4x16_0_1 (broadcastInDim S4x1 ![0] bcast_S4_S4x1_0 (maximumf (broadcastInDim S4 ![] bcast_S_S4 (constant S_ .f32 0xFF800000#32)) (Host.reduce FloatOps.maximumf (res_main_while0b_v14 V0) (constant S_ .f32 0xFF800000#32) reducesTo_S4x16_S4_d1 h_S_)))) : (Proc.devRef .tc main_while0b_v20 : DevRef τ sig).ty.Contents (Elt F)) = Cert.ScanReferenceIdeal.Step.b18 j s := by
  unfold Cert.ScanReferenceIdeal.Step.b18
  rw [← al_10 h, ← al_17 h]
  try rfl
set_option maxRecDepth 8192 in
theorem al_19 (h : Holds V0 s j) : (res_main_while0b_v21 V0 : (Proc.devRef .tc main_while0b_v21 : DevRef τ sig).ty.Contents (Elt F)) = Cert.ScanReferenceIdeal.Step.b19 j s := by
  unfold res_main_while0b_v21 Cert.ScanReferenceIdeal.Step.b19
  rw [← al_18 h]
  try rfl
set_option maxRecDepth 8192 in
theorem al_20 (h : Holds V0 s j) : (constant S_ .f32 0x00000000#32 : (Proc.devRef .tc main_while0b_cst_15 : DevRef τ sig).ty.Contents (Elt F)) = Cert.ScanReferenceIdeal.Step.b20 j s := by
  unfold Cert.ScanReferenceIdeal.Step.b20
  rfl
set_option maxRecDepth 8192 in
theorem al_21 (h : Holds V0 s j) : (Host.reduceAdd (res_main_while0b_v21 V0) (constant S_ .f32 0x00000000#32) reducesTo_S4x16_S4_d1 h_S_ : (Proc.devRef .tc main_while0b_v22 : DevRef τ sig).ty.Contents (Elt F)) = Cert.ScanReferenceIdeal.Step.b21 j s := by
  unfold Cert.ScanReferenceIdeal.Step.b21
  rw [← al_19 h, ← al_20 h]
  try rfl
set_option maxRecDepth 8192 in
theorem al_22 (h : Holds V0 s j) : (broadcastInDim S4x1 ![0] bcast_S4_S4x1_0 (Host.reduceAdd (res_main_while0b_v21 V0) (constant S_ .f32 0x00000000#32) reducesTo_S4x16_S4_d1 h_S_) : (Proc.devRef .tc main_while0b_v23 : DevRef τ sig).ty.Contents (Elt F)) = Cert.ScanReferenceIdeal.Step.b22 j s := by
  unfold Cert.ScanReferenceIdeal.Step.b22
  rw [← al_21 h]
  try rfl
set_option maxRecDepth 8192 in
theorem al_23 (h : Holds V0 s j) : (broadcastInDim S4x16 ![0, 1] bcast_S4x1_S4x16_0_1 (broadcastInDim S4x1 ![0] bcast_S4_S4x1_0 (Host.reduceAdd (res_main_while0b_v21 V0) (constant S_ .f32 0x00000000#32) reducesTo_S4x16_S4_d1 h_S_)) : (Proc.devRef .tc main_while0b_v24 : DevRef τ sig).ty.Contents (Elt F)) = Cert.ScanReferenceIdeal.Step.b23 j s := by
  unfold Cert.ScanReferenceIdeal.Step.b23
  rw [← al_22 h]
  try rfl
set_option maxRecDepth 8192 in
theorem al_24 (h : Holds V0 s j) : (Host.divf (res_main_while0b_v21 V0) (broadcastInDim S4x16 ![0, 1] bcast_S4x1_S4x16_0_1 (broadcastInDim S4x1 ![0] bcast_S4_S4x1_0 (Host.reduceAdd (res_main_while0b_v21 V0) (constant S_ .f32 0x00000000#32) reducesTo_S4x16_S4_d1 h_S_))) : (Proc.devRef .tc main_while0b_v25 : DevRef τ sig).ty.Contents (Elt F)) = Cert.ScanReferenceIdeal.Step.b24 j s := by
  unfold Cert.ScanReferenceIdeal.Step.b24
  rw [← al_19 h, ← al_23 h]
  try rfl
set_option maxRecDepth 8192 in
theorem al_25 (h : Holds V0 s j) : (Host.dotGeneral dot_S4x16_S4x16x512_S4x512_1_1_n_2_0_0 none (Host.divf (res_main_while0b_v21 V0) (broadcastInDim S4x16 ![0, 1] bcast_S4x1_S4x16_0_1 (broadcastInDim S4x1 ![0] bcast_S4_S4x1_0 (Host.reduceAdd (res_main_while0b_v21 V0) (constant S_ .f32 0x00000000#32) reducesTo_S4x16_S4_d1 h_S_)))) (V0 (Proc.devRef .tc main_v5_8)) : (Proc.devRef .tc main_while0b_v26 : DevRef τ sig).ty.Contents (Elt F)) = Cert.ScanReferenceIdeal.Step.b25 j s := by
  unfold Cert.ScanReferenceIdeal.Step.b25
  rw [← al_24 h, h.f_8]
  try rfl
set_option maxRecDepth 8192 in
theorem al_26 (h : Holds V0 s j) : (Host.dotGeneral dot_S4x512_S512x512_S4x512_1_0_0_1_n_n none (Host.dotGeneral dot_S4x16_S4x16x512_S4x512_1_1_n_2_0_0 none (Host.divf (res_main_while0b_v21 V0) (broadcastInDim S4x16 ![0, 1] bcast_S4x1_S4x16_0_1 (broadcastInDim S4x1 ![0] bcast_S4_S4x1_0 (Host.reduceAdd (res_main_while0b_v21 V0) (constant S_ .f32 0x00000000#32) reducesTo_S4x16_S4_d1 h_S_)))) (V0 (Proc.devRef .tc main_v5_8))) (V0 (Proc.devRef .tc main_v5_3)) : (Proc.devRef .tc main_while0b_v27 : DevRef τ sig).ty.Contents (Elt F)) = Cert.ScanReferenceIdeal.Step.b26 j s := by
  unfold Cert.ScanReferenceIdeal.Step.b26
  rw [← al_25 h, h.f_3]
  try rfl
set_option maxRecDepth 8192 in
theorem al_27 (h : Holds V0 s j) : (res_main_while0b_v28 V0 : (Proc.devRef .tc main_while0b_v28 : DevRef τ sig).ty.Contents (Elt F)) = Cert.ScanReferenceIdeal.Step.b27 j s := by
  unfold res_main_while0b_v28 Cert.ScanReferenceIdeal.Step.b27
  rw [← al_3 h, ← al_26 h]
  try rfl
set_option maxRecDepth 8192 in
theorem al_28 (h : Holds V0 s j) : (shapeCast S512 (V0 (Proc.devRef .tc main_v5_4)) shapeCasts_S1x512_S512 : (Proc.devRef .tc main_while0b_v29 : DevRef τ sig).ty.Contents (Elt F)) = Cert.ScanReferenceIdeal.Step.b28 j s := by
  unfold Cert.ScanReferenceIdeal.Step.b28
  rw [h.f_4]
  try rfl
set_option maxRecDepth 8192 in
theorem al_29 (h : Holds V0 s j) : (shapeCast S512 (V0 (Proc.devRef .tc main_v5_5)) shapeCasts_S1x512_S512 : (Proc.devRef .tc main_while0b_v30 : DevRef τ sig).ty.Contents (Elt F)) = Cert.ScanReferenceIdeal.Step.b29 j s := by
  unfold Cert.ScanReferenceIdeal.Step.b29
  rw [h.f_5]
  try rfl
set_option maxRecDepth 8192 in
theorem al_30 (h : Holds V0 s j) : (constant S_ .f32 0x00000000#32 : (Proc.devRef .tc main_while0b_cst_16 : DevRef τ sig).ty.Contents (Elt F)) = Cert.ScanReferenceIdeal.Step.b30 j s := by
  unfold Cert.ScanReferenceIdeal.Step.b30
  rfl
set_option maxRecDepth 8192 in
theorem al_31 (h : Holds V0 s j) : (Host.reduceAdd (res_main_while0b_v28 V0) (constant S_ .f32 0x00000000#32) reducesTo_S4x512_S4_d1 h_S_ : (Proc.devRef .tc main_while0b_v31 : DevRef τ sig).ty.Contents (Elt F)) = Cert.ScanReferenceIdeal.Step.b31 j s := by
  unfold Cert.ScanReferenceIdeal.Step.b31
  rw [← al_27 h, ← al_30 h]
  try rfl
set_option maxRecDepth 8192 in
theorem al_32 (h : Holds V0 s j) : (broadcastInDim S4x1 ![0] bcast_S4_S4x1_0 (Host.reduceAdd (res_main_while0b_v28 V0) (constant S_ .f32 0x00000000#32) reducesTo_S4x512_S4_d1 h_S_) : (Proc.devRef .tc main_while0b_v32 : DevRef τ sig).ty.Contents (Elt F)) = Cert.ScanReferenceIdeal.Step.b32 j s := by
  unfold Cert.ScanReferenceIdeal.Step.b32
  rw [← al_31 h]
  try rfl
set_option maxRecDepth 8192 in
theorem al_33 (h : Holds V0 s j) : (constant S_ .f32 0x44000000#32 : (Proc.devRef .tc main_while0b_cst_17 : DevRef τ sig).ty.Contents (Elt F)) = Cert.ScanReferenceIdeal.Step.b33 j s := by
  unfold Cert.ScanReferenceIdeal.Step.b33
  rfl
set_option maxRecDepth 8192 in
theorem al_34 (h : Holds V0 s j) : (broadcastInDim S4x1 ![] bcast_S_S4x1 (constant S_ .f32 0x44000000#32) : (Proc.devRef .tc main_while0b_v33 : DevRef τ sig).ty.Contents (Elt F)) = Cert.ScanReferenceIdeal.Step.b34 j s := by
  unfold Cert.ScanReferenceIdeal.Step.b34
  rw [← al_33 h]
  try rfl
set_option maxRecDepth 8192 in
theorem al_35 (h : Holds V0 s j) : (res_main_while0b_v34 V0 : (Proc.devRef .tc main_while0b_v34 : DevRef τ sig).ty.Contents (Elt F)) = Cert.ScanReferenceIdeal.Step.b35 j s := by
  unfold res_main_while0b_v34 Cert.ScanReferenceIdeal.Step.b35
  rw [← al_32 h, ← al_34 h]
  try rfl
set_option maxRecDepth 8192 in
theorem al_36 (h : Holds V0 s j) : (broadcastInDim S4x512 ![0, 1] bcast_S4x1_S4x512_0_1 (res_main_while0b_v34 V0) : (Proc.devRef .tc main_while0b_v35 : DevRef τ sig).ty.Contents (Elt F)) = Cert.ScanReferenceIdeal.Step.b36 j s := by
  unfold Cert.ScanReferenceIdeal.Step.b36
  rw [← al_35 h]
  try rfl
set_option maxRecDepth 8192 in
theorem al_37 (h : Holds V0 s j) : (res_main_while0b_v36 V0 : (Proc.devRef .tc main_while0b_v36 : DevRef τ sig).ty.Contents (Elt F)) = Cert.ScanReferenceIdeal.Step.b37 j s := by
  unfold res_main_while0b_v36 Cert.ScanReferenceIdeal.Step.b37
  rw [← al_27 h, ← al_36 h]
  try rfl
set_option maxRecDepth 8192 in
theorem al_38 (h : Holds V0 s j) : (mulf (res_main_while0b_v36 V0) (res_main_while0b_v36 V0) : (Proc.devRef .tc main_while0b_v37 : DevRef τ sig).ty.Contents (Elt F)) = Cert.ScanReferenceIdeal.Step.b38 j s := by
  unfold Cert.ScanReferenceIdeal.Step.b38
  rw [← al_37 h]
  try rfl
set_option maxRecDepth 8192 in
theorem al_39 (h : Holds V0 s j) : (constant S_ .f32 0x00000000#32 : (Proc.devRef .tc main_while0b_cst_18 : DevRef τ sig).ty.Contents (Elt F)) = Cert.ScanReferenceIdeal.Step.b39 j s := by
  unfold Cert.ScanReferenceIdeal.Step.b39
  rfl
set_option maxRecDepth 8192 in
theorem al_40 (h : Holds V0 s j) : (Host.reduceAdd (mulf (res_main_while0b_v36 V0) (res_main_while0b_v36 V0)) (constant S_ .f32 0x00000000#32) reducesTo_S4x512_S4_d1 h_S_ : (Proc.devRef .tc main_while0b_v38 : DevRef τ sig).ty.Contents (Elt F)) = Cert.ScanReferenceIdeal.Step.b40 j s := by
  unfold Cert.ScanReferenceIdeal.Step.b40
  rw [← al_38 h, ← al_39 h]
  try rfl
set_option maxRecDepth 8192 in
theorem al_41 (h : Holds V0 s j) : (broadcastInDim S4x1 ![0] bcast_S4_S4x1_0 (Host.reduceAdd (mulf (res_main_while0b_v36 V0) (res_main_while0b_v36 V0)) (constant S_ .f32 0x00000000#32) reducesTo_S4x512_S4_d1 h_S_) : (Proc.devRef .tc main_while0b_v39 : DevRef τ sig).ty.Contents (Elt F)) = Cert.ScanReferenceIdeal.Step.b41 j s := by
  unfold Cert.ScanReferenceIdeal.Step.b41
  rw [← al_40 h]
  try rfl
set_option maxRecDepth 8192 in
theorem al_42 (h : Holds V0 s j) : (constant S_ .f32 0x44000000#32 : (Proc.devRef .tc main_while0b_cst_19 : DevRef τ sig).ty.Contents (Elt F)) = Cert.ScanReferenceIdeal.Step.b42 j s := by
  unfold Cert.ScanReferenceIdeal.Step.b42
  rfl
set_option maxRecDepth 8192 in
theorem al_43 (h : Holds V0 s j) : (broadcastInDim S4x1 ![] bcast_S_S4x1 (constant S_ .f32 0x44000000#32) : (Proc.devRef .tc main_while0b_v40 : DevRef τ sig).ty.Contents (Elt F)) = Cert.ScanReferenceIdeal.Step.b43 j s := by
  unfold Cert.ScanReferenceIdeal.Step.b43
  rw [← al_42 h]
  try rfl
set_option maxRecDepth 8192 in
theorem al_44 (h : Holds V0 s j) : (Host.divf (broadcastInDim S4x1 ![0] bcast_S4_S4x1_0 (Host.reduceAdd (mulf (res_main_while0b_v36 V0) (res_main_while0b_v36 V0)) (constant S_ .f32 0x00000000#32) reducesTo_S4x512_S4_d1 h_S_)) (broadcastInDim S4x1 ![] bcast_S_S4x1 (constant S_ .f32 0x44000000#32)) : (Proc.devRef .tc main_while0b_v41 : DevRef τ sig).ty.Contents (Elt F)) = Cert.ScanReferenceIdeal.Step.b44 j s := by
  unfold Cert.ScanReferenceIdeal.Step.b44
  rw [← al_41 h, ← al_43 h]
  try rfl
set_option maxRecDepth 8192 in
theorem al_45 (h : Holds V0 s j) : (broadcastInDim S4x512 ![0, 1] bcast_S4x1_S4x512_0_1 (res_main_while0b_v34 V0) : (Proc.devRef .tc main_while0b_v42 : DevRef τ sig).ty.Contents (Elt F)) = Cert.ScanReferenceIdeal.Step.b45 j s := by
  unfold Cert.ScanReferenceIdeal.Step.b45
  rw [← al_35 h]
  try rfl
set_option maxRecDepth 8192 in
theorem al_46 (h : Holds V0 s j) : (subf (res_main_while0b_v28 V0) (broadcastInDim S4x512 ![0, 1] bcast_S4x1_S4x512_0_1 (res_main_while0b_v34 V0)) : (Proc.devRef .tc main_while0b_v43 : DevRef τ sig).ty.Contents (Elt F)) = Cert.ScanReferenceIdeal.Step.b46 j s := by
  unfold Cert.ScanReferenceIdeal.Step.b46
  rw [← al_27 h, ← al_45 h]
  try rfl
set_option maxRecDepth 8192 in
theorem al_47 (h : Holds V0 s j) : (constant S_ .f32 0x3727C5AC#32 : (Proc.devRef .tc main_while0b_cst_20 : DevRef τ sig).ty.Contents (Elt F)) = Cert.ScanReferenceIdeal.Step.b47 j s := by
  unfold Cert.ScanReferenceIdeal.Step.b47
  rfl
set_option maxRecDepth 8192 in
theorem al_48 (h : Holds V0 s j) : (broadcastInDim S4x1 ![] bcast_S_S4x1 (constant S_ .f32 0x3727C5AC#32) : (Proc.devRef .tc main_while0b_v44 : DevRef τ sig).ty.Contents (Elt F)) = Cert.ScanReferenceIdeal.Step.b48 j s := by
  unfold Cert.ScanReferenceIdeal.Step.b48
  rw [← al_47 h]
  try rfl
set_option maxRecDepth 8192 in
theorem al_49 (h : Holds V0 s j) : (addf (Host.divf (broadcastInDim S4x1 ![0] bcast_S4_S4x1_0 (Host.reduceAdd (mulf (res_main_while0b_v36 V0) (res_main_while0b_v36 V0)) (constant S_ .f32 0x00000000#32) reducesTo_S4x512_S4_d1 h_S_)) (broadcastInDim S4x1 ![] bcast_S_S4x1 (constant S_ .f32 0x44000000#32))) (broadcastInDim S4x1 ![] bcast_S_S4x1 (constant S_ .f32 0x3727C5AC#32)) : (Proc.devRef .tc main_while0b_v45 : DevRef τ sig).ty.Contents (Elt F)) = Cert.ScanReferenceIdeal.Step.b49 j s := by
  unfold Cert.ScanReferenceIdeal.Step.b49
  rw [← al_44 h, ← al_48 h]
  try rfl
set_option maxRecDepth 8192 in
theorem al_50 (h : Holds V0 s j) : (Host.sqrt (addf (Host.divf (broadcastInDim S4x1 ![0] bcast_S4_S4x1_0 (Host.reduceAdd (mulf (res_main_while0b_v36 V0) (res_main_while0b_v36 V0)) (constant S_ .f32 0x00000000#32) reducesTo_S4x512_S4_d1 h_S_)) (broadcastInDim S4x1 ![] bcast_S_S4x1 (constant S_ .f32 0x44000000#32))) (broadcastInDim S4x1 ![] bcast_S_S4x1 (constant S_ .f32 0x3727C5AC#32))) : (Proc.devRef .tc main_while0b_v46 : DevRef τ sig).ty.Contents (Elt F)) = Cert.ScanReferenceIdeal.Step.b50 j s := by
  unfold Cert.ScanReferenceIdeal.Step.b50
  rw [← al_49 h]
  try rfl
set_option maxRecDepth 8192 in
theorem al_51 (h : Holds V0 s j) : (broadcastInDim S4x512 ![0, 1] bcast_S4x1_S4x512_0_1 (Host.sqrt (addf (Host.divf (broadcastInDim S4x1 ![0] bcast_S4_S4x1_0 (Host.reduceAdd (mulf (res_main_while0b_v36 V0) (res_main_while0b_v36 V0)) (constant S_ .f32 0x00000000#32) reducesTo_S4x512_S4_d1 h_S_)) (broadcastInDim S4x1 ![] bcast_S_S4x1 (constant S_ .f32 0x44000000#32))) (broadcastInDim S4x1 ![] bcast_S_S4x1 (constant S_ .f32 0x3727C5AC#32)))) : (Proc.devRef .tc main_while0b_v47 : DevRef τ sig).ty.Contents (Elt F)) = Cert.ScanReferenceIdeal.Step.b51 j s := by
  unfold Cert.ScanReferenceIdeal.Step.b51
  rw [← al_50 h]
  try rfl
set_option maxRecDepth 8192 in
theorem al_52 (h : Holds V0 s j) : (Host.divf (subf (res_main_while0b_v28 V0) (broadcastInDim S4x512 ![0, 1] bcast_S4x1_S4x512_0_1 (res_main_while0b_v34 V0))) (broadcastInDim S4x512 ![0, 1] bcast_S4x1_S4x512_0_1 (Host.sqrt (addf (Host.divf (broadcastInDim S4x1 ![0] bcast_S4_S4x1_0 (Host.reduceAdd (mulf (res_main_while0b_v36 V0) (res_main_while0b_v36 V0)) (constant S_ .f32 0x00000000#32) reducesTo_S4x512_S4_d1 h_S_)) (broadcastInDim S4x1 ![] bcast_S_S4x1 (constant S_ .f32 0x44000000#32))) (broadcastInDim S4x1 ![] bcast_S_S4x1 (constant S_ .f32 0x3727C5AC#32))))) : (Proc.devRef .tc main_while0b_v48 : DevRef τ sig).ty.Contents (Elt F)) = Cert.ScanReferenceIdeal.Step.b52 j s := by
  unfold Cert.ScanReferenceIdeal.Step.b52
  rw [← al_46 h, ← al_51 h]
  try rfl
set_option maxRecDepth 8192 in
theorem al_53 (h : Holds V0 s j) : (broadcastInDim S1x512 ![1] bcast_S512_S1x512_1 (shapeCast S512 (V0 (Proc.devRef .tc main_v5_4)) shapeCasts_S1x512_S512) : (Proc.devRef .tc main_while0b_v49 : DevRef τ sig).ty.Contents (Elt F)) = Cert.ScanReferenceIdeal.Step.b53 j s := by
  unfold Cert.ScanReferenceIdeal.Step.b53
  rw [← al_28 h]
  try rfl
set_option maxRecDepth 8192 in
theorem al_54 (h : Holds V0 s j) : (broadcastInDim S4x512 ![0, 1] bcast_S1x512_S4x512_0_1 (broadcastInDim S1x512 ![1] bcast_S512_S1x512_1 (shapeCast S512 (V0 (Proc.devRef .tc main_v5_4)) shapeCasts_S1x512_S512)) : (Proc.devRef .tc main_while0b_v50 : DevRef τ sig).ty.Contents (Elt F)) = Cert.ScanReferenceIdeal.Step.b54 j s := by
  unfold Cert.ScanReferenceIdeal.Step.b54
  rw [← al_53 h]
  try rfl
set_option maxRecDepth 8192 in
theorem al_55 (h : Holds V0 s j) : (mulf (Host.divf (subf (res_main_while0b_v28 V0) (broadcastInDim S4x512 ![0, 1] bcast_S4x1_S4x512_0_1 (res_main_while0b_v34 V0))) (broadcastInDim S4x512 ![0, 1] bcast_S4x1_S4x512_0_1 (Host.sqrt (addf (Host.divf (broadcastInDim S4x1 ![0] bcast_S4_S4x1_0 (Host.reduceAdd (mulf (res_main_while0b_v36 V0) (res_main_while0b_v36 V0)) (constant S_ .f32 0x00000000#32) reducesTo_S4x512_S4_d1 h_S_)) (broadcastInDim S4x1 ![] bcast_S_S4x1 (constant S_ .f32 0x44000000#32))) (broadcastInDim S4x1 ![] bcast_S_S4x1 (constant S_ .f32 0x3727C5AC#32)))))) (broadcastInDim S4x512 ![0, 1] bcast_S1x512_S4x512_0_1 (broadcastInDim S1x512 ![1] bcast_S512_S1x512_1 (shapeCast S512 (V0 (Proc.devRef .tc main_v5_4)) shapeCasts_S1x512_S512))) : (Proc.devRef .tc main_while0b_v51 : DevRef τ sig).ty.Contents (Elt F)) = Cert.ScanReferenceIdeal.Step.b55 j s := by
  unfold Cert.ScanReferenceIdeal.Step.b55
  rw [← al_52 h, ← al_54 h]
  try rfl
set_option maxRecDepth 8192 in
theorem al_56 (h : Holds V0 s j) : (broadcastInDim S1x512 ![1] bcast_S512_S1x512_1 (shapeCast S512 (V0 (Proc.devRef .tc main_v5_5)) shapeCasts_S1x512_S512) : (Proc.devRef .tc main_while0b_v52 : DevRef τ sig).ty.Contents (Elt F)) = Cert.ScanReferenceIdeal.Step.b56 j s := by
  unfold Cert.ScanReferenceIdeal.Step.b56
  rw [← al_29 h]
  try rfl
set_option maxRecDepth 8192 in
theorem al_57 (h : Holds V0 s j) : (broadcastInDim S4x512 ![0, 1] bcast_S1x512_S4x512_0_1 (broadcastInDim S1x512 ![1] bcast_S512_S1x512_1 (shapeCast S512 (V0 (Proc.devRef .tc main_v5_5)) shapeCasts_S1x512_S512)) : (Proc.devRef .tc main_while0b_v53 : DevRef τ sig).ty.Contents (Elt F)) = Cert.ScanReferenceIdeal.Step.b57 j s := by
  unfold Cert.ScanReferenceIdeal.Step.b57
  rw [← al_56 h]
  try rfl
set_option maxRecDepth 8192 in
theorem al_58 (h : Holds V0 s j) : (res_main_while0b_v54 V0 : (Proc.devRef .tc main_while0b_v54 : DevRef τ sig).ty.Contents (Elt F)) = Cert.ScanReferenceIdeal.Step.b58 j s := by
  unfold res_main_while0b_v54 Cert.ScanReferenceIdeal.Step.b58
  rw [← al_55 h, ← al_57 h]
  try rfl
set_option maxRecDepth 8192 in
theorem al_59 (h : Holds V0 s j) : (res_main_while0b_v55 V0 : (Proc.devRef .tc main_while0b_v55 : DevRef τ sig).ty.Contents (Elt F)) = Cert.ScanReferenceIdeal.Step.b59 j s := by
  unfold res_main_while0b_v55 Cert.ScanReferenceIdeal.Step.b59
  rw [← al_58 h, h.f_6]
  try rfl
set_option maxRecDepth 8192 in
theorem al_60 (h : Holds V0 s j) : (constantI S_ 32 16#32 : (Proc.devRef .tc main_while0b_c_21 : DevRef τ sig).ty.Contents (Elt F)) = Cert.ScanReferenceIdeal.Step.b60 j s := by
  unfold Cert.ScanReferenceIdeal.Step.b60
  rfl
set_option maxRecDepth 8192 in
theorem al_61 (h : Holds V0 s j) : (res_main_while0b_v56 V0 : (Proc.devRef .tc main_while0b_v56 : DevRef τ sig).ty.Contents (Elt F)) = Cert.ScanReferenceIdeal.Step.b61 j s := by
  unfold res_main_while0b_v56 Cert.ScanReferenceIdeal.Step.b61
  rw [← al_9 h, ← al_60 h]
  try rfl
set_option maxRecDepth 8192 in
theorem al_62 (h : Holds V0 s j) : (constantI S_ 32 0#32 : (Proc.devRef .tc main_while0b_c_22 : DevRef τ sig).ty.Contents (Elt F)) = Cert.ScanReferenceIdeal.Step.b62 j s := by
  unfold Cert.ScanReferenceIdeal.Step.b62
  rfl
set_option maxRecDepth 8192 in
theorem al_63 (h : Holds V0 s j) : (cmpi .slt (res_main_while0b_v56 V0) (constantI S_ 32 0#32) : (Proc.devRef .tc main_while0b_v57 : DevRef τ sig).ty.Contents (Elt F)) = Cert.ScanReferenceIdeal.Step.b63 j s := by
  unfold Cert.ScanReferenceIdeal.Step.b63
  rw [← al_61 h, ← al_62 h]
  try rfl
set_option maxRecDepth 8192 in
theorem al_64 (h : Holds V0 s j) : (constantI S_ 32 16#32 : (Proc.devRef .tc main_while0b_c_23 : DevRef τ sig).ty.Contents (Elt F)) = Cert.ScanReferenceIdeal.Step.b64 j s := by
  unfold Cert.ScanReferenceIdeal.Step.b64
  rfl
set_option maxRecDepth 8192 in
theorem al_65 (h : Holds V0 s j) : (addi (res_main_while0b_v56 V0) (constantI S_ 32 16#32) : (Proc.devRef .tc main_while0b_v58 : DevRef τ sig).ty.Contents (Elt F)) = Cert.ScanReferenceIdeal.Step.b65 j s := by
  unfold Cert.ScanReferenceIdeal.Step.b65
  rw [← al_61 h, ← al_64 h]
  try rfl
set_option maxRecDepth 8192 in
theorem al_66 (h : Holds V0 s j) : (select (cmpi .slt (res_main_while0b_v56 V0) (constantI S_ 32 0#32)) (addi (res_main_while0b_v56 V0) (constantI S_ 32 16#32)) (res_main_while0b_v56 V0) : (Proc.devRef .tc main_while0b_v59 : DevRef τ sig).ty.Contents (Elt F)) = Cert.ScanReferenceIdeal.Step.b66 j s := by
  unfold Cert.ScanReferenceIdeal.Step.b66
  rw [← al_63 h, ← al_65 h, ← al_61 h]
  try rfl
set_option maxRecDepth 8192 in
theorem al_67 (h : Holds V0 s j) : (broadcastInDim S1 ![] bcast_S_S1 (select (cmpi .slt (res_main_while0b_v56 V0) (constantI S_ 32 0#32)) (addi (res_main_while0b_v56 V0) (constantI S_ 32 16#32)) (res_main_while0b_v56 V0)) : (Proc.devRef .tc main_while0b_v60 : DevRef τ sig).ty.Contents (Elt F)) = Cert.ScanReferenceIdeal.Step.b67 j s := by
  unfold Cert.ScanReferenceIdeal.Step.b67
  rw [← al_66 h]
  try rfl
set_option maxRecDepth 8192 in
theorem al_68 (h : Holds V0 s j) : (Host.scatter scatter_S4x16x512_S1_S4x512_01_1_1_0 (fun _ b => b) (V0 (Proc.devRef .tc main_v5_8)) (broadcastInDim S1 ![] bcast_S_S1 (select (cmpi .slt (res_main_while0b_v56 V0) (constantI S_ 32 0#32)) (addi (res_main_while0b_v56 V0) (constantI S_ 32 16#32)) (res_main_while0b_v56 V0))) (res_main_while0b_v55 V0) : (Proc.devRef .tc main_while0b_v61 : DevRef τ sig).ty.Contents (Elt F)) = Cert.ScanReferenceIdeal.Step.b68 j s := by
  unfold Cert.ScanReferenceIdeal.Step.b68
  rw [← al_67 h, ← al_59 h, h.f_8]
  try rfl
set_option maxRecDepth 8192 in
theorem al_69 (h : Holds V0 s j) : (broadcastInDim S1x4x512 ![1, 2] bcast_S4x512_S1x4x512_1_2 (res_main_while0b_v54 V0) : (Proc.devRef .tc main_while0b_call3_v0 : DevRef τ sig).ty.Contents (Elt F)) = Cert.ScanReferenceIdeal.Step.b69 j s := by
  unfold Cert.ScanReferenceIdeal.Step.b69
  rw [← al_58 h]
  try rfl
set_option maxRecDepth 8192 in
theorem al_70 (h : Holds V0 s j) : (constantI S_ 32 0#32 : (Proc.devRef .tc main_while0b_call3_c : DevRef τ sig).ty.Contents (Elt F)) = Cert.ScanReferenceIdeal.Step.b70 j s := by
  unfold Cert.ScanReferenceIdeal.Step.b70
  rfl
set_option maxRecDepth 8192 in
theorem al_71 (h : Holds V0 s j) : (constantI S_ 32 0#32 : (Proc.devRef .tc main_while0b_call3_c_0 : DevRef τ sig).ty.Contents (Elt F)) = Cert.ScanReferenceIdeal.Step.b71 j s := by
  unfold Cert.ScanReferenceIdeal.Step.b71
  rfl
set_option maxRecDepth 8192 in
theorem al_72 (h : Holds V0 s j) : (Host.dynamicUpdateSlice (V0 (Proc.devRef .tc main_v5_9)) (broadcastInDim S1x4x512 ![1, 2] bcast_S4x512_S1x4x512_1_2 (res_main_while0b_v54 V0)) (fun k => (((![V0 (Proc.devRef .tc main_v5_7), constantI S_ 32 0#32, constantI S_ 32 0#32] : Fin 3 → (⟨S_, .i32⟩ : BufTy).Contents (Elt F))) k (Shape.Idx.first h_S_)).toInt) updateFits_S1024x4x512_S1x4x512 : (Proc.devRef .tc main_while0b_v62 : DevRef τ sig).ty.Contents (Elt F)) = Cert.ScanReferenceIdeal.Step.b72 j s := by
  unfold Cert.ScanReferenceIdeal.Step.b72
  rw [← al_69 h, ← al_70 h, ← al_71 h, h.f_9, h.n_7]
  try rfl
set_option maxRecDepth 8192 in
theorem al_73 (h : Holds V0 s j) : (broadcastInDim S1x4x512 ![1, 2] bcast_S4x512_S1x4x512_1_2 (res_main_while0b_v55 V0) : (Proc.devRef .tc main_while0b_call4_v0 : DevRef τ sig).ty.Contents (Elt F)) = Cert.ScanReferenceIdeal.Step.b73 j s := by
  unfold Cert.ScanReferenceIdeal.Step.b73
  rw [← al_59 h]
  try rfl
set_option maxRecDepth 8192 in
theorem al_74 (h : Holds V0 s j) : (constantI S_ 32 0#32 : (Proc.devRef .tc main_while0b_call4_c : DevRef τ sig).ty.Contents (Elt F)) = Cert.ScanReferenceIdeal.Step.b74 j s := by
  unfold Cert.ScanReferenceIdeal.Step.b74
  rfl
set_option maxRecDepth 8192 in
theorem al_75 (h : Holds V0 s j) : (constantI S_ 32 0#32 : (Proc.devRef .tc main_while0b_call4_c_0 : DevRef τ sig).ty.Contents (Elt F)) = Cert.ScanReferenceIdeal.Step.b75 j s := by
  unfold Cert.ScanReferenceIdeal.Step.b75
  rfl
set_option maxRecDepth 8192 in
theorem al_76 (h : Holds V0 s j) : (Host.dynamicUpdateSlice (V0 (Proc.devRef .tc main_v5_10)) (broadcastInDim S1x4x512 ![1, 2] bcast_S4x512_S1x4x512_1_2 (res_main_while0b_v55 V0)) (fun k => (((![V0 (Proc.devRef .tc main_v5_7), constantI S_ 32 0#32, constantI S_ 32 0#32] : Fin 3 → (⟨S_, .i32⟩ : BufTy).Contents (Elt F))) k (Shape.Idx.first h_S_)).toInt) updateFits_S1024x4x512_S1x4x512 : (Proc.devRef .tc main_while0b_v63 : DevRef τ sig).ty.Contents (Elt F)) = Cert.ScanReferenceIdeal.Step.b76 j s := by
  unfold Cert.ScanReferenceIdeal.Step.b76
  rw [← al_73 h, ← al_74 h, ← al_75 h, h.f_10, h.n_7]
  try rfl

attribute [local irreducible] Host.scatter

/-! One trip's step of the carried values is `step`, field by field; a counter steps to the next number. -/

theorem step_8 (h : Holds V0 s j) : step_main_v5_8 V0 = (step j s).main_v5_8 := by
  unfold step_main_v5_8 Cert.ScanReferenceIdeal.Step.step
  show id (Host.scatter scatter_S4x16x512_S1_S4x512_01_1_1_0 (fun _ b => b) (V0 (Proc.devRef .tc main_v5_8)) (broadcastInDim S1 ![] bcast_S_S1 (select (cmpi .slt (res_main_while0b_v56 V0) (constantI S_ 32 0#32)) (addi (res_main_while0b_v56 V0) (constantI S_ 32 16#32)) (res_main_while0b_v56 V0))) (res_main_while0b_v55 V0)) = _
  exact al_68 h
theorem step_9 (h : Holds V0 s j) : step_main_v5_9 V0 = (step j s).main_v5_9 := by
  unfold step_main_v5_9 Cert.ScanReferenceIdeal.Step.step
  show id (Host.dynamicUpdateSlice (V0 (Proc.devRef .tc main_v5_9)) (broadcastInDim S1x4x512 ![1, 2] bcast_S4x512_S1x4x512_1_2 (res_main_while0b_v54 V0)) (fun k => (((![V0 (Proc.devRef .tc main_v5_7), constantI S_ 32 0#32, constantI S_ 32 0#32] : Fin 3 → (⟨S_, .i32⟩ : BufTy).Contents (Elt F))) k (Shape.Idx.first h_S_)).toInt) updateFits_S1024x4x512_S1x4x512) = _
  exact al_72 h
theorem step_10 (h : Holds V0 s j) : step_main_v5_10 V0 = (step j s).main_v5_10 := by
  unfold step_main_v5_10 Cert.ScanReferenceIdeal.Step.step
  show id (Host.dynamicUpdateSlice (V0 (Proc.devRef .tc main_v5_10)) (broadcastInDim S1x4x512 ![1, 2] bcast_S4x512_S1x4x512_1_2 (res_main_while0b_v55 V0)) (fun k => (((![V0 (Proc.devRef .tc main_v5_7), constantI S_ 32 0#32, constantI S_ 32 0#32] : Fin 3 → (⟨S_, .i32⟩ : BufTy).Contents (Elt F))) k (Shape.Idx.first h_S_)).toInt) updateFits_S1024x4x512_S1x4x512) = _
  exact al_76 h
theorem step_7 (h : Holds V0 s j) : step_main_v5_7 V0 = constantI S_ 32 (BitVec.ofNat 32 (j + 1)) := by
  unfold step_main_v5_7
  rw [h.n_7]
  funext i
  show BitVec.ofNat 32 j + 1#32 = BitVec.ofNat 32 (j + 1)
  simp only [BitVec.ofNat_add]

set_option maxRecDepth 8192 in
theorem out_main_v10_holds (h : Holds V0 s j) : out_main_v10 V0 = Cert.ScanReferenceIdeal.Step.R_main_v10 s := by
  unfold out_main_v10 Cert.ScanReferenceIdeal.Step.R_main_v10
  rw [h.f_10]
  try rfl

/-- One trip keeps the valuation holding: `step` of the state, the same set-up values, the next number. -/
theorem holds_step (h : Holds V0 s j) : Holds (STEP V0) (step j s) (j + 1) where
  f_8 := (STEP_main_v5_8 V0).trans (step_8 h)
  f_9 := (STEP_main_v5_9 V0).trans (step_9 h)
  f_10 := (STEP_main_v5_10 V0).trans (step_10 h)
  n_7 := (STEP_main_v5_7 V0).trans (step_7 h)
  k_2 := (STEP_main_v5_2 V0).trans h.k_2
  f_0 := (STEP_main_v5_0 V0).trans h.f_0
  f_1 := (STEP_main_v5_1 V0).trans h.f_1
  f_3 := (STEP_main_v5_3 V0).trans h.f_3
  f_4 := (STEP_main_v5_4 V0).trans h.f_4
  f_5 := (STEP_main_v5_5 V0).trans h.f_5
  f_6 := (STEP_main_v5_6 V0).trans h.f_6

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg3))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ScanReferenceIdeal` terminates with each result at its field of state
    number 1024 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v5_9) = (it c 1024).main_v5_9
      ∧ r.2.mem ((c.tc : Thread nD τ).loc main_v10) = Cert.ScanReferenceIdeal.Step.R_main_v10 (it c 1024)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have hk := holds_iter m c (it c) (h0 c) (hs c) 1024
    ⟨(h c).1.trans hk.f_9, (h c).2.1.trans (out_main_v10_holds hk), (h c).2.2.1, (h c).2.2.2.1, (h c).2.2.2.2.1, (h c).2.2.2.2.2.1, (h c).2.2.2.2.2.2.1, (h c).2.2.2.2.2.2.2⟩) (Value.run m ρ)

end Cert.ScanReferenceIdeal.StepRun

end
-- ==== Proof.Row.lean ====
/- One row of the mathematics: attention over sixteen memory rows, layer normalisation, and one layer made of them, on
   extended reals. Two spellings of the same row are compared here: the attention over a band of 272 rows of which all but
   sixteen are masked, and the normalisation by a reciprocal square root against the one by a division by a square root. -/
module

public import Idealize.ShloMosaic.PureOps.Ideal
public import Idealize.ShloMosaic.PureOps.Ideal.Laws
public import Idealize.ShloMosaic.Lib.ValueIdx

@[expose] public section

noncomputable section

namespace Cert.Row

open Idealize.ShloMosaic

/-! ## Constants -/

theorem ofBits_512 : Ideal.ofBits .f32 0x44000000#32 = ((512 : ℝ) : EReal) := by
  simp [Ideal.ofBits, Ideal.ieee]; rw [← EReal.coe_mul]; congr 1; norm_num
theorem ofBits_8 : Ideal.ofBits .f32 0x41000000#32 = ((8 : ℝ) : EReal) := by
  simp [Ideal.ofBits, Ideal.ieee]; rw [← EReal.coe_mul]; congr 1; norm_num
theorem ofBits_eighth : Ideal.ofBits .f32 0x3E000000#32 = ((1 / 8 : ℝ) : EReal) := by
  simp [Ideal.ofBits, Ideal.ieee]; rw [← EReal.coe_mul]; congr 1; norm_num
theorem ofBits_bot : Ideal.ofBits .f32 0xFF800000#32 = ⊥ := by
  simp [Ideal.ofBits, Ideal.ieee]
theorem ofBits_top : Ideal.ofBits .f32 0x7F800000#32 = ⊤ := by
  simp [Ideal.ofBits, Ideal.ieee]

/-- The small constant under the square root. -/
def eps : EReal := Ideal.ofBits .f32 0x3727C5AC#32

theorem eps_pos : ∃ r : ℝ, 0 < r ∧ eps = r := by
  refine ⟨_, ?_, by simp [eps, Ideal.ofBits, Ideal.ieee]; rfl⟩
  norm_num

/-! ## Being a real number -/

/-- The value is a real number, neither infinity. -/
def Real' (a : EReal) : Prop := ∃ r : ℝ, a = r

theorem Real'.add {a b : EReal} : Real' a → Real' b → Real' (a + b) := by
  rintro ⟨x, rfl⟩ ⟨y, rfl⟩; exact ⟨x + y, by push_cast; rfl⟩
theorem Real'.sub {a b : EReal} : Real' a → Real' b → Real' (a - b) := by
  rintro ⟨x, rfl⟩ ⟨y, rfl⟩; exact ⟨x - y, by push_cast; rfl⟩
theorem Real'.mul {a b : EReal} : Real' a → Real' b → Real' (a * b) := by
  rintro ⟨x, rfl⟩ ⟨y, rfl⟩; exact ⟨x * y, by push_cast; rfl⟩
theorem Real'.sum {n : Nat} {f : Fin n → EReal} (h : ∀ k, Real' (f k)) : Real' (∑ k, f k) := by
  choose g hg using h
  refine ⟨∑ k, g k, ?_⟩
  rw [Finset.sum_congr rfl fun k _ => hg k]
  exact (map_sum (⟨⟨fun x : ℝ => (x : EReal), rfl⟩, fun _ _ => EReal.coe_add _ _⟩ : ℝ →+ EReal) g Finset.univ).symm
theorem Real'.div {a b : EReal} (ha : Real' a) (hb : ∃ r : ℝ, r ≠ 0 ∧ b = r) : Real' (Ideal.div a b) := by
  obtain ⟨r, hr, rfl⟩ := hb
  rw [Ideal.div_coe hr]
  exact ha.mul ⟨_, rfl⟩

/-! ## Attention -/

/-- The softmax of `n` scores applied to one column of the memory rows. -/
def read {n : Nat} (sc col : Fin n → EReal) : EReal :=
  ∑ k, Ideal.div (Ideal.exp (sc k - Finset.univ.sup sc)) (∑ k', Ideal.exp (sc k' - Finset.univ.sup sc)) * col k

theorem sup_real {n : Nat} [NeZero n] {sc : Fin n → EReal} (h : ∀ k, Real' (sc k)) : Real' (Finset.univ.sup sc) := by
  obtain ⟨k, _, hk⟩ := Finset.exists_mem_eq_sup Finset.univ ⟨0, Finset.mem_univ _⟩ sc
  exact hk ▸ h k

/-- The denominator is a positive real number. -/
theorem den_pos {n : Nat} [NeZero n] {sc : Fin n → EReal} (h : ∀ k, Real' (sc k)) {M : EReal} (hM : Real' M) :
    ∃ r : ℝ, r ≠ 0 ∧ (∑ k, Ideal.exp (sc k - M)) = r := by
  obtain ⟨M, rfl⟩ := hM
  choose g hg using h
  refine ⟨∑ k, Real.exp (g k - M), (Finset.sum_pos (fun k _ => Real.exp_pos _) ⟨0, Finset.mem_univ _⟩).ne', ?_⟩
  rw [Finset.sum_congr rfl fun k _ => show Ideal.exp (sc k - (M : EReal)) = ((Real.exp (g k - M) : ℝ) : EReal) by
    rw [hg k, ← EReal.coe_sub, Ideal.exp_coe]]
  exact (map_sum (⟨⟨fun x : ℝ => (x : EReal), rfl⟩, fun _ _ => EReal.coe_add _ _⟩ : ℝ →+ EReal) _ Finset.univ).symm

/-- Scores that are `-∞` off the image of an injection count as the scores on it. -/
theorem read_masked {n N : Nat} [NeZero n] (f : Fin n → Fin N) (hf : Function.Injective f) (sc : Fin n → EReal)
    (h : ∀ k, Real' (sc k)) (sk : Fin N → EReal) (hon : ∀ k, sk (f k) = sc k) (hoff : ∀ c, c ∉ Set.range f → sk c = ⊥)
    (col : Fin N → EReal) : read sk col = read sc fun k => col (f k) := by
  have hM : Finset.univ.sup sk = Finset.univ.sup sc := by
    apply le_antisymm
    · refine Finset.sup_le fun c _ => ?_
      by_cases hc : c ∈ Set.range f
      · obtain ⟨k, rfl⟩ := hc
        rw [hon]; exact Finset.le_sup (f := sc) (Finset.mem_univ k)
      · rw [hoff c hc]; exact bot_le
    · refine Finset.sup_le fun k _ => ?_
      rw [← hon]; exact Finset.le_sup (f := sk) (Finset.mem_univ _)
  have hR := sup_real h
  have hz : ∀ c, c ∉ Set.range f → Ideal.exp (sk c - Finset.univ.sup sc) = 0 := by
    intro c hc
    obtain ⟨M, hM⟩ := hR
    rw [hoff c hc, hM, EReal.bot_sub, Ideal.exp_bot]
  have hsum : ∑ c, Ideal.exp (sk c - Finset.univ.sup sc) = ∑ k, Ideal.exp (sc k - Finset.univ.sup sc) :=
    (Fintype.sum_of_injective f hf _ _ hz fun k => by rw [hon]).symm
  unfold read
  rw [hM, hsum]
  refine (Fintype.sum_of_injective f hf _ _ (fun c hc => ?_) fun k => by rw [hon]).symm
  obtain ⟨r, hr, he⟩ := den_pos h hR
  rw [hz c hc, he, Ideal.div_coe hr, zero_mul, zero_mul]

/-! ## Layer normalisation -/

def mean (v : Fin 512 → EReal) : EReal := Ideal.div (∑ k, v k) (Ideal.ofBits .f32 0x44000000#32)
def var (v : Fin 512 → EReal) : EReal := mean fun k => (v k - mean v) * (v k - mean v)
/-- Normalised, scaled by `s` and shifted by `b`. -/
def norm (v s b : Fin 512 → EReal) (d : Fin 512) : EReal := (v d - mean v) * Ideal.rsqrt (var v + eps) * s d + b d

theorem mean_real {v : Fin 512 → EReal} (h : ∀ k, Real' (v k)) : Real' (mean v) :=
  (Real'.sum h).div ⟨512, by norm_num, ofBits_512⟩

theorem square_nonneg (a : EReal) : 0 ≤ a * a := by
  induction a using EReal.rec with
  | bot => simp
  | top => simp
  | coe x => rw [← EReal.coe_mul]; exact_mod_cast mul_self_nonneg x

theorem var_nonneg (v : Fin 512 → EReal) : 0 ≤ var v := by
  unfold var
  generalize mean v = m
  unfold mean
  rw [ofBits_512, Ideal.div_coe (by norm_num)]
  exact mul_nonneg (Finset.sum_nonneg fun k _ => square_nonneg _) (by norm_cast; norm_num)

/-- What lies under the root is a positive real number or `+∞`. -/
theorem under_root (v : Fin 512 → EReal) : (∃ r : ℝ, 0 < r ∧ var v + eps = r) ∨ var v + eps = ⊤ := by
  obtain ⟨e, he, hE⟩ := eps_pos
  have h := var_nonneg v
  rw [hE]
  generalize var v = y at h
  induction y using EReal.rec with
  | bot => simp at h
  | top => right; simp
  | coe x => exact .inl ⟨x + e, by have : (0 : ℝ) ≤ x := by exact_mod_cast h
                                   positivity, by push_cast; rfl⟩

/-- Dividing by the root is multiplying by the reciprocal root. -/
theorem div_sqrt (x : EReal) (v : Fin 512 → EReal) :
    Ideal.div x (Ideal.sqrt (var v + eps)) = x * Ideal.rsqrt (var v + eps) := by
  rcases under_root v with ⟨r, hr, h⟩ | h
  · rw [h, Ideal.sqrt_coe, Ideal.rsqrt_coe, if_neg (not_lt.mpr hr.le), if_neg hr.ne', if_neg (not_lt.mpr hr.le), Ideal.div_coe (Real.sqrt_pos.mpr hr).ne', one_div]
  · rw [h, Ideal.sqrt_top, Ideal.rsqrt_top, Ideal.div, if_neg (by simp)]
    simp

/-- Where the variance is a real number, so is every deviation. -/
theorem dev_real {v : Fin 512 → EReal} (h : var v ≠ ⊤) (d : Fin 512) : Real' (v d - mean v) := by
  have hs : (v d - mean v) * (v d - mean v) ≠ ⊤ := by
    intro he
    have hsum : ∑ k, (v k - mean v) * (v k - mean v) = ⊤ := top_le_iff.1 (he ▸ Finset.single_le_sum
      (f := fun k => (v k - mean v) * (v k - mean v)) (fun k _ => square_nonneg _) (Finset.mem_univ d))
    refine h ?_
    unfold var
    generalize mean v = m at hsum ⊢
    unfold mean
    rw [hsum, ofBits_512, Ideal.div_coe (by norm_num)]
    exact EReal.top_mul_coe_of_pos (by norm_num)
  generalize v d - mean v = a at hs
  induction a using EReal.rec with
  | bot => simp at hs
  | top => simp at hs
  | coe r => exact ⟨r, rfl⟩

/-- A normalised row is real whatever the row: an infinite variance makes the reciprocal root zero. -/
theorem norm_real {v s b : Fin 512 → EReal} (hs : ∀ k, Real' (s k)) (hb : ∀ k, Real' (b k)) (d : Fin 512) :
    Real' (norm v s b d) := by
  refine (Real'.mul ?_ (hs d)).add (hb d)
  rcases under_root v with ⟨r, hr, h⟩ | h
  · rw [h, Ideal.rsqrt_coe, if_neg (not_lt.mpr hr.le), if_neg hr.ne']
    refine (dev_real (fun ht => ?_) d).mul ⟨_, rfl⟩
    obtain ⟨e, -, he⟩ := eps_pos
    rw [ht, he, EReal.top_add_coe] at h
    exact absurd h (EReal.top_ne_coe r)
  · rw [h, Ideal.rsqrt_top, mul_zero]; exact ⟨0, rfl⟩

/-! ## One layer -/

/-- The score of a memory row `w` for the row `x`, its query the product with `wq`. -/
def score (x w : Fin 512 → EReal) (wq : Fin 512 → Fin 512 → EReal) : EReal := ∑ d, w d * ∑ e, x e * wq e d

/-- The row after one layer. -/
def layer (mem : Fin 16 → Fin 512 → EReal) (wq wv : Fin 512 → Fin 512 → EReal) (s b x : Fin 512 → EReal) : Fin 512 → EReal :=
  norm (fun d => x d + ∑ e, read (fun k => score x (mem k) wq) (fun k => mem k e) * wv e d) s b

theorem score_real {x w : Fin 512 → EReal} {wq : Fin 512 → Fin 512 → EReal} (hx : ∀ d, Real' (x d)) (hw : ∀ d, Real' (w d))
    (hq : ∀ e d, Real' (wq e d)) : Real' (score x w wq) :=
  Real'.sum fun d => (hw d).mul (Real'.sum fun e => (hx e).mul (hq e d))

/-- A layer leaves a real row when its scale and shift are real. -/
theorem layer_real {mem : Fin 16 → Fin 512 → EReal} {wq wv : Fin 512 → Fin 512 → EReal} {s b x : Fin 512 → EReal}
    (hs : ∀ d, Real' (s d)) (hb : ∀ d, Real' (b d)) (d : Fin 512) : Real' (layer mem wq wv s b x d) :=
  norm_real hs hb d

end Cert.Row
-- ==== Proof.ScanSpec.lean ====
/- The recurrence of the scan over extended reals: sixteen memory rows per sequence, read softly by a query, the row that
   comes out of it normalised, and its product with the write matrix put in the place of the oldest memory row. Where the
   arguments are real numbers everything it computes is real, and then the variance taken as the mean of the squares less
   the square of the mean is the mean squared deviation. -/
module

public import proofs.«01_k».proof.Proof.Row

@[expose] public section

noncomputable section

namespace Cert.Scan

open Idealize.ShloMosaic Cert.Row

theorem exp_real {a : EReal} : Real' a → Real' (Ideal.exp a) := by
  rintro ⟨x, rfl⟩
  exact ⟨Real.exp x, Ideal.exp_coe _⟩

theorem read_real {n : Nat} [NeZero n] {sc col : Fin n → EReal} (h : ∀ k, Real' (sc k)) (hc : ∀ k, Real' (col k)) :
    Real' (Row.read sc col) :=
  Real'.sum fun k => ((exp_real ((h k).sub (sup_real h))).div (den_pos h (sup_real h))).mul (hc k)

/-- The row before it is normalised. -/
def hid (mem : Fin 16 → Fin 512 → EReal) (q x : Fin 512 → EReal) (wv : Fin 512 → Fin 512 → EReal) (d : Fin 512) : EReal :=
  x d + ∑ e, Row.read (fun k => ∑ i, mem k i * q i) (fun k => mem k e) * wv e d

/-- A row times the write matrix. -/
def word (x : Fin 512 → EReal) (wr : Fin 512 → Fin 512 → EReal) (d : Fin 512) : EReal := ∑ e, x e * wr e d

section
variable (X Q : ℕ → Fin 4 → Fin 512 → EReal) (wv wr : Fin 512 → Fin 512 → EReal) (s b : Fin 512 → EReal)

/-- The row the step `t` puts out, from the memory rows before it. -/
def row (mem : Fin 16 → Fin 512 → EReal) (t : ℕ) (c : Fin 4) : Fin 512 → EReal := norm (hid mem (Q t c) (X t c) wv) s b

/-- The memory rows before step `t`. -/
def mem : ℕ → Fin 4 → Fin 16 → Fin 512 → EReal
  | 0 => fun _ _ _ => 0
  | t + 1 => fun c k => if k.val = t % 16 then word (row X Q wv s b (mem t c) t c) wr else mem t c k

/-- The rows put out. -/
def out (t : ℕ) (c : Fin 4) : Fin 512 → EReal := row X Q wv s b (mem X Q wv wr s b t c) t c

/-- The rows written. -/
def write (t : ℕ) (c : Fin 4) : Fin 512 → EReal := word (out X Q wv wr s b t c) wr

theorem mem_succ (t : ℕ) (c : Fin 4) (k : Fin 16) : mem X Q wv wr s b (t + 1) c k
    = if k.val = t % 16 then write X Q wv wr s b t c else mem X Q wv wr s b t c k := rfl

variable {X Q wv wr s b}
variable (hX : ∀ t c d, Real' (X t c d)) (hQ : ∀ t c d, Real' (Q t c d)) (hv : ∀ e d, Real' (wv e d))
  (hr : ∀ e d, Real' (wr e d)) (hs : ∀ d, Real' (s d)) (hb : ∀ d, Real' (b d))
include hX hQ hv

theorem hid_real {mem : Fin 16 → Fin 512 → EReal} (hm : ∀ k d, Real' (mem k d)) (t : ℕ) (c : Fin 4) (d : Fin 512) :
    Real' (hid mem (Q t c) (X t c) wv d) :=
  (hX t c d).add (Real'.sum fun e => (read_real (fun k => Real'.sum fun i => (hm k i).mul (hQ t c i)) fun k => hm k e).mul (hv e d))

include hr hs hb

theorem mem_real : ∀ t c k d, Real' (mem X Q wv wr s b t c k d)
  | 0, _, _, _ => ⟨0, rfl⟩
  | t + 1, c, k, d => by
    rw [mem_succ]
    split
    · exact Real'.sum fun e => (norm_real hs hb e).mul (hr e d)
    · exact mem_real t c k d

end

/-- The mean of the squares less the square of the mean, on real rows. -/
theorem var_eq {v : Fin 512 → EReal} (h : ∀ k, Real' (v k)) :
    mean (fun k => v k * v k) - mean v * mean v = var v := by
  choose g hg using h
  obtain rfl : v = fun k => (g k : EReal) := funext hg
  have hm : ∀ f : Fin 512 → ℝ, mean (fun k => (f k : EReal)) = (((∑ k, f k) * (1 / 512) : ℝ) : EReal) := fun f => by
    unfold mean
    rw [ofBits_512, Ideal.div_coe (by norm_num), EReal.coe_mul]
    refine congrArg (fun a : EReal => a * ((1 / 512 : ℝ) : EReal)) ?_
    exact (map_sum (⟨⟨fun x : ℝ => (x : EReal), rfl⟩, fun _ _ => EReal.coe_add _ _⟩ : ℝ →+ EReal) f Finset.univ).symm
  have hsq : ∀ f : Fin 512 → ℝ, (fun k => (f k : EReal) * f k) = fun k => ((f k * f k : ℝ) : EReal) := fun f =>
    funext fun k => (EReal.coe_mul _ _).symm
  unfold var
  rw [hm g, show (fun k => ((g k : EReal) - (((∑ k, g k) * (1 / 512) : ℝ) : EReal)) * ((g k : EReal) - (((∑ k, g k) * (1 / 512) : ℝ) : EReal)))
    = fun k => (((g k - (∑ k, g k) * (1 / 512)) * (g k - (∑ k, g k) * (1 / 512)) : ℝ) : EReal) from
      funext fun k => by rw [← EReal.coe_sub, ← EReal.coe_mul], hsq g, hm, hm, ← EReal.coe_mul, ← EReal.coe_sub]
  refine congrArg _ ?_
  have he : ∑ k, (g k - (∑ k, g k) * (1 / 512)) * (g k - (∑ k, g k) * (1 / 512))
      = ∑ k, g k * g k - (∑ k, g k) * (1 / 512) * (∑ k, g k) := by
    generalize hS : ∑ k, g k = S
    have : ∀ k, (g k - S * (1 / 512)) * (g k - S * (1 / 512)) = g k * g k - (2 * (S * (1 / 512))) * g k + (S * (1 / 512)) * (S * (1 / 512)) :=
      fun k => by ring
    rw [Finset.sum_congr rfl fun k _ => this k, Finset.sum_add_distrib, Finset.sum_sub_distrib, ← Finset.mul_sum, hS, Finset.sum_const,
      Finset.card_univ, Fintype.card_fin, nsmul_eq_mul]
    push_cast
    ring
  rw [he]
  ring

end Cert.Scan
-- ==== Proof.NormBlock.lean ====
/- The layer normalisation of a block of rows, read at an index: each row normalised on its own. -/
module

public import proofs.«01_k».proof.Proof.Row
public import Idealize.ShloMosaic.PureOps
public import Idealize.ShloMosaic.Lib.ValueIdx
public import Idealize.ShloMosaic.Lib.Pipeline.Value

@[expose] public section

noncomputable section

namespace Cert.Row

open Idealize.ShloMosaic Idealize.ShloMosaic.ValueIdx

variable {n : Nat}

/-- The column of row means. -/
theorem mean_block (v : FVec Ideal (⟨2, ![n, 512]⟩ : Shape) .f32) (hr : (⟨2, ![n, 512]⟩ : Shape).Reduces [1] ⟨1, ![n]⟩)
    (hc : (⟨1, ![n]⟩ : Shape).ShapeCasts ⟨2, ![n, 1]⟩) (hφ : FKind.Formats .f32) (h0 : (0x00000000#32 : BitVec 32) = FKind.add.neutral .f32 hφ) (r : Fin n) :
    divf (shapeCast (⟨2, ![n, 1]⟩ : Shape) (multiReduction .add [1] ⟨1, ![n]⟩ v 0x00000000#32 hr hφ h0) hc)
      (broadcast (⟨2, ![n, 1]⟩ : Shape) (Scalar.ofBits .f32 0x44000000#32 : Ideal .f32)) (ix2 r (0 : Fin 1))
    = mean fun k => v (ix2 r k) := by
  rw [divf_apply, shapeCast_apply (s := ⟨1, ![n]⟩) (t := ⟨2, ![n, 1]⟩) _ _ (ix2 r 0) (ix1 r) (by
    simp [Shape.rowMajor_val_one, Shape.rowMajor_val_two]; rfl), Ideal.multiReduction_add_single]
  show Ideal.div (∑ k : Fin 512, v (hr.lift (ix1 r) k)) _ = _
  unfold mean
  congr 1
  refine Finset.sum_congr rfl fun k _ => congrArg v ?_
  funext a; apply Fin.ext
  match a with
  | ⟨0, _⟩ => rfl
  | ⟨1, _⟩ => rfl

/-- The normalised block. -/
theorem norm_block (v : FVec Ideal (⟨2, ![n, 512]⟩ : Shape) .f32) (s b : FVec Ideal (⟨2, ![1, 512]⟩ : Shape) .f32)
    (hr : (⟨2, ![n, 512]⟩ : Shape).Reduces [1] ⟨1, ![n]⟩)
    (hc : (⟨1, ![n]⟩ : Shape).ShapeCasts ⟨2, ![n, 1]⟩) (hφ : FKind.Formats .f32) (h0 : (0x00000000#32 : BitVec 32) = FKind.add.neutral .f32 hφ)
    (hb : (⟨2, ![n, 1]⟩ : Shape).Broadcasts ⟨2, ![n, 512]⟩) (hs : (⟨2, ![1, 512]⟩ : Shape).Broadcasts ⟨2, ![n, 512]⟩)
    (mu : FVec Ideal (⟨2, ![n, 1]⟩ : Shape) .f32)
    (hmu : mu = divf (shapeCast (⟨2, ![n, 1]⟩ : Shape) (multiReduction .add [1] ⟨1, ![n]⟩ v 0x00000000#32 hr hφ h0) hc)
      (broadcast (⟨2, ![n, 1]⟩ : Shape) (Scalar.ofBits .f32 0x44000000#32 : Ideal .f32)))
    (r : Fin n) (c : Fin 512) :
    addf (mulf (mulf (subf v (broadcastTo (⟨2, ![n, 512]⟩ : Shape) mu hb))
      (broadcastTo (⟨2, ![n, 512]⟩ : Shape) (rsqrt (addf
        (divf (shapeCast (⟨2, ![n, 1]⟩ : Shape) (multiReduction .add [1] ⟨1, ![n]⟩
          (mulf (subf v (broadcastTo (⟨2, ![n, 512]⟩ : Shape) mu hb)) (subf v (broadcastTo (⟨2, ![n, 512]⟩ : Shape) mu hb)))
          0x00000000#32 hr hφ h0) hc) (broadcast (⟨2, ![n, 1]⟩ : Shape) (Scalar.ofBits .f32 0x44000000#32 : Ideal .f32)))
        (broadcast (⟨2, ![n, 1]⟩ : Shape) (Scalar.ofBits .f32 0x3727C5AC#32 : Ideal .f32)))) hb))
      (broadcastTo (⟨2, ![n, 512]⟩ : Shape) s hs)) (broadcastTo (⟨2, ![n, 512]⟩ : Shape) b hs) (ix2 r c)
    = norm (fun k => v (ix2 r k)) (fun k => s (ix2 0 k)) (fun k => b (ix2 0 k)) c := by
  have hm : ∀ r : Fin n, mu (ix2 r (0 : Fin 1)) = mean fun k => v (ix2 r k) := fun r => by rw [hmu]; exact mean_block v hr hc hφ h0 r
  have hbc : ∀ (u : FVec Ideal (⟨2, ![n, 1]⟩ : Shape) .f32) (r : Fin n) (k : Fin 512),
      broadcastTo (⟨2, ![n, 512]⟩ : Shape) u hb (ix2 r k) = u (ix2 r (0 : Fin 1)) := fun u r k =>
    broadcastTo_apply (s := ⟨2, ![n, 1]⟩) (t := ⟨2, ![n, 512]⟩) u _ (ix2 r k) (ix2 r 0) (fun a => by
      match a with
      | ⟨0, _⟩ =>
        show r.val = if n = 1 then 0 else r.val
        have := r.isLt
        split <;> omega
      | ⟨1, _⟩ => rfl)
  have hsc : ∀ (u : FVec Ideal (⟨2, ![1, 512]⟩ : Shape) .f32) (k : Fin 512),
      broadcastTo (⟨2, ![n, 512]⟩ : Shape) u hs (ix2 r k) = u (ix2 (0 : Fin 1) k) := fun u k =>
    broadcastTo_apply (s := ⟨2, ![1, 512]⟩) (t := ⟨2, ![n, 512]⟩) u _ (ix2 r k) (ix2 0 k) (fun a => by fin_cases a <;> rfl)
  rw [addf_apply, mulf_apply, mulf_apply, hsc, hsc, hbc, subf_apply, hbc, hm]
  show (_ - _) * Ideal.rsqrt (_ + Ideal.ofBits .f32 0x3727C5AC#32) * _ + _ = _
  rw [mean_block]
  unfold norm var eps
  congr 5
  congr 1
  funext k
  rw [mulf_apply, subf_apply, hbc, hm]

end Cert.Row
-- ==== Proof.ScanPay.lean ====
/- What one step of the scan's body computes from the blocks it loads, read at an index: the sixteen scores of a sequence,
   the soft read, the row before and after its normalisation, and the row written to the memory. -/
module

public import proofs.«01_k».proof.Proof.ScanSpec
public import proofs.«01_k».proof.Proof.NormBlock
public import proofs.«01_k».proof.Proof.Gen.ScanIdeal.Skeleton
public import Idealize.ShloMosaic.Lib.ValueIdx
public import Idealize.ShloMosaic.Lib.MatmulPlain
public import Idealize.ShloMosaic.Lib.Pipeline.ValueKit.Tiles

@[expose] public section

noncomputable section

namespace Cert.ScanIdeal.Out

open Cert.ScanIdeal Cert.ScanIdeal.Gen Idealize.ShloMosaic Idealize.ShloMosaic.TcCoe Idealize.SL.Sem
open Idealize.ShloMosaic.ValueIdx

/-- A block of rows times a matrix. -/
theorem product_apply (A : FVec Ideal S4x512 .f32) (B : FVec Ideal S512x512 .f32) (r : Fin 4) (d : Fin 512) :
    matmul dot_S4x512_S512x512_S4x512_1_0_0_1_n_n none A B (constant S4x512 .f32 0x00000000#32) (ix2 r d)
      = ∑ k : Fin 512, A (ix2 r k) * B (ix2 k d) := by
  show FloatOps.matmul (DotDims.plain 4 512 512) none _ _ _ (ix2 r d) = _
  rw [Ideal.matmul_plain_apply]
  rw [show constant (F := Ideal) S4x512 .f32 0x00000000#32 (ix2 r d) = 0 from Ideal.ofBits_zero_f32, zero_add]

/-- Dropping a leading unit axis. -/
theorem drop_apply (A : FVec Ideal S1x4x512 .f32) (i : Fin 4) (j : Fin 512) :
    shapeCast S4x512 A shapeCasts_S1x4x512_S4x512 (ix2 i j) = A (ix3 (0 : Fin 1) i j) :=
  shapeCast_apply (s := S1x4x512) (t := S4x512) A _ (ix2 i j) (ix3 (0 : Fin 1) i j) (by
    rw [Shape.rowMajor_val_three, Shape.rowMajor_val_two]
    show (0 * 4 + i.val) * 512 + j.val = i.val * 512 + j.val
    rw [Nat.zero_mul, Nat.zero_add])

/-- Adding a leading unit axis. -/
theorem lift_apply (A : FVec Ideal S4x512 .f32) (i : Fin 4) (j : Fin 512) :
    shapeCast S1x4x512 A shapeCasts_S4x512_S1x4x512 (ix3 (0 : Fin 1) i j) = A (ix2 i j) :=
  shapeCast_apply (s := S4x512) (t := S1x4x512) A _ (ix3 (0 : Fin 1) i j) (ix2 i j) (by
    rw [Shape.rowMajor_val_three, Shape.rowMajor_val_two]
    show i.val * 512 + j.val = (0 * 4 + i.val) * 512 + j.val
    rw [Nat.zero_mul, Nat.zero_add])

/-- One value per sequence spread over the memory rows. -/
theorem spread_apply (u : FVec Ideal S4 .f32) (k : Fin 16) (c : Fin 4) :
    broadcastTo S16x4 (shapeCast S1x4 u shapeCasts_S4_S1x4) broadcasts_S1x4_S16x4 (ix2 k c) = u (ix1 c) := by
  rw [broadcastTo_apply (s := S1x4) (t := S16x4) _ _ (ix2 k c) (ix2 (0 : Fin 1) c) (fun a => by fin_cases a <;> rfl)]
  exact shapeCast_apply (s := S4) (t := S1x4) _ _ (ix2 0 c) (ix1 c) (by simp [Shape.rowMajor_val_one, Shape.rowMajor_val_two])

/-- The scores of the memory rows. -/
theorem scores_apply (q : FVec Ideal S4x512 .f32) (m : FVec Ideal S16x4x512 .f32) (k : Fin 16) (c : Fin 4) :
    multiReduction .add [2] S16x4 (mulf m (broadcastTo S16x4x512 (shapeCast S1x4x512 q shapeCasts_S4x512_S1x4x512) broadcasts_S1x4x512_S16x4x512))
      0x00000000#32 reduces_S16x4x512_S16x4 (.inl rfl) rfl (ix2 k c) = ∑ i : Fin 512, m (ix3 k c i) * q (ix2 c i) := by
  refine (Ideal.multiReduction_add_single (a := 2) _ _ _ _ _ (ix2 k c)).trans ?_
  refine Finset.sum_congr rfl fun (i : Fin 512) _ => ?_
  rw [show (reduces_S16x4x512_S16x4 : S16x4x512.Reduces [2] S16x4).lift (ix2 k c) i = ix3 k c i from
    funext fun a => by fin_cases a <;> rfl, mulf_apply,
    broadcastTo_apply (s := S1x4x512) (t := S16x4x512) _ _ (ix3 k c i) (ix3 (0 : Fin 1) c i) (fun a => by fin_cases a <;> rfl), lift_apply]

/-- The softmax of the scores and the weighted sum of the memory rows. -/
theorem soft_apply (s : FVec Ideal S16x4 .f32) (m : FVec Ideal S16x4x512 .f32) (c : Fin 4) (d : Fin 512) :
    multiReduction .add [0] S4x512 (mulf (broadcastTo S16x4x512 (shapeCast S16x4x1
      (divf (exp (subf s (broadcastTo S16x4 (shapeCast S1x4 (multiReduction .maximumf [0] S4 s 0xFF800000#32 reduces_S16x4_S4 (.inl rfl) rfl) shapeCasts_S4_S1x4) broadcasts_S1x4_S16x4)))
        (broadcastTo S16x4 (shapeCast S1x4 (multiReduction .add [0] S4
          (exp (subf s (broadcastTo S16x4 (shapeCast S1x4 (multiReduction .maximumf [0] S4 s 0xFF800000#32 reduces_S16x4_S4 (.inl rfl) rfl) shapeCasts_S4_S1x4) broadcasts_S1x4_S16x4)))
          0x00000000#32 reduces_S16x4_S4 (.inl rfl) rfl) shapeCasts_S4_S1x4) broadcasts_S1x4_S16x4)) shapeCasts_S16x4_S16x4x1) broadcasts_S16x4x1_S16x4x512) m)
      0x00000000#32 reduces_S16x4x512_S4x512 (.inl rfl) rfl (ix2 c d)
    = Row.read (fun k => s (ix2 k c)) (fun k => m (ix3 k c d)) := by
  have hl : ∀ k : Fin 16, (reduces_S16x4_S4 : S16x4.Reduces [0] S4).lift (ix1 c) k = ix2 k c := fun k =>
    funext fun a => by fin_cases a <;> rfl
  have hm : multiReduction .maximumf [0] S4 s 0xFF800000#32 reduces_S16x4_S4 (.inl rfl) rfl (ix1 c)
      = Finset.univ.sup fun k : Fin 16 => s (ix2 k c) := by
    refine (Ideal.multiReduction_maximumf_single (a := 0) s _ _ _ _ (ix1 c)).trans ?_
    show Finset.univ.fold max (Ideal.ofBits .f32 0xFF800000#32) (fun k : Fin 16 => s ((reduces_S16x4_S4 : S16x4.Reduces [0] S4).lift (ix1 c) k)) = _
    rw [Row.ofBits_bot]
    simp only [hl]
    rfl
  have he : ∀ k : Fin 16, exp (subf s (broadcastTo S16x4 (shapeCast S1x4 (multiReduction .maximumf [0] S4 s 0xFF800000#32 reduces_S16x4_S4 (.inl rfl) rfl) shapeCasts_S4_S1x4) broadcasts_S1x4_S16x4)) (ix2 k c)
      = Ideal.exp (s (ix2 k c) - Finset.univ.sup fun k : Fin 16 => s (ix2 k c)) := fun k => by
    show Ideal.exp (s (ix2 k c) - broadcastTo S16x4 _ _ (ix2 k c)) = _
    rw [spread_apply, hm]
  refine (Ideal.multiReduction_add_single (a := 0) _ _ _ _ _ (ix2 c d)).trans ?_
  unfold Row.read
  refine Finset.sum_congr rfl fun (k : Fin 16) _ => ?_
  rw [show (reduces_S16x4x512_S4x512 : S16x4x512.Reduces [0] S4x512).lift (ix2 c d) k = ix3 k c d from
    funext fun a => by fin_cases a <;> rfl, mulf_apply,
    broadcastTo_apply (s := S16x4x1) (t := S16x4x512) _ _ (ix3 k c d) (ix3 k c (0 : Fin 1)) (fun a => by fin_cases a <;> rfl),
    shapeCast_apply (s := S16x4) (t := S16x4x1) _ _ (ix3 k c 0) (ix2 k c) (by
      rw [Shape.rowMajor_val_three, Shape.rowMajor_val_two]
      show k.val * 4 + c.val = (k.val * 4 + c.val) * 1 + 0
      omega)]
  refine congrArg (· * _) ?_
  rw [divf_apply, spread_apply, he]
  refine congrArg (Ideal.div _) ((Ideal.multiReduction_add_single (a := 0) _ _ _ _ _ (ix1 c)).trans ?_)
  refine Finset.sum_congr rfl fun (k : Fin 16) _ => ?_
  rw [hl]
  exact he k

variable (q x : Vec Ideal S1x4x512 .f32) (m : Vec Ideal S16x4x512 .f32) (wv wr : Vec Ideal S512x512 .f32) (s b : Vec Ideal S1x512 .f32)

/-- The memory rows of a sequence. -/
def rows (c : Fin 4) (k : Fin 16) (d : Fin 512) : EReal := m (ix3 k c d)

/-- The row of a sequence before it is normalised. -/
def pre (c : Fin 4) : Fin 512 → EReal :=
  Scan.hid (rows m c) (fun d => q (ix3 0 c d)) (fun d => x (ix3 0 c d)) (fun e d => wv (ix2 e d))

theorem pay6_apply (c : Fin 4) (d : Fin 512) : k0_pay6 q m wv x (ix2 c d) = pre q x m wv c d := by
  unfold k0_pay6
  rw [addf_apply, drop_apply, product_apply]
  refine congrArg (x (ix3 0 c d) + ·) (Finset.sum_congr rfl fun e _ => congrArg (· * wv (ix2 e d)) ?_)
  refine (soft_apply _ m c e).trans ?_
  refine congrArg (fun f => Row.read f fun k => m (ix3 k c e)) (funext fun k => ?_)
  refine (scores_apply _ m k c).trans (Finset.sum_congr rfl fun i _ => congrArg (m (ix3 k c i) * ·) ?_)
  exact drop_apply q c i

/-- The block of rows a step puts out. -/
def rowV : FVec Ideal S4x512 .f32 := k0_pay9 (k0_pay6 q m wv x) (k0_pay7 q m wv x) (k0_pay8 q m wv x) s b
/-- The block of rows a step writes. -/
def wordV : FVec Ideal S4x512 .f32 := k0_pay10 (k0_pay6 q m wv x) (k0_pay7 q m wv x) (k0_pay8 q m wv x) s b wr

theorem rowV_apply (c : Fin 4) (d : Fin 512) (h : ∀ d, Row.Real' (pre q x m wv c d)) :
    rowV q x m wv s b (ix2 c d) = Row.norm (pre q x m wv c) (fun d => s (ix2 0 d)) (fun d => b (ix2 0 d)) d := by
  have h7 : k0_pay7 q m wv x (ix2 c (0 : Fin 1)) = Row.mean (pre q x m wv c) := by
    refine (Row.mean_block (n := 4) (k0_pay6 q m wv x) _ _ _ _ c).trans ?_
    simp only [pay6_apply]
  have h48 : divf (k0_pay8 q m wv x) (broadcast S4x1 (Scalar.ofBits .f32 0x44000000#32 : Ideal .f32)) (ix2 c (0 : Fin 1))
      = Row.mean fun k => pre q x m wv c k * pre q x m wv c k := by
    refine (Row.mean_block (n := 4) (mulf (k0_pay6 q m wv x) (k0_pay6 q m wv x)) _ _ _ _ c).trans ?_
    simp only [mulf_apply, pay6_apply]
  have hbc : ∀ (u : FVec Ideal S4x1 .f32), broadcastTo S4x512 u broadcasts_S4x1_S4x512 (ix2 c d) = u (ix2 c (0 : Fin 1)) := fun u =>
    broadcastTo_apply (s := S4x1) (t := S4x512) u _ (ix2 c d) (ix2 c 0) (fun a => by fin_cases a <;> rfl)
  have hsc : ∀ (u : FVec Ideal S1x512 .f32), broadcastTo S4x512 u broadcasts_S1x512_S4x512 (ix2 c d) = u (ix2 (0 : Fin 1) d) := fun u =>
    broadcastTo_apply (s := S1x512) (t := S4x512) u _ (ix2 c d) (ix2 0 d) (fun a => by fin_cases a <;> rfl)
  unfold rowV k0_pay9
  rw [addf_apply, mulf_apply, mulf_apply, subf_apply, hsc, hsc, hbc, hbc, pay6_apply, h7]
  show (_ - _) * Ideal.rsqrt ((divf (k0_pay8 q m wv x) (broadcast S4x1 (Scalar.ofBits .f32 0x44000000#32 : Ideal .f32)) (ix2 c (0 : Fin 1)) : EReal) - k0_pay7 q m wv x (ix2 c 0) * k0_pay7 q m wv x (ix2 c 0) + Row.eps) * _ + _ = _
  rw [h48, h7, Scan.var_eq h]
  rfl

theorem wordV_apply (c : Fin 4) (d : Fin 512) :
    wordV q x m wv wr s b (ix2 c d) = ∑ e, rowV q x m wv s b (ix2 c e) * wr (ix2 e d) := by
  unfold wordV k0_pay10
  exact product_apply _ wr c d

end Cert.ScanIdeal.Out
-- ==== Proof.ScanTrip.lean ====
module

public import proofs.«01_k».proof.Proof.Gen.ScanIdeal.Loops
public import proofs.«01_k».proof.Proof.ScanPay

/-! A trip of the scan kernel's loop does sixteen steps, each a copy of the same text. Here the pieces a trip
stores are stated as a recursion over its steps. -/

@[expose] public section
noncomputable section
namespace Cert.ScanIdeal.Out
open Cert.ScanIdeal Cert.ScanIdeal.Gen Idealize.ShloMosaic Idealize.ShloMosaic.TcCoe Idealize.SL.Sem Idealize.ShloMosaic.Tactic

/-- A block of rows as one slice of a buffer. -/
def lift (v : FVec Ideal S4x512 .f32) : Vec Ideal S1x4x512 .f32 := shapeCast S1x4x512 v shapeCasts_S4x512_S1x4x512

theorem slot_inb (n : ℕ) (hn : n < 16) : ∀ a, (![n, 0, 0] : Fin 3 → ℕ) a + S1x4x512.size a ≤ S16x4x512.size a := by
  intro a
  fin_cases a
  · show n + 1 ≤ 16
    omega
  · exact Nat.le_refl 4
  · exact Nat.le_refl 512

section
variable {a0 : Memref sig .tc .vmem S1024x4x512 .f32}
  {a1 : Memref sig .tc .vmem S1024x4x512 .f32}
  {a2 : Memref sig .tc .vmem S512x512 .f32}
  {a3 : Memref sig .tc .vmem S512x512 .f32}
  {a4 : Memref sig .tc .vmem S1x512 .f32}
  {a5 : Memref sig .tc .vmem S1x512 .f32}
  {a8 : Memref sig .tc .vmem S16x4x512 .f32}
  {X0 : BufTy.Contents (Elt Ideal) a0.view.ty}
  {X1 : BufTy.Contents (Elt Ideal) a1.view.ty}
  {X2 : BufTy.Contents (Elt Ideal) a2.view.ty}
  {X3 : BufTy.Contents (Elt Ideal) a3.view.ty}
  {X4 : BufTy.Contents (Elt Ideal) a4.view.ty}
  {X5 : BufTy.Contents (Elt Ideal) a5.view.ty}
  (k : Fin k0_t1_loop.trips) (f8 : BufTy.Contents (Elt Ideal) a8.view.ty)

/-- What a step loads: its query row, its row, the memory as the pieces `L` left it, the weights. -/
def qAt (r : Fin 16) : Vec Ideal S1x4x512 .f32 :=
  View.readAt (Elt Ideal) a1.view (Rect.unit (s := S1024x4x512) (k0_off1 k (BitVec.ofNat 32 r.val)) S1x4x512.size (k0_off1_inb k r)).toLoadRect X1
def xAt (r : Fin 16) : Vec Ideal S1x4x512 .f32 :=
  View.readAt (Elt Ideal) a0.view (Rect.unit (s := S1024x4x512) (k0_off1 k (BitVec.ofNat 32 r.val)) S1x4x512.size (k0_off1_inb k r)).toLoadRect X0
def memAt (L : List (View.Piece (Elt Ideal) S16x4x512 .f32)) : Vec Ideal S16x4x512 .f32 :=
  View.readAt (Elt Ideal) a8.view (Rect.unit (s := S16x4x512) ![0, 0, 0] S16x4x512.size inb_S16x4x512_S16x4x512_0_0_0).toLoadRect (a8.view.writes (Elt Ideal) f8 L)
def wvAt : Vec Ideal S512x512 .f32 :=
  View.readAt (Elt Ideal) a2.view (Rect.unit (s := S512x512) ![0, 0] S512x512.size inb_S512x512_S512x512_0_0).toLoadRect X2
def wrAt : Vec Ideal S512x512 .f32 :=
  View.readAt (Elt Ideal) a3.view (Rect.unit (s := S512x512) ![0, 0] S512x512.size inb_S512x512_S512x512_0_0).toLoadRect X3
def sAt : Vec Ideal S1x512 .f32 :=
  View.readAt (Elt Ideal) a4.view (Rect.unit (s := S1x512) ![0, 0] S1x512.size inb_S1x512_S1x512_0_0).toLoadRect X4
def bAt : Vec Ideal S1x512 .f32 :=
  View.readAt (Elt Ideal) a5.view (Rect.unit (s := S1x512) ![0, 0] S1x512.size inb_S1x512_S1x512_0_0).toLoadRect X5

/-- The rows step `r` puts out, and those it writes, after the pieces `L`. -/
def rowAt (L : List (View.Piece (Elt Ideal) S16x4x512 .f32)) (r : Fin 16) : FVec Ideal S4x512 .f32 :=
  rowV (qAt (X1 := X1) k r) (xAt (X0 := X0) k r) (memAt f8 L) (wvAt (X2 := X2)) (sAt (X4 := X4)) (bAt (X5 := X5))
def wordAt (L : List (View.Piece (Elt Ideal) S16x4x512 .f32)) (r : Fin 16) : FVec Ideal S4x512 .f32 :=
  wordV (qAt (X1 := X1) k r) (xAt (X0 := X0) k r) (memAt f8 L) (wvAt (X2 := X2)) (wrAt (X3 := X3)) (sAt (X4 := X4)) (bAt (X5 := X5))

variable (X0 X1 X2 X3 X4 X5)
/-- The memory pieces of the first `n` steps. -/
def hist : (n : ℕ) → n ≤ 16 → List (View.Piece (Elt Ideal) S16x4x512 .f32)
  | 0, _ => []
  | n + 1, h => ⟨Rect.unit (s := S16x4x512) ![n, 0, 0] S1x4x512.size (slot_inb n h),
      lift (wordAt (X0 := X0) (X1 := X1) (X2 := X2) (X3 := X3) (X4 := X4) (X5 := X5) k f8 (hist n (Nat.le_of_succ_le h)) ⟨n, h⟩)⟩ :: hist n (Nat.le_of_succ_le h)

/-- The pieces of the rows put out by the first `n` steps. -/
def outs : (n : ℕ) → n ≤ 16 → List (View.Piece (Elt Ideal) S1024x4x512 .f32)
  | 0, _ => []
  | n + 1, h => ⟨Rect.unit (s := S1024x4x512) (k0_off1 k (BitVec.ofNat 32 n)) S1x4x512.size (k0_off1_inb k ⟨n, h⟩),
      lift (rowAt (X0 := X0) (X1 := X1) (X2 := X2) (X4 := X4) (X5 := X5) k f8 (hist X0 X1 X2 X3 X4 X5 k f8 n (Nat.le_of_succ_le h)) ⟨n, h⟩)⟩ :: outs n (Nat.le_of_succ_le h)

/-- The pieces of the rows written by the first `n` steps. -/
def writ : (n : ℕ) → n ≤ 16 → List (View.Piece (Elt Ideal) S1040x4x512 .f32)
  | 0, _ => []
  | n + 1, h => ⟨Rect.unit (s := S1040x4x512) (k0_off2 k (BitVec.ofNat 32 n)) S1x4x512.size (k0_off2_inb k ⟨n, h⟩),
      lift (wordAt (X0 := X0) (X1 := X1) (X2 := X2) (X3 := X3) (X4 := X4) (X5 := X5) k f8 (hist X0 X1 X2 X3 X4 X5 k f8 n (Nat.le_of_succ_le h)) ⟨n, h⟩)⟩ :: writ n (Nat.le_of_succ_le h)
end

theorem trip_hist (c : Dev nD) (a0 : Memref sig .tc .vmem S1024x4x512 .f32) (h0 : a0.IsWhole)
  (a1 : Memref sig .tc .vmem S1024x4x512 .f32) (h1 : a1.IsWhole)
  (a2 : Memref sig .tc .vmem S512x512 .f32) (h2 : a2.IsWhole)
  (a3 : Memref sig .tc .vmem S512x512 .f32) (h3 : a3.IsWhole)
  (a4 : Memref sig .tc .vmem S1x512 .f32) (h4 : a4.IsWhole)
  (a5 : Memref sig .tc .vmem S1x512 .f32) (h5 : a5.IsWhole)
  (a6 : Memref sig .tc .vmem S1024x4x512 .f32) (h6 : a6.IsWhole)
  (a7 : Memref sig .tc .vmem S1040x4x512 .f32) (h7 : a7.IsWhole)
  (a8 : Memref sig .tc .vmem S16x4x512 .f32) (h8 : a8.IsWhole)
  (X0 : BufTy.Contents (Elt Ideal) a0.view.ty)
  (X1 : BufTy.Contents (Elt Ideal) a1.view.ty)
  (X2 : BufTy.Contents (Elt Ideal) a2.view.ty)
  (X3 : BufTy.Contents (Elt Ideal) a3.view.ty)
  (X4 : BufTy.Contents (Elt Ideal) a4.view.ty)
  (X5 : BufTy.Contents (Elt Ideal) a5.view.ty)
  (k : Fin k0_t1_loop.trips) (f6 : BufTy.Contents (Elt Ideal) a6.view.ty) (f7 : BufTy.Contents (Elt Ideal) a7.view.ty) (f8 : BufTy.Contents (Elt Ideal) a8.view.ty) :
  (tripL_k0_t1 (F := Ideal) Variants.none c none a0 h0 a1 h1 a2 h2 a3 h3 a4 h4 a5 h5 a6 h6 a7 h7 a8 h8 X0 X1 X2 X3 X4 X5 k f6 f7 f8).2.2 = hist X0 X1 X2 X3 X4 X5 k f8 16 (Nat.le_refl 16) := by
  unfold tripL_k0_t1 trip_k0_t1
  rfl

theorem trip_outs (c : Dev nD) (a0 : Memref sig .tc .vmem S1024x4x512 .f32) (h0 : a0.IsWhole)
  (a1 : Memref sig .tc .vmem S1024x4x512 .f32) (h1 : a1.IsWhole)
  (a2 : Memref sig .tc .vmem S512x512 .f32) (h2 : a2.IsWhole)
  (a3 : Memref sig .tc .vmem S512x512 .f32) (h3 : a3.IsWhole)
  (a4 : Memref sig .tc .vmem S1x512 .f32) (h4 : a4.IsWhole)
  (a5 : Memref sig .tc .vmem S1x512 .f32) (h5 : a5.IsWhole)
  (a6 : Memref sig .tc .vmem S1024x4x512 .f32) (h6 : a6.IsWhole)
  (a7 : Memref sig .tc .vmem S1040x4x512 .f32) (h7 : a7.IsWhole)
  (a8 : Memref sig .tc .vmem S16x4x512 .f32) (h8 : a8.IsWhole)
  (X0 : BufTy.Contents (Elt Ideal) a0.view.ty)
  (X1 : BufTy.Contents (Elt Ideal) a1.view.ty)
  (X2 : BufTy.Contents (Elt Ideal) a2.view.ty)
  (X3 : BufTy.Contents (Elt Ideal) a3.view.ty)
  (X4 : BufTy.Contents (Elt Ideal) a4.view.ty)
  (X5 : BufTy.Contents (Elt Ideal) a5.view.ty)
  (k : Fin k0_t1_loop.trips) (f6 : BufTy.Contents (Elt Ideal) a6.view.ty) (f7 : BufTy.Contents (Elt Ideal) a7.view.ty) (f8 : BufTy.Contents (Elt Ideal) a8.view.ty) :
  (tripL_k0_t1 (F := Ideal) Variants.none c none a0 h0 a1 h1 a2 h2 a3 h3 a4 h4 a5 h5 a6 h6 a7 h7 a8 h8 X0 X1 X2 X3 X4 X5 k f6 f7 f8).1 = outs X0 X1 X2 X3 X4 X5 k f8 16 (Nat.le_refl 16) := by
  unfold tripL_k0_t1 trip_k0_t1
  rfl

theorem trip_writ (c : Dev nD) (a0 : Memref sig .tc .vmem S1024x4x512 .f32) (h0 : a0.IsWhole)
  (a1 : Memref sig .tc .vmem S1024x4x512 .f32) (h1 : a1.IsWhole)
  (a2 : Memref sig .tc .vmem S512x512 .f32) (h2 : a2.IsWhole)
  (a3 : Memref sig .tc .vmem S512x512 .f32) (h3 : a3.IsWhole)
  (a4 : Memref sig .tc .vmem S1x512 .f32) (h4 : a4.IsWhole)
  (a5 : Memref sig .tc .vmem S1x512 .f32) (h5 : a5.IsWhole)
  (a6 : Memref sig .tc .vmem S1024x4x512 .f32) (h6 : a6.IsWhole)
  (a7 : Memref sig .tc .vmem S1040x4x512 .f32) (h7 : a7.IsWhole)
  (a8 : Memref sig .tc .vmem S16x4x512 .f32) (h8 : a8.IsWhole)
  (X0 : BufTy.Contents (Elt Ideal) a0.view.ty)
  (X1 : BufTy.Contents (Elt Ideal) a1.view.ty)
  (X2 : BufTy.Contents (Elt Ideal) a2.view.ty)
  (X3 : BufTy.Contents (Elt Ideal) a3.view.ty)
  (X4 : BufTy.Contents (Elt Ideal) a4.view.ty)
  (X5 : BufTy.Contents (Elt Ideal) a5.view.ty)
  (k : Fin k0_t1_loop.trips) (f6 : BufTy.Contents (Elt Ideal) a6.view.ty) (f7 : BufTy.Contents (Elt Ideal) a7.view.ty) (f8 : BufTy.Contents (Elt Ideal) a8.view.ty) :
  (tripL_k0_t1 (F := Ideal) Variants.none c none a0 h0 a1 h1 a2 h2 a3 h3 a4 h4 a5 h5 a6 h6 a7 h7 a8 h8 X0 X1 X2 X3 X4 X5 k f6 f7 f8).2.1 = writ X0 X1 X2 X3 X4 X5 k f8 16 (Nat.le_refl 16) := by
  unfold tripL_k0_t1 trip_k0_t1
  rfl

end Cert.ScanIdeal.Out
-- ==== Proof.ScanLoop.lean ====
/- What the scan kernel's loop leaves: after every trip the memory holds the recurrence's memory rows, the two outputs
   the rows put out and the rows written so far. -/
module

public import proofs.«01_k».proof.Proof.ScanTrip
public import proofs.«01_k».proof.Proof.ScanSpec
public import Idealize.ShloMosaic.Lib.VecWindow

@[expose] public section

noncomputable section

namespace Cert.ScanIdeal.Out

open Cert.ScanIdeal Cert.ScanIdeal.Gen Idealize.ShloMosaic Idealize.ShloMosaic.TcCoe Idealize.SL.Sem
open Idealize.ShloMosaic.ValueIdx
open Cert.Row (Real')

theorem off1_eq : ∀ (k : Fin k0_t1_loop.trips) (r : Fin 16), k0_off1 k (BitVec.ofNat 32 r.val) = ![16 * k.val + r.val, 0, 0] := by
  decide +kernel

theorem off2_eq : ∀ (k : Fin k0_t1_loop.trips) (r : Fin 16), k0_off2 k (BitVec.ofNat 32 r.val) = ![16 * k.val + r.val + 16, 0, 0] := by
  decide +kernel

theorem trips_eq : k0_t1_loop.trips = 64 := by decide +kernel

theorem lift_ix (v : FVec Ideal S4x512 .f32) (c : Fin 4) (d : Fin 512) : lift v (ix3 0 c d) = v (ix2 c d) := lift_apply v c d

/-- A slice written over a buffer, read at a row: the slice at its own row, what was there elsewhere. -/
theorem read_slice {N : ℕ} (v : View sig .tc .vmem (⟨3, ![N, 4, 512]⟩ : Shape) .f32) (f : v.ty.Contents (Elt Ideal)) {off : Fin 3 → ℕ}
    (inb : ∀ a : Fin 3, off a + S1x4x512.size a ≤ (⟨3, ![N, 4, 512]⟩ : Shape).size a) (w : FVec Ideal S4x512 .f32)
    (L : List (View.Piece (Elt Ideal) (⟨3, ![N, 4, 512]⟩ : Shape) .f32)) {o : ℕ} (ho : off = ![o, 0, 0]) (t : Fin N) (c : Fin 4) (d : Fin 512) :
    v.read (Elt Ideal) (v.writes (Elt Ideal) f (⟨Rect.unit (s := (⟨3, ![N, 4, 512]⟩ : Shape)) off S1x4x512.size inb, lift w⟩ :: L)) (ix3 t c d)
      = if t.val = o then w (ix2 c d) else v.read (Elt Ideal) (v.writes (Elt Ideal) f L) (ix3 t c d) := by
  split
  · rename_i h
    refine (View.read_writes_cons_unit_of_mem v f inb (lift w) L (ix3 t c d) (ix3 0 c d) ho ?_).trans (lift_ix w c d)
    intro a
    fin_cases a
    · exact h
    · exact (Nat.zero_add _).symm
    · exact (Nat.zero_add _).symm
  · rename_i h
    refine View.read_writes_cons_unit_of_not_mem v f inb (lift w) L (ix3 t c d) ho 0 ?_
    show t.val < o ∨ o + 1 ≤ t.val
    omega

section
variable {a0 : Memref sig .tc .vmem S1024x4x512 .f32}
  {a1 : Memref sig .tc .vmem S1024x4x512 .f32}
  {a2 : Memref sig .tc .vmem S512x512 .f32}
  {a3 : Memref sig .tc .vmem S512x512 .f32}
  {a4 : Memref sig .tc .vmem S1x512 .f32}
  {a5 : Memref sig .tc .vmem S1x512 .f32}
  {a8 : Memref sig .tc .vmem S16x4x512 .f32}
  {X0 : BufTy.Contents (Elt Ideal) a0.view.ty}
  {X1 : BufTy.Contents (Elt Ideal) a1.view.ty}
  {X2 : BufTy.Contents (Elt Ideal) a2.view.ty}
  {X3 : BufTy.Contents (Elt Ideal) a3.view.ty}
  {X4 : BufTy.Contents (Elt Ideal) a4.view.ty}
  {X5 : BufTy.Contents (Elt Ideal) a5.view.ty}
  (X Q : ℕ → Fin 4 → Fin 512 → EReal) (wv wr : Fin 512 → Fin 512 → EReal) (s b : Fin 512 → EReal)

/-- What the loop's loads read, and that it is real. -/
structure Reads (X0 : BufTy.Contents (Elt Ideal) a0.view.ty)
  (X1 : BufTy.Contents (Elt Ideal) a1.view.ty)
  (X2 : BufTy.Contents (Elt Ideal) a2.view.ty)
  (X3 : BufTy.Contents (Elt Ideal) a3.view.ty)
  (X4 : BufTy.Contents (Elt Ideal) a4.view.ty)
  (X5 : BufTy.Contents (Elt Ideal) a5.view.ty) : Prop where
  x : ∀ k r c d, xAt (X0 := X0) k r (ix3 0 c d) = X (16 * k.val + r.val) c d
  q : ∀ k r c d, qAt (X1 := X1) k r (ix3 0 c d) = Q (16 * k.val + r.val) c d
  hwv : ∀ e d, wvAt (X2 := X2) (ix2 e d) = wv e d
  hwr : ∀ e d, wrAt (X3 := X3) (ix2 e d) = wr e d
  hs : ∀ d, sAt (X4 := X4) (ix2 0 d) = s d
  hb : ∀ d, bAt (X5 := X5) (ix2 0 d) = b d
  rX : ∀ t c d, Real' (X t c d)
  rQ : ∀ t c d, Real' (Q t c d)
  rv : ∀ e d, Real' (wv e d)
  rr : ∀ e d, Real' (wr e d)
  rs : ∀ d, Real' (s d)
  rb : ∀ d, Real' (b d)

variable {X Q wv wr s b} (R : Reads X Q wv wr s b X0 X1 X2 X3 X4 X5) (k : Fin k0_t1_loop.trips) (f8 : BufTy.Contents (Elt Ideal) a8.view.ty)
include R

theorem rowAt_eq (L : List (View.Piece (Elt Ideal) S16x4x512 .f32)) (r : Fin 16)
    (hm : ∀ sl c d, a8.view.read (Elt Ideal) (a8.view.writes (Elt Ideal) f8 L) (ix3 sl c d) = Scan.mem X Q wv wr s b (16 * k.val + r.val) c sl d)
    (c : Fin 4) (d : Fin 512) : rowAt (X0 := X0) (X1 := X1) (X2 := X2) (X4 := X4) (X5 := X5) k f8 L r (ix2 c d) = Scan.out X Q wv wr s b (16 * k.val + r.val) c d := by
  have hM : memAt f8 L = a8.view.read (Elt Ideal) (a8.view.writes (Elt Ideal) f8 L) := View.readAt_full a8.view _ _
  have hp : ∀ d, pre (qAt (X1 := X1) k r) (xAt (X0 := X0) k r) (memAt f8 L) (wvAt (X2 := X2)) c d
      = Scan.hid (Scan.mem X Q wv wr s b (16 * k.val + r.val) c) (Q (16 * k.val + r.val) c) (X (16 * k.val + r.val) c) wv d := fun d => by
    unfold pre
    rw [show rows (memAt f8 L) c = Scan.mem X Q wv wr s b (16 * k.val + r.val) c from
        funext fun sl => funext fun d => (congrFun hM (ix3 sl c d)).trans (hm sl c d),
      show (fun d => qAt (X1 := X1) k r (ix3 0 c d)) = Q (16 * k.val + r.val) c from funext fun d => R.q k r c d,
      show (fun d => xAt (X0 := X0) k r (ix3 0 c d)) = X (16 * k.val + r.val) c from funext fun d => R.x k r c d,
      show (fun e d => wvAt (X2 := X2) (ix2 e d)) = wv from funext fun e => funext fun d => R.hwv e d]
  unfold rowAt
  rw [rowV_apply _ _ _ _ _ _ _ _ fun d => by
    rw [hp d]
    exact Scan.hid_real R.rX R.rQ R.rv (fun sl d => Scan.mem_real R.rX R.rQ R.rv R.rr R.rs R.rb _ c sl d) _ c d]
  unfold Scan.out Scan.row
  rw [show (fun d => sAt (X4 := X4) (ix2 0 d)) = s from funext R.hs, show (fun d => bAt (X5 := X5) (ix2 0 d)) = b from funext R.hb,
    show pre (qAt (X1 := X1) k r) (xAt (X0 := X0) k r) (memAt f8 L) (wvAt (X2 := X2)) c = _ from funext hp]

theorem wordAt_eq (L : List (View.Piece (Elt Ideal) S16x4x512 .f32)) (r : Fin 16)
    (hm : ∀ sl c d, a8.view.read (Elt Ideal) (a8.view.writes (Elt Ideal) f8 L) (ix3 sl c d) = Scan.mem X Q wv wr s b (16 * k.val + r.val) c sl d)
    (c : Fin 4) (d : Fin 512) : wordAt (X0 := X0) (X1 := X1) (X2 := X2) (X3 := X3) (X4 := X4) (X5 := X5) k f8 L r (ix2 c d) = Scan.write X Q wv wr s b (16 * k.val + r.val) c d := by
  unfold wordAt
  rw [wordV_apply]
  unfold Scan.write Scan.word
  refine Finset.sum_congr rfl fun e _ => ?_
  exact congrArg₂ (fun a b : EReal => a * b) (rowAt_eq R k f8 L r hm c e) (R.hwr e d)

variable (hf : ∀ sl c d, a8.view.read (Elt Ideal) f8 (ix3 sl c d) = Scan.mem X Q wv wr s b (16 * k.val) c sl d)
include hf

/-- The memory after `n` steps of a trip. -/
theorem hist_read : ∀ (n : ℕ) (hn : n ≤ 16) sl c d,
    a8.view.read (Elt Ideal) (a8.view.writes (Elt Ideal) f8 (hist X0 X1 X2 X3 X4 X5 k f8 n hn)) (ix3 sl c d) = Scan.mem X Q wv wr s b (16 * k.val + n) c sl d
  | 0, _, sl, c, d => hf sl c d
  | n + 1, hn, sl, c, d => by
    have ih := hist_read n (Nat.le_of_succ_le hn)
    refine (read_slice a8.view f8 (slot_inb n hn) _ _ rfl sl c d).trans ?_
    rw [show 16 * k.val + (n + 1) = 16 * k.val + n + 1 from rfl, Scan.mem_succ, show (16 * k.val + n) % 16 = n by omega]
    split
    · exact wordAt_eq R k f8 _ ⟨n, hn⟩ ih c d
    · exact ih sl c d

/-- The rows a trip puts out. -/
theorem outs_read {a6 : Memref sig .tc .vmem S1024x4x512 .f32} (f6 : BufTy.Contents (Elt Ideal) a6.view.ty) : ∀ (n : ℕ) (hn : n ≤ 16) t c d,
    a6.view.read (Elt Ideal) (a6.view.writes (Elt Ideal) f6 (outs X0 X1 X2 X3 X4 X5 k f8 n hn)) (ix3 t c d)
      = if 16 * k.val ≤ t.val ∧ t.val < 16 * k.val + n then Scan.out X Q wv wr s b t.val c d else a6.view.read (Elt Ideal) f6 (ix3 t c d)
  | 0, _, t, c, d => (if_neg (by omega)).symm
  | n + 1, hn, t, c, d => by
    refine (read_slice a6.view f6 (k0_off1_inb k ⟨n, hn⟩) _ _ (off1_eq k ⟨n, hn⟩) t c d).trans ?_
    split
    · rename_i h
      rw [if_pos (by dsimp only at h; omega), h]
      exact rowAt_eq R k f8 _ ⟨n, hn⟩ (hist_read R k f8 hf n (Nat.le_of_succ_le hn)) c d
    · rename_i h
      rw [outs_read f6 n (Nat.le_of_succ_le hn) t c d]
      exact if_congr (by dsimp only at h; omega) rfl rfl

/-- The rows a trip writes. -/
theorem writ_read {a7 : Memref sig .tc .vmem S1040x4x512 .f32} (f7 : BufTy.Contents (Elt Ideal) a7.view.ty) : ∀ (n : ℕ) (hn : n ≤ 16) t c d,
    a7.view.read (Elt Ideal) (a7.view.writes (Elt Ideal) f7 (writ X0 X1 X2 X3 X4 X5 k f8 n hn)) (ix3 t c d)
      = if 16 * k.val + 16 ≤ t.val ∧ t.val < 16 * k.val + 16 + n then Scan.write X Q wv wr s b (t.val - 16) c d else a7.view.read (Elt Ideal) f7 (ix3 t c d)
  | 0, _, t, c, d => (if_neg (by omega)).symm
  | n + 1, hn, t, c, d => by
    refine (read_slice a7.view f7 (k0_off2_inb k ⟨n, hn⟩) _ _ (off2_eq k ⟨n, hn⟩) t c d).trans ?_
    split
    · rename_i h
      rw [if_pos (by dsimp only at h; omega), show t.val - 16 = 16 * k.val + n by dsimp only at h; omega]
      exact wordAt_eq R k f8 _ ⟨n, hn⟩ (hist_read R k f8 hf n (Nat.le_of_succ_le hn)) c d
    · rename_i h
      rw [writ_read f7 n (Nat.le_of_succ_le hn) t c d]
      exact if_congr (by dsimp only at h; omega) rfl rfl

end

section
variable (c : Dev nD) (a0 : Memref sig .tc .vmem S1024x4x512 .f32) (h0 : a0.IsWhole)
  (a1 : Memref sig .tc .vmem S1024x4x512 .f32) (h1 : a1.IsWhole)
  (a2 : Memref sig .tc .vmem S512x512 .f32) (h2 : a2.IsWhole)
  (a3 : Memref sig .tc .vmem S512x512 .f32) (h3 : a3.IsWhole)
  (a4 : Memref sig .tc .vmem S1x512 .f32) (h4 : a4.IsWhole)
  (a5 : Memref sig .tc .vmem S1x512 .f32) (h5 : a5.IsWhole)
  (a6 : Memref sig .tc .vmem S1024x4x512 .f32) (h6 : a6.IsWhole)
  (a7 : Memref sig .tc .vmem S1040x4x512 .f32) (h7 : a7.IsWhole)
  (a8 : Memref sig .tc .vmem S16x4x512 .f32) (h8 : a8.IsWhole)
  {X0 : BufTy.Contents (Elt Ideal) a0.view.ty}
  {X1 : BufTy.Contents (Elt Ideal) a1.view.ty}
  {X2 : BufTy.Contents (Elt Ideal) a2.view.ty}
  {X3 : BufTy.Contents (Elt Ideal) a3.view.ty}
  {X4 : BufTy.Contents (Elt Ideal) a4.view.ty}
  {X5 : BufTy.Contents (Elt Ideal) a5.view.ty}
  {X Q : ℕ → Fin 4 → Fin 512 → EReal} {wv wr : Fin 512 → Fin 512 → EReal} {s b : Fin 512 → EReal} (R : Reads X Q wv wr s b X0 X1 X2 X3 X4 X5)
  (G6 : BufTy.Contents (Elt Ideal) a6.view.ty) (G7 : BufTy.Contents (Elt Ideal) a7.view.ty) (G8 : BufTy.Contents (Elt Ideal) a8.view.ty)

variable (hG : ∀ sl c d, a8.view.read (Elt Ideal) G8 (ix3 sl c d) = 0)
include R hG

/-- What the first `n` trips leave. -/
theorem loop_read : ∀ n ≤ 64,
    (∀ sl e d, a8.view.read (Elt Ideal) (a8.view.writes (Elt Ideal) G8 (pb_k0_t1 (F := Ideal) Variants.none c none a0 h0 a1 h1 a2 h2 a3 h3 a4 h4 a5 h5 a6 h6 a7 h7 a8 h8 X0 X1 X2 X3 X4 X5 G6 G7 G8 n).2.2) (ix3 sl e d) = Scan.mem X Q wv wr s b (16 * n) e sl d)
    ∧ (∀ t e d, t.val < 16 * n → a6.view.read (Elt Ideal) (a6.view.writes (Elt Ideal) G6 (pb_k0_t1 (F := Ideal) Variants.none c none a0 h0 a1 h1 a2 h2 a3 h3 a4 h4 a5 h5 a6 h6 a7 h7 a8 h8 X0 X1 X2 X3 X4 X5 G6 G7 G8 n).1) (ix3 t e d) = Scan.out X Q wv wr s b t.val e d)
    ∧ (∀ t e d, t.val < 16 * n + 16 → a7.view.read (Elt Ideal) (a7.view.writes (Elt Ideal) G7 (pb_k0_t1 (F := Ideal) Variants.none c none a0 h0 a1 h1 a2 h2 a3 h3 a4 h4 a5 h5 a6 h6 a7 h7 a8 h8 X0 X1 X2 X3 X4 X5 G6 G7 G8 n).2.1) (ix3 t e d)
        = if t.val < 16 then a7.view.read (Elt Ideal) G7 (ix3 t e d) else Scan.write X Q wv wr s b (t.val - 16) e d)
  | 0, _ => ⟨fun sl e d => hG sl e d, fun t e d h => absurd h (Nat.not_lt_zero _), fun t e d h => (if_pos (by omega)).symm⟩
  | n + 1, hn => by
    obtain ⟨i8, i6, i7⟩ := loop_read n (by omega)
    obtain ⟨k, rfl⟩ : ∃ k : Fin k0_t1_loop.trips, n = k.val := ⟨⟨n, by rw [trips_eq]; omega⟩, rfl⟩
    have e := pb_k0_t1_succ (F := Ideal) Variants.none c none a0 h0 a1 h1 a2 h2 a3 h3 a4 h4 a5 h5 a6 h6 a7 h7 a8 h8 X0 X1 X2 X3 X4 X5 G6 G7 G8 k
    rw [trip_hist, trip_outs, trip_writ] at e
    have e8 := congrArg (fun p => p.2.2) e
    have e6 := congrArg (fun p => p.1) e
    have e7 := congrArg (fun p => p.2.1) e
    dsimp only at e6 e7 e8
    refine ⟨fun sl e d => ?_, fun t e d h => ?_, fun t e d h => ?_⟩
    · rw [e8, View.writes_append]
      exact hist_read R k _ i8 16 (Nat.le_refl 16) sl e d
    · rw [e6, View.writes_append, outs_read R k _ i8]
      split
      · rfl
      · exact i6 t e d (by omega)
    · rw [e7, View.writes_append, writ_read R k _ i8]
      split
      · rw [if_neg (by omega)]
      · exact i7 t e d (by omega)

end

end Cert.ScanIdeal.Out
-- ==== Proof.ScanValue.lean ====
/- What the scan kernel leaves: its first output holds the rows put out, its second sixteen rows of zeros and the rows
   written, of the recurrence that `ScanSpec.lean` describes. -/
module

public import proofs.«01_k».proof.Proof.ScanBlocks
public import proofs.«01_k».proof.Proof.ScanLoop

@[expose] public section

noncomputable section

namespace Cert.ScanIdeal.Out

open Cert.ScanIdeal Cert.ScanIdeal.Gen Idealize.ShloMosaic Idealize.ShloMosaic.TcCoe Idealize.SL.Sem
open Idealize.ShloMosaic.ValueIdx
open Cert.Row (Real')

/-- The rows of a table as a sequence of steps. -/
abbrev seq (x : FVec Ideal S1024x4x512 .f32) (t : ℕ) (c : Fin 4) (d : Fin 512) : EReal := x (ix3 (Fin.ofNat 1024 t) c d)

section
variable (x q : FVec Ideal S1024x4x512 .f32) (wv wr : FVec Ideal S512x512 .f32) (s b : FVec Ideal S1x512 .f32)

/-- The rows put out. -/
def outArr : FVec Ideal S1024x4x512 .f32 := fun i =>
  Scan.out (seq x) (seq q) (fun e d => wv (ix2 e d)) (fun e d => wr (ix2 e d)) (fun d => s (ix2 0 d)) (fun d => b (ix2 0 d)) (i 0).val (i 1) (i 2)
/-- The rows written, after sixteen rows of zeros. -/
def wrArr : FVec Ideal S1040x4x512 .f32 := fun i => if (i 0).val < 16 then 0 else
  Scan.write (seq x) (seq q) (fun e d => wv (ix2 e d)) (fun e d => wr (ix2 e d)) (fun d => s (ix2 0 d)) (fun d => b (ix2 0 d)) ((i 0).val - 16) (i 1) (i 2)

/-- Every argument is real. -/
structure RealArgs : Prop where
  x : ∀ i, Real' (x i)
  q : ∀ i, Real' (q i)
  wv : ∀ i, Real' (wv i)
  wr : ∀ i, Real' (wr i)
  s : ∀ i, Real' (s i)
  b : ∀ i, Real' (b i)
end

/-- A row of a table, as the body loads it. -/
theorem load_row (a : Memref sig .tc .vmem S1024x4x512 .f32) (h : a.IsWhole) (x : Vec Ideal S1024x4x512 .f32) (k : Fin k0_t1_loop.trips) (r : Fin 16)
    (c : Fin 4) (d : Fin 512) :
    View.readAt (Elt Ideal) a.view (Rect.unit (s := S1024x4x512) (k0_off1 k (BitVec.ofNat 32 r.val)) S1x4x512.size (k0_off1_inb k r)).toLoadRect (h.unread x) (ix3 0 c d)
      = seq x (16 * k.val + r.val) c d := by
  have hk : k.val < 64 := trips_eq ▸ k.isLt
  refine (congrFun (h.read_unread x) _).trans (congrArg x (funext fun a => Fin.ext ?_))
  have ho := off1_eq k r
  match a with
  | ⟨0, _⟩ =>
    show k0_off1 k (BitVec.ofNat 32 r.val) 0 + 1 * 0 = (16 * k.val + r.val) % 1024
    rw [ho]
    show 16 * k.val + r.val + 1 * 0 = (16 * k.val + r.val) % 1024
    omega
  | ⟨1, _⟩ =>
    show k0_off1 k (BitVec.ofNat 32 r.val) 1 + 1 * c.val = c.val
    rw [ho]
    show 0 + 1 * c.val = c.val
    omega
  | ⟨2, _⟩ =>
    show k0_off1 k (BitVec.ofNat 32 r.val) 2 + 1 * d.val = d.val
    rw [ho]
    show 0 + 1 * d.val = d.val
    omega

section
variable (c : Dev nD) (a0 : Memref sig .tc .vmem S1024x4x512 .f32) (h0 : a0.IsWhole)
  (a1 : Memref sig .tc .vmem S1024x4x512 .f32) (h1 : a1.IsWhole)
  (a2 : Memref sig .tc .vmem S512x512 .f32) (h2 : a2.IsWhole)
  (a3 : Memref sig .tc .vmem S512x512 .f32) (h3 : a3.IsWhole)
  (a4 : Memref sig .tc .vmem S1x512 .f32) (h4 : a4.IsWhole)
  (a5 : Memref sig .tc .vmem S1x512 .f32) (h5 : a5.IsWhole)
  (a6 : Memref sig .tc .vmem S1024x4x512 .f32) (h6 : a6.IsWhole)
  (a7 : Memref sig .tc .vmem S1040x4x512 .f32) (h7 : a7.IsWhole)
  (a8 : Memref sig .tc .vmem S16x4x512 .f32) (h8 : a8.IsWhole)
  (x0 x1 : Vec Ideal S1024x4x512 .f32) (x2 x3 : Vec Ideal S512x512 .f32) (x4 x5 : Vec Ideal S1x512 .f32)

/-- What the loop's loads read. -/
theorem reads (R : RealArgs x0 x1 x2 x3 x4 x5) : Reads (seq x0) (seq x1) (fun e d => x2 (ix2 e d)) (fun e d => x3 (ix2 e d)) (fun d => x4 (ix2 0 d)) (fun d => x5 (ix2 0 d))
    (h0.unread x0) (h1.unread x1) (h2.unread x2) (h3.unread x3) (h4.unread x4) (h5.unread x5) where
  x k r c d := load_row a0 h0 x0 k r c d
  q k r c d := load_row a1 h1 x1 k r c d
  hwv e d := (congrFun (View.readAt_full a2.view _ _) (ix2 e d)).trans (congrFun (h2.read_unread x2) _)
  hwr e d := (congrFun (View.readAt_full a3.view _ _) (ix2 e d)).trans (congrFun (h3.read_unread x3) _)
  hs d := (congrFun (View.readAt_full a4.view _ _) (ix2 0 d)).trans (congrFun (h4.read_unread x4) _)
  hb d := (congrFun (View.readAt_full a5.view _ _) (ix2 0 d)).trans (congrFun (h5.read_unread x5) _)
  rX t c d := R.x _
  rQ t c d := R.q _
  rv e d := R.wv _
  rr e d := R.wr _
  rs d := R.s _
  rb d := R.b _

/-- The memory is cleared before the loop. -/
theorem cleared (sl : Fin 16) (e : Fin 4) (d : Fin 512) : a8.view.read (Elt Ideal) (a8.view.writes (Elt Ideal) a8.view.junk
    [⟨Rect.unit (s := S16x4x512) ![0, 0, 0] S16x4x512.size inb_S16x4x512_S16x4x512_0_0_0, k0_pay1 (F := Ideal)⟩]) (ix3 sl e d) = 0 := by
  refine (congrFun (View.read_writes_full (Val := Elt Ideal) a8.view a8.view.junk inb_S16x4x512_S16x4x512_0_0_0 (k0_pay1 (F := Ideal)) []) (ix3 sl e d)).trans ?_
  exact Ideal.ofBits_zero_f32

theorem out6_apply (R : RealArgs x0 x1 x2 x3 x4 x5) (t : Fin 1024) (e : Fin 4) (d : Fin 512) :
    out0_A_6 (F := Ideal) c a0 h0 a1 h1 a2 h2 a3 h3 a4 h4 a5 h5 a6 h6 a7 h7 a8 h8 x0 x1 x2 x3 x4 x5 (ix3 t e d) = outArr x0 x1 x2 x3 x4 x5 (ix3 t e d) := by
  have hl := (loop_read c a0 h0 a1 h1 a2 h2 a3 h3 a4 h4 a5 h5 a6 h6 a7 h7 a8 h8 (reads a0 h0 a1 h1 a2 h2 a3 h3 a4 h4 a5 h5 x0 x1 x2 x3 x4 x5 R) a6.view.junk a7.view.junk _ (cleared a8) 64 le_rfl).2.1 t e d (by omega)
  have hc := cover0_A_6 (F := Ideal) c a0 h0 a1 h1 a2 h2 a3 h3 a4 h4 a5 h5 a6 h6 a7 h7 a8 h8 x0 x1 x2 x3 x4 x5
  unfold out0_A_6
  rw [View.read_writes_eq_canon VO0_6 _ _ hc, ← View.read_writes_eq_canon a6.view a6.view.junk _ hc]
  refine Eq.trans ?_ hl
  rw [← trips_eq]
  rfl

theorem out7_apply (R : RealArgs x0 x1 x2 x3 x4 x5) (t : Fin 1040) (e : Fin 4) (d : Fin 512) :
    out0_A_7 (F := Ideal) c a0 h0 a1 h1 a2 h2 a3 h3 a4 h4 a5 h5 a6 h6 a7 h7 a8 h8 x0 x1 x2 x3 x4 x5 (ix3 t e d) = wrArr x0 x1 x2 x3 x4 x5 (ix3 t e d) := by
  have hl := (loop_read c a0 h0 a1 h1 a2 h2 a3 h3 a4 h4 a5 h5 a6 h6 a7 h7 a8 h8 (reads a0 h0 a1 h1 a2 h2 a3 h3 a4 h4 a5 h5 x0 x1 x2 x3 x4 x5 R) a6.view.junk
    (a7.view.writes (Elt Ideal) a7.view.junk [⟨Rect.unit (s := S1040x4x512) ![0, 0, 0] S16x4x512.size inb_S1040x4x512_S16x4x512_0_0_0, k0_pay2 (F := Ideal)⟩])
    _ (cleared a8) 64 le_rfl).2.2 t e d (by omega)
  have hc := cover0_A_7 (F := Ideal) c a0 h0 a1 h1 a2 h2 a3 h3 a4 h4 a5 h5 a6 h6 a7 h7 a8 h8 x0 x1 x2 x3 x4 x5
  unfold out0_A_7
  rw [View.read_writes_eq_canon VO0_7 _ _ hc, ← View.read_writes_eq_canon a7.view a7.view.junk _ hc]
  rw [← trips_eq, trips_free c a0 h0 a1 h1 a2 h2 a3 h3 a4 h4 a5 h5 a6 h6 a7 h7 a8 h8 (h0.unread x0) (h1.unread x1) (h2.unread x2) (h3.unread x3) (h4.unread x4) (h5.unread x5) a6.view.junk a6.view.junk _ a7.view.junk _ _ le_rfl, ← View.writes_append] at hl
  refine Eq.trans ?_ (hl.trans ?_)
  · rfl
  · refine if_ctx_congr Iff.rfl (fun ht => ?_) fun _ => rfl
    refine (View.read_writes_cons_unit_of_mem (Val := Elt Ideal) a7.view a7.view.junk inb_S1040x4x512_S16x4x512_0_0_0 (k0_pay2 (F := Ideal)) [] (ix3 t e d) (ix3 ⟨t.val, ht⟩ e d) rfl ?_).trans ?_
    · intro a
      match a with
      | ⟨0, _⟩ => show t.val = 0 + t.val; omega
      | ⟨1, _⟩ => show e.val = 0 + e.val; omega
      | ⟨2, _⟩ => show d.val = 0 + d.val; omega
    · exact Ideal.ofBits_zero_f32

end

/-! ## The launch -/

variable (m : (ℓ : Loc nD τ sig) → Buf (Elt Ideal) ℓ) (ρ : Dev nD → PrngReg)

/-- The one grid point's windows are the whole arrays. -/
theorem emb0 (t : Fin cfg0.N) (j : S1024x4x512.Idx) : ((cfg0.win 0).blk t).view.emb j = j
    ∧ ((cfg0.win 1).blk t).view.emb j = j ∧ ((cfg0.win 6).blk t).view.emb j = j := by
  refine ⟨?_, ?_, ?_⟩ <;>
  · funext a; apply Fin.ext
    match a with
    | ⟨0, _⟩ => show 0 * 1024 + 1 * (j 0).val = (j 0).val; omega
    | ⟨1, _⟩ => show 0 * 4 + 1 * (j 1).val = (j 1).val; omega
    | ⟨2, _⟩ => show 0 * 512 + 1 * (j 2).val = (j 2).val; omega

theorem emb2 (t : Fin cfg0.N) (j : S512x512.Idx) : ((cfg0.win 2).blk t).view.emb j = j ∧ ((cfg0.win 3).blk t).view.emb j = j := by
  refine ⟨?_, ?_⟩ <;>
  · funext a; apply Fin.ext
    match a with
    | ⟨0, _⟩ => show 0 * 512 + 1 * (j 0).val = (j 0).val; omega
    | ⟨1, _⟩ => show 0 * 512 + 1 * (j 1).val = (j 1).val; omega

theorem emb4 (t : Fin cfg0.N) (j : S1x512.Idx) : ((cfg0.win 4).blk t).view.emb j = j ∧ ((cfg0.win 5).blk t).view.emb j = j := by
  refine ⟨?_, ?_⟩ <;>
  · funext a; apply Fin.ext
    match a with
    | ⟨0, _⟩ => show 0 * 1 + 1 * (j 0).val = (j 0).val; omega
    | ⟨1, _⟩ => show 0 * 512 + 1 * (j 1).val = (j 1).val; omega

theorem emb7 (t : Fin cfg0.N) (j : S1040x4x512.Idx) : ((cfg0.win 7).blk t).view.emb j = j := by
  funext a; apply Fin.ext
  match a with
  | ⟨0, _⟩ => show 0 * 1040 + 1 * (j 0).val = (j 0).val; omega
  | ⟨1, _⟩ => show 0 * 4 + 1 * (j 1).val = (j 1).val; omega
  | ⟨2, _⟩ => show 0 * 512 + 1 * (j 2).val = (j 2).val; omega

/-- The blocks the body reads are the arguments. -/
theorem blocks (c : Dev nD) (t : Fin cfg0.N) :
    (iblk m c 0 t : S1024x4x512.Idx → EReal) = m ((c : Thread nD τ).loc main_arg0)
    ∧ (iblk m c 1 t : S1024x4x512.Idx → EReal) = m ((c : Thread nD τ).loc main_arg1)
    ∧ (iblk m c 2 t : S512x512.Idx → EReal) = m ((c : Thread nD τ).loc main_arg2)
    ∧ (iblk m c 3 t : S512x512.Idx → EReal) = m ((c : Thread nD τ).loc main_arg3)
    ∧ (iblk m c 4 t : S1x512.Idx → EReal) = m ((c : Thread nD τ).loc main_arg4)
    ∧ (iblk m c 5 t : S1x512.Idx → EReal) = m ((c : Thread nD τ).loc main_arg5) := by
  refine ⟨funext fun j => ?_, funext fun j => ?_, funext fun j => ?_, funext fun j => ?_, funext fun j => ?_, funext fun j => ?_⟩
  · show V m c main_arg0 (((cfg0.win 0).blk t).view.emb j) = _
    rw [(emb0 t j).1, V_main_arg0]
  · show V m c main_arg1 (((cfg0.win 1).blk t).view.emb j) = _
    rw [(emb0 t j).2.1, V_main_arg1]
  · show V m c main_arg2 (((cfg0.win 2).blk t).view.emb j) = _
    rw [(emb2 t j).1, V_main_arg2]
  · show V m c main_arg3 (((cfg0.win 3).blk t).view.emb j) = _
    rw [(emb2 t j).2, V_main_arg3]
  · show V m c main_arg4 (((cfg0.win 4).blk t).view.emb j) = _
    rw [(emb4 t j).1, V_main_arg4]
  · show V m c main_arg5 (((cfg0.win 5).blk t).view.emb j) = _
    rw [(emb4 t j).2, V_main_arg5]

section
variable (c : Dev nD) (R : RealArgs (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)))
include R

/-- What the one grid point writes back. -/
theorem flushed6_eq (t : Fin cfg0.N) : (dats m 0 c).flushed 6 t = ((cfg0.win 6).blk t).view.read (Elt Ideal)
    (outArr (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))) := by
  rw [Value.flushed6_A]
  obtain ⟨e0, e1, e2, e3, e4, e5⟩ := blocks m c t
  funext j
  show (out0_A_6 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) : S1024x4x512.Idx → EReal) j = outArr _ _ _ _ _ _ (((cfg0.win 6).blk t).view.emb j)
  rw [(emb0 t j).2.2]
  obtain ⟨r, e, d, rfl⟩ : ∃ (r : Fin 1024) (e : Fin 4) (d : Fin 512), j = ix3 r e d := ⟨j 0, j 1, j 2, eq_ix3 j⟩
  rw [out6_apply c _ _ _ _ _ _ _ _ _ _ _ _ _ _ _ _ _ _ _ _ _ _ _ _ (by rw [e0, e1, e2, e3, e4, e5]; exact R), e0, e1, e2, e3, e4, e5]

theorem flushed7_eq (t : Fin cfg0.N) : (dats m 0 c).flushed 7 t = ((cfg0.win 7).blk t).view.read (Elt Ideal)
    (wrArr (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))) := by
  rw [Value.flushed7_A]
  obtain ⟨e0, e1, e2, e3, e4, e5⟩ := blocks m c t
  funext j
  show (out0_A_7 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) : S1040x4x512.Idx → EReal) j = wrArr _ _ _ _ _ _ (((cfg0.win 7).blk t).view.emb j)
  rw [emb7 t j]
  obtain ⟨r, e, d, rfl⟩ : ∃ (r : Fin 1040) (e : Fin 4) (d : Fin 512), j = ix3 r e d := ⟨j 0, j 1, j 2, eq_ix3 j⟩
  rw [out7_apply c _ _ _ _ _ _ _ _ _ _ _ _ _ _ _ _ _ _ _ _ _ _ _ _ (by rw [e0, e1, e2, e3, e4, e5]; exact R), e0, e1, e2, e3, e4, e5]

omit R in
theorem cover6 (i : S1024x4x512.Idx) : ∃ t : Fin cfg0.N, (cfg0.win 6).flush t = true ∧ i ∈ ((cfg0.win 6).blk t).view.set := by
  refine ⟨t0_0, flush0_6 _, ?_⟩
  have h := ((cfg0.win 6).blk t0_0).view.emb_mem_set i
  rwa [(emb0 t0_0 i).2.2] at h

omit R in
theorem cover7 (i : S1040x4x512.Idx) : ∃ t : Fin cfg0.N, (cfg0.win 7).flush t = true ∧ i ∈ ((cfg0.win 7).blk t).view.set := by
  refine ⟨t0_0, flush0_7 _, ?_⟩
  have h := ((cfg0.win 7).blk t0_0).view.emb_mem_set i
  rwa [emb7] at h

/-- So the two results end holding the rows put out and the rows written. -/
theorem final6 : (dats m 0 c).arrAt 6 cfg0.N
    = outArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (dats m 0 c).arrAt_eq_of_cover 6 _ (fun t _ => flushed6_eq m c R t) cover6

theorem final7 : (dats m 0 c).arrAt 7 cfg0.N
    = wrArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (dats m 0 c).arrAt_eq_of_cover 7 _ (fun t _ => flushed7_eq m c R t) cover7

end

end Cert.ScanIdeal.Out
-- ==== Proof.LayersPay.lean ====
/- What the body of the layers call computes from the blocks it loads, read at an index: the masked softmax read of a
   block of rows, the row after the layer, and the head products. -/
module

public import proofs.«01_k».proof.Proof.NormBlock
public import proofs.«01_k».proof.Proof.Gen.LayersIdeal.Value
public import Idealize.ShloMosaic.Lib.ValueIdx
public import Idealize.ShloMosaic.Lib.MatmulPlain
public import Idealize.ShloMosaic.Lib.Pipeline.ValueKit.Tiles

@[expose] public section

noncomputable section

namespace Cert.LayersIdeal.Out

open Cert.LayersIdeal Cert.LayersIdeal.Gen Idealize.ShloMosaic Idealize.ShloMosaic.TcCoe Idealize.SL.Sem
open Idealize.ShloMosaic.ValueIdx

/-- A block of rows times a matrix. -/
theorem product_apply (A : FVec Ideal S256x512 .f32) (B : FVec Ideal S512x512 .f32) (r : Fin 256) (d : Fin 512) :
    matmul dot_S256x512_S512x512_S256x512_1_0_0_1_n_n none A B (constant S256x512 .f32 0x00000000#32) (ix2 r d)
      = ∑ k : Fin 512, A (ix2 r k) * B (ix2 k d) := by
  show FloatOps.matmul (DotDims.plain 256 512 512) none _ _ _ (ix2 r d) = _
  rw [Ideal.matmul_plain_apply]
  rw [show constant (F := Ideal) S256x512 .f32 0x00000000#32 (ix2 r d) = 0 from Ideal.ofBits_zero_f32, zero_add]

/-- A block of rows times the head weights. -/
theorem heads_apply (A : FVec Ideal S256x512 .f32) (B : FVec Ideal S512x6 .f32) (r : Fin 256) (d : Fin 6) :
    matmul dot_S256x512_S512x6_S256x6_1_0_0_1_n_n none A B (constant S256x6 .f32 0x00000000#32) (ix2 r d)
      = ∑ k : Fin 512, A (ix2 r k) * B (ix2 k d) := by
  show FloatOps.matmul (DotDims.plain 256 512 6) none _ _ _ (ix2 r d) = _
  rw [Ideal.matmul_plain_apply]
  rw [show constant (F := Ideal) S256x6 .f32 0x00000000#32 (ix2 r d) = 0 from Ideal.ofBits_zero_f32, zero_add]

/-- The rows times every row of the band. -/
theorem scores_apply (A : FVec Ideal S256x512 .f32) (B : FVec Ideal S272x512 .f32) (r : Fin 256) (c : Fin 272) :
    matmul dot_S256x512_S272x512_S256x272_1_1_0_0_n_n none A B (constant S256x272 .f32 0x00000000#32) (ix2 r c)
      = ∑ k : Fin 512, A (ix2 r k) * B (ix2 c k) := by
  show FloatOps.matmul (DotDims.transposedRhs 256 512 272) none _ _ _ (ix2 r c) = _
  rw [Ideal.matmul_transposedRhs_apply]
  rw [show constant (F := Ideal) S256x272 .f32 0x00000000#32 (ix2 r c) = 0 from Ideal.ofBits_zero_f32, zero_add]

/-- The weights times the band. -/
theorem mix_apply (A : FVec Ideal S256x272 .f32) (B : FVec Ideal S272x512 .f32) (r : Fin 256) (d : Fin 512) :
    matmul dot_S256x272_S272x512_S256x512_1_0_0_1_n_n none A B (constant S256x512 .f32 0x00000000#32) (ix2 r d)
      = ∑ k : Fin 272, A (ix2 r k) * B (ix2 k d) := by
  show FloatOps.matmul (DotDims.plain 256 272 512) none _ _ _ (ix2 r d) = _
  rw [Ideal.matmul_plain_apply]
  rw [show constant (F := Ideal) S256x512 .f32 0x00000000#32 (ix2 r d) = 0 from Ideal.ofBits_zero_f32, zero_add]

/-- Dropping a leading unit axis. -/
theorem drop_apply {n k : Nat} (A : FVec Ideal (⟨3, ![1, n, k]⟩ : Shape) .f32) (h : (⟨3, ![1, n, k]⟩ : Shape).ShapeCasts ⟨2, ![n, k]⟩)
    (i : Fin n) (j : Fin k) : shapeCast (⟨2, ![n, k]⟩ : Shape) A h (ix2 i j) = A (ix3 (0 : Fin 1) i j) :=
  shapeCast_apply (s := ⟨3, ![1, n, k]⟩) (t := ⟨2, ![n, k]⟩) A h (ix2 i j) (ix3 (0 : Fin 1) i j) (by
    rw [Shape.rowMajor_val_three, Shape.rowMajor_val_two]
    show (0 * n + i.val) * k + j.val = i.val * k + j.val
    rw [Nat.zero_mul, Nat.zero_add])

/-- Adding a leading unit axis. -/
theorem lift_apply {n k : Nat} (A : FVec Ideal (⟨2, ![n, k]⟩ : Shape) .f32) (h : (⟨2, ![n, k]⟩ : Shape).ShapeCasts ⟨3, ![1, n, k]⟩)
    (i : Fin n) (j : Fin k) : shapeCast (⟨3, ![1, n, k]⟩ : Shape) A h (ix3 (0 : Fin 1) i j) = A (ix2 i j) :=
  shapeCast_apply (s := ⟨2, ![n, k]⟩) (t := ⟨3, ![1, n, k]⟩) A h (ix3 (0 : Fin 1) i j) (ix2 i j) (by
    rw [Shape.rowMajor_val_three, Shape.rowMajor_val_two]
    show i.val * k + j.val = (0 * n + i.val) * k + j.val
    rw [Nat.zero_mul, Nat.zero_add])

theorem toInt_small (n : Nat) (h : n < 1024) : (BitVec.ofNat 32 n).toInt = n := by
  rw [BitVec.toInt_eq_toNat_of_lt (by rw [BitVec.toNat_ofNat]; omega), BitVec.toNat_ofNat]
  omega

/-- The mask keeps the sixteen columns after the row's own. -/
theorem mask_apply (x y : FVec Ideal S256x272 .f32) (r : Fin 256) (c : Fin 272) :
    select (andi
      (cmpi .sge (iota .tc S256x272 32 [1] iota_S256x272_d1_w32) (addi (iota .tc S256x272 32 [0] iota_S256x272_d0_w32) (broadcast S256x272 1#32)))
      (cmpi .sle (iota .tc S256x272 32 [1] iota_S256x272_d1_w32) (addi (iota .tc S256x272 32 [0] iota_S256x272_d0_w32) (broadcast S256x272 16#32))))
      x y (ix2 r c)
    = if r.val + 1 ≤ c.val ∧ c.val ≤ r.val + 16 then x (ix2 r c) else y (ix2 r c) := by
  have hr := r.isLt
  have hc := c.isLt
  show (if IntOp.andi (BitVec.ofBool ((iota .tc S256x272 32 [0] iota_S256x272_d0_w32 (ix2 r c) + 1#32).sle (iota .tc S256x272 32 [1] iota_S256x272_d1_w32 (ix2 r c))))
    (BitVec.ofBool ((iota .tc S256x272 32 [1] iota_S256x272_d1_w32 (ix2 r c)).sle (iota .tc S256x272 32 [0] iota_S256x272_d0_w32 (ix2 r c) + 16#32))) = 1#1 then _ else _) = _
  rw [iota_single_apply, iota_single_apply]
  show (if IntOp.andi (BitVec.ofBool ((BitVec.ofNat 32 r.val + 1#32).sle (BitVec.ofNat 32 c.val)))
    (BitVec.ofBool ((BitVec.ofNat 32 c.val).sle (BitVec.ofNat 32 r.val + 16#32))) = 1#1 then _ else _) = _
  rw [← BitVec.ofNat_add, ← BitVec.ofNat_add, BitVec.sle_eq_decide, BitVec.sle_eq_decide, toInt_small _ (by omega), toInt_small _ (by omega), toInt_small _ (by omega)]
  have h : ∀ a b : Bool, IntOp.andi (BitVec.ofBool a) (BitVec.ofBool b) = 1#1 ↔ a = true ∧ b = true := by decide
  exact if_congr ((h _ _).trans (and_congr (decide_eq_true_iff.trans Nat.cast_le) (decide_eq_true_iff.trans Nat.cast_le))) rfl rfl

/-- A column spread over the columns of the band. -/
theorem spread_apply (u : FVec Ideal S256 .f32) (r : Fin 256) (c : Fin 272) :
    broadcastTo S256x272 (shapeCast S256x1 u shapeCasts_S256_S256x1) broadcasts_S256x1_S256x272 (ix2 r c) = u (ix1 r) := by
  rw [broadcastTo_apply (s := S256x1) (t := S256x272) _ _ (ix2 r c) (ix2 r (0 : Fin 1)) (fun a => by fin_cases a <;> rfl)]
  exact shapeCast_apply (s := S256) (t := S256x1) _ _ (ix2 r 0) (ix1 r) (by simp [Shape.rowMajor_val_one, Shape.rowMajor_val_two])

theorem lift_eq (r : Fin 256) (k : Fin 272) :
    (reduces_S256x272_S256 : S256x272.Reduces [1] S256).lift (ix1 r) k = ix2 r k := by
  funext a; apply Fin.ext
  match a with
  | ⟨0, _⟩ => rfl
  | ⟨1, _⟩ => rfl

/-- The softmax of a row of masked scores, and the weighted sum of the band. -/
theorem softmax_apply (s : FVec Ideal S256x272 .f32) (B : FVec Ideal S272x512 .f32) (r : Fin 256) (d : Fin 512) :
    matmul dot_S256x272_S272x512_S256x512_1_0_0_1_n_n none
      (divf (exp (subf s (broadcastTo S256x272 (shapeCast S256x1 (multiReduction .maximumf [1] S256 s 0xFF800000#32 reduces_S256x272_S256 (.inl rfl) rfl) shapeCasts_S256_S256x1) broadcasts_S256x1_S256x272)))
        (broadcastTo S256x272 (shapeCast S256x1 (multiReduction .add [1] S256
          (exp (subf s (broadcastTo S256x272 (shapeCast S256x1 (multiReduction .maximumf [1] S256 s 0xFF800000#32 reduces_S256x272_S256 (.inl rfl) rfl) shapeCasts_S256_S256x1) broadcasts_S256x1_S256x272)))
          0x00000000#32 reduces_S256x272_S256 (.inl rfl) rfl) shapeCasts_S256_S256x1) broadcasts_S256x1_S256x272))
      B (constant S256x512 .f32 0x00000000#32) (ix2 r d)
    = Row.read (fun c => s (ix2 r c)) (fun c => B (ix2 c d)) := by
  have hm : multiReduction .maximumf [1] S256 s 0xFF800000#32 reduces_S256x272_S256 (.inl rfl) rfl (ix1 r)
      = Finset.univ.sup fun c : Fin 272 => s (ix2 r c) := by
    refine (Ideal.multiReduction_maximumf_single (a := 1) s _ _ _ _ (ix1 r)).trans ?_
    show Finset.univ.fold max (Ideal.ofBits .f32 0xFF800000#32) (fun k : Fin 272 => s ((reduces_S256x272_S256 : S256x272.Reduces [1] S256).lift (ix1 r) k)) = _
    rw [Row.ofBits_bot]
    simp only [lift_eq]
    rfl
  have he : ∀ c : Fin 272, exp (subf s (broadcastTo S256x272 (shapeCast S256x1 (multiReduction .maximumf [1] S256 s 0xFF800000#32 reduces_S256x272_S256 (.inl rfl) rfl) shapeCasts_S256_S256x1) broadcasts_S256x1_S256x272)) (ix2 r c)
      = Ideal.exp (s (ix2 r c) - Finset.univ.sup fun c : Fin 272 => s (ix2 r c)) := fun c => by
    show Ideal.exp (s (ix2 r c) - broadcastTo S256x272 _ _ (ix2 r c)) = _
    rw [spread_apply, hm]
  rw [mix_apply]
  unfold Row.read
  refine Finset.sum_congr rfl fun c _ => congrArg (· * _) ?_
  rw [divf_apply, spread_apply, he]
  refine congrArg (Ideal.div _) ((Ideal.multiReduction_add_single (a := 1) _ _ _ _ _ (ix1 r)).trans ?_)
  refine Finset.sum_congr rfl fun (k : Fin 272) _ => ?_
  rw [lift_eq]
  exact he k

/-- The masked read. -/
theorem pay7_apply (x : Vec Ideal S256x512 .f32) (wq : Vec Ideal S1x512x512 .f32) (w : Vec Ideal S1x272x512 .f32) (r : Fin 256) (d : Fin 512) :
    k0_pay7 x wq w (ix2 r d)
      = Row.read (fun c : Fin 272 => if r.val + 1 ≤ c.val ∧ c.val ≤ r.val + 16 then
          Row.score (fun e => x (ix2 r e)) (fun e => w (ix3 0 c e)) (fun e d => wq (ix3 0 e d)) else ⊥) (fun c => w (ix3 0 c d)) := by
  unfold k0_pay7
  refine (softmax_apply _ _ r d).trans ?_
  congr 1
  · funext c
    rw [mask_apply]
    refine if_congr Iff.rfl ?_ ?_
    · rw [scores_apply]
      unfold Row.score
      refine Finset.sum_congr rfl fun k _ => ?_
      rw [product_apply, drop_apply (n := 272) (k := 512), mul_comm]
      simp only [drop_apply (n := 512) (k := 512)]
    · show Idealize.ShloMosaic.named κ "mask" 0xF149F2CA#32 = ⊥
      rw [Idealize.ShloMosaic.named_eq]
      rfl
  · funext c
    exact drop_apply (n := 272) (k := 512) _ _ c d

/-- The row after the layer. -/
theorem pay8_apply (x u : FVec Ideal S256x512 .f32) (wv : Vec Ideal S1x512x512 .f32) (s b : Vec Ideal S1x1x512 .f32) (r : Fin 256) (d : Fin 512) :
    k0_pay8 x u wv s b (ix2 r d)
      = Row.norm (fun d => x (ix2 r d) + ∑ e : Fin 512, u (ix2 r e) * wv (ix3 0 e d)) (fun d => s (ix3 0 0 d)) (fun d => b (ix3 0 0 d)) d := by
  unfold k0_pay8
  refine (Row.norm_block (n := 256) _ (shapeCast S1x512 s shapeCasts_S1x1x512_S1x512) (shapeCast S1x512 b shapeCasts_S1x1x512_S1x512)
    reduces_S256x512_S256 shapeCasts_S256_S256x1 (.inl rfl) rfl broadcasts_S256x1_S256x512 broadcasts_S1x512_S256x512 _ rfl r d).trans ?_
  congr 1
  · funext k
    rw [addf_apply, product_apply]
    simp only [drop_apply (n := 512) (k := 512)]
  · funext k; exact drop_apply (n := 1) (k := 512) _ _ 0 k
  · funext k; exact drop_apply (n := 1) (k := 512) _ _ 0 k

theorem pay4_apply (x : Vec Ideal S1x256x512 .f32) (r : Fin 256) (d : Fin 512) : k0_pay4 x (ix2 r d) = x (ix3 0 r d) := by
  unfold k0_pay4
  exact drop_apply (n := 256) (k := 512) _ _ r d

theorem pay5_apply (x : Vec Ideal S1x256x512 .f32) (r : Fin 256) (d : Fin 512) : k0_pay5 x (ix2 r d) = x (ix3 0 r d) := by
  unfold k0_pay5
  rw [shapeCast_self]
  exact pay4_apply x r d

theorem pay6_apply (x : Vec Ideal S1x256x512 .f32) (w : Vec Ideal S512x6 .f32) (r : Fin 256) (d : Fin 6) :
    k0_pay6 x w (ix2 r d) = ∑ k : Fin 512, x (ix3 0 r k) * w (ix2 k d) := by
  unfold k0_pay6
  rw [shapeCast_self, heads_apply]
  simp only [pay4_apply]

theorem pay9_eq (x u : FVec Ideal S256x512 .f32) (wv : Vec Ideal S1x512x512 .f32) (s b : Vec Ideal S1x1x512 .f32) :
    k0_pay9 x u wv s b = k0_pay8 x u wv s b := by
  unfold k0_pay9
  exact shapeCast_self _ _

theorem pay1_apply (x : FVec Ideal S256x512 .f32) (acc : Vec Ideal S256x6 .f32) (w : Vec Ideal S1x512x6 .f32) (r : Fin 256) (d : Fin 6) :
    k0_pay1 x acc (k0_pay10 w) (constant S256x6 .f32 0x00000000#32) (ix2 r d) = acc (ix2 r d) + ∑ k : Fin 512, x (ix2 r k) * w (ix3 0 k d) := by
  unfold k0_pay1 k0_pay10
  rw [shapeCast_self, addf_apply, heads_apply]
  simp only [drop_apply (n := 512) (k := 6)]

theorem pay2_apply (y x : FVec Ideal S256x512 .f32) (w : Vec Ideal S512x512 .f32) (r : Fin 256) (d : Fin 512) :
    k0_pay2 y x w (ix3 0 r d) = x (ix2 r d) + ∑ k : Fin 512, y (ix2 r k) * w (ix2 k d) := by
  unfold k0_pay2
  rw [lift_apply (n := 256) (k := 512), addf_apply, product_apply]

theorem pay3_apply (acc : Vec Ideal S256x6 .f32) (r : Fin 256) (d : Fin 6) :
    k0_pay3 acc (ix3 0 r d) = acc (ix2 r d) * Ideal.ofBits .f32 0x3E000000#32 := by
  unfold k0_pay3
  rw [lift_apply (n := 256) (k := 6)]
  rfl

end Cert.LayersIdeal.Out
-- ==== Proof.LayersCases.lean ====
/- The layers call, case by case: what a grid point leaves in the row block it carries, in the head sums it carries and,
   at the last layer, in its two output blocks, as expressions in the blocks it loads. -/
module

public import proofs.«01_k».proof.Proof.LayersPay
public import Idealize.ShloMosaic.Lib.Tactic

@[expose] public section

noncomputable section

namespace Cert.LayersIdeal.Out

open Cert.LayersIdeal Cert.LayersIdeal.Gen Idealize.ShloMosaic Idealize.ShloMosaic.TcCoe Idealize.SL.Sem
open Idealize.ShloMosaic.ValueIdx

/-- The offsets of a whole two-dimensional block. -/
theorem zero2 : (![0, 0] : Fin 2 → Nat) = fun _ => 0 := funext fun a => by fin_cases a <;> rfl

/-- The offsets of a whole three-dimensional block. -/
theorem zero3 : (![0, 0, 0] : Fin 3 → Nat) = fun _ => 0 := funext fun a => by fin_cases a <;> rfl

/-- The band of memory rows a point reads from its slab. -/
abbrev band (i : grid0.Coords) (x1 : Vec Ideal S1x1040x512 .f32) : FVec Ideal S1x272x512 .f32 :=
  View.ld x1 (Rect.unit (s := S1x1040x512) (k0_off1 i) S1x272x512.size (k0_off1_inb i))

/-- The row block after one layer, from the row block before it. -/
abbrev rowsNext (i : grid0.Coords) (y : FVec Ideal S256x512 .f32) (x1 : Vec Ideal S1x1040x512 .f32)
    (x2 x3 : FVec Ideal S1x512x512 .f32) (x4 x5 : FVec Ideal S1x1x512 .f32) : FVec Ideal S256x512 .f32 :=
  k0_pay8 y (k0_pay7 y x2 (band i x1)) x3 x4 x5

/-- The head sums after one layer. -/
abbrev headsNext (i : grid0.Coords) (y : FVec Ideal S256x512 .f32) (x1 : Vec Ideal S1x1040x512 .f32)
    (x2 x3 : FVec Ideal S1x512x512 .f32) (x4 x5 : FVec Ideal S1x1x512 .f32) (acc : FVec Ideal S256x6 .f32)
    (x7 : FVec Ideal S1x512x6 .f32) : FVec Ideal S256x6 .f32 :=
  k0_pay1 (rowsNext i y x1 x2 x3 x4 x5) acc (k0_pay10 x7) (constant S256x6 .f32 0x00000000#32)

variable (c : Dev nD) (i : grid0.Coords)
  (arg3 : Memref sig .tc .vmem S1x256x512 .f32) (harg3 : arg3.IsWhole)
  (arg4 : Memref sig .tc .vmem S1x1040x512 .f32) (harg4 : arg4.IsWhole)
  (arg5 : Memref sig .tc .vmem S1x512x512 .f32) (harg5 : arg5.IsWhole)
  (arg6 : Memref sig .tc .vmem S1x512x512 .f32) (harg6 : arg6.IsWhole)
  (arg7 : Memref sig .tc .vmem S1x1x512 .f32) (harg7 : arg7.IsWhole)
  (arg8 : Memref sig .tc .vmem S1x1x512 .f32) (harg8 : arg8.IsWhole)
  (arg9 : Memref sig .tc .vmem S512x6 .f32) (harg9 : arg9.IsWhole)
  (arg10 : Memref sig .tc .vmem S1x512x6 .f32) (harg10 : arg10.IsWhole)
  (arg11 : Memref sig .tc .vmem S512x512 .f32) (harg11 : arg11.IsWhole)
  (arg12 : Memref sig .tc .vmem S1x256x512 .f32) (harg12 : arg12.IsWhole)
  (arg13 : Memref sig .tc .vmem S1x256x6 .f32) (harg13 : arg13.IsWhole)
  (arg14 : Memref sig .tc .vmem S256x512 .f32) (harg14 : arg14.IsWhole)
  (arg15 : Memref sig .tc .vmem S256x6 .f32) (harg15 : arg15.IsWhole)
  (x0 : Vec Ideal S1x256x512 .f32)
  (x1 : Vec Ideal S1x1040x512 .f32)
  (x2 : Vec Ideal S1x512x512 .f32)
  (x3 : Vec Ideal S1x512x512 .f32)
  (x4 : Vec Ideal S1x1x512 .f32)
  (x5 : Vec Ideal S1x1x512 .f32)
  (x6 : Vec Ideal S512x6 .f32)
  (x7 : Vec Ideal S1x512x6 .f32)
  (x8 : Vec Ideal S512x512 .f32)
  (xs0 : FVec Ideal S256x512 .f32) (xs1 : FVec Ideal S256x6 .f32)

/-- The first layer's row block. -/
theorem rows_A (hc0 : cond0_0 i) (hc1 : ¬cond0_1 i) :
    sout0_A_0 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8
      = rowsNext i (k0_pay5 x0) x1 x2 x3 x4 x5 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8)]
  unfold kernelRun0_A
  dsimp only
  sl_unfold_words
  rw [View.canon_cons_unit_zero (S := S256x512) zero2]
  simp only [View.readCov_unit_zero (S := S256x512) _ zero2, View.readCov_unit_zero (S := S256x6) _ zero2]
  simp only [View.readAt_eq_ld, harg3.read_unread, harg4.read_unread, harg5.read_unread, harg6.read_unread, harg7.read_unread, harg8.read_unread, harg9.read_unread, harg10.read_unread, harg11.read_unread,
    View.ld_unit_zero (S := S1x256x512) zero3, View.ld_unit_zero (S := S1x512x512) zero3, View.ld_unit_zero (S := S1x1x512) zero3, View.ld_unit_zero (S := S512x6) zero2, View.ld_unit_zero (S := S1x512x6) zero3, View.ld_unit_zero (S := S512x512) zero2, View.ld_unit_zero (S := S256x512) zero2, View.ld_unit_zero (S := S256x6) zero2]
  exact pay9_eq _ _ _ _ _

/-- The head sums after the first layer. -/
theorem heads_A (hc0 : cond0_0 i) (hc1 : ¬cond0_1 i) :
    sout0_A_1 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8
      = headsNext i (k0_pay5 x0) x1 x2 x3 x4 x5 (k0_pay6 x0 x6) x7 := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8)]
  unfold kernelRun0_A
  dsimp only
  sl_unfold_words
  rw [View.canon_cons_unit_zero (S := S256x6) zero2]
  simp only [View.readCov_unit_zero (S := S256x512) _ zero2, View.readCov_unit_zero (S := S256x6) _ zero2]
  simp only [View.readAt_eq_ld, harg3.read_unread, harg4.read_unread, harg5.read_unread, harg6.read_unread, harg7.read_unread, harg8.read_unread, harg9.read_unread, harg10.read_unread, harg11.read_unread,
    View.ld_unit_zero (S := S1x256x512) zero3, View.ld_unit_zero (S := S1x512x512) zero3, View.ld_unit_zero (S := S1x1x512) zero3, View.ld_unit_zero (S := S512x6) zero2, View.ld_unit_zero (S := S1x512x6) zero3, View.ld_unit_zero (S := S512x512) zero2, View.ld_unit_zero (S := S256x512) zero2, View.ld_unit_zero (S := S256x6) zero2]
  rfl

/-- A middle layer's row block. -/
theorem rows_B (hc0 : ¬cond0_0 i) (hc1 : ¬cond0_1 i) :
    sout0_B_0 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1
      = rowsNext i xs0 x1 x2 x3 x4 x5 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1)]
  unfold kernelRun0_B
  dsimp only
  sl_unfold_words
  rw [View.canon_unit_zero (S := S256x512) zero2]
  simp only [View.readAt_eq_ld, harg3.read_unread, harg4.read_unread, harg5.read_unread, harg6.read_unread, harg7.read_unread, harg8.read_unread, harg9.read_unread, harg10.read_unread, harg11.read_unread, harg14.read_unread, harg15.read_unread,
    View.ld_unit_zero (S := S1x256x512) zero3, View.ld_unit_zero (S := S1x512x512) zero3, View.ld_unit_zero (S := S1x1x512) zero3, View.ld_unit_zero (S := S512x6) zero2, View.ld_unit_zero (S := S1x512x6) zero3, View.ld_unit_zero (S := S512x512) zero2, View.ld_unit_zero (S := S256x512) zero2, View.ld_unit_zero (S := S256x6) zero2]
  exact pay9_eq _ _ _ _ _

/-- The head sums after a middle layer. -/
theorem heads_B (hc0 : ¬cond0_0 i) (hc1 : ¬cond0_1 i) :
    sout0_B_1 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1
      = headsNext i xs0 x1 x2 x3 x4 x5 xs1 x7 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1)]
  unfold kernelRun0_B
  dsimp only
  sl_unfold_words
  rw [View.canon_unit_zero (S := S256x6) zero2]
  simp only [View.readAt_eq_ld, harg3.read_unread, harg4.read_unread, harg5.read_unread, harg6.read_unread, harg7.read_unread, harg8.read_unread, harg9.read_unread, harg10.read_unread, harg11.read_unread, harg14.read_unread, harg15.read_unread,
    View.ld_unit_zero (S := S1x256x512) zero3, View.ld_unit_zero (S := S1x512x512) zero3, View.ld_unit_zero (S := S1x1x512) zero3, View.ld_unit_zero (S := S512x6) zero2, View.ld_unit_zero (S := S1x512x6) zero3, View.ld_unit_zero (S := S512x512) zero2, View.ld_unit_zero (S := S256x512) zero2, View.ld_unit_zero (S := S256x6) zero2]
  rfl

/-- The last layer's row block. -/
theorem rows_C (hc0 : ¬cond0_0 i) (hc1 : cond0_1 i) :
    sout0_C_0 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1
      = rowsNext i xs0 x1 x2 x3 x4 x5 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1)]
  unfold kernelRun0_C
  dsimp only
  sl_unfold_words
  rw [View.canon_unit_zero (S := S256x512) zero2]
  simp only [View.readAt_eq_ld, harg3.read_unread, harg4.read_unread, harg5.read_unread, harg6.read_unread, harg7.read_unread, harg8.read_unread, harg9.read_unread, harg10.read_unread, harg11.read_unread, harg14.read_unread, harg15.read_unread,
    View.ld_unit_zero (S := S1x256x512) zero3, View.ld_unit_zero (S := S1x512x512) zero3, View.ld_unit_zero (S := S1x1x512) zero3, View.ld_unit_zero (S := S512x6) zero2, View.ld_unit_zero (S := S1x512x6) zero3, View.ld_unit_zero (S := S512x512) zero2, View.ld_unit_zero (S := S256x512) zero2, View.ld_unit_zero (S := S256x6) zero2]
  exact pay9_eq _ _ _ _ _

/-- The head sums after the last layer. -/
theorem heads_C (hc0 : ¬cond0_0 i) (hc1 : cond0_1 i) :
    sout0_C_1 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1
      = headsNext i xs0 x1 x2 x3 x4 x5 xs1 x7 := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1)]
  unfold kernelRun0_C
  dsimp only
  sl_unfold_words
  rw [View.canon_unit_zero (S := S256x6) zero2]
  simp only [View.readAt_eq_ld, harg3.read_unread, harg4.read_unread, harg5.read_unread, harg6.read_unread, harg7.read_unread, harg8.read_unread, harg9.read_unread, harg10.read_unread, harg11.read_unread, harg14.read_unread, harg15.read_unread,
    View.ld_unit_zero (S := S1x256x512) zero3, View.ld_unit_zero (S := S1x512x512) zero3, View.ld_unit_zero (S := S1x1x512) zero3, View.ld_unit_zero (S := S512x6) zero2, View.ld_unit_zero (S := S1x512x6) zero3, View.ld_unit_zero (S := S512x512) zero2, View.ld_unit_zero (S := S256x512) zero2, View.ld_unit_zero (S := S256x6) zero2]
  rfl

/-- The block of final rows the last layer writes. -/
theorem out_C (hc0 : ¬cond0_0 i) (hc1 : cond0_1 i) :
    out0_C_9 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1
      = k0_pay2 (k0_pay4 x0) (rowsNext i xs0 x1 x2 x3 x4 x5) x8 := by
  unfold out0_C_9
  rw [View.read_writes_eq_canon _ _ _ (cover0_C_9 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1)]
  unfold kernelRun0_C
  dsimp only
  sl_unfold_words
  rw [View.canon_unit_zero (S := S1x256x512) zero3]
  simp only [View.readAt_eq_ld, harg3.read_unread, harg4.read_unread, harg5.read_unread, harg6.read_unread, harg7.read_unread, harg8.read_unread, harg9.read_unread, harg10.read_unread, harg11.read_unread, harg14.read_unread, harg15.read_unread,
    View.ld_unit_zero (S := S1x256x512) zero3, View.ld_unit_zero (S := S1x512x512) zero3, View.ld_unit_zero (S := S1x1x512) zero3, View.ld_unit_zero (S := S512x6) zero2, View.ld_unit_zero (S := S1x512x6) zero3, View.ld_unit_zero (S := S512x512) zero2, View.ld_unit_zero (S := S256x512) zero2, View.ld_unit_zero (S := S256x6) zero2]
  rfl

/-- The block of head means the last layer writes. -/
theorem mean_C (hc0 : ¬cond0_0 i) (hc1 : cond0_1 i) :
    out0_C_10 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1
      = (k0_pay3 (F := Ideal) (headsNext i xs0 x1 x2 x3 x4 x5 xs1 x7) : FVec Ideal S1x256x6 .f32) := by
  unfold out0_C_10
  rw [View.read_writes_eq_canon _ _ _ (cover0_C_10 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1)]
  unfold kernelRun0_C
  dsimp only
  sl_unfold_words
  rw [View.canon_unit_zero (S := S1x256x6) zero3]
  simp only [View.readCov_unit_zero (S := S256x6) _ zero2]
  simp only [View.readAt_eq_ld, harg3.read_unread, harg4.read_unread, harg5.read_unread, harg6.read_unread, harg7.read_unread, harg8.read_unread, harg9.read_unread, harg10.read_unread, harg11.read_unread, harg14.read_unread, harg15.read_unread,
    View.ld_unit_zero (S := S1x256x512) zero3, View.ld_unit_zero (S := S1x512x512) zero3, View.ld_unit_zero (S := S1x1x512) zero3, View.ld_unit_zero (S := S512x6) zero2, View.ld_unit_zero (S := S1x512x6) zero3, View.ld_unit_zero (S := S512x512) zero2, View.ld_unit_zero (S := S256x512) zero2, View.ld_unit_zero (S := S256x6) zero2]
  rfl

end Cert.LayersIdeal.Out

end
-- ==== Proof.LayersValue.lean ====
/- The layers call as a function of its arguments: every row through the seven layers, its memory the sixteen newest ring
   rows, with the sum of its heads; and that the call leaves this. -/
module

public import proofs.«01_k».proof.Proof.LayersCases

@[expose] public section

noncomputable section

namespace Cert.LayersIdeal.Out

open Cert.LayersIdeal Cert.LayersIdeal.Gen Idealize.ShloMosaic Idealize.ShloMosaic.TcCoe Idealize.SL.Sem
open Idealize.ShloMosaic.ValueIdx
open Cert.Row (Real')

/-! ## The function -/

section Function

variable (x : Vec Ideal S4x1024x512 .f32) (w : Vec Ideal S4x1040x512 .f32) (wq wv : Vec Ideal S8x512x512 .f32)
  (s o : Vec Ideal S8x1x512 .f32) (h0 : Vec Ideal S512x6 .f32) (h : Vec Ideal S8x512x6 .f32) (p : Vec Ideal S512x512 .f32)

/-- The sixteen memory rows of row `i`. -/
def memory (b : Fin 4) (i : Fin 1024) (k : Fin 16) (d : Fin 512) : EReal :=
  w (ix3 b (⟨i.val + 1 + k.val, by omega⟩ : Fin 1040) d)

/-- Row `i` after `n` layers. -/
def row (b : Fin 4) (i : Fin 1024) : Nat → Fin 512 → EReal
  | 0 => fun d => x (ix3 b i d)
  | n + 1 => Row.layer (memory w b i) (fun e d => wq (ix3 (Fin.ofNat 8 (n + 1)) e d)) (fun e d => wv (ix3 (Fin.ofNat 8 (n + 1)) e d))
      (fun d => s (ix3 (Fin.ofNat 8 (n + 1)) 0 d)) (fun d => o (ix3 (Fin.ofNat 8 (n + 1)) 0 d)) (row b i n)

/-- The heads of row `i` summed over the input row and `n` layers. -/
def heads (b : Fin 4) (i : Fin 1024) : Nat → Fin 6 → EReal
  | 0 => fun d => ∑ k, x (ix3 b i k) * h0 (ix2 k d)
  | n + 1 => fun d => heads b i n d + ∑ k, row x w wq wv s o b i (n + 1) k * h (ix3 (Fin.ofNat 8 (n + 1)) k d)

/-- The final rows: after seven layers, with the skip added. -/
def finalRows : Vec Ideal S4x1024x512 .f32 := fun j =>
  row x w wq wv s o (j 0) (j 1) 7 (j 2) + ∑ k, x (ix3 (j 0) (j 1) k) * p (ix2 k (j 2))

/-- The mean of the eight heads of every row. -/
def meanHeads : Vec Ideal S4x1024x6 .f32 := fun j =>
  Ideal.div (heads x w wq wv s o h0 h (j 0) (j 1) 7 (j 2)) (Ideal.ofBits .f32 0x41000000#32)

/-- The numbers the scores are computed from are real. -/
structure Finite : Prop where
  x : ∀ b i d, Real' (x (ix3 b i d))
  w : ∀ b i d, Real' (w (ix3 b i d))
  wq : ∀ n < 7, ∀ e d, Real' (wq (ix3 (Fin.ofNat 8 (n + 1)) e d))
  s : ∀ n < 6, ∀ d, Real' (s (ix3 (Fin.ofNat 8 (n + 1)) 0 d))
  o : ∀ n < 6, ∀ d, Real' (o (ix3 (Fin.ofNat 8 (n + 1)) 0 d))

variable {x w wq wv s o}

theorem Finite.row (f : Finite x w wq s o) (b : Fin 4) (i : Fin 1024) :
    ∀ n < 7, ∀ d, Real' (row x w wq wv s o b i n d)
  | 0, _ => fun d => f.x b i d
  | n + 1, hn => Row.layer_real (f.s n (by omega)) (f.o n (by omega))

end Function

/-! ## One layer of one row of a block -/

/-- The masked softmax over the band is the softmax over the row's sixteen memory rows, so the body's step on a row is a
    layer of it. -/
theorem rows_layer (y : FVec Ideal S256x512 .f32) (w : Vec Ideal S1x272x512 .f32) (wq wv : Vec Ideal S1x512x512 .f32)
    (s o : Vec Ideal S1x1x512 .f32) (r : Fin 256) (X : Fin 512 → EReal) (M : Fin 16 → Fin 512 → EReal)
    (Q V : Fin 512 → Fin 512 → EReal) (S O : Fin 512 → EReal)
    (hy : ∀ d, y (ix2 r d) = X d) (hM : ∀ (k : Fin 16) d, w (ix3 0 (⟨r.val + 1 + k.val, by omega⟩ : Fin 272) d) = M k d)
    (hQ : ∀ e d, wq (ix3 0 e d) = Q e d) (hV : ∀ e d, wv (ix3 0 e d) = V e d)
    (hS : ∀ d, s (ix3 0 0 d) = S d) (hO : ∀ d, o (ix3 0 0 d) = O d)
    (rX : ∀ d, Real' (X d)) (rM : ∀ k d, Real' (M k d)) (rQ : ∀ e d, Real' (Q e d)) (d : Fin 512) :
    k0_pay8 y (k0_pay7 y wq w) wv s o (ix2 r d) = Row.layer M Q V S O X d := by
  rw [pay8_apply]
  unfold Row.layer
  rw [show (fun d => s (ix3 0 0 d)) = S from funext hS, show (fun d => o (ix3 0 0 d)) = O from funext hO]
  refine congrArg (fun v => Row.norm v S O d) (funext fun d => ?_)
  refine congrArg₂ (fun a b : EReal => a + b) (hy d) (Finset.sum_congr rfl fun e _ => congrArg₂ (fun a b : EReal => a * b) ?_ (hV e d))
  rw [pay7_apply]
  refine (Row.read_masked (fun k : Fin 16 => (⟨r.val + 1 + k.val, by omega⟩ : Fin 272)) (fun a b h => Fin.ext ?_)
    (fun k => Row.score X (M k) Q) (fun k => Row.score_real rX (rM k) rQ) _ (fun k => ?_) (fun c hc => ?_) _).trans ?_
  · have := congrArg Fin.val h; dsimp only at this; omega
  · dsimp only
    rw [if_pos (by omega)]
    rw [show (fun e => y (ix2 r e)) = X from funext hy, show (fun e d => wq (ix3 0 e d)) = Q from funext fun e => funext (hQ e)]
    exact congrArg (fun m => Row.score X m Q) (funext (hM k))
  · refine if_neg fun h => hc ⟨⟨c.val - (r.val + 1), by omega⟩, Fin.ext ?_⟩
    show r.val + 1 + (c.val - (r.val + 1)) = c.val; omega
  · exact congrArg (Row.read _) (funext fun k => hM k e)

/-! ## The blocks a grid point stages -/

theorem idx_facts : ∀ t : Fin cfg0.N, win0_0.index t = ![t.val / 28, t.val / 7 % 4, 0] ∧ win0_1.index t = ![t.val / 28, 0, 0]
    ∧ win0_2.index t = ![t.val % 7 + 1, 0, 0] ∧ win0_3.index t = ![t.val % 7 + 1, 0, 0]
    ∧ win0_4.index t = ![t.val % 7 + 1, 0, 0] ∧ win0_5.index t = ![t.val % 7 + 1, 0, 0] ∧ win0_6.index t = ![0, 0]
    ∧ win0_7.index t = ![t.val % 7 + 1, 0, 0] ∧ win0_8.index t = ![0, 0]
    ∧ k0_off1 (grid0.coords t) = ![0, t.val / 7 % 4 * 256, 0] :=
  (by decide +kernel : ∀ t : Fin grid0.N, _)

variable (m : (ℓ : Loc nD τ sig) → Buf (Elt Ideal) ℓ) (c : Dev nD) (t : Fin cfg0.N)

abbrev a0 : Vec Ideal S4x1024x512 .f32 := m ((c : Thread nD τ).loc main_arg0)
abbrev a1 : Vec Ideal S4x1040x512 .f32 := m ((c : Thread nD τ).loc main_arg1)
abbrev a2 : Vec Ideal S8x512x512 .f32 := m ((c : Thread nD τ).loc main_arg2)
abbrev a3 : Vec Ideal S8x512x512 .f32 := m ((c : Thread nD τ).loc main_arg3)
abbrev a4 : Vec Ideal S8x1x512 .f32 := m ((c : Thread nD τ).loc main_arg4)
abbrev a5 : Vec Ideal S8x1x512 .f32 := m ((c : Thread nD τ).loc main_arg5)
abbrev a6 : Vec Ideal S512x6 .f32 := m ((c : Thread nD τ).loc main_arg6)
abbrev a7 : Vec Ideal S8x512x6 .f32 := m ((c : Thread nD τ).loc main_arg7)
abbrev a8 : Vec Ideal S512x512 .f32 := m ((c : Thread nD τ).loc main_arg8)

/-- The layer a point computes. -/
abbrev lay : Fin 8 := Fin.ofNat 8 (t.val % 7 + 1)

theorem lay_val : (lay t).val = t.val % 7 + 1 := Nat.mod_eq_of_lt (by omega)

theorem blk0 (r : Fin 256) (d : Fin 512) (b : Fin 4) (i : Fin 1024) (hb : t.val / 28 = b.val) (hi : t.val / 7 % 4 * 256 + r.val = i.val) :
    (iblk m c 0 t : S1x256x512.Idx → EReal) (ix3 0 r d) = a0 m c (ix3 b i d) := by
  show V m c main_arg0 (((cfg0.win 0).blk t).view.emb (ix3 (0 : Fin 1) r d : S1x256x512.Idx)) = _
  have h := (idx_facts t).1
  rw [V_main_arg0, show ((cfg0.win 0).blk t).view.emb (ix3 (0 : Fin 1) r d : S1x256x512.Idx) = (ix3 b i d : S4x1024x512.Idx) from by
    funext a
    apply Fin.ext
    match a with
    | ⟨0, _⟩ => show win0_0.index t 0 * 1 + 1 * 0 = b.val; rw [h]; simpa using hb
    | ⟨1, _⟩ => show win0_0.index t 1 * 256 + 1 * r.val = i.val; rw [h]; simpa using hi
    | ⟨2, _⟩ => show win0_0.index t 2 * 512 + 1 * d.val = d.val; rw [h]; simp]

theorem blk1 (j : Fin 1040) (d : Fin 512) (b : Fin 4) (hb : t.val / 28 = b.val) :
    (iblk m c 1 t : S1x1040x512.Idx → EReal) (ix3 0 j d) = a1 m c (ix3 b j d) := by
  show V m c main_arg1 (((cfg0.win 1).blk t).view.emb (ix3 (0 : Fin 1) j d : S1x1040x512.Idx)) = _
  have h := (idx_facts t).2.1
  rw [V_main_arg1, show ((cfg0.win 1).blk t).view.emb (ix3 (0 : Fin 1) j d : S1x1040x512.Idx) = (ix3 b j d : S4x1040x512.Idx) from by
    funext a
    apply Fin.ext
    match a with
    | ⟨0, _⟩ => show win0_1.index t 0 * 1 + 1 * 0 = b.val; rw [h]; simpa using hb
    | ⟨1, _⟩ => show win0_1.index t 1 * 1040 + 1 * j.val = j.val; rw [h]; simp
    | ⟨2, _⟩ => show win0_1.index t 2 * 512 + 1 * d.val = d.val; rw [h]; simp]

theorem blk2 (e d : Fin 512) : (iblk m c 2 t : S1x512x512.Idx → EReal) (ix3 0 e d) = a2 m c (ix3 (lay t) e d) := by
  show V m c main_arg2 (((cfg0.win 2).blk t).view.emb (ix3 (0 : Fin 1) e d : S1x512x512.Idx)) = _
  have h := (idx_facts t).2.2.1
  rw [V_main_arg2, show ((cfg0.win 2).blk t).view.emb (ix3 (0 : Fin 1) e d : S1x512x512.Idx) = (ix3 (lay t) e d : S8x512x512.Idx) from by
    funext a
    apply Fin.ext
    match a with
    | ⟨0, _⟩ => show win0_2.index t 0 * 1 + 1 * 0 = (lay t).val; rw [h, lay_val]; simp
    | ⟨1, _⟩ => show win0_2.index t 1 * 512 + 1 * e.val = e.val; rw [h]; simp
    | ⟨2, _⟩ => show win0_2.index t 2 * 512 + 1 * d.val = d.val; rw [h]; simp]

theorem blk3 (e d : Fin 512) : (iblk m c 3 t : S1x512x512.Idx → EReal) (ix3 0 e d) = a3 m c (ix3 (lay t) e d) := by
  show V m c main_arg3 (((cfg0.win 3).blk t).view.emb (ix3 (0 : Fin 1) e d : S1x512x512.Idx)) = _
  have h := (idx_facts t).2.2.2.1
  rw [V_main_arg3, show ((cfg0.win 3).blk t).view.emb (ix3 (0 : Fin 1) e d : S1x512x512.Idx) = (ix3 (lay t) e d : S8x512x512.Idx) from by
    funext a
    apply Fin.ext
    match a with
    | ⟨0, _⟩ => show win0_3.index t 0 * 1 + 1 * 0 = (lay t).val; rw [h, lay_val]; simp
    | ⟨1, _⟩ => show win0_3.index t 1 * 512 + 1 * e.val = e.val; rw [h]; simp
    | ⟨2, _⟩ => show win0_3.index t 2 * 512 + 1 * d.val = d.val; rw [h]; simp]

theorem blk4 (d : Fin 512) : (iblk m c 4 t : S1x1x512.Idx → EReal) (ix3 0 0 d) = a4 m c (ix3 (lay t) 0 d) := by
  show V m c main_arg4 (((cfg0.win 4).blk t).view.emb (ix3 (0 : Fin 1) (0 : Fin 1) d : S1x1x512.Idx)) = _
  have h := (idx_facts t).2.2.2.2.1
  rw [V_main_arg4, show ((cfg0.win 4).blk t).view.emb (ix3 (0 : Fin 1) (0 : Fin 1) d : S1x1x512.Idx) = (ix3 (lay t) 0 d : S8x1x512.Idx) from by
    funext a
    apply Fin.ext
    match a with
    | ⟨0, _⟩ => show win0_4.index t 0 * 1 + 1 * 0 = (lay t).val; rw [h, lay_val]; simp
    | ⟨1, _⟩ => show win0_4.index t 1 * 1 + 1 * 0 = 0; rw [h]; simp
    | ⟨2, _⟩ => show win0_4.index t 2 * 512 + 1 * d.val = d.val; rw [h]; simp]

theorem blk5 (d : Fin 512) : (iblk m c 5 t : S1x1x512.Idx → EReal) (ix3 0 0 d) = a5 m c (ix3 (lay t) 0 d) := by
  show V m c main_arg5 (((cfg0.win 5).blk t).view.emb (ix3 (0 : Fin 1) (0 : Fin 1) d : S1x1x512.Idx)) = _
  have h := (idx_facts t).2.2.2.2.2.1
  rw [V_main_arg5, show ((cfg0.win 5).blk t).view.emb (ix3 (0 : Fin 1) (0 : Fin 1) d : S1x1x512.Idx) = (ix3 (lay t) 0 d : S8x1x512.Idx) from by
    funext a
    apply Fin.ext
    match a with
    | ⟨0, _⟩ => show win0_5.index t 0 * 1 + 1 * 0 = (lay t).val; rw [h, lay_val]; simp
    | ⟨1, _⟩ => show win0_5.index t 1 * 1 + 1 * 0 = 0; rw [h]; simp
    | ⟨2, _⟩ => show win0_5.index t 2 * 512 + 1 * d.val = d.val; rw [h]; simp]

theorem blk6 (k : Fin 512) (d : Fin 6) : (iblk m c 6 t : S512x6.Idx → EReal) (ix2 k d) = a6 m c (ix2 k d) := by
  show V m c main_arg6 (((cfg0.win 6).blk t).view.emb (ix2 k d : S512x6.Idx)) = _
  have h := (idx_facts t).2.2.2.2.2.2.1
  rw [V_main_arg6, show ((cfg0.win 6).blk t).view.emb (ix2 k d : S512x6.Idx) = (ix2 k d : S512x6.Idx) from by
    funext a
    apply Fin.ext
    match a with
    | ⟨0, _⟩ => show win0_6.index t 0 * 512 + 1 * k.val = k.val; rw [h]; simp
    | ⟨1, _⟩ => show win0_6.index t 1 * 6 + 1 * d.val = d.val; rw [h]; simp]

theorem blk7 (k : Fin 512) (d : Fin 6) : (iblk m c 7 t : S1x512x6.Idx → EReal) (ix3 0 k d) = a7 m c (ix3 (lay t) k d) := by
  show V m c main_arg7 (((cfg0.win 7).blk t).view.emb (ix3 (0 : Fin 1) k d : S1x512x6.Idx)) = _
  have h := (idx_facts t).2.2.2.2.2.2.2.1
  rw [V_main_arg7, show ((cfg0.win 7).blk t).view.emb (ix3 (0 : Fin 1) k d : S1x512x6.Idx) = (ix3 (lay t) k d : S8x512x6.Idx) from by
    funext a
    apply Fin.ext
    match a with
    | ⟨0, _⟩ => show win0_7.index t 0 * 1 + 1 * 0 = (lay t).val; rw [h, lay_val]; simp
    | ⟨1, _⟩ => show win0_7.index t 1 * 512 + 1 * k.val = k.val; rw [h]; simp
    | ⟨2, _⟩ => show win0_7.index t 2 * 6 + 1 * d.val = d.val; rw [h]; simp]

theorem blk8 (k d : Fin 512) : (iblk m c 8 t : S512x512.Idx → EReal) (ix2 k d) = a8 m c (ix2 k d) := by
  show V m c main_arg8 (((cfg0.win 8).blk t).view.emb (ix2 k d : S512x512.Idx)) = _
  have h := (idx_facts t).2.2.2.2.2.2.2.2.1
  rw [V_main_arg8, show ((cfg0.win 8).blk t).view.emb (ix2 k d : S512x512.Idx) = (ix2 k d : S512x512.Idx) from by
    funext a
    apply Fin.ext
    match a with
    | ⟨0, _⟩ => show win0_8.index t 0 * 512 + 1 * k.val = k.val; rw [h]; simp
    | ⟨1, _⟩ => show win0_8.index t 1 * 512 + 1 * d.val = d.val; rw [h]; simp]

/-- The band's rows that a block row's mask keeps are its sixteen memory rows. -/
theorem band_apply (r : Fin 256) (k : Fin 16) (d : Fin 512) (b : Fin 4) (i : Fin 1024) (hb : t.val / 28 = b.val)
    (hi : t.val / 7 % 4 * 256 + r.val = i.val) :
    band (grid0.coords t) (iblk m c 1 t) (ix3 0 (⟨r.val + 1 + k.val, by omega⟩ : Fin 272) d) = memory (a1 m c) b i k d := by
  have h := (idx_facts t).2.2.2.2.2.2.2.2.2
  refine (View.ld_unit_apply_of _ _ _ (k0_off1_inb (grid0.coords t)) (ix3 0 (⟨r.val + 1 + k.val, by omega⟩ : Fin 272) d : S1x272x512.Idx)
    (ix3 0 (⟨i.val + 1 + k.val, by omega⟩ : Fin 1040) d : S1x1040x512.Idx) (fun a => ?_)).trans (blk1 m c t _ d b hb)
  match a with
  | ⟨0, _⟩ => show 0 = k0_off1 (grid0.coords t) 0 + 0; rw [h]; rfl
  | ⟨1, _⟩ => show i.val + 1 + k.val = k0_off1 (grid0.coords t) 1 + (r.val + 1 + k.val); rw [h, ← hi]
              show _ = t.val / 7 % 4 * 256 + (r.val + 1 + k.val); omega
  | ⟨2, _⟩ => show d.val = k0_off1 (grid0.coords t) 2 + d.val; rw [h]; show _ = 0 + d.val; omega

end Cert.LayersIdeal.Out

end
-- ==== Proof.LayersFinal.lean ====
/- What the layers call carries from grid point to grid point, by induction on the point, and what its two result arrays
   end holding. -/
module

public import proofs.«01_k».proof.Proof.LayersValue

@[expose] public section

noncomputable section

namespace Cert.LayersIdeal.Out

open Cert.LayersIdeal Cert.LayersIdeal.Gen Idealize.ShloMosaic Idealize.ShloMosaic.TcCoe Idealize.SL.Sem
open Idealize.ShloMosaic.ValueIdx
open Cert.Row (Real')

variable (m : (ℓ : Loc nD τ sig) → Buf (Elt Ideal) ℓ) (c : Dev nD) (t : Fin cfg0.N)

/-- The arguments a row's scores are computed from are real numbers. -/
abbrev Fine : Prop := Finite (a0 m c) (a1 m c) (a2 m c) (a4 m c) (a5 m c)

/-- Row `i` after `n` layers, of the launched arguments. -/
abbrev rowOf (b : Fin 4) (i : Fin 1024) (n : Nat) (d : Fin 512) : EReal :=
  row (a0 m c) (a1 m c) (a2 m c) (a3 m c) (a4 m c) (a5 m c) b i n d

/-- The heads of row `i` summed over `n` layers, of the launched arguments. -/
abbrev headsOf (b : Fin 4) (i : Fin 1024) (n : Nat) (d : Fin 6) : EReal :=
  heads (a0 m c) (a1 m c) (a2 m c) (a3 m c) (a4 m c) (a5 m c) (a6 m c) (a7 m c) b i n d

/-- The row block and the head sums are those after `n` layers of the rows point `t` works on. -/
def Holds (n : Nat) (y : FVec Ideal S256x512 .f32) (z : FVec Ideal S256x6 .f32) : Prop :=
  ∀ (r : Fin 256) (b : Fin 4) (i : Fin 1024), t.val / 28 = b.val → t.val / 7 % 4 * 256 + r.val = i.val →
    (∀ d, y (ix2 r d) = rowOf m c b i n d) ∧ ∀ d, z (ix2 r d) = headsOf m c b i n d

/-- The step of a point takes what `n` layers leave to what `n + 1` layers leave. -/
theorem step (f : Fine m c) (y : FVec Ideal S256x512 .f32) (z : FVec Ideal S256x6 .f32) (h : Holds m c t (t.val % 7) y z) :
    Holds m c t (t.val % 7 + 1)
      (rowsNext (grid0.coords t) y (iblk m c 1 t) (iblk m c 2 t) (iblk m c 3 t) (iblk m c 4 t) (iblk m c 5 t))
      (headsNext (grid0.coords t) y (iblk m c 1 t) (iblk m c 2 t) (iblk m c 3 t) (iblk m c 4 t) (iblk m c 5 t) z (iblk m c 7 t)) := by
  intro r b i hb hi
  obtain ⟨hy, hz⟩ := h r b i hb hi
  have hrow : ∀ d, rowsNext (grid0.coords t) y (iblk m c 1 t) (iblk m c 2 t) (iblk m c 3 t) (iblk m c 4 t) (iblk m c 5 t) (ix2 r d)
      = rowOf m c b i (t.val % 7 + 1) d := fun d =>
    rows_layer y (band (grid0.coords t) (iblk m c 1 t)) (iblk m c 2 t) (iblk m c 3 t) (iblk m c 4 t) (iblk m c 5 t) r
      (rowOf m c b i (t.val % 7)) (memory (a1 m c) b i) (fun e d => a2 m c (ix3 (lay t) e d)) (fun e d => a3 m c (ix3 (lay t) e d))
      (fun d => a4 m c (ix3 (lay t) 0 d)) (fun d => a5 m c (ix3 (lay t) 0 d)) hy (fun k d => band_apply m c t r k d b i hb hi)
      (blk2 m c t) (blk3 m c t) (blk4 m c t) (blk5 m c t) (f.row b i _ (by omega)) (fun k d => f.w _ _ _)
      (f.wq _ (by omega)) d
  refine ⟨hrow, fun d => ?_⟩
  rw [show headsNext (grid0.coords t) y (iblk m c 1 t) (iblk m c 2 t) (iblk m c 3 t) (iblk m c 4 t) (iblk m c 5 t) z (iblk m c 7 t) (ix2 r d) = _
    from pay1_apply _ z (iblk m c 7 t) r d]
  show _ = headsOf m c b i (t.val % 7) d + _
  exact congrArg₂ (fun a b : EReal => a + b) (hz d) (Finset.sum_congr rfl fun k _ =>
    congrArg₂ (fun a b : EReal => a * b) (hrow k) (blk7 m c t k d))

/-- Before the first layer: the input rows and their heads. -/
theorem start (h0 : t.val % 7 = 0) : Holds m c t (t.val % 7) (k0_pay5 (iblk m c 0 t)) (k0_pay6 (iblk m c 0 t) (iblk m c 6 t)) := by
  intro r b i hb hi
  rw [h0]
  refine ⟨fun d => (pay5_apply _ r d).trans (blk0 m c t r d b i hb hi), fun d => (pay6_apply _ _ r d).trans ?_⟩
  exact Finset.sum_congr rfl fun k _ => congrArg₂ (fun a b : EReal => a * b) (blk0 m c t r k b i hb hi) (blk6 m c t k d)

/-- What the carried buffers hold after point `n`. -/
theorem carried (f : Fine m c) : ∀ (n : ℕ) (h : n < cfg0.N),
    Holds m c ⟨n, h⟩ (n % 7 + 1) (outsAt0 m c n h).2.2.1 (outsAt0 m c n h).2.2.2 := by
  intro n
  induction n with
  | zero =>
    intro h
    rw [outsAt0_A m c ⟨0, h⟩ rfl (by dsimp only; omega)]
    dsimp only
    rw [rows_A, heads_A]
    exact step m c ⟨0, h⟩ f _ _ (start m c ⟨0, h⟩ rfl)
  | succ n ih =>
    intro h
    by_cases h0 : (n + 1) % 7 = 0
    · rw [outsAt0_A m c ⟨n + 1, h⟩ h0 (by dsimp only; omega)]
      dsimp only
      rw [rows_A, heads_A]
      exact step m c ⟨n + 1, h⟩ f _ _ (start m c ⟨n + 1, h⟩ h0)
    · have hp : Holds m c ⟨n + 1, h⟩ ((n + 1) % 7) (outsAt0 m c n (Nat.lt_of_succ_lt h)).2.2.1
          (outsAt0 m c n (Nat.lt_of_succ_lt h)).2.2.2 := by
        intro r b i hb hi
        have := ih (Nat.lt_of_succ_lt h) r b i (by dsimp only at hb ⊢; omega) (by dsimp only at hi ⊢; omega)
        rwa [show (n + 1) % 7 = n % 7 + 1 by omega]
      by_cases h1 : (n + 1) % 7 = 6
      · rw [outsAt0_C m c ⟨n + 1, h⟩ h0 h1]
        dsimp only
        rw [rows_C, heads_C]
        exact step m c ⟨n + 1, h⟩ f _ _ hp
      · rw [outsAt0_B m c ⟨n + 1, h⟩ h0 h1]
        dsimp only
        rw [rows_B, heads_B]
        exact step m c ⟨n + 1, h⟩ f _ _ hp

/-- What a last layer's point leaves in its two output blocks. -/
theorem written (f : Fine m c) (n : ℕ) (h : n + 1 < cfg0.N) (h1 : (n + 1) % 7 = 6) (r : Fin 256) (b : Fin 4) (i : Fin 1024)
    (hb : (n + 1) / 28 = b.val) (hi : (n + 1) / 7 % 4 * 256 + r.val = i.val) :
    (∀ d, (outsAt0 m c (n + 1) h).1 (ix3 0 r d) = rowOf m c b i 7 d + ∑ k, a0 m c (ix3 b i k) * a8 m c (ix2 k d))
    ∧ ∀ d, (outsAt0 m c (n + 1) h).2.1 (ix3 0 r d) = headsOf m c b i 7 d * Ideal.ofBits .f32 0x3E000000#32 := by
  have h0 : ¬(n + 1) % 7 = 0 := by omega
  have hs := carried m c f (n + 1) h r b i hb hi
  rw [outsAt0_C m c ⟨n + 1, h⟩ h0 h1] at hs ⊢
  dsimp only at hs ⊢
  rw [rows_C, heads_C, h1] at hs
  obtain ⟨hr, hh⟩ := hs
  rw [out_C, mean_C]
  refine ⟨fun d => (pay2_apply _ _ _ r d).trans ?_, fun d => (pay3_apply _ r d).trans ?_⟩
  · refine congrArg₂ (fun a b : EReal => a + b) (hr d) (Finset.sum_congr rfl fun k _ => congrArg₂ (fun a b : EReal => a * b) ?_ (blk8 m c ⟨n + 1, h⟩ k d))
    exact (pay4_apply _ r k).trans (blk0 m c ⟨n + 1, h⟩ r k b i hb hi)
  · exact congrArg (fun a : EReal => a * _) (hh d)

/-- Multiplying by an eighth is dividing by eight. -/
theorem eighth (a : EReal) : a * Ideal.ofBits .f32 0x3E000000#32 = Ideal.div a (Ideal.ofBits .f32 0x41000000#32) := by
  rw [Row.ofBits_eighth, Row.ofBits_8, Ideal.div_coe (by norm_num)]

/-- The first result array ends holding the final rows. -/
theorem final9 (f : Fine m c) : Value.G9 m c = finalRows (a0 m c) (a1 m c) (a2 m c) (a3 m c) (a4 m c) (a5 m c) (a8 m c) := by
  have hN : cfg0.N = 112 := N_0
  funext j
  obtain ⟨b, i, d, rfl⟩ : ∃ (b : Fin 4) (i : Fin 1024) (d : Fin 512), j = ix3 b i d := ⟨j 0, j 1, j 2, eq_ix3 j⟩
  have hp : Value.pt9Of (ix3 b i d : S4x1024x512.Idx) = 7 * (4 * b.val + i.val / 256) + 5 + 1 := by
    show 7 * (4 * (b.val / 1 - 0) + 1 * (i.val / 256 - 0) + 1 * (d.val / 512 - 0)) + 6 = _; omega
  have hl : Value.loc9Of (ix3 b i d : S4x1024x512.Idx) = (ix3 (0 : Fin 1) (⟨i.val % 256, by omega⟩ : Fin 256) d : S1x256x512.Idx) := by
    funext a
    match a with
    | ⟨0, _⟩ => exact Fin.ext (Nat.mod_one _)
    | ⟨1, _⟩ => rfl
    | ⟨2, _⟩ => exact Fin.ext (Nat.mod_eq_of_lt d.isLt)
  unfold Value.G9
  rw [dif_pos (by rw [hp]; omega), ← Value.outsAt0_sweep m c _ (by rw [hp]; omega), hl]
  have key := (written m c f (7 * (4 * b.val + i.val / 256) + 5) (by omega) (by omega) (⟨i.val % 256, by omega⟩ : Fin 256) b i (by omega) (by dsimp only; omega)).1 d
  generalize hq : Value.pt9Of (ix3 b i d : S4x1024x512.Idx) = q at hp ⊢
  subst hp
  exact key

/-- The second ends holding the mean heads. -/
theorem final10 (f : Fine m c) : Value.G10 m c
    = meanHeads (a0 m c) (a1 m c) (a2 m c) (a3 m c) (a4 m c) (a5 m c) (a6 m c) (a7 m c) := by
  have hN : cfg0.N = 112 := N_0
  funext j
  obtain ⟨b, i, d, rfl⟩ : ∃ (b : Fin 4) (i : Fin 1024) (d : Fin 6), j = ix3 b i d := ⟨j 0, j 1, j 2, eq_ix3 j⟩
  have hp : Value.pt10Of (ix3 b i d : S4x1024x6.Idx) = 7 * (4 * b.val + i.val / 256) + 5 + 1 := by
    show 7 * (4 * (b.val / 1 - 0) + 1 * (i.val / 256 - 0) + 1 * (d.val / 6 - 0)) + 6 = _; omega
  have hl : Value.loc10Of (ix3 b i d : S4x1024x6.Idx) = (ix3 (0 : Fin 1) (⟨i.val % 256, by omega⟩ : Fin 256) d : S1x256x6.Idx) := by
    funext a
    match a with
    | ⟨0, _⟩ => exact Fin.ext (Nat.mod_one _)
    | ⟨1, _⟩ => rfl
    | ⟨2, _⟩ => exact Fin.ext (Nat.mod_eq_of_lt d.isLt)
  unfold Value.G10
  rw [dif_pos (by rw [hp]; omega), ← Value.outsAt0_sweep m c _ (by rw [hp]; omega), hl]
  have key := (written m c f (7 * (4 * b.val + i.val / 256) + 5) (by omega) (by omega) (⟨i.val % 256, by omega⟩ : Fin 256) b i (by omega) (by dsimp only; omega)).2 d
  generalize hq : Value.pt10Of (ix3 b i d : S4x1024x6.Idx) = q at hp ⊢
  subst hp
  exact key.trans (eighth _)

end Cert.LayersIdeal.Out

end
-- ==== Proof.LayersFinite.lean ====
/- What the precondition says: every entry the scores are computed from is a real number. -/
module

public import proofs.«01_k».proof.Proof.LayersFinal
public import proofs.«01_k».proof.Proof.Gen.Pre_layers_finite
public import proofs.«01_k».proof.Defs
public import Idealize.ShloMosaic.Lib.ReduceAll

@[expose] public section

noncomputable section

namespace Cert.LayersIdeal.Out

open Cert.LayersIdeal Cert.LayersIdeal.Gen Idealize.ShloMosaic Idealize.ShloMosaic.ValueIdx
open Cert.Row (Real')
open Cert.Pre_layers_finite (S_)

/-- A number whose absolute value is below `+∞` is real. -/
theorem real_of_abs {a : EReal} (h : max a (-a) < ⊤) : Real' a := by
  induction a using EReal.rec with
  | bot => simp at h
  | top => simp at h
  | coe r => exact ⟨r, rfl⟩

/-- An array all of whose absolute values are below `+∞` is real everywhere. -/
theorem all_real {S : Shape} {axes : List (Fin S.rank)} (a : FVec Ideal S .f32) (hb : S_.BroadcastsInDim S ![])
    (hr : S.ReducesTo axes S_) (hu : 0 < S_.numel) (j : S_.Idx)
    (e : Host.reduce IntOp.andi (cmpf .olt (Host.absf a) (broadcastInDim S ![] hb (constant S_ .f32 0x7F800000#32))) (constantI S_ 1 1#1) hr hu j = 1#1)
    (i : S.Idx) : Real' (a i) := by
  have : Subsingleton S_.Idx := ⟨fun p q => funext fun k => k.elim0⟩
  have h : Ideal.cmp .olt (max (a i) (-(a i))) (Ideal.ofBits .f32 0x7F800000#32) = 1#1 := Host.reduce_andi_all _ _ _ _ j e i
  refine real_of_abs ?_
  rw [Row.ofBits_top] at h
  have h' : BitVec.ofBool (decide (max (a i) (-(a i)) < ⊤)) = 1#1 := h
  by_contra hn
  rw [decide_eq_false hn] at h'
  exact absurd h' (by decide)

/-- Entry `n` of the part of a stack that starts at entry 1 is entry `n + 1` of the stack. -/
theorem part_apply {K B C : Nat} (x : (⟨3, ![8, B, C]⟩ : Shape).Idx → EReal) (h : (⟨3, ![8, B, C]⟩ : Shape).Slices ![1, 0, 0] ⟨3, ![K, B, C]⟩)
    (n : Nat) (hn : n < K) (hK : K ≤ 7) (b : Fin B) (d : Fin C) :
    extractStridedSlice ⟨3, ![K, B, C]⟩ ![1, 0, 0] x h (ix3 ⟨n, hn⟩ b d) = x (ix3 (Fin.ofNat 8 (n + 1)) b d) := by
  refine congrArg x (funext fun a => Fin.ext ?_)
  match a with
  | ⟨0, _⟩ => show 1 + n = (n + 1) % 8; omega
  | ⟨1, _⟩ => show 0 + b.val = b.val; omega
  | ⟨2, _⟩ => show 0 + d.val = d.val; omega

/-- The precondition gives what the layers' proof asks of the arguments. -/
theorem fine_of_pre (m : (ℓ : Loc nD τ sig) → Buf (Elt Ideal) ℓ) (h : Cert.Pre_LayersIdeal_layers_finite (hPre_layers_finite := Cert.Pre_layers_finite.Gen.facts) m)
    (c : Dev nD) : Fine m c := by
  have e := congrFun (h c) fun k => k.elim0
  unfold Cert.Pre_layers_finite.fn Cert.Pre_layers_finite.fn_part1 at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun b i d => all_real _ _ _ _ _ e0 (ix3 b i d), fun b i d => all_real _ _ _ _ _ e1 (ix3 b i d),
    fun n hn e d => part_apply (a2 m c) _ n hn (by decide) e d ▸ all_real _ _ _ _ _ e2 (ix3 ⟨n, hn⟩ e d),
    fun n hn d => part_apply (a4 m c) _ n hn (by decide) 0 d ▸ all_real _ _ _ _ _ e3 (ix3 ⟨n, hn⟩ 0 d),
    fun n hn d => part_apply (a5 m c) _ n hn (by decide) 0 d ▸ all_real _ _ _ _ _ e4 (ix3 ⟨n, hn⟩ 0 d)⟩

end Cert.LayersIdeal.Out
-- ==== Proof.ScanFinite.lean ====
/- What the scan's precondition says: every argument is real. -/
module

public import proofs.«01_k».proof.Proof.ScanValue
public import proofs.«01_k».proof.Proof.LayersFinite
public import proofs.«01_k».proof.Proof.Gen.Pre_scan_finite
public import proofs.«01_k».proof.Defs

@[expose] public section

noncomputable section

namespace Cert.ScanIdeal.Out

open Cert.ScanIdeal Cert.ScanIdeal.Gen Idealize.ShloMosaic
open Cert.LayersIdeal.Out (all_real)

/-- The precondition gives what the scan's proof asks of the arguments. -/
theorem real_of_pre (m : (ℓ : Loc nD τ sig) → Buf (Elt Ideal) ℓ) (h : Cert.Pre_ScanIdeal_scan_finite (hPre_scan_finite := Cert.Pre_scan_finite.Gen.facts) m)
    (c : Dev nD) : RealArgs (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  have e := congrFun (h c) fun k => k.elim0
  unfold Cert.Pre_scan_finite.fn Cert.Pre_scan_finite.fn_part1 at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨all_real _ _ _ _ _ e0, all_real _ _ _ _ _ e1, all_real _ _ _ _ _ e2, all_real _ _ _ _ _ e3, all_real _ _ _ _ _ e4, all_real _ _ _ _ _ e5⟩

end Cert.ScanIdeal.Out
-- ==== Proof.ScanReference.lean ====
/- What the reference's loop leaves: its trip `t` is step `t` of the recurrence that `ScanSpec.lean` describes, so after
   `n` trips it holds the memory rows before step `n` and the first `n` rows put out and written. -/
module

public import proofs.«01_k».proof.Proof.ScanSpec
public import proofs.«01_k».proof.Proof.ScanStepRun
public import Idealize.ShloMosaic.Lib.ValueIdx
public import Idealize.ShloMosaic.Lib.KernelVsHost
public import Idealize.ShloMosaic.Lib.WordCmp
public import Idealize.ShloMosaic.Lib.Affine
public import Idealize.ShloMosaic.Lib.ValueLayout
public import Idealize.ShloMosaic.Lib.Pipeline.Value
public import Idealize.ShloMosaic.Lib.Routing.OpsPair

@[expose] public section

noncomputable section

namespace Cert.ScanReferenceIdeal.Out

open Cert.ScanReferenceIdeal Cert.ScanReferenceIdeal.Gen Cert.ScanReferenceIdeal.Step Idealize.ShloMosaic
open Idealize.ShloMosaic.ValueIdx Idealize.ShloMosaic.WordCmp

/-! ## The layout operations at an index -/

/-- A product over one pair of axes is the sum over them. -/
theorem dot_eq {sl sr so : Shape} (D : DotDims sl sr so) (n : Nat) (hr : D.contr.rank = 1)
    (hs : D.contr.size ⟨0, by omega⟩ = n) (A : FVec Ideal sl .f32) (B : FVec Ideal sr .f32) (i : so.Idx)
    (l : Fin n → sl.Idx) (r : Fin n → sr.Idx)
    (hl : ∀ (q : D.contr.Idx) (k : Fin n), (q ⟨0, by omega⟩).val = k.val → D.lhsIdx i q = l k)
    (hq : ∀ (q : D.contr.Idx) (k : Fin n), (q ⟨0, by omega⟩).val = k.val → D.rhsIdx i q = r k) :
    Host.dotGeneral (F := Ideal) D none A B i = ∑ k, A (l k) * B (r k) := by
  simp only [Host.dotGeneral]
  rw [Ideal.dotGeneral_apply, ← Equiv.sum_comp (contrEquiv1 D n hr hs).symm]
  refine Finset.sum_congr rfl fun k _ => ?_
  have hk := contrEquiv1_symm_val D n hr hs k
  rw [hl _ k hk, hq _ k hk]

/-- The products of each memory row with the query of its sequence. -/
theorem dot_rows (A : FVec Ideal S4x16x512 .f32) (B : FVec Ideal S4x512 .f32) (c : Fin 4) (k : Fin 16) :
    Host.dotGeneral (F := Ideal) dot_S4x16x512_S4x512_S4x16_2_1_1_n_0_0 none A B (ix2 c k) = ∑ d : Fin 512, A (ix3 c k d) * B (ix2 c d) :=
  dot_eq dot_S4x16x512_S4x512_S4x16_2_1_1_n_0_0 512 rfl rfl A B (ix2 c k) (fun d => ix3 c k d) (fun d => ix2 c d)
    (fun q d h => funext fun a => Fin.ext (by
      match a with
      | ⟨0, _⟩ => rfl
      | ⟨1, _⟩ => rfl
      | ⟨2, _⟩ => exact (dot_S4x16x512_S4x512_S4x16_2_1_1_n_0_0.lhsIdx_val_of_single rfl _ q).trans h))
    (fun q d h => funext fun a => Fin.ext (by
      match a with
      | ⟨0, _⟩ => rfl
      | ⟨1, _⟩ => exact (dot_S4x16x512_S4x512_S4x16_2_1_1_n_0_0.rhsIdx_val_of_single rfl _ q).trans h))

/-- The weighted sum of the memory rows of a sequence. -/
theorem dot_cols (A : FVec Ideal S4x16 .f32) (B : FVec Ideal S4x16x512 .f32) (c : Fin 4) (d : Fin 512) :
    Host.dotGeneral (F := Ideal) dot_S4x16_S4x16x512_S4x512_1_1_n_2_0_0 none A B (ix2 c d) = ∑ k : Fin 16, A (ix2 c k) * B (ix3 c k d) :=
  dot_eq dot_S4x16_S4x16x512_S4x512_1_1_n_2_0_0 16 rfl rfl A B (ix2 c d) (fun k => ix2 c k) (fun k => ix3 c k d)
    (fun q k h => funext fun a => Fin.ext (by
      match a with
      | ⟨0, _⟩ => rfl
      | ⟨1, _⟩ => exact (dot_S4x16_S4x16x512_S4x512_1_1_n_2_0_0.lhsIdx_val_of_single rfl _ q).trans h))
    (fun q k h => funext fun a => Fin.ext (by
      match a with
      | ⟨0, _⟩ => rfl
      | ⟨1, _⟩ => exact (dot_S4x16_S4x16x512_S4x512_1_1_n_2_0_0.rhsIdx_val_of_single rfl _ q).trans h
      | ⟨2, _⟩ => rfl))

/-- A block of rows times a matrix. -/
theorem dot_mat (A : FVec Ideal S4x512 .f32) (B : FVec Ideal S512x512 .f32) (c : Fin 4) (d : Fin 512) :
    Host.dotGeneral (F := Ideal) dot_S4x512_S512x512_S4x512_1_0_0_1_n_n none A B (ix2 c d) = ∑ e : Fin 512, A (ix2 c e) * B (ix2 e d) :=
  dot_eq dot_S4x512_S512x512_S4x512_1_0_0_1_n_n 512 rfl rfl A B (ix2 c d) (fun e => ix2 c e) (fun e => ix2 e d)
    (fun q e h => funext fun a => Fin.ext (by
      match a with
      | ⟨0, _⟩ => rfl
      | ⟨1, _⟩ => exact (dot_S4x512_S512x512_S4x512_1_0_0_1_n_n.lhsIdx_val_of_single rfl _ q).trans h))
    (fun q e h => funext fun a => Fin.ext (by
      match a with
      | ⟨0, _⟩ => exact (dot_S4x512_S512x512_S4x512_1_0_0_1_n_n.rhsIdx_val_of_single rfl _ q).trans h
      | ⟨1, _⟩ => rfl))

/-- One value per sequence, as a column. -/
theorem col_apply (v : FVec Ideal S4 .f32) (c : Fin 4) : broadcastInDim S4x1 ![0] bcast_S4_S4x1_0 v (ix2 c 0) = v (ix1 c) :=
  broadcastInDim_apply (s := S4) (t := S4x1) _ _ _ (ix2 c 0) (ix1 c) (fun a => by fin_cases a; rfl)

theorem col16_apply (v : FVec Ideal S4x1 .f32) (c : Fin 4) (k : Fin 16) : broadcastInDim S4x16 ![0, 1] bcast_S4x1_S4x16_0_1 v (ix2 c k) = v (ix2 c 0) :=
  broadcastInDim_apply (s := S4x1) (t := S4x16) _ _ _ (ix2 c k) (ix2 c 0) (fun a => by fin_cases a <;> rfl)

theorem col512_apply (v : FVec Ideal S4x1 .f32) (c : Fin 4) (d : Fin 512) : broadcastInDim S4x512 ![0, 1] bcast_S4x1_S4x512_0_1 v (ix2 c d) = v (ix2 c 0) :=
  broadcastInDim_apply (s := S4x1) (t := S4x512) _ _ _ (ix2 c d) (ix2 c 0) (fun a => by fin_cases a <;> rfl)

/-- A vector given as one row, taken out of it and spread over the sequences. -/
theorem vec_apply (v : FVec Ideal S1x512 .f32) (c : Fin 4) (d : Fin 512) :
    broadcastInDim S4x512 ![0, 1] bcast_S1x512_S4x512_0_1 (broadcastInDim S1x512 ![1] bcast_S512_S1x512_1 (shapeCast S512 v shapeCasts_S1x512_S512)) (ix2 c d)
      = v (ix2 0 d) := by
  rw [broadcastInDim_apply (s := S1x512) (t := S4x512) _ _ _ (ix2 c d) (ix2 0 d) (fun a => by fin_cases a <;> rfl),
    broadcastInDim_apply (s := S512) (t := S1x512) _ _ _ (ix2 0 d) (ix1 d) (fun a => by fin_cases a; rfl)]
  exact shapeCast_apply (s := S1x512) (t := S512) _ _ (ix1 d) (ix2 0 d) (by
    rw [Shape.rowMajor_val_two, Shape.rowMajor_val_one]
    show 0 * 512 + d.val = d.val
    omega)

/-- The sums of the rows of a block. -/
theorem sum512_apply (v : FVec Ideal S4x512 .f32) (c : Fin 4) :
    Host.reduceAdd v (constant S_ .f32 0x00000000#32) reducesTo_S4x512_S4_d1 h_S_ (ix1 c) = ∑ d : Fin 512, v (ix2 c d) := by
  simp only [Host.reduceAdd, Ideal.hostReduceAdd_def]
  rw [Ideal.hostReduceAdd_single reducesTo_S4x512_S4_d1 (by decide),
    show constant (F := Ideal) S_ .f32 0x00000000#32 (Shape.Idx.first h_S_) = 0 from Ideal.ofBits_zero_f32, zero_add]
  exact Finset.sum_congr rfl fun k _ => congrArg v (funext fun a => by fin_cases a <;> rfl)

theorem sum16_apply (v : FVec Ideal S4x16 .f32) (c : Fin 4) :
    Host.reduceAdd v (constant S_ .f32 0x00000000#32) reducesTo_S4x16_S4_d1 h_S_ (ix1 c) = ∑ k : Fin 16, v (ix2 c k) := by
  simp only [Host.reduceAdd, Ideal.hostReduceAdd_def]
  rw [Ideal.hostReduceAdd_single reducesTo_S4x16_S4_d1 (by decide),
    show constant (F := Ideal) S_ .f32 0x00000000#32 (Shape.Idx.first h_S_) = 0 from Ideal.ofBits_zero_f32, zero_add]
  exact Finset.sum_congr rfl fun k _ => congrArg v (funext fun a => by fin_cases a <;> rfl)

/-- The largest value of each row of a block. -/
theorem max16_apply (v : FVec Ideal S4x16 .f32) (c : Fin 4) :
    Host.reduce FloatOps.maximumf v (constant S_ .f32 0xFF800000#32) reducesTo_S4x16_S4_d1 h_S_ (ix1 c) = Finset.univ.sup fun k => v (ix2 c k) := by
  have hr : S4x16.Reduces [1] S4 := by decide
  refine (congrFun (hostReduce_maximumf_eq_multiReduction v 0xFF800000#32 _ _ hr (.inl rfl) rfl) (ix1 c)).trans ?_
  refine (Ideal.multiReduction_maximumf_single (a := 1) v _ _ _ _ (ix1 c)).trans ?_
  show Finset.univ.fold max (Ideal.ofBits .f32 0xFF800000#32) (fun k : Fin 16 => v (hr.lift (ix1 c) k)) = _
  have hl : ∀ k : Fin 16, hr.lift (ix1 c) k = ix2 c k := fun k => funext fun a => by fin_cases a <;> rfl
  rw [Row.ofBits_bot]
  simp only [hl]
  rfl

/-! ## The trip's number -/

/-- The number of trip `j`, sliced out of the numbers of all the trips. -/
theorem number (j : ℕ) (hj : j < 1024) (s : State Ideal) (i : S_.Idx) : b9 j s i = BitVec.ofNat 32 j := by
  unfold b9
  refine (shapeCast_apply (s := S1) (t := S_) _ _ i (ix1 0) (by
    have h := (S_.rowMajor i).isLt
    have h' : S_.numel = 1 := rfl
    rw [Shape.rowMajor_val_one]
    show 0 = _
    omega)).trans ?_
  unfold b8 Host.dynamicSlice extractStridedSlice
  show BitVec.ofNat 32 ((min (max (BitVec.ofNat 32 j).toInt 0) ((1024 - 1 : Nat) : Int)).toNat + 0) = _
  rw [clamp_start_ofNat_of_le (by omega) (by omega), Nat.add_zero]

/-- The word that names the memory row that trip `j` replaces. -/
theorem slot (j : ℕ) (hj : j < 1024) (s : State Ideal) (i : S1.Idx) : b67 j s i = BitVec.ofNat 32 (j % 16) := by
  have hr : ∀ i, b61 j s i = BitVec.ofNat 32 (j % 16) := fun i => by
    unfold b61 b60
    show IntOp.remsi .host (b9 j s i) (BitVec.ofNat 32 16) = _
    rw [number j hj, ← BitVec.toNat_inj, IntOp.toNat_remsi .host (by rw [BitVec.toNat_ofNat]; omega) 16 (by omega) (by omega),
      BitVec.toNat_ofNat, BitVec.toNat_ofNat, Nat.mod_eq_of_lt (by omega : j < 2 ^ 32), Nat.mod_eq_of_lt (by omega : j % 16 < 2 ^ 32)]
  unfold b67
  rw [broadcastInDim_apply (s := S_) (t := S1) _ _ _ i (Shape.Idx.first h_S_) (fun a => a.elim0)]
  unfold b66 b63 b62
  show Scalar.select (IntOp.cmpi .slt (b61 j s _) 0#32) _ (b61 j s _) = _
  rw [hr, Routing.wrap_of_lt _ _ (by rw [BitVec.toNat_ofNat]; omega)]

/-- A run of overwrites of which only the one at `n₀` can happen. -/
theorem foldl_set {ι α : Type} (P : ι → Prop) [DecidablePred P] (v : ι → α) (n₀ : ι) (hP : ∀ n, P n → n = n₀) (l : List ι) (hl : n₀ ∈ l) (a : α) :
    l.foldl (fun a n => if P n then v n else a) a = if P n₀ then v n₀ else a := by
  have stay : ∀ (l : List ι) (a : α), ¬ P n₀ → l.foldl (fun a n => if P n then v n else a) a = a := fun l => by
    induction l with
    | nil => intros; rfl
    | cons n l ih =>
      intro a h
      rw [List.foldl_cons, if_neg fun q => h (hP n q ▸ q)]
      exact ih a h
  have done : ∀ l : List ι, l.foldl (fun a n => if P n then v n else a) (v n₀) = v n₀ := fun l => by
    induction l with
    | nil => rfl
    | cons n l ih =>
      rw [List.foldl_cons]
      by_cases q : P n
      · rw [if_pos q, hP n q]; exact ih
      · rw [if_neg q]; exact ih
  by_cases h : P n₀
  · rw [if_pos h]
    induction l generalizing a with
    | nil => cases hl
    | cons n l ih =>
      rw [List.foldl_cons]
      by_cases e : n₀ = n
      · subst e
        rw [if_pos h]
        exact done l
      · exact ih ((List.mem_cons.1 hl).resolve_left e) _
  · rw [if_neg h, stay l a h]

/-- Where the new row of sequence `c'`, column `d'`, lands. -/
theorem lands (idx : IVec S1 32) (c' c : Fin 4) (d' d : Fin 512) (k : Fin 16) :
    scatter_S4x16x512_S1_S4x512_01_1_1_0.resultIdx? (ix2 c' d') idx = some (ix3 c k d) ↔ c' = c ∧ (idx (ix1 0)).toInt = k.val ∧ d' = d := by
  rw [Routing.resultIdx?_eq_some]
  have s0 : scatter_S4x16x512_S1_S4x512_01_1_1_0.start (ix2 c' d') idx 0 = 0 := rfl
  have s1 : scatter_S4x16x512_S1_S4x512_01_1_1_0.start (ix2 c' d') idx 1 = (idx (ix1 0)).toInt :=
    congrArg (fun i => (idx i).toInt) (funext fun a => by fin_cases a; rfl)
  have s2 : scatter_S4x16x512_S1_S4x512_01_1_1_0.start (ix2 c' d') idx 2 = 0 := rfl
  have w0 : scatter_S4x16x512_S1_S4x512_01_1_1_0.window (ix2 c' d') 0 = c'.val := rfl
  have w1 : scatter_S4x16x512_S1_S4x512_01_1_1_0.window (ix2 c' d') 1 = 0 := rfl
  have w2 : scatter_S4x16x512_S1_S4x512_01_1_1_0.window (ix2 c' d') 2 = d'.val := rfl
  constructor
  · intro h
    have h0 : (_ : Int) = (c.val : Int) := h 0
    have h1 : (_ : Int) = (k.val : Int) := h 1
    have h2 : (_ : Int) = (d.val : Int) := h 2
    rw [s0, w0] at h0
    rw [s1, w1] at h1
    rw [s2, w2] at h2
    exact ⟨Fin.ext (by omega), by omega, Fin.ext (by omega)⟩
  · rintro ⟨rfl, h, rfl⟩ a
    match a with
    | ⟨0, _⟩ => exact (congrArg₂ (fun (a : Int) (b : ℕ) => a + (b : Int)) s0 w0).trans (zero_add _)
    | ⟨1, _⟩ => exact ((congrArg₂ (fun (a : Int) (b : ℕ) => a + (b : Int)) s1 w1).trans (add_zero _)).trans h
    | ⟨2, _⟩ => exact (congrArg₂ (fun (a : Int) (b : ℕ) => a + (b : Int)) s2 w2).trans (zero_add _)

/-- The memory rows with the row the word names replaced. -/
theorem ring_apply (x : FVec Ideal S4x16x512 .f32) (idx : IVec S1 32) (u : FVec Ideal S4x512 .f32) (c : Fin 4) (k : Fin 16) (d : Fin 512) :
    Host.scatter scatter_S4x16x512_S1_S4x512_01_1_1_0 (fun _ b => b) x idx u (ix3 c k d)
      = if (idx (ix1 0)).toInt = k.val then u (ix2 c d) else x (ix3 c k d) := by
  rw [Routing.scatter_at]
  refine (foldl_set (fun n => scatter_S4x16x512_S1_S4x512_01_1_1_0.resultIdx? (S4x512.rowMajor.symm n) idx = some (ix3 c k d))
    (fun n => u (S4x512.rowMajor.symm n)) (S4x512.rowMajor (ix2 c d)) (fun n h => ?_) _ (List.mem_finRange _) _).trans ?_
  · have e := eq_ix2 (S4x512.rowMajor.symm n)
    rw [e] at h
    have h' := (lands idx _ c _ d k).1 h
    rw [← S4x512.rowMajor.symm_apply_eq, e, h'.1, h'.2.2]
    rfl
  · rw [Equiv.symm_apply_apply]
    exact if_congr ((lands idx c c d d k).trans ⟨fun h => h.2.1, fun h => ⟨rfl, h, rfl⟩⟩) rfl rfl

/-- Row `j` of a table of rows. -/
theorem row_apply (j : ℕ) (hj : j < 1024) (x : FVec Ideal S1024x4x512 .f32) (st : Fin 3 → Int) (h0 : st 0 = (BitVec.ofNat 32 j).toInt) (h1 : st 1 = 0)
    (h2 : st 2 = 0) (c : Fin 4) (d : Fin 512) :
    shapeCast S4x512 (Host.dynamicSlice S1x4x512 x st sliceFits_S1024x4x512_S1x4x512) shapeCasts_S1x4x512_S4x512 (ix2 c d) = x (ix3 (Fin.ofNat 1024 j) c d) := by
  rw [shapeCast_1ab_ab_apply (a := 4) (b := 512), dynamicSlice_eq_extract S1x4x512 x st _ ![j, 0, 0] ⟨rfl, fun a => by
    match a with
    | ⟨0, _⟩ => show j + 1 ≤ 1024; omega
    | ⟨1, _⟩ => show 0 + 4 ≤ 4; omega
    | ⟨2, _⟩ => show 0 + 512 ≤ 512; omega⟩ (fun a => by
    match a with
    | ⟨0, _⟩ => exact h0.trans (toInt_ofNat_of_lt (by omega))
    | ⟨1, _⟩ => exact h1
    | ⟨2, _⟩ => exact h2)]
  refine congrArg x (funext fun a => Fin.ext ?_)
  match a with
  | ⟨0, _⟩ => show j + 0 = j % 1024; omega
  | ⟨1, _⟩ => show 0 + c.val = c.val; omega
  | ⟨2, _⟩ => show 0 + d.val = d.val; omega

/-- A table of rows with row `j` replaced. -/
theorem replaced_apply (j : ℕ) (hj : j < 1024) (x : FVec Ideal S1024x4x512 .f32) (u : FVec Ideal S4x512 .f32) (st : Fin 3 → Int)
    (h0 : st 0 = (BitVec.ofNat 32 j).toInt) (h1 : st 1 = 0) (h2 : st 2 = 0) (hf : S1024x4x512.Slices (fun _ => 0) S1x4x512) (t : Fin 1024) (c : Fin 4) (d : Fin 512) :
    Host.dynamicUpdateSlice x (broadcastInDim S1x4x512 ![1, 2] bcast_S4x512_S1x4x512_1_2 u) st hf (ix3 t c d)
      = if t.val = j then u (ix2 c d) else x (ix3 t c d) := by
  refine (congrFun (dynamicUpdateSlice_eq_update x (broadcastInDim S1x4x512 ![1, 2] bcast_S4x512_S1x4x512_1_2 u) st hf ![j, 0, 0] ⟨rfl, fun a => by
    match a with
    | ⟨0, _⟩ => show j + 1 ≤ 1024; omega
    | ⟨1, _⟩ => show 0 + 4 ≤ 4; omega
    | ⟨2, _⟩ => show 0 + 512 ≤ 512; omega⟩ (fun a => by
    match a with
    | ⟨0, _⟩ => exact h0.trans (toInt_ofNat_of_lt (by omega))
    | ⟨1, _⟩ => exact h1
    | ⟨2, _⟩ => exact h2)) (ix3 t c d)).trans ?_
  unfold updateSlice
  by_cases h : t.val = j
  · rw [if_pos h, dif_pos (fun a => by
      match a with
      | ⟨0, _⟩ => show j ≤ t.val ∧ t.val < j + 1; omega
      | ⟨1, _⟩ => show 0 ≤ c.val ∧ c.val < 0 + 4; omega
      | ⟨2, _⟩ => show 0 ≤ d.val ∧ d.val < 0 + 512; omega)]
    exact broadcastInDim_apply (s := S4x512) (t := S1x4x512) _ _ _ _ (ix2 c d) (fun a => by fin_cases a <;> rfl)
  · rw [if_neg h, dif_neg (fun hin => h (by
      have h' : j ≤ t.val ∧ t.val < j + 1 := hin 0
      omega))]

/-! ## One trip -/

section
variable (j : ℕ) (s : State Ideal) (c : Fin 4)

/-- The query of a trip. -/
def qry (d : Fin 512) : EReal := s.main_v5_1 (ix3 (Fin.ofNat 1024 j) c d)
/-- The row that comes in. -/
def inp (d : Fin 512) : EReal := s.main_v5_0 (ix3 (Fin.ofNat 1024 j) c d)
/-- The memory rows. -/
def rows (k : Fin 16) (d : Fin 512) : EReal := s.main_v5_8 (ix3 c k d)
/-- The scores. -/
def scores (k : Fin 16) : EReal := ∑ i, rows s c k i * qry j s c i
/-- The row before it is normalised. -/
def hid : Fin 512 → EReal := Scan.hid (rows s c) (qry j s c) (inp j s c) fun e d => s.main_v5_3 (ix2 e d)
/-- The row put out. -/
def res : Fin 512 → EReal := Row.norm (hid j s c) (fun d => s.main_v5_4 (ix2 0 d)) fun d => s.main_v5_5 (ix2 0 d)

variable (hj : j < 1024)
include hj

theorem score_apply (k : Fin 16) : b10 j s (ix2 c k) = scores j s c k := by
  unfold b10 b7 b6
  rw [dot_rows]
  refine Finset.sum_congr rfl fun d _ => congrArg (fun a : EReal => s.main_v5_8 (ix3 c k d) * a) ?_
  exact row_apply j hj _ _ rfl rfl rfl c d

theorem exp_apply (k : Fin 16) : b19 j s (ix2 c k) = Ideal.exp (scores j s c k - Finset.univ.sup (scores j s c)) := by
  have hm : b17 j s (ix2 c k) = Finset.univ.sup (scores j s c) := by
    unfold b17 b16 b15 b14 b13 b12 b11
    rw [col16_apply, col_apply]
    refine (congrArg (max (Ideal.ofBits .f32 0xFF800000#32)) (max16_apply (b10 j s) c)).trans ?_
    rw [Row.ofBits_bot, max_eq_right bot_le]
    exact congrArg _ (funext fun k => score_apply j s c hj k)
  have h : b18 j s (ix2 c k) = scores j s c k - Finset.univ.sup (scores j s c) := by
    unfold b18
    exact congrArg₂ (fun a b : EReal => a - b) (score_apply j s c hj k) hm
  unfold b19
  exact congrArg Ideal.exp h

theorem read_apply (d : Fin 512) : b25 j s (ix2 c d) = Row.read (scores j s c) fun k => rows s c k d := by
  unfold b25
  rw [dot_cols]
  refine Finset.sum_congr rfl fun k _ => congrArg (fun a : EReal => a * s.main_v5_8 (ix3 c k d)) ?_
  unfold b24 b23 b22 b21 b20
  refine (Ideal.hostDivf_def _ _).trans (congrArg₂ Ideal.div (exp_apply j s c hj k) ?_)
  rw [col16_apply, col_apply, sum16_apply]
  exact Finset.sum_congr rfl fun k _ => exp_apply j s c hj k

theorem hid_apply (d : Fin 512) : b27 j s (ix2 c d) = hid j s c d := by
  unfold b27
  refine congrArg₂ (fun a b : EReal => a + b) ?_ ?_
  · unfold b3 b2
    exact row_apply j hj _ _ rfl rfl rfl c d
  · unfold b26
    rw [dot_mat]
    exact Finset.sum_congr rfl fun e _ => congrArg (fun a : EReal => a * s.main_v5_3 (ix2 e d)) (read_apply j s c hj e)

theorem mean_apply : b35 j s (ix2 c 0) = Row.mean (hid j s c) := by
  unfold b35 b34 b33 b32 b31 b30
  refine (Ideal.hostDivf_def _ _).trans (congrArg₂ Ideal.div ?_ rfl)
  rw [col_apply, sum512_apply]
  exact Finset.sum_congr rfl fun d _ => hid_apply j s c hj d

theorem off_apply (d : Fin 512) : b37 j s (ix2 c d) = hid j s c d - Row.mean (hid j s c) := by
  unfold b37 b36
  refine congrArg₂ (fun a b : EReal => a - b) (hid_apply j s c hj d) ?_
  rw [col512_apply]
  exact mean_apply j s c hj

theorem var_apply : b44 j s (ix2 c 0) = Row.var (hid j s c) := by
  unfold b44 b43 b42 b41 b40 b39
  refine (Ideal.hostDivf_def _ _).trans (congrArg₂ Ideal.div ?_ rfl)
  rw [col_apply, sum512_apply]
  refine Finset.sum_congr rfl fun d _ => ?_
  unfold b38
  exact congrArg₂ (fun a b : EReal => a * b) (off_apply j s c hj d) (off_apply j s c hj d)

theorem res_apply (d : Fin 512) : b58 j s (ix2 c d) = res j s c d := by
  have h : b52 j s (ix2 c d) = (hid j s c d - Row.mean (hid j s c)) * Ideal.rsqrt (Row.var (hid j s c) + Row.eps) := by
    unfold b52
    refine (Ideal.hostDivf_def _ _).trans ?_
    rw [← Row.div_sqrt]
    refine congrArg₂ Ideal.div (off_apply j s c hj d) ?_
    unfold b51
    rw [col512_apply]
    unfold b50
    refine (Ideal.hostUnary_sqrt_def _).trans (congrArg Ideal.sqrt ?_)
    unfold b49 b48 b47
    exact congrArg (fun a : EReal => a + Row.eps) (var_apply j s c hj)
  unfold b58 b57 b56 b55 b54 b53 b29 b28
  refine congrArg₂ (fun a b : EReal => a + b) ?_ (vec_apply _ c d)
  exact congrArg₂ (fun a b : EReal => a * b) h (vec_apply _ c d)

theorem word_apply (d : Fin 512) : b59 j s (ix2 c d) = Scan.word (res j s c) (fun e d => s.main_v5_6 (ix2 e d)) d := by
  unfold b59
  rw [dot_mat]
  exact Finset.sum_congr rfl fun e _ => congrArg (fun a : EReal => a * s.main_v5_6 (ix2 e d)) (res_apply j s c hj e)

theorem memory_apply (k : Fin 16) (d : Fin 512) : b68 j s (ix3 c k d)
    = if k.val = j % 16 then Scan.word (res j s c) (fun e d => s.main_v5_6 (ix2 e d)) d else rows s c k d := by
  unfold b68
  rw [ring_apply, slot j hj, toInt_ofNat_of_lt (by omega)]
  exact if_congr (by omega) (word_apply j s c hj d) rfl

theorem outs_apply (t : Fin 1024) (d : Fin 512) : b72 j s (ix3 t c d) = if t.val = j then res j s c d else s.main_v5_9 (ix3 t c d) := by
  unfold b72 b69
  rw [replaced_apply j hj _ _ _ rfl rfl rfl, res_apply j s c hj]

theorem written_apply (t : Fin 1024) (d : Fin 512) : b76 j s (ix3 t c d)
    = if t.val = j then Scan.word (res j s c) (fun e d => s.main_v5_6 (ix2 e d)) d else s.main_v5_10 (ix3 t c d) := by
  unfold b76 b73
  rw [replaced_apply j hj _ _ _ rfl rfl rfl, word_apply j s c hj]

end

/-! ## All the trips -/

section
variable (x q : FVec Ideal S1024x4x512 .f32) (wv wr : FVec Ideal S512x512 .f32) (s b : FVec Ideal S1x512 .f32)

/-- The state before trip `n`. -/
def iter : ℕ → State Ideal
  | 0 => init x q wv s b wr
  | n + 1 => step n (iter n)

theorem iter_x : ∀ n, (iter x q wv wr s b n).main_v5_0 = x
  | 0 => rfl
  | n + 1 => iter_x n
theorem iter_q : ∀ n, (iter x q wv wr s b n).main_v5_1 = q
  | 0 => rfl
  | n + 1 => iter_q n
theorem iter_wv : ∀ n, (iter x q wv wr s b n).main_v5_3 = wv
  | 0 => rfl
  | n + 1 => iter_wv n
theorem iter_s : ∀ n, (iter x q wv wr s b n).main_v5_4 = s
  | 0 => rfl
  | n + 1 => iter_s n
theorem iter_b : ∀ n, (iter x q wv wr s b n).main_v5_5 = b
  | 0 => rfl
  | n + 1 => iter_b n
theorem iter_wr : ∀ n, (iter x q wv wr s b n).main_v5_6 = wr
  | 0 => rfl
  | n + 1 => iter_wr n

/-- The rows of a table as a sequence of steps. -/
abbrev seq (x : FVec Ideal S1024x4x512 .f32) (t : ℕ) (c : Fin 4) (d : Fin 512) : EReal := x (ix3 (Fin.ofNat 1024 t) c d)

/-- The recurrence's memory rows, rows put out and rows written. -/
abbrev memS := Scan.mem (seq x) (seq q) (fun e d => wv (ix2 e d)) (fun e d => wr (ix2 e d)) (fun d => s (ix2 0 d)) fun d => b (ix2 0 d)
abbrev outS := Scan.out (seq x) (seq q) (fun e d => wv (ix2 e d)) (fun e d => wr (ix2 e d)) (fun d => s (ix2 0 d)) fun d => b (ix2 0 d)
abbrev wrS := Scan.write (seq x) (seq q) (fun e d => wv (ix2 e d)) (fun e d => wr (ix2 e d)) (fun d => s (ix2 0 d)) fun d => b (ix2 0 d)

/-- A trip from the recurrence's memory puts out the recurrence's row. -/
theorem res_eq (n : ℕ) (hm : ∀ c k d, (iter x q wv wr s b n).main_v5_8 (ix3 c k d) = memS x q wv wr s b n c k d) (c : Fin 4) :
    res n (iter x q wv wr s b n) c = outS x q wv wr s b n c := by
  have hr : rows (iter x q wv wr s b n) c = memS x q wv wr s b n c := funext fun k => funext fun d => hm c k d
  unfold res hid qry inp
  rw [hr, iter_x, iter_q, iter_wv, iter_s, iter_b]
  rfl

attribute [local irreducible] Host.scatter in
theorem iter_mem : ∀ n ≤ 1024, ∀ c k d, (iter x q wv wr s b n).main_v5_8 (ix3 c k d) = memS x q wv wr s b n c k d
  | 0, _, _, _, _ => Ideal.ofBits_zero_f32
  | n + 1, h, c, k, d => by
    have ih := iter_mem n (by omega)
    refine (congrFun (step_main_v5_8 n (iter x q wv wr s b n)) (ix3 c k d)).trans ?_
    rw [memory_apply n (iter x q wv wr s b n) c (by omega) k d]
    rw [res_eq x q wv wr s b n ih, iter_wr, show memS x q wv wr s b (n + 1) c k = _ from Scan.mem_succ ..]
    split
    · rfl
    · exact ih c k d

theorem iter_outs : ∀ n ≤ 1024, ∀ (t : Fin 1024), t.val < n → ∀ c d, (iter x q wv wr s b n).main_v5_9 (ix3 t c d) = outS x q wv wr s b t.val c d
  | n + 1, h, t, ht, c, d => by
    refine (outs_apply n (iter x q wv wr s b n) c (by omega) t d).trans ?_
    rw [res_eq x q wv wr s b n (iter_mem x q wv wr s b n (by omega))]
    split
    · rename_i e; rw [e]
    · exact iter_outs n (by omega) t (by omega) c d

theorem iter_written : ∀ n ≤ 1024, ∀ (t : Fin 1024), t.val < n → ∀ c d, (iter x q wv wr s b n).main_v5_10 (ix3 t c d) = wrS x q wv wr s b t.val c d
  | n + 1, h, t, ht, c, d => by
    refine (written_apply n (iter x q wv wr s b n) c (by omega) t d).trans ?_
    rw [res_eq x q wv wr s b n (iter_mem x q wv wr s b n (by omega)), iter_wr]
    split
    · rename_i e; rw [e]; rfl
    · exact iter_written n (by omega) t (by omega) c d

/-- The rows put out. -/
def outArr : FVec Ideal S1024x4x512 .f32 := fun i => outS x q wv wr s b (i 0).val (i 1) (i 2)
/-- The rows written, after sixteen rows of zeros. -/
def wrArr : FVec Ideal S1040x4x512 .f32 := fun i => if (i 0).val < 16 then 0 else wrS x q wv wr s b ((i 0).val - 16) (i 1) (i 2)

theorem outs_eq : (iter x q wv wr s b 1024).main_v5_9 = outArr x q wv wr s b := funext fun i => by
  rw [eq_ix3 i]
  exact iter_outs x q wv wr s b 1024 le_rfl (i 0) (i 0).isLt (i 1) (i 2)

theorem written_eq : R_main_v10 (iter x q wv wr s b 1024) = wrArr x q wv wr s b := funext fun i => by
  unfold R_main_v10 wrArr
  have h0 : (i 0).val < 1040 := (i 0).isLt
  rw [transpose_apply (s := S4x1040x512) (t := S1040x4x512) _ _ _ i (ix3 (i 1) (i 0) (i 2)) (fun a => by fin_cases a <;> rfl)]
  by_cases h : (i 0).val < 16
  · rw [if_pos h, concatenate_pair_apply_left (t := S4x1040x512) (s₁ := S4x16x512) (s₂ := S4x1024x512) 1 _ _ _ (ix3 (i 1) (i 0) (i 2)) rfl (ix3 (i 1) ⟨(i 0).val, h⟩ (i 2)) (fun a => by fin_cases a <;> rfl)]
    exact Ideal.ofBits_zero_f32
  · rw [if_neg h, concatenate_pair_apply_right (t := S4x1040x512) (s₁ := S4x16x512) (s₂ := S4x1024x512) 1 _ _ _ (ix3 (i 1) (i 0) (i 2)) rfl rfl (ix3 (i 1) ⟨(i 0).val - 16, by omega⟩ (i 2))
      (fun a ha => by fin_cases a <;> first | rfl | exact absurd rfl ha) (by show (i 0).val - 16 + 16 = (i 0).val; omega),
      transpose_apply (s := S1024x4x512) (t := S4x1024x512) _ _ _ (ix3 (i 1) ⟨(i 0).val - 16, by omega⟩ (i 2)) (ix3 ⟨(i 0).val - 16, by omega⟩ (i 1) (i 2)) (fun a => by fin_cases a <;> rfl)]
    exact iter_written x q wv wr s b 1024 le_rfl ⟨(i 0).val - 16, by omega⟩ (by show (i 0).val - 16 < 1024; omega) (i 1) (i 2)

end

end Cert.ScanReferenceIdeal.Out
-- ==== Proof.LogitsValue.lean ====
/- The value of the logits call: entry (b, t, v) of the result is the product of row t of the batch's activations, the
   batch's memory vector added, with row v of the embedding table. A grid point holds one block of 512 rows by 3200
   columns, and the blocks tile the result. -/
module

public import proofs.«01_k».proof.Proof.Gen.LogitsIdeal.Value
public import Idealize.ShloMosaic.Lib.ValueIdx
public import Idealize.ShloMosaic.Lib.MatmulPlain

@[expose] public section

noncomputable section

namespace Cert.LogitsIdeal.Out

open Cert.LogitsIdeal Cert.LogitsIdeal.Gen Idealize.ShloMosaic Idealize.ShloMosaic.TcCoe Idealize.SL.Sem
open Idealize.ShloMosaic.ValueIdx
open Idealize.ShloMosaic.Pipeline (Dat)

/-- Entry (b, t, v) of the logits as a function of the activations, the memory vectors and the embedding table. -/
def logitAt (x : FVec Ideal S4x1024x512 .f32) (u : FVec Ideal S4x512 .f32) (e : FVec Ideal S32000x512 .f32)
    (b : Fin 4) (t : Fin 1024) (v : Fin 32000) : EReal :=
  ∑ k : Fin 512, (x (ix3 b t k) + u (ix2 b k)) * e (ix2 v k)

/-- The logits as one array. -/
def logits (x : FVec Ideal S4x1024x512 .f32) (u : FVec Ideal S4x512 .f32) (e : FVec Ideal S32000x512 .f32) :
    FVec Ideal S4x1024x32000 .f32 :=
  fun i => logitAt x u e (i 0) (i 1) (i 2)

theorem hz3 : (![0, 0, 0] : Fin 3 → Nat) = fun _ => 0 := funext fun a => by fin_cases a <;> rfl
theorem hz2 : (![0, 0] : Fin 2 → Nat) = fun _ => 0 := funext fun a => by fin_cases a <;> rfl

/-- The stored block read at an index. -/
theorem pay_apply (x : Vec Ideal S1x512x512 .f32) (u : Vec Ideal S1x1x512 .f32) (e : Vec Ideal S3200x512 .f32)
    (r : Fin 512) (c : Fin 3200) :
    k0_pay1 x u e (ix3 0 r c) = ∑ k : Fin 512, (x (ix3 0 r k) + u (ix3 0 0 k)) * e (ix2 c k) := by
  unfold k0_pay1
  rw [shapeCast_apply (s := S512x3200) (t := S1x512x3200) _ _ (ix3 0 r c) (ix2 r c) (by
    simp [Shape.rowMajor_val_three, Shape.rowMajor_val_two])]
  show FloatOps.matmul (DotDims.transposedRhs 512 512 3200) none _ _ _ (ix2 r c) = _
  rw [Ideal.matmul_transposedRhs_apply]
  rw [show constant (F := Ideal) S512x3200 .f32 0x00000000#32 (ix2 r c) = 0 from Ideal.ofBits_zero_f32, zero_add]
  refine Finset.sum_congr rfl fun k _ => ?_
  rw [addf_apply,
    broadcastTo_apply (s := S1x512) (t := S512x512) _ _ (ix2 r k) (ix2 0 k) (fun a => by fin_cases a <;> rfl),
   shapeCast_apply (s := S1x512x512) (t := S512x512) _ _ (ix2 r k) (ix3 0 r k) (by
    simp [Shape.rowMajor_val_three, Shape.rowMajor_val_two]),
   shapeCast_apply (s := S1x1x512) (t := S1x512) _ _ (ix2 0 k) (ix3 0 0 k) (by
    simp [Shape.rowMajor_val_three, Shape.rowMajor_val_two])]

variable (m : (ℓ : Loc nD τ sig) → Buf (Elt Ideal) ℓ) (ρ : Dev nD → PrngReg)

theorem idx_facts : ∀ t : Fin cfg0.N,
    win0_0.index t = ![win0_3.index t 0, win0_3.index t 1, 0]
    ∧ win0_1.index t = ![win0_3.index t 0, 0, 0]
    ∧ win0_2.index t = ![win0_3.index t 2, 0] :=
  (by decide +kernel : ∀ t : Fin grid0.N, _)

theorem idx_onto : ∀ (b : Fin 4) (i : Fin 2) (v : Fin 10), ∃ t : Fin cfg0.N, win0_3.index t = ![b.val, i.val, v.val] :=
  (by decide +kernel : ∀ (b : Fin 4) (i : Fin 2) (v : Fin 10), ∃ t : Fin grid0.N, _)

theorem emb0 (t : Fin cfg0.N) (r k : Fin 512) (b : Fin 4) (i : Fin 1024) (hb : win0_3.index t 0 = b.val)
    (hi : win0_3.index t 1 * 512 + r.val = i.val) :
    ((cfg0.win 0).blk t).view.emb (ix3 (0 : Fin 1) r k : S1x512x512.Idx) = (ix3 b i k : S4x1024x512.Idx) := by
  have h := (idx_facts t).1
  funext a
  apply Fin.ext
  match a with
  | ⟨0, _⟩ => show win0_0.index t 0 * 1 + 1 * 0 = b.val; rw [h]; simpa using hb
  | ⟨1, _⟩ => show win0_0.index t 1 * 512 + 1 * r.val = i.val; rw [h]; simpa using hi
  | ⟨2, _⟩ => show win0_0.index t 2 * 512 + 1 * k.val = k.val; rw [h]; simp

theorem emb1 (t : Fin cfg0.N) (k : Fin 512) (b : Fin 4) (hb : win0_3.index t 0 = b.val) :
    ((cfg0.win 1).blk t).view.emb (ix3 (0 : Fin 1) (0 : Fin 1) k : S1x1x512.Idx) = (ix3 b (0 : Fin 1) k : S4x1x512.Idx) := by
  have h := (idx_facts t).2.1
  funext a
  apply Fin.ext
  match a with
  | ⟨0, _⟩ => show win0_1.index t 0 * 1 + 1 * 0 = b.val; rw [h]; simpa using hb
  | ⟨1, _⟩ => show win0_1.index t 1 * 1 + 1 * 0 = 0; rw [h]; simp
  | ⟨2, _⟩ => show win0_1.index t 2 * 512 + 1 * k.val = k.val; rw [h]; simp

theorem emb2 (t : Fin cfg0.N) (c : Fin 3200) (k : Fin 512) (v : Fin 32000) (hv : win0_3.index t 2 * 3200 + c.val = v.val) :
    ((cfg0.win 2).blk t).view.emb (ix2 c k : S3200x512.Idx) = (ix2 v k : S32000x512.Idx) := by
  have h := (idx_facts t).2.2
  funext a
  apply Fin.ext
  match a with
  | ⟨0, _⟩ => show win0_2.index t 0 * 3200 + 1 * c.val = v.val; rw [h]; simpa using hv
  | ⟨1, _⟩ => show win0_2.index t 1 * 512 + 1 * k.val = k.val; rw [h]; simp

theorem emb3 (t : Fin cfg0.N) (r : Fin 512) (c : Fin 3200) :
    ∃ (b : Fin 4) (i : Fin 1024) (v : Fin 32000),
      ((cfg0.win 3).blk t).view.emb (ix3 (0 : Fin 1) r c : S1x512x3200.Idx) = (ix3 b i v : S4x1024x32000.Idx)
      ∧ win0_3.index t 0 = b.val ∧ win0_3.index t 1 * 512 + r.val = i.val ∧ win0_3.index t 2 * 3200 + c.val = v.val := by
  refine ⟨(((cfg0.win 3).blk t).view.emb (ix3 (0 : Fin 1) r c : S1x512x3200.Idx) : S4x1024x32000.Idx) 0,
    (((cfg0.win 3).blk t).view.emb (ix3 (0 : Fin 1) r c : S1x512x3200.Idx) : S4x1024x32000.Idx) 1,
    (((cfg0.win 3).blk t).view.emb (ix3 (0 : Fin 1) r c : S1x512x3200.Idx) : S4x1024x32000.Idx) 2, eq_ix3 _, ?_, ?_, ?_⟩
  · show win0_3.index t 0 = win0_3.index t 0 * 1 + 1 * 0; omega
  · show win0_3.index t 1 * 512 + r.val = win0_3.index t 1 * 512 + 1 * r.val; omega
  · show win0_3.index t 2 * 3200 + c.val = win0_3.index t 2 * 3200 + 1 * c.val; omega

/-- The memory vectors as the region reads them. -/
theorem V_v0 (c : Dev nD) : V m c main_v0 = shapeCast S4x1x512 (m ((c : Thread nD τ).loc main_arg1)) shapeCasts_S4x512_S4x1x512 := by
  dsimp only [V, hostOps0]; after_results; rfl

/-- What grid point `t` writes back is its block of the logits. -/
theorem flushed_eq (c : Dev nD) (t : Fin cfg0.N) :
    (dats m 0 c).flushed 3 t = ((cfg0.win 3).blk t).view.read (Elt Ideal)
      (logits (m ((c : Thread nD τ).loc main_arg0)) (m ((c : Thread nD τ).loc main_arg1)) (m ((c : Thread nD τ).loc main_arg2))) := by
  rw [Value.flushed3]
  unfold out0_3
  rw [View.canon_unit_zero hz3, View.ld_unit_zero hz3, View.ld_unit_zero hz3, View.ld_unit_zero hz2]
  show (k0_pay1 (iblk m c 0 t) (iblk m c 1 t) (iblk m c 2 t) : S1x512x3200.Idx → EReal) = _
  funext j
  obtain ⟨r, l, rfl⟩ : ∃ (r : Fin 512) (l : Fin 3200), j = ix3 (0 : Fin 1) r l :=
    ⟨j 1, j 2, (eq_ix3 j).trans (congrArg (fun z => ix3 z (j 1) (j 2)) (Subsingleton.elim (α := Fin 1) _ _))⟩
  rw [pay_apply]
  obtain ⟨b, i, v, he, hb, hi, hv⟩ := emb3 t r l
  show _ = logits _ _ _ (((cfg0.win 3).blk t).view.emb (ix3 (0 : Fin 1) r l : S1x512x3200.Idx))
  rw [he]
  show _ = logitAt _ _ _ b i v
  unfold logitAt
  refine Finset.sum_congr rfl fun k _ => ?_
  have e0 : (iblk m c 0 t : S1x512x512.Idx → EReal) (ix3 0 r k) = m ((c : Thread nD τ).loc main_arg0) (ix3 b i k) := by
    show V m c main_arg0 (((cfg0.win 0).blk t).view.emb (ix3 (0 : Fin 1) r k : S1x512x512.Idx)) = _
    rw [emb0 t r k b i hb hi, V_main_arg0]
  have e1 : (iblk m c 1 t : S1x1x512.Idx → EReal) (ix3 0 0 k) = m ((c : Thread nD τ).loc main_arg1) (ix2 b k) := by
    show V m c main_v0 (((cfg0.win 1).blk t).view.emb (ix3 (0 : Fin 1) (0 : Fin 1) k : S1x1x512.Idx)) = _
    rw [emb1 t k b hb, V_v0]
    exact shapeCast_apply (s := S4x512) (t := S4x1x512) _ _ (ix3 b 0 k) (ix2 b k) (by
      simp [Shape.rowMajor_val_three, Shape.rowMajor_val_two])
  have e2 : (iblk m c 2 t : S3200x512.Idx → EReal) (ix2 l k) = m ((c : Thread nD τ).loc main_arg2) (ix2 v k) := by
    show V m c main_arg2 (((cfg0.win 2).blk t).view.emb (ix2 l k : S3200x512.Idx)) = _
    rw [emb2 t l k v hv, V_main_arg2]
  rw [e0, e1, e2]

theorem mem_blk (t : Fin cfg0.N) (i : S4x1024x32000.Idx) :
    i ∈ ((cfg0.win 3).blk t).view.set ↔ ∀ a : Fin 3, win0_3.index t a * S1x512x3200.size a ≤ (i a : Nat)
      ∧ (i a : Nat) < win0_3.index t a * S1x512x3200.size a + S1x512x3200.size a := by
  show i ∈ ((View.whole main_v1).slice (win0_3.rect t)).set ↔ _
  rw [View.set_slice_whole, Rect.mem_set_unit]
  exact Iff.rfl

theorem cover (i : S4x1024x32000.Idx) :
    ∃ t : Fin cfg0.N, (cfg0.win 3).flush t = true ∧ i ∈ ((cfg0.win 3).blk t).view.set := by
  have h0 : (i 0 : Nat) < 4 := (i 0).isLt
  have h1 : (i 1 : Nat) < 1024 := (i 1).isLt
  have h2 : (i 2 : Nat) < 32000 := (i 2).isLt
  obtain ⟨t, ht⟩ := idx_onto ⟨(i 0 : Nat), h0⟩ ⟨(i 1 : Nat) / 512, by omega⟩ ⟨(i 2 : Nat) / 3200, by omega⟩
  refine ⟨t, flush0_3 _, ?_⟩
  rw [mem_blk]
  intro a
  rw [ht]
  match a with
  | ⟨0, _⟩ => show (i 0 : Nat) * 1 ≤ (i 0 : Nat) ∧ (i 0 : Nat) < (i 0 : Nat) * 1 + 1; omega
  | ⟨1, _⟩ => show (i 1 : Nat) / 512 * 512 ≤ (i 1 : Nat) ∧ (i 1 : Nat) < (i 1 : Nat) / 512 * 512 + 512; omega
  | ⟨2, _⟩ => show (i 2 : Nat) / 3200 * 3200 ≤ (i 2 : Nat) ∧ (i 2 : Nat) < (i 2 : Nat) / 3200 * 3200 + 3200; omega

/-- So the result array ends holding the logits. -/
theorem final (c : Dev nD) : (dats m 0 c).arrAt 3 cfg0.N
    = logits (m ((c : Thread nD τ).loc main_arg0)) (m ((c : Thread nD τ).loc main_arg1)) (m ((c : Thread nD τ).loc main_arg2)) :=
  (dats m 0 c).arrAt_eq_of_cover 3 _ (fun t _ => flushed_eq m c t) cover

end Cert.LogitsIdeal.Out
-- ==== Proof.LogitsReference.lean ====
/- The reference of the logits call computes the same sums. -/
module

public import proofs.«01_k».proof.Proof.LogitsValue
public import proofs.«01_k».proof.Proof.Gen.LogitsReferenceIdeal.Read

@[expose] public section

noncomputable section

namespace Cert.LogitsReferenceIdeal.Out

open Idealize.ShloMosaic Idealize.ShloMosaic.ValueIdx Cert.LogitsReferenceIdeal.Read

theorem val_eq (x : FVec Ideal ⟨3, ![4, 1024, 512]⟩ .f32) (u : FVec Ideal ⟨2, ![4, 512]⟩ .f32) (e : FVec Ideal ⟨2, ![32000, 512]⟩ .f32) :
    val_main_v4 (F := Ideal) x u e = Cert.LogitsIdeal.Out.logits x u e := by
  funext i
  rw [val_main_v4_apply]
  unfold Cert.LogitsIdeal.Out.logits Cert.LogitsIdeal.Out.logitAt
  refine Finset.sum_congr rfl fun k _ => ?_
  rw [val_main_v2_apply, val_main_v1_apply, val_main_v0_apply, val_main_v3_apply]
  show (_ + _) * _ = (_ + _) * _
  congr 2
  · congr 1; funext a; fin_cases a <;> rfl
  · congr 1; funext a; fin_cases a <;> rfl
  · congr 1; funext a; fin_cases a <;> rfl

end Cert.LogitsReferenceIdeal.Out
-- ==== Proof.RowmmValue.lean ====
/- The value of the row product: every grid point multiplies a block of 512 rows with the whole matrix, and the blocks
   tile the result; the reference takes the same sums. -/
module

public import proofs.«01_k».proof.Proof.Gen.RowmmIdeal.Value
public import proofs.«01_k».proof.Proof.Gen.RowmmReferenceIdeal.Read
public import Idealize.ShloMosaic.Lib.ValueIdx
public import Idealize.ShloMosaic.Lib.MatmulPlain

@[expose] public section

noncomputable section

namespace Cert.RowmmIdeal.Out

open Cert.RowmmIdeal Cert.RowmmIdeal.Gen Idealize.ShloMosaic Idealize.ShloMosaic.TcCoe Idealize.SL.Sem
open Idealize.ShloMosaic.ValueIdx
open Idealize.ShloMosaic.Pipeline (Dat)

/-- The product of the rows with the matrix. -/
def rows (x : FVec Ideal S4096x512 .f32) (w : FVec Ideal S512x512 .f32) : FVec Ideal S4096x512 .f32 :=
  fun i => ∑ k : Fin 512, x (ix2 (i 0 : Fin 4096) k) * w (ix2 k (i 1 : Fin 512))

theorem hz2 : (![0, 0] : Fin 2 → Nat) = fun _ => 0 := funext fun a => by fin_cases a <;> rfl

theorem pay_apply (x w : Vec Ideal S512x512 .f32) (r c : Fin 512) :
    k0_pay1 x w (ix2 r c) = ∑ k : Fin 512, x (ix2 r k) * w (ix2 k c) := by
  unfold k0_pay1
  show FloatOps.matmul (DotDims.plain 512 512 512) none _ _ _ (ix2 r c) = _
  rw [Ideal.matmul_plain_apply]
  rw [show constant (F := Ideal) S512x512 .f32 0x00000000#32 (ix2 r c) = 0 from Ideal.ofBits_zero_f32, zero_add]

variable (m : (ℓ : Loc nD τ sig) → Buf (Elt Ideal) ℓ) (ρ : Dev nD → PrngReg)

theorem idx_facts : ∀ t : Fin cfg0.N, win0_0.index t = ![t.val, 0] ∧ win0_1.index t = ![0, 0] ∧ win0_2.index t = ![t.val, 0] :=
  (by decide +kernel : ∀ t : Fin grid0.N, _)

theorem emb0 (t : Fin cfg0.N) (r k : Fin 512) (i : Fin 4096) (hi : t.val * 512 + r.val = i.val) :
    ((cfg0.win 0).blk t).view.emb (ix2 r k : S512x512.Idx) = (ix2 i k : S4096x512.Idx) := by
  have h := (idx_facts t).1
  funext a
  apply Fin.ext
  match a with
  | ⟨0, _⟩ => show win0_0.index t 0 * 512 + 1 * r.val = i.val; rw [h]; simpa using hi
  | ⟨1, _⟩ => show win0_0.index t 1 * 512 + 1 * k.val = k.val; rw [h]; simp

theorem emb1 (t : Fin cfg0.N) (r k : Fin 512) :
    ((cfg0.win 1).blk t).view.emb (ix2 r k : S512x512.Idx) = (ix2 r k : S512x512.Idx) := by
  have h := (idx_facts t).2.1
  funext a
  apply Fin.ext
  match a with
  | ⟨0, _⟩ => show win0_1.index t 0 * 512 + 1 * r.val = r.val; rw [h]; simp
  | ⟨1, _⟩ => show win0_1.index t 1 * 512 + 1 * k.val = k.val; rw [h]; simp

theorem emb2 (t : Fin cfg0.N) (r k : Fin 512) (i : Fin 4096) (hi : t.val * 512 + r.val = i.val) :
    ((cfg0.win 2).blk t).view.emb (ix2 r k : S512x512.Idx) = (ix2 i k : S4096x512.Idx) := by
  have h := (idx_facts t).2.2
  funext a
  apply Fin.ext
  match a with
  | ⟨0, _⟩ => show win0_2.index t 0 * 512 + 1 * r.val = i.val; rw [h]; simpa using hi
  | ⟨1, _⟩ => show win0_2.index t 1 * 512 + 1 * k.val = k.val; rw [h]; simp

/-- What grid point `t` writes back is its block of the product. -/
theorem flushed_eq (c : Dev nD) (t : Fin cfg0.N) :
    (dats m 0 c).flushed 2 t = ((cfg0.win 2).blk t).view.read (Elt Ideal)
      (rows (m ((c : Thread nD τ).loc main_arg0)) (m ((c : Thread nD τ).loc main_arg1))) := by
  rw [Value.flushed2]
  unfold out0_2
  rw [View.canon_unit_zero hz2, View.ld_unit_zero hz2, View.ld_unit_zero hz2]
  show (k0_pay1 (iblk m c 0 t) (iblk m c 1 t) : S512x512.Idx → EReal) = _
  funext j
  obtain ⟨r, l, rfl⟩ : ∃ (r l : Fin 512), j = ix2 r l := ⟨j 0, j 1, eq_ix2 j⟩
  rw [pay_apply]
  have hN : cfg0.N = 8 := by decide
  have hlt : t.val * 512 + r.val < 4096 := by have := t.isLt; omega
  show _ = rows _ _ (((cfg0.win 2).blk t).view.emb (ix2 r l : S512x512.Idx))
  rw [emb2 t r l ⟨_, hlt⟩ rfl]
  refine Finset.sum_congr rfl fun k _ => ?_
  have e0 : (iblk m c 0 t : S512x512.Idx → EReal) (ix2 r k) = m ((c : Thread nD τ).loc main_arg0) (ix2 ⟨_, hlt⟩ k) := by
    show V m c main_arg0 (((cfg0.win 0).blk t).view.emb (ix2 r k : S512x512.Idx)) = _
    rw [emb0 t r k ⟨_, hlt⟩ rfl, V_main_arg0]
  have e1 : (iblk m c 1 t : S512x512.Idx → EReal) (ix2 k l) = m ((c : Thread nD τ).loc main_arg1) (ix2 k l) := by
    show V m c main_arg1 (((cfg0.win 1).blk t).view.emb (ix2 k l : S512x512.Idx)) = _
    rw [emb1 t k l, V_main_arg1]
  rw [e0, e1]

theorem mem_blk (t : Fin cfg0.N) (i : S4096x512.Idx) :
    i ∈ ((cfg0.win 2).blk t).view.set ↔ ∀ a : Fin 2, win0_2.index t a * S512x512.size a ≤ (i a : Nat)
      ∧ (i a : Nat) < win0_2.index t a * S512x512.size a + S512x512.size a := by
  show i ∈ ((View.whole main_v0).slice (win0_2.rect t)).set ↔ _
  rw [View.set_slice_whole, Rect.mem_set_unit]
  exact Iff.rfl

theorem cover (i : S4096x512.Idx) :
    ∃ t : Fin cfg0.N, (cfg0.win 2).flush t = true ∧ i ∈ ((cfg0.win 2).blk t).view.set := by
  have h0 : (i 0 : Nat) < 4096 := (i 0).isLt
  have h1 : (i 1 : Nat) < 512 := (i 1).isLt
  have hN : cfg0.N = 8 := by decide
  refine ⟨⟨(i 0 : Nat) / 512, by omega⟩, flush0_2 _, ?_⟩
  rw [mem_blk]
  intro a
  rw [(idx_facts _).2.2]
  match a with
  | ⟨0, _⟩ => show (i 0 : Nat) / 512 * 512 ≤ (i 0 : Nat) ∧ (i 0 : Nat) < (i 0 : Nat) / 512 * 512 + 512; omega
  | ⟨1, _⟩ => show 0 * 512 ≤ (i 1 : Nat) ∧ (i 1 : Nat) < 0 * 512 + 512; omega

/-- So the result array ends holding the product. -/
theorem final (c : Dev nD) : (dats m 0 c).arrAt 2 cfg0.N
    = rows (m ((c : Thread nD τ).loc main_arg0)) (m ((c : Thread nD τ).loc main_arg1)) :=
  (dats m 0 c).arrAt_eq_of_cover 2 _ (fun t _ => flushed_eq m c t) cover

/-- The reference's product is the same. -/
theorem reference_eq (x : FVec Ideal S4096x512 .f32) (w : FVec Ideal S512x512 .f32) :
    Cert.RowmmReferenceIdeal.Read.val_main_v0 (F := Ideal) x w = rows x w := by
  funext i
  rw [Cert.RowmmReferenceIdeal.Read.val_main_v0_apply]
  refine Finset.sum_congr rfl fun k _ => ?_
  congr 2 <;> (funext a; fin_cases a <;> rfl)

end Cert.RowmmIdeal.Out
-- ==== Proof.MemvecValue.lean ====
/- The value of the memory-vector call: sixteen products of the memory slots with their part of the matrix, added to the
   bias one after the other, then the layer normalisation of each of the four rows. -/
module

public import proofs.«01_k».proof.Proof.NormBlock
public import proofs.«01_k».proof.Proof.Gen.MemvecIdeal.Value
public import Idealize.ShloMosaic.Lib.ValueIdx
public import Idealize.ShloMosaic.Lib.Pipeline.ValueKit.Tiles
public import Idealize.ShloMosaic.Lib.MatmulPlain

@[expose] public section

noncomputable section

namespace Cert.MemvecIdeal.Out

open Cert.MemvecIdeal Cert.MemvecIdeal.Gen Idealize.ShloMosaic Idealize.ShloMosaic.TcCoe Idealize.SL.Sem
open Idealize.ShloMosaic.ValueIdx
open Idealize.ShloMosaic.Pipeline (Dat)

/-- Slot `s`'s part of the product, for sequence `r` and column `d`. -/
def part (x : FVec Ideal S16x4x512 .f32) (w : FVec Ideal S8192x512 .f32) (r : Fin 4) (d : Fin 512) (s : Nat) : EReal :=
  ∑ k : Fin 512, x (ix3 (Fin.ofNat 16 s) r k) * w (ix2 (Fin.ofNat 8192 (s * 512 + k.val)) d)

/-- The memory vectors. -/
def memvec (x : FVec Ideal S16x4x512 .f32) (w : FVec Ideal S8192x512 .f32) (b s o : FVec Ideal S512 .f32) : FVec Ideal S4x512 .f32 :=
  fun i => Row.norm (fun d => (∑ q ∈ Finset.range 16, part x w (i 0) d q) + b (ix1 d)) (fun d => s (ix1 d)) (fun d => o (ix1 d)) (i 1)

theorem hz2 : (![0, 0] : Fin 2 → Nat) = fun _ => 0 := funext fun a => by fin_cases a <;> rfl

/-- Adding the product of one slot. -/
theorem add_product (acc : FVec Ideal S4x512 .f32) (A : FVec Ideal S4x512 .f32) (B : FVec Ideal S512x512 .f32)
    (r : Fin 4) (d : Fin 512) :
    addf acc (matmul dot_S4x512_S512x512_S4x512_1_0_0_1_n_n none A B (constant S4x512 .f32 0x00000000#32)) (ix2 r d)
      = acc (ix2 r d) + ∑ k : Fin 512, A (ix2 r k) * B (ix2 k d) := by
  rw [addf_apply]
  show _ + FloatOps.matmul (DotDims.plain 4 512 512) none _ _ _ (ix2 r d) = _
  rw [Ideal.matmul_plain_apply]
  rw [show constant (F := Ideal) S4x512 .f32 0x00000000#32 (ix2 r d) = 0 from Ideal.ofBits_zero_f32, zero_add]

/-- A slot without its leading unit axis. -/
theorem slot_apply (A : FVec Ideal S1x4x512 .f32) (r : Fin 4) (k : Fin 512) :
    shapeCast S4x512 A shapeCasts_S1x4x512_S4x512 (ix2 r k) = A (ix3 0 r k) :=
  shapeCast_apply (s := S1x4x512) (t := S4x512) _ _ (ix2 r k) (ix3 0 r k) (by
    simp [Shape.rowMajor_val_three, Shape.rowMajor_val_two])

theorem pay2_apply (b : Vec Ideal S1x512 .f32) (A0 : Vec Ideal S1x4x512 .f32) (B0 : Vec Ideal S512x512 .f32)
    (A1 : Vec Ideal S1x4x512 .f32) (B1 : Vec Ideal S512x512 .f32) (A2 : Vec Ideal S1x4x512 .f32) (B2 : Vec Ideal S512x512 .f32)
    (A3 : Vec Ideal S1x4x512 .f32) (B3 : Vec Ideal S512x512 .f32) (r : Fin 4) (d : Fin 512) :
    k0_pay2 b A0 B0 A1 B1 A2 B2 A3 B3 (ix2 r d) = b (ix2 0 d) + (∑ k : Fin 512, A0 (ix3 0 r k) * B0 (ix2 k d))
      + (∑ k : Fin 512, A1 (ix3 0 r k) * B1 (ix2 k d)) + (∑ k : Fin 512, A2 (ix3 0 r k) * B2 (ix2 k d))
      + (∑ k : Fin 512, A3 (ix3 0 r k) * B3 (ix2 k d)) := by
  unfold k0_pay2
  simp only [add_product, slot_apply]
  rw [addf_apply, shapeCast_self,
    broadcastTo_apply (s := S1x512) (t := S4x512) _ _ (ix2 r d) (ix2 0 d) (fun a => by fin_cases a <;> rfl)]
  congr 4
  show Ideal.ofBits .f32 0x00000000#32 + _ = _
  rw [Ideal.ofBits_zero_f32, zero_add]

theorem pay4_apply (v : FVec Ideal S4x512 .f32) (A0 : Vec Ideal S1x4x512 .f32) (B0 : Vec Ideal S512x512 .f32)
    (A1 : Vec Ideal S1x4x512 .f32) (B1 : Vec Ideal S512x512 .f32) (A2 : Vec Ideal S1x4x512 .f32) (B2 : Vec Ideal S512x512 .f32)
    (A3 : Vec Ideal S1x4x512 .f32) (B3 : Vec Ideal S512x512 .f32) (A4 : Vec Ideal S1x4x512 .f32) (B4 : Vec Ideal S512x512 .f32)
    (A5 : Vec Ideal S1x4x512 .f32) (B5 : Vec Ideal S512x512 .f32) (r : Fin 4) (d : Fin 512) :
    k0_pay4 v (k0_pay3 A0) B0 A1 B1 A2 B2 A3 B3 A4 B4 A5 B5 (ix2 r d) = v (ix2 r d) + (∑ k : Fin 512, A0 (ix3 0 r k) * B0 (ix2 k d))
      + (∑ k : Fin 512, A1 (ix3 0 r k) * B1 (ix2 k d)) + (∑ k : Fin 512, A2 (ix3 0 r k) * B2 (ix2 k d))
      + (∑ k : Fin 512, A3 (ix3 0 r k) * B3 (ix2 k d)) + (∑ k : Fin 512, A4 (ix3 0 r k) * B4 (ix2 k d))
      + (∑ k : Fin 512, A5 (ix3 0 r k) * B5 (ix2 k d)) := by
  unfold k0_pay4 k0_pay3
  simp only [add_product, slot_apply]

theorem pay5_apply (v : FVec Ideal S4x512 .f32) (A0 : Vec Ideal S1x4x512 .f32) (B0 : Vec Ideal S512x512 .f32)
    (A1 : Vec Ideal S1x4x512 .f32) (B1 : Vec Ideal S512x512 .f32) (A2 : Vec Ideal S1x4x512 .f32) (B2 : Vec Ideal S512x512 .f32)
    (A3 : Vec Ideal S1x4x512 .f32) (B3 : Vec Ideal S512x512 .f32) (A4 : Vec Ideal S1x4x512 .f32) (B4 : Vec Ideal S512x512 .f32)
    (r : Fin 4) (d : Fin 512) :
    k0_pay5 v A0 B0 A1 B1 A2 B2 A3 B3 A4 B4 (ix2 r d) = v (ix2 r d) + (∑ k : Fin 512, A0 (ix3 0 r k) * B0 (ix2 k d))
      + (∑ k : Fin 512, A1 (ix3 0 r k) * B1 (ix2 k d)) + (∑ k : Fin 512, A2 (ix3 0 r k) * B2 (ix2 k d))
      + (∑ k : Fin 512, A3 (ix3 0 r k) * B3 (ix2 k d)) + (∑ k : Fin 512, A4 (ix3 0 r k) * B4 (ix2 k d)) := by
  unfold k0_pay5
  simp only [add_product, slot_apply]

theorem pay1_apply (v : FVec Ideal S4x512 .f32) (A : Vec Ideal S1x4x512 .f32) (B : Vec Ideal S512x512 .f32)
    (s o : Vec Ideal S1x512 .f32) (r : Fin 4) (d : Fin 512) :
    k0_pay1 v (k0_pay6 A) B s o (ix2 r d)
      = Row.norm (fun d => v (ix2 r d) + ∑ k : Fin 512, A (ix3 0 r k) * B (ix2 k d)) (fun d => s (ix2 0 d)) (fun d => o (ix2 0 d)) d := by
  unfold k0_pay1 k0_pay6
  refine (Row.norm_block (n := 4) _ (shapeCast S1x512 s shapeCasts_S1x512_S1x512) (shapeCast S1x512 o shapeCasts_S1x512_S1x512)
    reduces_S4x512_S4 shapeCasts_S4_S4x1 (.inl rfl) rfl broadcasts_S4x1_S4x512 broadcasts_S1x512_S4x512 _ rfl r d).trans ?_
  rw [shapeCast_self, shapeCast_self]
  congr 1
  funext k
  rw [add_product]
  simp only [slot_apply]

variable (m : (ℓ : Loc nD τ sig) → Buf (Elt Ideal) ℓ) (ρ : Dev nD → PrngReg)

/-- The one grid point's windows are the whole arrays. -/
theorem emb0 (t : Fin cfg0.N) (j : S16x4x512.Idx) : ((cfg0.win 0).blk t).view.emb j = j := by
  funext a; apply Fin.ext
  match a with
  | ⟨0, _⟩ => show 0 * 16 + 1 * (j 0).val = (j 0).val; omega
  | ⟨1, _⟩ => show 0 * 4 + 1 * (j 1).val = (j 1).val; omega
  | ⟨2, _⟩ => show 0 * 512 + 1 * (j 2).val = (j 2).val; omega

theorem emb1 (t : Fin cfg0.N) (j : S8192x512.Idx) : ((cfg0.win 1).blk t).view.emb j = j := by
  funext a; apply Fin.ext
  match a with
  | ⟨0, _⟩ => show 0 * 8192 + 1 * (j 0).val = (j 0).val; omega
  | ⟨1, _⟩ => show 0 * 512 + 1 * (j 1).val = (j 1).val; omega

theorem emb_row (t : Fin cfg0.N) (j : S1x512.Idx) :
    ((cfg0.win 2).blk t).view.emb j = j ∧ ((cfg0.win 3).blk t).view.emb j = j ∧ ((cfg0.win 4).blk t).view.emb j = j := by
  refine ⟨?_, ?_, ?_⟩ <;>
  · funext a; apply Fin.ext
    match a with
    | ⟨0, _⟩ => show 0 * 1 + 1 * (j 0).val = (j 0).val; omega
    | ⟨1, _⟩ => show 0 * 512 + 1 * (j 1).val = (j 1).val; omega

theorem emb5 (t : Fin cfg0.N) (j : S4x512.Idx) : ((cfg0.win 5).blk t).view.emb j = j := by
  funext a; apply Fin.ext
  match a with
  | ⟨0, _⟩ => show 0 * 4 + 1 * (j 0).val = (j 0).val; omega
  | ⟨1, _⟩ => show 0 * 512 + 1 * (j 1).val = (j 1).val; omega

/-- Bias, scale and shift as the region reads them: the arguments as one row. -/
theorem V_row (c : Dev nD) (d : Fin 512) :
    (V m c main_v0 : S1x512.Idx → EReal) (ix2 0 d) = m ((c : Thread nD τ).loc main_arg2) (ix1 d)
    ∧ (V m c main_v1 : S1x512.Idx → EReal) (ix2 0 d) = m ((c : Thread nD τ).loc main_arg3) (ix1 d)
    ∧ (V m c main_v2 : S1x512.Idx → EReal) (ix2 0 d) = m ((c : Thread nD τ).loc main_arg4) (ix1 d) := by
  have h : ∀ x : FVec Ideal S512 .f32, shapeCast S1x512 x shapeCasts_S512_S1x512 (ix2 0 d) = x (ix1 d) := fun x =>
    shapeCast_apply (s := S512) (t := S1x512) _ _ (ix2 0 d) (ix1 d) (by simp [Shape.rowMajor_val_one, Shape.rowMajor_val_two])
  refine ⟨?_, ?_, ?_⟩ <;> (refine Eq.trans (congrFun ?_ _) (h _); dsimp only [V, hostOps0]; after_results <;> rfl)

/-- The slot loaded at offset `s`. -/
theorem ld_slot (x : Vec Ideal S16x4x512 .f32) (s : Nat) (h : ∀ a, (![s, 0, 0] : Fin 3 → Nat) a + S1x4x512.size a ≤ S16x4x512.size a)
    (r : Fin 4) (k : Fin 512) :
    View.ld x (Rect.unit (s := S16x4x512) ![s, 0, 0] S1x4x512.size h) (ix3 (0 : Fin 1) r k) = x (ix3 (Fin.ofNat 16 s) r k) := by
  have hs : s + 1 ≤ 16 := h 0
  refine View.ld_unit_apply_of x _ _ h (ix3 (0 : Fin 1) r k : S1x4x512.Idx) _ (fun a => ?_)
  match a with
  | ⟨0, _⟩ => show s % 16 = s + 0; omega
  | ⟨1, _⟩ => show r.val = 0 + r.val; omega
  | ⟨2, _⟩ => show k.val = 0 + k.val; omega

/-- The part of the matrix loaded at row `o`. -/
theorem ld_part (w : Vec Ideal S8192x512 .f32) (o : Nat) (h : ∀ a, (![o, 0] : Fin 2 → Nat) a + S512x512.size a ≤ S8192x512.size a)
    (k d : Fin 512) :
    View.ld w (Rect.unit (s := S8192x512) ![o, 0] S512x512.size h) (ix2 k d) = w (ix2 (Fin.ofNat 8192 (o + k.val)) d) := by
  have hs : o + 512 ≤ 8192 := h 0
  refine View.ld_unit_apply_of w _ _ h (ix2 k d : S512x512.Idx) _ (fun a => ?_)
  match a with
  | ⟨0, _⟩ => show (o + k.val) % 8192 = o + k.val; omega
  | ⟨1, _⟩ => show d.val = 0 + d.val; omega

/-- The product of a slot and its part of the matrix, as the body loads them. -/
theorem slot_part (x : Vec Ideal S16x4x512 .f32) (w : Vec Ideal S8192x512 .f32) (r : Fin 4) (d : Fin 512) (s : Nat)
    (h : ∀ a, (![s, 0, 0] : Fin 3 → Nat) a + S1x4x512.size a ≤ S16x4x512.size a)
    (h' : ∀ a, (![s * 512, 0] : Fin 2 → Nat) a + S512x512.size a ≤ S8192x512.size a) :
    (∑ k : Fin 512, (View.ld x (Rect.unit (s := S16x4x512) ![s, 0, 0] S1x4x512.size h) (ix3 (0 : Fin 1) r k) : EReal)
        * View.ld w (Rect.unit (s := S8192x512) ![s * 512, 0] S512x512.size h') (ix2 k d))
      = part x w r d s :=
  Finset.sum_congr rfl fun k _ => congrArg₂ (· * ·) (ld_slot x s h r k) (ld_part w _ h' k d)

/-- The body's result at an index. -/
theorem out_apply (x : Vec Ideal S16x4x512 .f32) (w : Vec Ideal S8192x512 .f32) (b s o : Vec Ideal S1x512 .f32) (r : Fin 4) (d : Fin 512) :
    out0_5 x w b s o (ix2 r d)
      = Row.norm (fun d => (∑ q ∈ Finset.range 16, part x w r d q) + b (ix2 0 d)) (fun d => s (ix2 0 d)) (fun d => o (ix2 0 d)) d := by
  unfold out0_5
  rw [View.canon_unit_zero hz2, View.ld_unit_zero (S := S1x512) hz2, View.ld_unit_zero (S := S1x512) hz2, View.ld_unit_zero (S := S1x512) hz2,
    pay1_apply]
  congr 1
  funext d
  rw [pay5_apply, pay4_apply, pay2_apply]
  rw [add_comm (∑ q ∈ Finset.range 16, part x w r d q)]
  iterate 16 rw [Finset.sum_range_succ, ← add_assoc]
  rw [Finset.sum_range_zero, add_zero]
  iterate 16 refine congrArg₂ (· + ·) ?_ (slot_part x w r d _ _ _)
  rfl

/-- What the one grid point writes back is the memory vectors. -/
theorem flushed_eq (c : Dev nD) (t : Fin cfg0.N) :
    (dats m 0 c).flushed 5 t = ((cfg0.win 5).blk t).view.read (Elt Ideal)
      (memvec (m ((c : Thread nD τ).loc main_arg0)) (m ((c : Thread nD τ).loc main_arg1)) (m ((c : Thread nD τ).loc main_arg2))
        (m ((c : Thread nD τ).loc main_arg3)) (m ((c : Thread nD τ).loc main_arg4))) := by
  rw [Value.flushed5]
  show (out0_5 (iblk m c 0 t) (iblk m c 1 t) (iblk m c 2 t) (iblk m c 3 t) (iblk m c 4 t) : S4x512.Idx → EReal) = _
  funext j
  show _ = memvec _ _ _ _ _ (((cfg0.win 5).blk t).view.emb j)
  rw [emb5]
  obtain ⟨r, d, rfl⟩ : ∃ (r : Fin 4) (d : Fin 512), j = ix2 r d := ⟨j 0, j 1, eq_ix2 j⟩
  rw [out_apply]
  have e0 : (iblk m c 0 t : S16x4x512.Idx → EReal) = m ((c : Thread nD τ).loc main_arg0) := by
    funext j
    show V m c main_arg0 (((cfg0.win 0).blk t).view.emb j) = _
    rw [emb0, V_main_arg0]
  have e1 : (iblk m c 1 t : S8192x512.Idx → EReal) = m ((c : Thread nD τ).loc main_arg1) := by
    funext j
    show V m c main_arg1 (((cfg0.win 1).blk t).view.emb j) = _
    rw [emb1, V_main_arg1]
  have e2 : ∀ d, (iblk m c 2 t : S1x512.Idx → EReal) (ix2 0 d) = m ((c : Thread nD τ).loc main_arg2) (ix1 d) := fun d => by
    show V m c main_v0 (((cfg0.win 2).blk t).view.emb (ix2 0 d : S1x512.Idx)) = _
    rw [(emb_row t _).1]; exact (V_row m c d).1
  have e3 : ∀ d, (iblk m c 3 t : S1x512.Idx → EReal) (ix2 0 d) = m ((c : Thread nD τ).loc main_arg3) (ix1 d) := fun d => by
    show V m c main_v1 (((cfg0.win 3).blk t).view.emb (ix2 0 d : S1x512.Idx)) = _
    rw [(emb_row t _).2.1]; exact (V_row m c d).2.1
  have e4 : ∀ d, (iblk m c 4 t : S1x512.Idx → EReal) (ix2 0 d) = m ((c : Thread nD τ).loc main_arg4) (ix1 d) := fun d => by
    show V m c main_v2 (((cfg0.win 4).blk t).view.emb (ix2 0 d : S1x512.Idx)) = _
    rw [(emb_row t _).2.2]; exact (V_row m c d).2.2
  simp only [e2, e3, e4]
  rw [e0, e1]
  rfl

theorem cover (i : S4x512.Idx) :
    ∃ t : Fin cfg0.N, (cfg0.win 5).flush t = true ∧ i ∈ ((cfg0.win 5).blk t).view.set := by
  refine ⟨t0_0, flush0_5 _, ?_⟩
  have h := ((cfg0.win 5).blk t0_0).view.emb_mem_set i
  rwa [emb5] at h

/-- So the result array ends holding the memory vectors. -/
theorem final (c : Dev nD) : (dats m 0 c).arrAt 5 cfg0.N
    = memvec (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 5 _ (fun t _ => flushed_eq m c t) cover

end Cert.MemvecIdeal.Out
-- ==== Proof.MemvecReference.lean ====
/- The reference of the memory-vector call at an index: the same sums, cut into the sixteen slots, and the same
   normalisation. -/
module

public import proofs.«01_k».proof.Proof.MemvecValue
public import proofs.«01_k».proof.Proof.Gen.MemvecReferenceIdeal.Read

@[expose] public section

noncomputable section

namespace Cert.MemvecReferenceIdeal.Out

open Cert.MemvecReferenceIdeal Idealize.ShloMosaic Idealize.ShloMosaic.ValueIdx Cert.MemvecReferenceIdeal.Read

/-- A sum over `512 * n` terms, cut into `n` runs of 512. -/
theorem sum_runs (g : Nat → EReal) (n : Nat) :
    ∑ j ∈ Finset.range (n * 512), g j = ∑ q ∈ Finset.range n, ∑ k : Fin 512, g (q * 512 + k.val) := by
  induction n with
  | zero => simp
  | succ n ih =>
    rw [Nat.succ_mul, Finset.sum_range_add g (n * 512) 512, ih, Finset.sum_range_succ _ n, Fin.sum_univ_eq_sum_range (fun k => g (n * 512 + k))]

theorem sum_slots (g : Nat → EReal) : ∑ j : Fin 8192, g j.val = ∑ q ∈ Finset.range 16, ∑ k : Fin 512, g (q * 512 + k.val) := by
  rw [Fin.sum_univ_eq_sum_range g 8192]
  exact sum_runs g 16

variable (x : FVec Ideal S16x4x512 .f32) (w : FVec Ideal S8192x512 .f32) (b s o : FVec Ideal S512 .f32)

/-- Product and bias. -/
theorem product (r : Fin 4) (d : Fin 512) : val_main_v5 (F := Ideal) x w b (ix2 r d)
    = (∑ q ∈ Finset.range 16, Cert.MemvecIdeal.Out.part x w r d q) + b (ix1 d) := by
  rw [val_main_v5_apply, val_main_v4_apply, val_main_v3_apply]
  refine congrArg₂ (fun a b : EReal => a + b) ?_ ?_
  · rw [val_main_v2_apply]
    have h : ∀ k : Fin 8192, val_main_v1 (F := Ideal) x (lidx_main_v2 (ix2 r d) k) * w (ridx_main_v2 (ix2 r d) k)
        = (fun j : Nat => x (ix3 (Fin.ofNat 16 (j / 512)) r (Fin.ofNat 512 j)) * w (ix2 (Fin.ofNat 8192 j) d)) k.val := fun k => by
      rw [val_main_v1_apply, val_main_v0_apply]
      have hk := k.isLt
      have hr := r.isLt
      refine congrArg₂ (· * ·) (congrArg x (funext fun a => Fin.ext ?_)) (congrArg w (funext fun a => Fin.ext ?_))
      · match a with
        | ⟨0, _⟩ => show (r.val * 8192 + k.val) / 512 % 16 = k.val / 512 % 16; omega
        | ⟨1, _⟩ => show (r.val * 8192 + k.val) / 8192 = r.val; omega
        | ⟨2, _⟩ => show (r.val * 8192 + k.val) % 512 = k.val % 512; omega
      · match a with
        | ⟨0, _⟩ => show k.val = k.val % 8192; omega
        | ⟨1, _⟩ => rfl
    rw [Finset.sum_congr rfl fun k _ => h k]
    rw [sum_slots (fun j : Nat => x (ix3 (Fin.ofNat 16 (j / 512)) r (Fin.ofNat 512 j)) * w (ix2 (Fin.ofNat 8192 j) d))]
    refine Finset.sum_congr rfl fun q _ => Finset.sum_congr rfl fun k _ => ?_
    have hk := k.isLt
    refine congrArg₂ (· * ·) (congrArg x (funext fun a => Fin.ext ?_)) rfl
    match a with
    | ⟨0, _⟩ => show (q * 512 + k.val) / 512 % 16 = q % 16; omega
    | ⟨1, _⟩ => rfl
    | ⟨2, _⟩ => show (q * 512 + k.val) % 512 = k.val; omega
  · congr 1; funext a; fin_cases a; rfl

theorem mean_eq (r : Fin 4) : val_main_v9 (F := Ideal) x w b (ix2 r 0) = Row.mean fun k => val_main_v5 (F := Ideal) x w b (ix2 r k) := by
  rw [val_main_v9_apply, val_main_v7_apply, val_main_v6_apply, val_main_v8_apply, val_main_cst_0_apply, val_main_cst_apply, Ideal.hostDivf_def]
  rw [show FloatOps.ofBits (F := Ideal) .f32 0x00000000#32 = (0 : EReal) from Ideal.ofBits_zero_f32, zero_add]
  have h : ∀ k, idx_main_v6 (idx_main_v7 (ix2 r 0)) k = ix2 r k := fun k => funext fun a => by fin_cases a <;> rfl
  simp only [h]
  rfl

theorem var_eq (r : Fin 4) : val_main_v16 (F := Ideal) x w b (ix2 r 0) = Row.var fun k => val_main_v5 (F := Ideal) x w b (ix2 r k) := by
  rw [val_main_v16_apply, val_main_v14_apply, val_main_v13_apply, val_main_v15_apply, val_main_cst_2_apply, val_main_cst_1_apply, Ideal.hostDivf_def]
  rw [show FloatOps.ofBits (F := Ideal) .f32 0x00000000#32 = (0 : EReal) from Ideal.ofBits_zero_f32, zero_add]
  have h : ∀ k, idx_main_v13 (idx_main_v14 (ix2 r 0)) k = ix2 r k := fun k => funext fun a => by fin_cases a <;> rfl
  have h' : ∀ k, idx_main_v10 (ix2 r k) = ix2 r 0 := fun k => funext fun a => by fin_cases a <;> rfl
  simp only [h, val_main_v12_apply, val_main_v11_apply, val_main_v10_apply, h', mean_eq]
  rfl

theorem val_eq : val_main_v29 (F := Ideal) x w b s o = Cert.MemvecIdeal.Out.memvec x w b s o := by
  funext i
  obtain ⟨r, d, rfl⟩ : ∃ (r : Fin 4) (d : Fin 512), i = ix2 r d := ⟨i 0, i 1, eq_ix2 i⟩
  have h' : idx_main_v17 (ix2 r d) = ix2 r 0 := funext fun a => by fin_cases a <;> rfl
  have h'' : idx_main_v22 (ix2 r d) = ix2 r 0 := funext fun a => by fin_cases a <;> rfl
  have hs : idx_main_v24 (idx_main_v25 (ix2 r d)) = ix1 d := funext fun a => by fin_cases a; rfl
  have ho : idx_main_v27 (idx_main_v28 (ix2 r d)) = ix1 d := funext fun a => by fin_cases a; rfl
  rw [val_main_v29_apply, val_main_v26_apply, val_main_v23_apply, val_main_v18_apply, val_main_v17_apply, val_main_v22_apply, val_main_v21_apply,
    val_main_v20_apply, val_main_v19_apply, val_main_cst_3_apply, val_main_v25_apply, val_main_v24_apply, val_main_v28_apply, val_main_v27_apply,
    h', h'', hs, ho, var_eq, mean_eq, Ideal.hostDivf_def, Ideal.hostUnary_sqrt_def]
  have e := Row.div_sqrt (val_main_v5 (F := Ideal) x w b (ix2 r d) - Row.mean fun k => val_main_v5 (F := Ideal) x w b (ix2 r k))
    (fun k => val_main_v5 (F := Ideal) x w b (ix2 r k))
  refine (congrArg (· * s (ix1 d) + o (ix1 d)) e).trans ?_
  show _ = Row.norm _ _ _ d
  unfold Row.norm
  simp only [product]

end Cert.MemvecReferenceIdeal.Out
-- ==== Proof.LayersGather.lean ====
/- The memory rows the reference of the layers call gathers: row `i` reads the sixteen ring rows `i + 1` to `i + 16`. -/
module

public import proofs.«01_k».proof.Proof.LayersValue
public import proofs.«01_k».proof.Proof.Gen.LayersReferenceIdeal.Read

@[expose] public section

noncomputable section

namespace Cert.LayersReferenceIdeal.Out

open Cert.LayersReferenceIdeal Idealize.ShloMosaic Idealize.ShloMosaic.ValueIdx Cert.LayersReferenceIdeal.Read

/-- The start index of row `i`, slot `k`. -/
theorem start_eq (i : Fin 1024) (k : Fin 16) :
    (val_main_v14 (F := Ideal) (ix3 i k (0 : Fin 1))).toInt.toNat = i.val + 1 + k.val := by
  have h8 : val_main_v8 (F := Ideal) (ix2 i k) = BitVec.ofNat 32 (i.val + 1 + k.val) := by
    rw [val_main_v8_apply, val_main_v6_apply, val_main_v5_apply, val_main_v7_apply, val_main_v4_apply, val_main_v2_apply,
      val_main_v1_apply, val_main_c_apply]
    show (BitVec.ofNat 32 i.val + 1#32) + BitVec.ofNat 32 k.val = _
    rw [← BitVec.ofNat_add, ← BitVec.ofNat_add]
  have hi : (BitVec.ofNat 32 (i.val + 1 + k.val)).toInt = ((i.val + 1 + k.val : Nat) : Int) := by
    rw [BitVec.toInt_ofNat', Int.bmod_eq_of_le] <;> omega
  have h10 : val_main_v10 (F := Ideal) (ix2 i k) = 0#1 := by
    rw [val_main_v10_apply, val_main_v9_apply, val_main_c_0_apply, h8]
    show BitVec.ofBool (BitVec.slt (BitVec.ofNat 32 (i.val + 1 + k.val)) 0#32) = 0#1
    rw [BitVec.slt, hi]
    rw [show decide (((i.val + 1 + k.val : Nat) : Int) < (0#32 : BitVec 32).toInt) = false from decide_eq_false (by
      rw [show (0#32 : BitVec 32).toInt = 0 from rfl]; omega)]
    rfl
  rw [val_main_v14_apply, show idx_main_v14 (ix3 i k (0 : Fin 1)) = ix2 i k from funext fun a => by fin_cases a <;> rfl,
    val_main_v13_apply, h10, select_zero, h8, hi]
  rfl

/-- The gathered memory. -/
theorem gather_apply (w : Vec Ideal S4x1040x512 .f32) (b : Fin 4) (i : Fin 1024) (k : Fin 16) (d : Fin 512) :
    val_main_v15 (F := Ideal) w (ix4 b i k d) = Cert.LayersIdeal.Out.memory w b i k d := by
  unfold val_main_v15 Host.gather
  show w _ = w _
  congr 1
  funext a
  refine Fin.ext ?_
  let D := gather_S4x1040x512_S1024x16x1_S4x1024x16x512_03_1_n_n_1_2_41512
  show D.start (ix4 b i k d) (val_main_v14 (F := Ideal)) a + D.batchCoord (ix4 b i k d) a + D.offCoord (ix4 b i k d) a = _
  rw [GatherDims.batchCoord_eq_zero _ _ _ List.not_mem_nil, Nat.add_zero]
  match a with
  | ⟨0, _⟩ =>
    show D.start (ix4 b i k d) (val_main_v14 (F := Ideal)) 0 + D.offCoord (ix4 b i k d) 0 = b.val
    rw [show D.start (ix4 b i k d) (val_main_v14 (F := Ideal)) 0 = 0 from dif_neg (show ¬(0 : Fin 3) ∈ [(1 : Fin 3)] by decide), Nat.zero_add]
    rfl
  | ⟨1, _⟩ =>
    show D.start (ix4 b i k d) (val_main_v14 (F := Ideal)) 1 + D.offCoord (ix4 b i k d) 1 = i.val + 1 + k.val
    rw [GatherDims.offCoord_eq_zero _ _ _ (fun h => ((GatherDims.mem_sKept _ _).mp h).1 (List.mem_singleton.mpr rfl)), Nat.add_zero]
    unfold GatherDims.start
    rw [dif_pos (show (1 : Fin 3) ∈ D.startIndexMap from List.mem_singleton.mpr rfl)]
    rw [show D.siIdx (ix4 b i k d) ⟨List.idxOf (1 : Fin 3) D.startIndexMap, List.idxOf_lt_length_iff.2 (List.mem_singleton.mpr rfl)⟩
        = (ix3 i k (0 : Fin 1) : S1024x16x1.Idx) from by
      funext e; refine Fin.ext ?_
      match e with
      | ⟨0, _⟩ => rfl
      | ⟨1, _⟩ => rfl
      | ⟨2, _⟩ => rfl]
    rw [start_eq]
    show min (i.val + 1 + k.val) (1040 - 1) = _
    omega
  | ⟨2, _⟩ =>
    show D.start (ix4 b i k d) (val_main_v14 (F := Ideal)) 2 + D.offCoord (ix4 b i k d) 2 = d.val
    rw [show D.start (ix4 b i k d) (val_main_v14 (F := Ideal)) 2 = 0 from dif_neg (show ¬(2 : Fin 3) ∈ [(1 : Fin 3)] by decide), Nat.zero_add]
    rfl

end Cert.LayersReferenceIdeal.Out

end
-- ==== Proof.LayersChain.lean ====
/- The seven layers of the reference are one function, applied to the rows and to each layer's weights. -/
module

public import proofs.«01_k».proof.Proof.LayersValue
public import proofs.«01_k».proof.Proof.Gen.LayersReferenceIdeal.Read

@[expose] public section

noncomputable section

namespace Cert.LayersReferenceIdeal.Out

open Cert.LayersReferenceIdeal Cert.LayersReferenceIdeal.Gen Idealize.ShloMosaic Idealize.ShloMosaic.ValueIdx Cert.LayersReferenceIdeal.Read

/-! ## The layer as a function of its weights -/

/-- The softmax of the scores applied to the memory. -/
def softG (c : FVec Ideal S4x1024x16 .f32) (g : FVec Ideal S4x1024x16x512 .f32) : FVec Ideal S4x1024x512 .f32 :=
  let e := Host.exp (subf c (broadcastInDim S4x1024x16 ![0, 1, 2] bcast_S4x1024x1_S4x1024x16_0_1_2
    (broadcastInDim S4x1024x1 ![0, 1] bcast_S4x1024_S4x1024x1_0_1 (maximumf (val_main_v22 (F := Ideal))
      (Host.reduce FloatOps.maximumf c (val_main_cst (F := Ideal)) reducesTo_S4x1024x16_S4x1024_d2 h_S_)))))
  Host.dotGeneral dot_S4x1024x16_S4x1024x16x512_S4x1024x512_2_2_n_3_01_01 none
    (Host.divf e (broadcastInDim S4x1024x16 ![0, 1, 2] bcast_S4x1024x1_S4x1024x16_0_1_2
      (broadcastInDim S4x1024x1 ![0, 1] bcast_S4x1024_S4x1024x1_0_1
        (Host.reduceAdd e (val_main_cst_3 (F := Ideal)) reducesTo_S4x1024x16_S4x1024_d2 h_S_)))) g

/-- The rows with the weighted reads added. -/
def mixG (x : FVec Ideal S4x1024x512 .f32) (g : FVec Ideal S4x1024x16x512 .f32) (q v : FVec Ideal S512x512 .f32) :
    FVec Ideal S4x1024x512 .f32 :=
  addf x (Host.dotGeneral dot_S4x1024x512_S512x512_S4x1024x512_2_0_01_1_n_n none
    (softG (Host.dotGeneral dot_S4x1024x16x512_S4x1024x512_S4x1024x16_3_2_2_n_01_01 none g
      (Host.dotGeneral dot_S4x1024x512_S512x512_S4x1024x512_2_0_01_1_n_n none x q)) g) v)

/-- The mean over the last axis. -/
def meanG (y : FVec Ideal S4x1024x512 .f32) : FVec Ideal S4x1024x1 .f32 :=
  Host.divf (broadcastInDim S4x1024x1 ![0, 1] bcast_S4x1024_S4x1024x1_0_1
    (Host.reduceAdd y (val_main_cst_4 (F := Ideal)) reducesTo_S4x1024x512_S4x1024_d2 h_S_)) (val_main_v43 (F := Ideal))

/-- The normalisation of the rows. -/
def normG (y : FVec Ideal S4x1024x512 .f32) (s o : FVec Ideal S512 .f32) : FVec Ideal S4x1024x512 .f32 :=
  let z := subf y (broadcastInDim S4x1024x512 ![0, 1, 2] bcast_S4x1024x1_S4x1024x512_0_1_2 (meanG y))
  addf (mulf (Host.divf z (broadcastInDim S4x1024x512 ![0, 1, 2] bcast_S4x1024x1_S4x1024x512_0_1_2
      (Host.sqrt (addf (meanG (mulf z z)) (val_main_v54 (F := Ideal))))))
    (broadcastInDim S4x1024x512 ![0, 1, 2] bcast_S1x1x512_S4x1024x512_0_1_2
      (broadcastInDim S1x1x512 ![1, 2] bcast_S1x512_S1x1x512_1_2 (broadcastInDim S1x512 ![1] bcast_S512_S1x512_1 s))))
    (broadcastInDim S4x1024x512 ![0, 1, 2] bcast_S1x1x512_S4x1024x512_0_1_2
      (broadcastInDim S1x1x512 ![1, 2] bcast_S1x512_S1x1x512_1_2 (broadcastInDim S1x512 ![1] bcast_S512_S1x512_1 o)))

/-! ## One layer's weights -/

/-- Matrix `n` of a stack. -/
def mat (n : Nat) (x : FVec Ideal S8x512x512 .f32) : FVec Ideal S512x512 .f32 := fun j => x (ix3 (Fin.ofNat 8 n) (j 0) (j 1))
/-- Vector `n` of a stack. -/
def vec (n : Nat) (x : FVec Ideal S8x1x512 .f32) : FVec Ideal S512 .f32 := fun j => x (ix3 (Fin.ofNat 8 n) 0 (j 0))
/-- Head matrix `n` of a stack. -/
def hed (n : Nat) (x : FVec Ideal S8x512x6 .f32) : FVec Ideal S512x6 .f32 := fun j => x (ix3 (Fin.ofNat 8 n) (j 0) (j 1))

theorem mat_eq (n : Nat) (hn : n < 8) (x : FVec Ideal S8x512x512 .f32) (h : S8x512x512.Slices ![n, 0, 0] S1x512x512)
    (hc : S1x512x512.ShapeCasts S512x512) :
    shapeCast S512x512 (extractStridedSlice S1x512x512 ![n, 0, 0] x h) hc = mat n x := by
  funext j
  obtain ⟨a, b, rfl⟩ : ∃ (a b : Fin 512), j = ix2 a b := ⟨j 0, j 1, eq_ix2 j⟩
  refine (shapeCast_apply _ _ (ix2 a b) (ix3 (0 : Fin 1) a b) (by
    rw [Shape.rowMajor_val_three, Shape.rowMajor_val_two]; show (0 * 512 + a.val) * 512 + b.val = a.val * 512 + b.val; rw [Nat.zero_mul, Nat.zero_add])).trans ?_
  refine congrArg x (funext fun e => Fin.ext ?_)
  match e with
  | ⟨0, _⟩ => show n + 0 = n % 8; omega
  | ⟨1, _⟩ => show 0 + a.val = a.val; omega
  | ⟨2, _⟩ => show 0 + b.val = b.val; omega

theorem hed_eq (n : Nat) (hn : n < 8) (x : FVec Ideal S8x512x6 .f32) (h : S8x512x6.Slices ![n, 0, 0] S1x512x6)
    (hc : S1x512x6.ShapeCasts S512x6) :
    shapeCast S512x6 (extractStridedSlice S1x512x6 ![n, 0, 0] x h) hc = hed n x := by
  funext j
  obtain ⟨a, b, rfl⟩ : ∃ (a : Fin 512) (b : Fin 6), j = ix2 a b := ⟨j 0, j 1, eq_ix2 j⟩
  refine (shapeCast_apply _ _ (ix2 a b) (ix3 (0 : Fin 1) a b) (by
    rw [Shape.rowMajor_val_three, Shape.rowMajor_val_two]; show (0 * 512 + a.val) * 6 + b.val = a.val * 6 + b.val; rw [Nat.zero_mul, Nat.zero_add])).trans ?_
  refine congrArg x (funext fun e => Fin.ext ?_)
  match e with
  | ⟨0, _⟩ => show n + 0 = n % 8; omega
  | ⟨1, _⟩ => show 0 + a.val = a.val; omega
  | ⟨2, _⟩ => show 0 + b.val = b.val; omega

theorem vec_eq (n : Nat) (hn : n < 8) (x : FVec Ideal S8x1x512 .f32) (h : S8x1x512.Slices ![n, 0, 0] S1x1x512)
    (hc : S1x1x512.ShapeCasts S512) :
    shapeCast S512 (extractStridedSlice S1x1x512 ![n, 0, 0] x h) hc = vec n x := by
  funext j
  obtain ⟨b, rfl⟩ : ∃ (b : Fin 512), j = ix1 b := ⟨j 0, eq_ix1 j⟩
  refine (shapeCast_apply _ _ (ix1 b) (ix3 (0 : Fin 1) (0 : Fin 1) b) (by
    rw [Shape.rowMajor_val_three, Shape.rowMajor_val_one]; show (0 * 1 + 0) * 512 + b.val = b.val; omega)).trans ?_
  refine congrArg x (funext fun e => Fin.ext ?_)
  match e with
  | ⟨0, _⟩ => show n + 0 = n % 8; omega
  | ⟨1, _⟩ => show 0 + 0 = 0; omega
  | ⟨2, _⟩ => show 0 + b.val = b.val; omega

/-! ## The chain -/

section Chain

variable (x : FVec Ideal S4x1024x512 .f32) (w : FVec Ideal S4x1040x512 .f32) (wq wv : FVec Ideal S8x512x512 .f32)
  (s o : FVec Ideal S8x1x512 .f32)

/-- Layer `n` on all rows. -/
def layG (n : Nat) (y : FVec Ideal S4x1024x512 .f32) : FVec Ideal S4x1024x512 .f32 :=
  normG (mixG y (val_main_v15 (F := Ideal) w) (mat n wq) (mat n wv)) (vec n s) (vec n o)

variable {wq wv s o} in
/-- A normalised mix of rows with weights cut out of the stacks is that layer. -/
theorem layG_of (n : Nat) (y Y Z : FVec Ideal S4x1024x512 .f32) (q v : FVec Ideal S512x512 .f32) (a b : FVec Ideal S512 .f32)
    (hZ : Z = normG Y a b) (hY : Y = mixG y (val_main_v15 (F := Ideal) w) q v)
    (hq : q = mat n wq) (hv : v = mat n wv) (ha : a = vec n s) (hb : b = vec n o) :
    Z = layG w wq wv s o n y := by
  subst hq hv ha hb hY hZ; rfl

theorem lay1 : val_main_v66 (F := Ideal) x w wq wv s o = layG w wq wv s o 1 x :=
  layG_of w 1 _ (val_main_v36 (F := Ideal) x w wq wv) _ (val_main_v18 (F := Ideal) wq) (val_main_v34 (F := Ideal) wv) (val_main_v38 (F := Ideal) s)
    (val_main_v40 (F := Ideal) o) rfl rfl (mat_eq 1 (by omega) wq _ _) (mat_eq 1 (by omega) wv _ _) (vec_eq 1 (by omega) s _ _)
    (vec_eq 1 (by omega) o _ _)

theorem lay2 : val_main_v119 (F := Ideal) x w wq wv s o = layG w wq wv s o 2 (val_main_v66 (F := Ideal) x w wq wv s o) :=
  layG_of w 2 _ (val_main_v89 (F := Ideal) x w wq wv s o) _ (val_main_v71 (F := Ideal) wq) (val_main_v87 (F := Ideal) wv) (val_main_v91 (F := Ideal) s)
    (val_main_v93 (F := Ideal) o) rfl rfl (mat_eq 2 (by omega) wq _ _) (mat_eq 2 (by omega) wv _ _) (vec_eq 2 (by omega) s _ _)
    (vec_eq 2 (by omega) o _ _)

theorem lay3 : val_main_v172 (F := Ideal) x w wq wv s o = layG w wq wv s o 3 (val_main_v119 (F := Ideal) x w wq wv s o) :=
  layG_of w 3 _ (val_main_v142 (F := Ideal) x w wq wv s o) _ (val_main_v124 (F := Ideal) wq) (val_main_v140 (F := Ideal) wv) (val_main_v144 (F := Ideal) s)
    (val_main_v146 (F := Ideal) o) rfl rfl (mat_eq 3 (by omega) wq _ _) (mat_eq 3 (by omega) wv _ _) (vec_eq 3 (by omega) s _ _)
    (vec_eq 3 (by omega) o _ _)

theorem lay4 : val_main_v225 (F := Ideal) x w wq wv s o = layG w wq wv s o 4 (val_main_v172 (F := Ideal) x w wq wv s o) :=
  layG_of w 4 _ (val_main_v195 (F := Ideal) x w wq wv s o) _ (val_main_v177 (F := Ideal) wq) (val_main_v193 (F := Ideal) wv) (val_main_v197 (F := Ideal) s)
    (val_main_v199 (F := Ideal) o) rfl rfl (mat_eq 4 (by omega) wq _ _) (mat_eq 4 (by omega) wv _ _) (vec_eq 4 (by omega) s _ _)
    (vec_eq 4 (by omega) o _ _)

theorem lay5 : val_main_v278 (F := Ideal) x w wq wv s o = layG w wq wv s o 5 (val_main_v225 (F := Ideal) x w wq wv s o) :=
  layG_of w 5 _ (val_main_v248 (F := Ideal) x w wq wv s o) _ (val_main_v230 (F := Ideal) wq) (val_main_v246 (F := Ideal) wv) (val_main_v250 (F := Ideal) s)
    (val_main_v252 (F := Ideal) o) rfl rfl (mat_eq 5 (by omega) wq _ _) (mat_eq 5 (by omega) wv _ _) (vec_eq 5 (by omega) s _ _)
    (vec_eq 5 (by omega) o _ _)

theorem lay6 : val_main_v331 (F := Ideal) x w wq wv s o = layG w wq wv s o 6 (val_main_v278 (F := Ideal) x w wq wv s o) :=
  layG_of w 6 _ (val_main_v301 (F := Ideal) x w wq wv s o) _ (val_main_v283 (F := Ideal) wq) (val_main_v299 (F := Ideal) wv) (val_main_v303 (F := Ideal) s)
    (val_main_v305 (F := Ideal) o) rfl rfl (mat_eq 6 (by omega) wq _ _) (mat_eq 6 (by omega) wv _ _) (vec_eq 6 (by omega) s _ _)
    (vec_eq 6 (by omega) o _ _)

theorem lay7 : val_main_v384 (F := Ideal) x w wq wv s o = layG w wq wv s o 7 (val_main_v331 (F := Ideal) x w wq wv s o) :=
  layG_of w 7 _ (val_main_v354 (F := Ideal) x w wq wv s o) _ (val_main_v336 (F := Ideal) wq) (val_main_v352 (F := Ideal) wv) (val_main_v356 (F := Ideal) s)
    (val_main_v358 (F := Ideal) o) rfl rfl (mat_eq 7 (by omega) wq _ _) (mat_eq 7 (by omega) wv _ _) (vec_eq 7 (by omega) s _ _)
    (vec_eq 7 (by omega) o _ _)

end Chain

end Cert.LayersReferenceIdeal.Out

end
-- ==== Proof.LayersReference.lean ====
/- The reference of the layers' call at an index: every row goes through seven times the layer that `Row.lean`
   describes, and the heads are averaged. -/
module

public import proofs.«01_k».proof.Proof.LayersGather
public import proofs.«01_k».proof.Proof.LayersChain
public import Idealize.ShloMosaic.Lib.KernelVsHost

@[expose] public section

noncomputable section

namespace Cert.LayersReferenceIdeal.Out

open Cert.LayersReferenceIdeal Cert.LayersReferenceIdeal.Gen Idealize.ShloMosaic Idealize.ShloMosaic.ValueIdx Cert.LayersReferenceIdeal.Read
open Cert.LayersIdeal.Out (memory)

variable (x : FVec Ideal S4x1024x512 .f32) (w : FVec Ideal S4x1040x512 .f32) (wq wv : FVec Ideal S8x512x512 .f32)
  (s o : FVec Ideal S8x1x512 .f32)

/-! ## Reading one layer -/

/-- The scores of row `i` against the rows it can see. -/
def scores (b : Fin 4) (i : Fin 1024) (k : Fin 16) : EReal :=
  Row.score (fun d => x (ix3 b i d)) (memory w b i k) fun e d => wq (ix3 (Fin.ofNat 8 1) e d)

theorem score_apply (b : Fin 4) (i : Fin 1024) (k : Fin 16) : val_main_v20 (F := Ideal) x w wq (ix3 b i k) = scores x w wq b i k := by
  rw [val_main_v20_apply]
  unfold scores Row.score
  refine Finset.sum_congr rfl fun d _ => ?_
  refine congrArg₂ (fun a b : EReal => a * b) ?_ ?_
  · rw [← gather_apply w b i k d]
    exact congrArg _ (funext fun a => by fin_cases a <;> rfl)
  · rw [val_main_v19_apply]
    refine Finset.sum_congr rfl fun e _ => ?_
    rw [show val_main_v18 (F := Ideal) wq = mat 1 wq from mat_eq 1 (by omega) wq _ _]
    exact congrArg₂ (fun a b : EReal => a * b) (congrArg x (funext fun a => by fin_cases a <;> rfl)) rfl

/-- The host's maximum over the last axis is the vector unit's. -/
theorem host_max (c : FVec Ideal S4x1024x16 .f32) (hr : S4x1024x16.Reduces [2] S4x1024) :
    Host.reduce FloatOps.maximumf c (constant S_ .f32 0xFF800000#32) reducesTo_S4x1024x16_S4x1024_d2 h_S_
      = multiReduction .maximumf [2] S4x1024 c 0xFF800000#32 hr (.inl rfl) rfl :=
  hostReduce_maximumf_eq_multiReduction c 0xFF800000#32 _ _ hr _ _

/-- The largest score. -/
theorem top_apply (b : Fin 4) (i : Fin 1024) : val_main_v21 (F := Ideal) x w wq (ix2 b i) = Finset.univ.sup (scores x w wq b i) := by
  have hr : S4x1024x16.Reduces [2] S4x1024 := by decide
  refine (congrFun (host_max (val_main_v20 (F := Ideal) x w wq) hr) (ix2 b i)).trans ?_
  refine (Ideal.multiReduction_maximumf_single (a := 2) (val_main_v20 (F := Ideal) x w wq) _ _ _ _ (ix2 b i)).trans ?_
  show Finset.univ.fold max (Ideal.ofBits .f32 0xFF800000#32) (fun k : Fin 16 => val_main_v20 (F := Ideal) x w wq (hr.lift (ix2 b i) k)) = _
  have hl : ∀ k : Fin 16, hr.lift (ix2 b i) k = ix3 b i k := fun k => funext fun a => by fin_cases a <;> rfl
  rw [Row.ofBits_bot]
  simp only [hl, score_apply]
  rfl

/-- The exponential of a score less the largest one. -/
theorem exp_apply (b : Fin 4) (i : Fin 1024) (k : Fin 16) : val_main_v27 (F := Ideal) x w wq (ix3 b i k)
    = Ideal.exp (scores x w wq b i k - Finset.univ.sup (scores x w wq b i)) := by
  have h : idx_main_v24 (idx_main_v25 (ix3 b i k)) = ix2 b i := funext fun a => by fin_cases a <;> rfl
  rw [val_main_v27_apply, val_main_v26_apply, val_main_v25_apply, val_main_v24_apply, h, val_main_v23_apply, top_apply, score_apply,
    val_main_v22_apply, val_main_cst_2_apply, Ideal.hostUnary_exp_def, Ideal.maximumf_def,
    show FloatOps.ofBits (F := Ideal) .f32 0xFF800000#32 = (⊥ : EReal) from Row.ofBits_bot, max_eq_right bot_le]
  rfl

/-- The soft read of the memory. -/
theorem read_apply (b : Fin 4) (i : Fin 1024) (d : Fin 512) : val_main_v32 (F := Ideal) x w wq (ix3 b i d)
    = Row.read (scores x w wq b i) fun k => memory w b i k d := by
  rw [val_main_v32_apply]
  refine Finset.sum_congr rfl fun k _ => ?_
  have hl : lidx_main_v32 (ix3 b i d) k = ix3 b i k := funext fun a => by fin_cases a <;> rfl
  have hr : ridx_main_v32 (ix3 b i d) k = ix4 b i k d := funext fun a => by fin_cases a <;> rfl
  have h : idx_main_v29 (idx_main_v30 (ix3 b i k)) = ix2 b i := funext fun a => by fin_cases a <;> rfl
  have hk : ∀ k', idx_main_v28 (ix2 b i) k' = ix3 b i k' := fun k' => funext fun a => by fin_cases a <;> rfl
  rw [hl, hr, gather_apply, val_main_v31_apply, val_main_v30_apply, val_main_v29_apply, h, val_main_v28_apply, val_main_cst_3_apply,
    Ideal.hostDivf_def, show FloatOps.ofBits (F := Ideal) .f32 0x00000000#32 = (0 : EReal) from Ideal.ofBits_zero_f32, zero_add]
  simp only [hk, exp_apply]

/-- The row before it is normalised. -/
def mixed (b : Fin 4) (i : Fin 1024) (d : Fin 512) : EReal :=
  x (ix3 b i d) + ∑ e, Row.read (scores x w wq b i) (fun k => memory w b i k e) * wv (ix3 (Fin.ofNat 8 1) e d)

theorem mix_apply (b : Fin 4) (i : Fin 1024) (d : Fin 512) : val_main_v36 (F := Ideal) x w wq wv (ix3 b i d) = mixed x w wq wv b i d := by
  rw [val_main_v36_apply, val_main_v35_apply]
  refine congrArg (fun a : EReal => x (ix3 b i d) + a) (Finset.sum_congr rfl fun e _ => ?_)
  rw [show val_main_v34 (F := Ideal) wv = mat 1 wv from mat_eq 1 (by omega) wv _ _,
    show lidx_main_v35 (ix3 b i d) e = ix3 b i e from funext fun a => by fin_cases a <;> rfl, read_apply]
  rfl

theorem mean_apply (b : Fin 4) (i : Fin 1024) : val_main_v44 (F := Ideal) x w wq wv (ix3 b i 0) = Row.mean (mixed x w wq wv b i) := by
  rw [val_main_v44_apply, val_main_v42_apply, val_main_v41_apply, val_main_v43_apply, val_main_cst_5_apply, val_main_cst_4_apply, Ideal.hostDivf_def]
  rw [show FloatOps.ofBits (F := Ideal) .f32 0x00000000#32 = (0 : EReal) from Ideal.ofBits_zero_f32, zero_add]
  have h : ∀ k, idx_main_v41 (idx_main_v42 (ix3 b i 0)) k = ix3 b i k := fun k => funext fun a => by fin_cases a <;> rfl
  simp only [h, mix_apply]
  rfl

theorem var_apply (b : Fin 4) (i : Fin 1024) : val_main_v51 (F := Ideal) x w wq wv (ix3 b i 0) = Row.var (mixed x w wq wv b i) := by
  rw [val_main_v51_apply, val_main_v49_apply, val_main_v48_apply, val_main_v50_apply, val_main_cst_7_apply, val_main_cst_6_apply, Ideal.hostDivf_def]
  rw [show FloatOps.ofBits (F := Ideal) .f32 0x00000000#32 = (0 : EReal) from Ideal.ofBits_zero_f32, zero_add]
  have h : ∀ k, idx_main_v48 (idx_main_v49 (ix3 b i 0)) k = ix3 b i k := fun k => funext fun a => by fin_cases a <;> rfl
  have h' : ∀ k, idx_main_v45 (ix3 b i k) = ix3 b i 0 := fun k => funext fun a => by fin_cases a <;> rfl
  simp only [h, val_main_v47_apply, val_main_v46_apply, val_main_v45_apply, h', mean_apply, mix_apply]
  rfl

/-- The first layer at an index. -/
theorem first_apply (b : Fin 4) (i : Fin 1024) (d : Fin 512) : val_main_v66 (F := Ideal) x w wq wv s o (ix3 b i d)
    = Row.norm (mixed x w wq wv b i) (fun d => s (ix3 (Fin.ofNat 8 1) 0 d)) (fun d => o (ix3 (Fin.ofNat 8 1) 0 d)) d := by
  have h' : idx_main_v52 (ix3 b i d) = ix3 b i 0 := funext fun a => by fin_cases a <;> rfl
  have h'' : idx_main_v57 (ix3 b i d) = ix3 b i 0 := funext fun a => by fin_cases a <;> rfl
  rw [val_main_v66_apply, val_main_v62_apply, val_main_v58_apply, val_main_v53_apply, val_main_v52_apply, val_main_v57_apply, val_main_v56_apply,
    val_main_v55_apply, val_main_v54_apply, val_main_cst_8_apply, val_main_v61_apply, val_main_v60_apply, val_main_v59_apply,
    val_main_v65_apply, val_main_v64_apply, val_main_v63_apply, h', h'', var_apply, mean_apply, mix_apply, Ideal.hostDivf_def, Ideal.hostUnary_sqrt_def,
    show val_main_v38 (F := Ideal) s = vec 1 s from vec_eq 1 (by omega) s _ _, show val_main_v40 (F := Ideal) o = vec 1 o from vec_eq 1 (by omega) o _ _]
  exact congrArg (· * s (ix3 (Fin.ofNat 8 1) 0 d) + o (ix3 (Fin.ofNat 8 1) 0 d))
    (Row.div_sqrt (mixed x w wq wv b i d - Row.mean (mixed x w wq wv b i)) (mixed x w wq wv b i))

/-! ## Every layer -/

/-- The stack whose every matrix is matrix `n`. -/
def allMat (n : Nat) (a : FVec Ideal S8x512x512 .f32) : FVec Ideal S8x512x512 .f32 := fun j => a (ix3 (Fin.ofNat 8 n) (j 1) (j 2))
/-- The stack whose every vector is vector `n`. -/
def allVec (n : Nat) (a : FVec Ideal S8x1x512 .f32) : FVec Ideal S8x1x512 .f32 := fun j => a (ix3 (Fin.ofNat 8 n) 0 (j 2))

/-- Layer `n` at an index: layer 1 with the weights of layer `n` in its place. -/
theorem lay_apply (n : Nat) (y : FVec Ideal S4x1024x512 .f32) (b : Fin 4) (i : Fin 1024) : (fun d => layG w wq wv s o n y (ix3 b i d))
    = Row.layer (memory w b i) (fun e d => wq (ix3 (Fin.ofNat 8 n) e d)) (fun e d => wv (ix3 (Fin.ofNat 8 n) e d))
        (fun d => s (ix3 (Fin.ofNat 8 n) 0 d)) (fun d => o (ix3 (Fin.ofNat 8 n) 0 d)) fun d => y (ix3 b i d) := by
  funext d
  have e : layG w wq wv s o n y = layG w (allMat n wq) (allMat n wv) (allVec n s) (allVec n o) 1 y := rfl
  rw [e, ← lay1]
  exact first_apply y w (allMat n wq) (allMat n wv) (allVec n s) (allVec n o) b i d

end Cert.LayersReferenceIdeal.Out
-- ==== Proof.LayersResults.lean ====
/- The results of the layers' reference: the rows after seven layers with the skip, and the mean of the eight heads. -/
module

public import proofs.«01_k».proof.Proof.LayersReference
public import Idealize.ShloMosaic.Lib.Pipeline.ValueKit.Tiles

@[expose] public section

noncomputable section

namespace Cert.LayersReferenceIdeal.Out

open Cert.LayersReferenceIdeal Cert.LayersReferenceIdeal.Gen Idealize.ShloMosaic Idealize.ShloMosaic.ValueIdx Cert.LayersReferenceIdeal.Read
open Cert.LayersIdeal.Out (memory row heads finalRows meanHeads)

variable (x : FVec Ideal S4x1024x512 .f32) (w : FVec Ideal S4x1040x512 .f32) (wq wv : FVec Ideal S8x512x512 .f32)
  (s o : FVec Ideal S8x1x512 .f32) (h0 : FVec Ideal S512x6 .f32) (h : FVec Ideal S8x512x6 .f32) (p : FVec Ideal S512x512 .f32)

/-! ## The rows -/

/-- The rows after `n` layers. -/
def out : Nat → FVec Ideal S4x1024x512 .f32
  | 0 => x
  | n + 1 => layG w wq wv s o (n + 1) (out n)

theorem out_apply (b : Fin 4) (i : Fin 1024) : ∀ n, (fun d => out x w wq wv s o n (ix3 b i d)) = row x w wq wv s o b i n
  | 0 => rfl
  | n + 1 => (lay_apply w wq wv s o (n + 1) _ b i).trans (by rw [out_apply b i n]; rfl)

/-- A layer of what the layers before it leave. -/
theorem out_next (n : Nat) (y z : FVec Ideal S4x1024x512 .f32) (hz : z = layG w wq wv s o (n + 1) y) (hy : y = out x w wq wv s o n) :
    z = out x w wq wv s o (n + 1) := by
  rw [hz, hy]; rfl

theorem out1 : val_main_v66 (F := Ideal) x w wq wv s o = out x w wq wv s o 1 := out_next x w wq wv s o 0 _ _ (lay1 x w wq wv s o) rfl
theorem out2 : val_main_v119 (F := Ideal) x w wq wv s o = out x w wq wv s o 2 := out_next x w wq wv s o 1 _ _ (lay2 x w wq wv s o) (out1 x w wq wv s o)
theorem out3 : val_main_v172 (F := Ideal) x w wq wv s o = out x w wq wv s o 3 := out_next x w wq wv s o 2 _ _ (lay3 x w wq wv s o) (out2 x w wq wv s o)
theorem out4 : val_main_v225 (F := Ideal) x w wq wv s o = out x w wq wv s o 4 := out_next x w wq wv s o 3 _ _ (lay4 x w wq wv s o) (out3 x w wq wv s o)
theorem out5 : val_main_v278 (F := Ideal) x w wq wv s o = out x w wq wv s o 5 := out_next x w wq wv s o 4 _ _ (lay5 x w wq wv s o) (out4 x w wq wv s o)
theorem out6 : val_main_v331 (F := Ideal) x w wq wv s o = out x w wq wv s o 6 := out_next x w wq wv s o 5 _ _ (lay6 x w wq wv s o) (out5 x w wq wv s o)
theorem out7 : val_main_v384 (F := Ideal) x w wq wv s o = out x w wq wv s o 7 := out_next x w wq wv s o 6 _ _ (lay7 x w wq wv s o) (out6 x w wq wv s o)

theorem rows_eq : val_main_v389 (F := Ideal) x w wq wv s o p = finalRows x w wq wv s o p := by
  funext j
  obtain ⟨b, i, d, rfl⟩ : ∃ (b : Fin 4) (i : Fin 1024) (d : Fin 512), j = ix3 b i d := ⟨j 0, j 1, j 2, eq_ix3 j⟩
  rw [val_main_v389_apply, out7, val_main_v388_apply]
  refine congrArg₂ (fun a b : EReal => a + b) (congrFun (out_apply x w wq wv s o b i 7) d) (Finset.sum_congr rfl fun k _ => ?_)
  exact congrArg₂ (fun a b : EReal => a * b) (congrArg x (funext fun a => by fin_cases a <;> rfl))
    (congrArg p (funext fun a => by fin_cases a <;> rfl))

/-! ## The heads -/

/-- The head matrix of layer `n`. -/
def headMat : Nat → FVec Ideal S512x6 .f32
  | 0 => h0
  | n + 1 => hed (n + 1) h

/-- The heads of the rows after `n` layers. -/
def headAt (n : Nat) : FVec Ideal S4x1024x6 .f32 := val_main_v16 (F := Ideal) (out x w wq wv s o n) (headMat h0 h n)

theorem headAt_apply (n : Nat) (b : Fin 4) (i : Fin 1024) (d : Fin 6) :
    headAt x w wq wv s o h0 h n (ix3 b i d) = ∑ k, row x w wq wv s o b i n k * headMat h0 h n (ix2 k d) := by
  unfold headAt
  rw [val_main_v16_apply]
  refine Finset.sum_congr rfl fun k _ => ?_
  rw [← out_apply]
  exact congrArg₂ (fun a b : EReal => a * b) (congrArg _ (funext fun a => by fin_cases a <;> rfl))
    (congrArg _ (funext fun a => by fin_cases a <;> rfl))

/-- The heads added up are the sum over the layers. -/
theorem heads_eq (b : Fin 4) (i : Fin 1024) (d : Fin 6) : ∀ n, heads x w wq wv s o h0 h b i n d
    = ∑ k ∈ Finset.range (n + 1), headAt x w wq wv s o h0 h k (ix3 b i d)
  | 0 => by rw [Finset.sum_range_one, headAt_apply]; rfl
  | n + 1 => by rw [Finset.sum_range_succ, ← heads_eq b i d n, headAt_apply]; rfl

/-- The product of a layer's rows and its head matrix. -/
theorem head_next (n : Nat) (y : FVec Ideal S4x1024x512 .f32) (a : FVec Ideal S512x6 .f32) (z : FVec Ideal S4x1024x6 .f32)
    (hz : z = val_main_v16 (F := Ideal) y a) (hy : y = out x w wq wv s o n) (ha : a = headMat h0 h n) :
    z = headAt x w wq wv s o h0 h n := by
  rw [hz, hy, ha]; rfl

/-- One piece of the stack of heads. -/
theorem piece (n : Nat) (z : FVec Ideal S4x1024x6 .f32) (hz : z = headAt x w wq wv s o h0 h n) (k : Fin 8) (b : Fin 4) (i : Fin 1024) (d : Fin 6) :
    PieceAt (t := S8x4x1024x6) 0 (ix4 k b i d) (headAt x w wq wv s o h0 h k.val (ix3 b i d)) S1x4x1024x6
      (broadcastInDim S1x4x1024x6 ![1, 2, 3] bcast_S4x1024x6_S1x4x1024x6_1_2_3 z) n := by
  intro hk hr j _ hj
  subst hz
  refine (val_main_v390_apply (F := Ideal) (out x w wq wv s o n) (headMat h0 h n) j).trans ?_
  have hn : n = k.val := hk.symm
  subst hn
  refine congrArg (headAt x w wq wv s o h0 h k.val) (funext fun a => Fin.ext ?_)
  match a with
  | ⟨0, _⟩ => exact hj 1 (by decide)
  | ⟨1, _⟩ => exact hj 2 (by decide)
  | ⟨2, _⟩ => exact hj 3 (by decide)

/-- The stack of heads at an index. -/
theorem stack_apply (k : Fin 8) (b : Fin 4) (i : Fin 1024) (d : Fin 6) :
    val_main_v398 (F := Ideal) x w wq wv s o h0 h (ix4 k b i d) = headAt x w wq wv s o h0 h k.val (ix3 b i d) :=
  concatenate_unit_eq 0 _ _ _ _ (by rfl)
    ⟨piece x w wq wv s o h0 h 0 (val_main_v16 (F := Ideal) x h0) rfl k b i d,
      piece x w wq wv s o h0 h 1 _ (head_next x w wq wv s o h0 h 1 _ (val_main_v68 (F := Ideal) h) (val_main_v69 (F := Ideal) x w wq wv s o h) rfl
        (out1 x w wq wv s o) (hed_eq 1 (by omega) h _ _)) k b i d,
      piece x w wq wv s o h0 h 2 _ (head_next x w wq wv s o h0 h 2 _ (val_main_v121 (F := Ideal) h) (val_main_v122 (F := Ideal) x w wq wv s o h) rfl
        (out2 x w wq wv s o) (hed_eq 2 (by omega) h _ _)) k b i d,
      piece x w wq wv s o h0 h 3 _ (head_next x w wq wv s o h0 h 3 _ (val_main_v174 (F := Ideal) h) (val_main_v175 (F := Ideal) x w wq wv s o h) rfl
        (out3 x w wq wv s o) (hed_eq 3 (by omega) h _ _)) k b i d,
      piece x w wq wv s o h0 h 4 _ (head_next x w wq wv s o h0 h 4 _ (val_main_v227 (F := Ideal) h) (val_main_v228 (F := Ideal) x w wq wv s o h) rfl
        (out4 x w wq wv s o) (hed_eq 4 (by omega) h _ _)) k b i d,
      piece x w wq wv s o h0 h 5 _ (head_next x w wq wv s o h0 h 5 _ (val_main_v280 (F := Ideal) h) (val_main_v281 (F := Ideal) x w wq wv s o h) rfl
        (out5 x w wq wv s o) (hed_eq 5 (by omega) h _ _)) k b i d,
      piece x w wq wv s o h0 h 6 _ (head_next x w wq wv s o h0 h 6 _ (val_main_v333 (F := Ideal) h) (val_main_v334 (F := Ideal) x w wq wv s o h) rfl
        (out6 x w wq wv s o) (hed_eq 6 (by omega) h _ _)) k b i d,
      piece x w wq wv s o h0 h 7 _ (head_next x w wq wv s o h0 h 7 _ (val_main_v386 (F := Ideal) h) (val_main_v387 (F := Ideal) x w wq wv s o h) rfl
        (out7 x w wq wv s o) (hed_eq 7 (by omega) h _ _)) k b i d,
      trivial⟩

theorem heads_mean : val_main_v401 (F := Ideal) x w wq wv s o h0 h = meanHeads x w wq wv s o h0 h := by
  funext j
  obtain ⟨b, i, d, rfl⟩ : ∃ (b : Fin 4) (i : Fin 1024) (d : Fin 6), j = ix3 b i d := ⟨j 0, j 1, j 2, eq_ix3 j⟩
  have hi : ∀ k, idx_main_v399 (ix3 b i d) k = ix4 k b i d := fun k => funext fun a => by fin_cases a <;> rfl
  rw [val_main_v401_apply, val_main_v399_apply, val_main_v400_apply, val_main_cst_58_apply, val_main_cst_57_apply, Ideal.hostDivf_def,
    show FloatOps.ofBits (F := Ideal) .f32 0x00000000#32 = (0 : EReal) from Ideal.ofBits_zero_f32, zero_add]
  simp only [hi, stack_apply]
  rw [Fin.sum_univ_eq_sum_range (fun k => headAt x w wq wv s o h0 h k (ix3 b i d)) 8, ← heads_eq x w wq wv s o h0 h b i d 7]
  rfl

end Cert.LayersReferenceIdeal.Out
-- ==== Proof.lean ====
module

public import proofs.«01_k».proof.Defs
public import proofs.«01_k».proof.Proof.Gen.Rowmm
public import proofs.«01_k».proof.Proof.Gen.Rowmm.Skeleton
public import proofs.«01_k».proof.Proof.Gen.Rowmm.Launch
public import proofs.«01_k».proof.Proof.Gen.Rowmm.Points
public import proofs.«01_k».proof.Proof.Gen.Rowmm.Frame
public import proofs.«01_k».proof.Proof.Gen.RowmmIdeal
public import proofs.«01_k».proof.Proof.Gen.RowmmIdeal.Skeleton
public import proofs.«01_k».proof.Proof.Gen.RowmmIdeal.Launch
public import proofs.«01_k».proof.Proof.Gen.RowmmIdeal.Points
public import proofs.«01_k».proof.Proof.Gen.RowmmIdeal.Frame
public import proofs.«01_k».proof.Proof.Gen.RowmmReferenceIdeal
public import proofs.«01_k».proof.Proof.Gen.Scan
public import proofs.«01_k».proof.Proof.Gen.Scan.Skeleton
public import proofs.«01_k».proof.Proof.Gen.Scan.Launch
public import proofs.«01_k».proof.Proof.Gen.Scan.Points
public import proofs.«01_k».proof.Proof.ScanFrame
public import proofs.«01_k».proof.Proof.Gen.ScanIdeal
public import proofs.«01_k».proof.Proof.Gen.ScanIdeal.Skeleton
public import proofs.«01_k».proof.Proof.Gen.ScanIdeal.Launch
public import proofs.«01_k».proof.Proof.Gen.ScanIdeal.Points
public import proofs.«01_k».proof.Proof.ScanIdealFrame
public import proofs.«01_k».proof.Proof.Gen.ScanReferenceIdeal
public import proofs.«01_k».proof.Proof.Gen.Layers
public import proofs.«01_k».proof.Proof.Gen.Layers.Skeleton
public import proofs.«01_k».proof.Proof.Gen.Layers.Launch
public import proofs.«01_k».proof.Proof.Gen.Layers.Points
public import proofs.«01_k».proof.Proof.Gen.Layers.Frame
public import proofs.«01_k».proof.Proof.Gen.LayersIdeal
public import proofs.«01_k».proof.Proof.Gen.LayersIdeal.Skeleton
public import proofs.«01_k».proof.Proof.Gen.LayersIdeal.Launch
public import proofs.«01_k».proof.Proof.Gen.LayersIdeal.Points
public import proofs.«01_k».proof.Proof.Gen.LayersIdeal.Frame
public import proofs.«01_k».proof.Proof.Gen.LayersReferenceIdeal
public import proofs.«01_k».proof.Proof.Gen.Memvec
public import proofs.«01_k».proof.Proof.Gen.Memvec.Skeleton
public import proofs.«01_k».proof.Proof.Gen.Memvec.Launch
public import proofs.«01_k».proof.Proof.Gen.Memvec.Points
public import proofs.«01_k».proof.Proof.Gen.Memvec.Frame
public import proofs.«01_k».proof.Proof.Gen.MemvecIdeal
public import proofs.«01_k».proof.Proof.Gen.MemvecIdeal.Skeleton
public import proofs.«01_k».proof.Proof.Gen.MemvecIdeal.Launch
public import proofs.«01_k».proof.Proof.Gen.MemvecIdeal.Points
public import proofs.«01_k».proof.Proof.Gen.MemvecIdeal.Frame
public import proofs.«01_k».proof.Proof.Gen.MemvecReferenceIdeal
public import proofs.«01_k».proof.Proof.Gen.Logits
public import proofs.«01_k».proof.Proof.Gen.Logits.Skeleton
public import proofs.«01_k».proof.Proof.Gen.Logits.Launch
public import proofs.«01_k».proof.Proof.Gen.Logits.Points
public import proofs.«01_k».proof.Proof.Gen.Logits.Frame
public import proofs.«01_k».proof.Proof.Gen.LogitsIdeal
public import proofs.«01_k».proof.Proof.Gen.LogitsIdeal.Skeleton
public import proofs.«01_k».proof.Proof.Gen.LogitsIdeal.Launch
public import proofs.«01_k».proof.Proof.Gen.LogitsIdeal.Points
public import proofs.«01_k».proof.Proof.Gen.LogitsIdeal.Frame
public import proofs.«01_k».proof.Proof.Gen.LogitsReferenceIdeal
public import proofs.«01_k».proof.Proof.Gen.Pre_scan_finite
public import proofs.«01_k».proof.Proof.Gen.Pre_layers_finite
public import proofs.«01_k».proof.Proof.Gen.RowmmIdeal.Value
public import proofs.«01_k».proof.Proof.Gen.RowmmReferenceIdeal.Run
public import proofs.«01_k».proof.Proof.Gen.RowmmReferenceIdeal.Read
public import proofs.«01_k».proof.Proof.ScanBlocks
public import proofs.«01_k».proof.Proof.ScanStepRun
public import proofs.«01_k».proof.Proof.Gen.LayersIdeal.Value
public import proofs.«01_k».proof.Proof.Gen.LayersReferenceIdeal.Run
public import proofs.«01_k».proof.Proof.Gen.LayersReferenceIdeal.Read
public import proofs.«01_k».proof.Proof.Gen.MemvecIdeal.Value
public import proofs.«01_k».proof.Proof.Gen.MemvecReferenceIdeal.Run
public import proofs.«01_k».proof.Proof.Gen.MemvecReferenceIdeal.Read
public import proofs.«01_k».proof.Proof.Gen.LogitsIdeal.Value
public import proofs.«01_k».proof.Proof.Gen.LogitsReferenceIdeal.Run
public import proofs.«01_k».proof.Proof.Gen.LogitsReferenceIdeal.Read
public import proofs.«01_k».proof.Proof.ScanFinite
public import proofs.«01_k».proof.Proof.ScanReference
public import proofs.«01_k».proof.Proof.LogitsValue
public import proofs.«01_k».proof.Proof.LogitsReference
public import proofs.«01_k».proof.Proof.RowmmValue
public import proofs.«01_k».proof.Proof.MemvecReference
public import proofs.«01_k».proof.Proof.LayersResults
public import proofs.«01_k».proof.Proof.LayersFinite
public import Idealize.ShloMosaic.Adequacy
public import Idealize.ShloMosaic.Init

@[expose] public section

noncomputable section

namespace Cert.Proof

open Idealize.ShloMosaic Idealize.SL.Sem Cert.Rowmm

/-! ## The references' runs -/

/-- The states of the scan's reference, from its arguments. -/
def scanIter (m : (ℓ : Loc Cert.ScanReferenceIdeal.nD Cert.ScanReferenceIdeal.τ Cert.ScanReferenceIdeal.sig) → Buf (Elt Ideal) ℓ)
    (c : Dev Cert.ScanReferenceIdeal.nD) : ℕ → Cert.ScanReferenceIdeal.Step.State Ideal :=
  Cert.ScanReferenceIdeal.Out.iter (m ((c.tc : Thread _ _).loc Cert.ScanReferenceIdeal.main_arg0)) (m ((c.tc : Thread _ _).loc Cert.ScanReferenceIdeal.main_arg1))
    (m ((c.tc : Thread _ _).loc Cert.ScanReferenceIdeal.main_arg2)) (m ((c.tc : Thread _ _).loc Cert.ScanReferenceIdeal.main_arg3))
    (m ((c.tc : Thread _ _).loc Cert.ScanReferenceIdeal.main_arg4)) (m ((c.tc : Thread _ _).loc Cert.ScanReferenceIdeal.main_arg5))

theorem rowmmRef : Cert.quiescent_RowmmReferenceIdeal (hRowmmReferenceIdeal := Cert.RowmmReferenceIdeal.Gen.facts) := fun m ρ _ =>
  (θ_run Cert.RowmmReferenceIdeal.defs _ _).mono (fun r h => ⟨fun c => (h c).2, sem_eq_zero_of_no_sems (by decide) r.2⟩)
    (Cert.RowmmReferenceIdeal.Value.run m ρ)

theorem layersRef : Cert.quiescent_LayersReferenceIdeal (hLayersReferenceIdeal := Cert.LayersReferenceIdeal.Gen.facts) := fun m ρ _ =>
  (θ_run Cert.LayersReferenceIdeal.defs _ _).mono (fun r h => ⟨fun c => (h c).2.2, sem_eq_zero_of_no_sems (by decide) r.2⟩)
    (Cert.LayersReferenceIdeal.Value.run m ρ)

theorem memvecRef : Cert.quiescent_MemvecReferenceIdeal (hMemvecReferenceIdeal := Cert.MemvecReferenceIdeal.Gen.facts) := fun m ρ _ =>
  (θ_run Cert.MemvecReferenceIdeal.defs _ _).mono (fun r h => ⟨fun c => (h c).2, sem_eq_zero_of_no_sems (by decide) r.2⟩)
    (Cert.MemvecReferenceIdeal.Value.run m ρ)

theorem logitsRef : Cert.quiescent_LogitsReferenceIdeal (hLogitsReferenceIdeal := Cert.LogitsReferenceIdeal.Gen.facts) := fun m ρ _ =>
  (θ_run Cert.LogitsReferenceIdeal.defs _ _).mono (fun r h => ⟨fun c => (h c).2, sem_eq_zero_of_no_sems (by decide) r.2⟩)
    (Cert.LogitsReferenceIdeal.Value.run m ρ)

theorem scanRef : Cert.quiescent_ScanReferenceIdeal (hScanReferenceIdeal := Cert.ScanReferenceIdeal.Gen.facts) := fun m ρ _ =>
  (θ_run Cert.ScanReferenceIdeal.defs _ _).mono (fun r h => ⟨fun c => (h c).2.2, sem_eq_zero_of_no_sems (by decide) r.2⟩)
    (Cert.ScanReferenceIdeal.StepRun.run_iter m ρ (scanIter m) (fun _ => rfl) fun _ _ => rfl)

/-! ## The calls' results -/

theorem rowmm : Cert.algebraic_RowmmIdeal_RowmmReferenceIdeal (hRowmmIdeal := Cert.RowmmIdeal.Gen.facts)
    (hRowmmReferenceIdeal := Cert.RowmmReferenceIdeal.Gen.facts) := fun m ρ m' ρ' _ hagree =>
  ⟨fun c => Cert.RowmmIdeal.Out.rows (m ((c.tc : Thread _ _).loc Cert.RowmmIdeal.main_arg0)) (m ((c.tc : Thread _ _).loc Cert.RowmmIdeal.main_arg1)),
    (θ_run Cert.RowmmIdeal.defs _ _).mono (fun _ h c => ⟨(h c).1.trans (Cert.RowmmIdeal.Out.final m c), (h c).2⟩)
      (Cert.RowmmIdeal.Value.run_blocks m ρ),
    (θ_run Cert.RowmmReferenceIdeal.defs _ _).mono (fun _ h c => ⟨(h c).1.trans (by
        rw [Cert.RowmmReferenceIdeal.Read.val_main_v0_eq, (hagree c).1, (hagree c).2]
        exact Cert.RowmmIdeal.Out.reference_eq _ _), (h c).2⟩)
      (Cert.RowmmReferenceIdeal.Value.run m' ρ')⟩

theorem memvec : Cert.algebraic_MemvecIdeal_MemvecReferenceIdeal (hMemvecIdeal := Cert.MemvecIdeal.Gen.facts)
    (hMemvecReferenceIdeal := Cert.MemvecReferenceIdeal.Gen.facts) := fun m ρ m' ρ' _ hagree =>
  ⟨fun c => Cert.MemvecIdeal.Out.memvec (m ((c.tc : Thread _ _).loc Cert.MemvecIdeal.main_arg0)) (m ((c.tc : Thread _ _).loc Cert.MemvecIdeal.main_arg1)) (m ((c.tc : Thread _ _).loc Cert.MemvecIdeal.main_arg2)) (m ((c.tc : Thread _ _).loc Cert.MemvecIdeal.main_arg3)) (m ((c.tc : Thread _ _).loc Cert.MemvecIdeal.main_arg4)),
    (θ_run Cert.MemvecIdeal.defs _ _).mono (fun _ h c => ⟨(h c).1.trans (Cert.MemvecIdeal.Out.final m c), (h c).2⟩)
      (Cert.MemvecIdeal.Value.run_blocks m ρ),
    (θ_run Cert.MemvecReferenceIdeal.defs _ _).mono (fun _ h c => ⟨(h c).1.trans (by
        rw [Cert.MemvecReferenceIdeal.Read.val_main_v29_eq, (hagree c).1, (hagree c).2.1, (hagree c).2.2.1, (hagree c).2.2.2.1, (hagree c).2.2.2.2]
        exact Cert.MemvecReferenceIdeal.Out.val_eq _ _ _ _ _), (h c).2⟩)
      (Cert.MemvecReferenceIdeal.Value.run m' ρ')⟩

theorem logits : Cert.algebraic_LogitsIdeal_LogitsReferenceIdeal (hLogitsIdeal := Cert.LogitsIdeal.Gen.facts)
    (hLogitsReferenceIdeal := Cert.LogitsReferenceIdeal.Gen.facts) := fun m ρ m' ρ' _ hagree =>
  ⟨fun c => Cert.LogitsIdeal.Out.logits (m ((c.tc : Thread _ _).loc Cert.LogitsIdeal.main_arg0)) (m ((c.tc : Thread _ _).loc Cert.LogitsIdeal.main_arg1)) (m ((c.tc : Thread _ _).loc Cert.LogitsIdeal.main_arg2)),
    (θ_run Cert.LogitsIdeal.defs _ _).mono (fun _ h c => ⟨(h c).1.trans (Cert.LogitsIdeal.Out.final m c), (h c).2⟩)
      (Cert.LogitsIdeal.Value.run_blocks m ρ),
    (θ_run Cert.LogitsReferenceIdeal.defs _ _).mono (fun _ h c => ⟨(h c).1.trans (by
        rw [Cert.LogitsReferenceIdeal.Read.val_main_v4_eq, (hagree c).1, (hagree c).2.1, (hagree c).2.2]
        exact Cert.LogitsReferenceIdeal.Out.val_eq _ _ _), (h c).2⟩)
      (Cert.LogitsReferenceIdeal.Value.run m' ρ')⟩

open Cert.LayersIdeal (S4x1024x512 S4x1040x512 S8x512x512 S8x1x512 S512x6 S8x512x6)

/-- Equal arguments give equal rows. -/
theorem rows_congr {x x' : Vec Ideal S4x1024x512 .f32} {w w' : Vec Ideal S4x1040x512 .f32} {q q' v v' : Vec Ideal S8x512x512 .f32}
    {s s' o o' : Vec Ideal S8x1x512 .f32} {p p' : Vec Ideal Cert.LayersIdeal.S512x512 .f32} (hx : x' = x) (hw : w' = w) (hq : q' = q) (hv : v' = v)
    (hs : s' = s) (ho : o' = o) (hp : p' = p) :
    Cert.LayersIdeal.Out.finalRows x' w' q' v' s' o' p' = Cert.LayersIdeal.Out.finalRows x w q v s o p := by
  subst hx hw hq hv hs ho hp; rfl

/-- Equal arguments give equal heads. -/
theorem heads_congr {x x' : Vec Ideal S4x1024x512 .f32} {w w' : Vec Ideal S4x1040x512 .f32} {q q' v v' : Vec Ideal S8x512x512 .f32}
    {s s' o o' : Vec Ideal S8x1x512 .f32} {g g' : Vec Ideal S512x6 .f32} {h h' : Vec Ideal S8x512x6 .f32} (hx : x' = x) (hw : w' = w)
    (hq : q' = q) (hv : v' = v) (hs : s' = s) (ho : o' = o) (hg : g' = g) (hh : h' = h) :
    Cert.LayersIdeal.Out.meanHeads x' w' q' v' s' o' g' h' = Cert.LayersIdeal.Out.meanHeads x w q v s o g h := by
  subst hx hw hq hv hs ho hg hh; rfl

theorem layers : Cert.algebraic_LayersIdeal_LayersReferenceIdeal_pre_layers_finite (hLayersIdeal := Cert.LayersIdeal.Gen.facts)
    (hLayersReferenceIdeal := Cert.LayersReferenceIdeal.Gen.facts) (hPre_layers_finite := Cert.Pre_layers_finite.Gen.facts) :=
  fun m ρ m' ρ' hpre hagree =>
  ⟨fun c => Cert.LayersIdeal.Out.finalRows (m ((c.tc : Thread _ _).loc Cert.LayersIdeal.main_arg0)) (m ((c.tc : Thread _ _).loc Cert.LayersIdeal.main_arg1)) (m ((c.tc : Thread _ _).loc Cert.LayersIdeal.main_arg2)) (m ((c.tc : Thread _ _).loc Cert.LayersIdeal.main_arg3)) (m ((c.tc : Thread _ _).loc Cert.LayersIdeal.main_arg4)) (m ((c.tc : Thread _ _).loc Cert.LayersIdeal.main_arg5)) (m ((c.tc : Thread _ _).loc Cert.LayersIdeal.main_arg8)),
    fun c => Cert.LayersIdeal.Out.meanHeads (m ((c.tc : Thread _ _).loc Cert.LayersIdeal.main_arg0)) (m ((c.tc : Thread _ _).loc Cert.LayersIdeal.main_arg1)) (m ((c.tc : Thread _ _).loc Cert.LayersIdeal.main_arg2)) (m ((c.tc : Thread _ _).loc Cert.LayersIdeal.main_arg3)) (m ((c.tc : Thread _ _).loc Cert.LayersIdeal.main_arg4)) (m ((c.tc : Thread _ _).loc Cert.LayersIdeal.main_arg5)) (m ((c.tc : Thread _ _).loc Cert.LayersIdeal.main_arg6)) (m ((c.tc : Thread _ _).loc Cert.LayersIdeal.main_arg7)),
    (θ_run Cert.LayersIdeal.defs _ _).mono (fun _ h c => ⟨(h c).1.trans (Cert.LayersIdeal.Out.final9 m c (Cert.LayersIdeal.Out.fine_of_pre m hpre c)),
        (h c).2.1.trans (Cert.LayersIdeal.Out.final10 m c (Cert.LayersIdeal.Out.fine_of_pre m hpre c)), (h c).2.2⟩)
      (Cert.LayersIdeal.Value.run m ρ),
    (θ_run Cert.LayersReferenceIdeal.defs _ _).mono (fun _ h c => ⟨(h c).1.trans (by
        rw [Cert.LayersReferenceIdeal.Read.val_main_v389_eq, Cert.LayersReferenceIdeal.Out.rows_eq]
        exact rows_congr (hagree c).1 ((hagree c).2.1) ((hagree c).2.2.1) ((hagree c).2.2.2.1) ((hagree c).2.2.2.2.1) ((hagree c).2.2.2.2.2.1) ((hagree c).2.2.2.2.2.2.2.2)),
      (h c).2.1.trans (by
        rw [Cert.LayersReferenceIdeal.Read.val_main_v401_eq, Cert.LayersReferenceIdeal.Out.heads_mean]
        exact heads_congr (hagree c).1 ((hagree c).2.1) ((hagree c).2.2.1) ((hagree c).2.2.2.1) ((hagree c).2.2.2.2.1) ((hagree c).2.2.2.2.2.1) ((hagree c).2.2.2.2.2.2.1) ((hagree c).2.2.2.2.2.2.2.1)), (h c).2.2⟩)
      (Cert.LayersReferenceIdeal.Value.run m' ρ')⟩

open Cert.ScanIdeal (S1024x4x512 S1x512)

/-- Equal arguments give equal rows put out and equal rows written. -/
theorem scan_congr {x x' q q' : Vec Ideal S1024x4x512 .f32} {v v' w w' : Vec Ideal Cert.ScanIdeal.S512x512 .f32} {s s' b b' : Vec Ideal S1x512 .f32}
    (hx : x' = x) (hq : q' = q) (hv : v' = v) (hw : w' = w) (hs : s' = s) (hb : b' = b) :
    Cert.ScanReferenceIdeal.Out.outArr x' q' v' w' s' b' = Cert.ScanIdeal.Out.outArr x q v w s b
      ∧ Cert.ScanReferenceIdeal.Out.wrArr x' q' v' w' s' b' = Cert.ScanIdeal.Out.wrArr x q v w s b := by
  subst hx hq hv hw hs hb; exact ⟨rfl, rfl⟩

theorem scan : Cert.algebraic_ScanIdeal_ScanReferenceIdeal_pre_scan_finite (hScanIdeal := Cert.ScanIdeal.Gen.facts)
    (hScanReferenceIdeal := Cert.ScanReferenceIdeal.Gen.facts) (hPre_scan_finite := Cert.Pre_scan_finite.Gen.facts) :=
  fun m ρ m' ρ' hpre hagree =>
  ⟨fun c => Cert.ScanIdeal.Out.outArr (m ((c.tc : Thread _ _).loc Cert.ScanIdeal.main_arg0)) (m ((c.tc : Thread _ _).loc Cert.ScanIdeal.main_arg1)) (m ((c.tc : Thread _ _).loc Cert.ScanIdeal.main_arg2)) (m ((c.tc : Thread _ _).loc Cert.ScanIdeal.main_arg3)) (m ((c.tc : Thread _ _).loc Cert.ScanIdeal.main_arg4)) (m ((c.tc : Thread _ _).loc Cert.ScanIdeal.main_arg5)),
    fun c => Cert.ScanIdeal.Out.wrArr (m ((c.tc : Thread _ _).loc Cert.ScanIdeal.main_arg0)) (m ((c.tc : Thread _ _).loc Cert.ScanIdeal.main_arg1)) (m ((c.tc : Thread _ _).loc Cert.ScanIdeal.main_arg2)) (m ((c.tc : Thread _ _).loc Cert.ScanIdeal.main_arg3)) (m ((c.tc : Thread _ _).loc Cert.ScanIdeal.main_arg4)) (m ((c.tc : Thread _ _).loc Cert.ScanIdeal.main_arg5)),
    (θ_run Cert.ScanIdeal.defs _ _).mono (fun _ h c => ⟨(h c).1.trans (Cert.ScanIdeal.Out.final6 m c (Cert.ScanIdeal.Out.real_of_pre m hpre c)),
        (h c).2.1.trans (Cert.ScanIdeal.Out.final7 m c (Cert.ScanIdeal.Out.real_of_pre m hpre c)), (h c).2.2⟩)
      (Cert.ScanIdeal.Value.run_blocks m ρ),
    (θ_run Cert.ScanReferenceIdeal.defs _ _).mono (fun _ h c =>
        have e := scan_congr ((hagree c).1) ((hagree c).2.1) ((hagree c).2.2.1) ((hagree c).2.2.2.1) ((hagree c).2.2.2.2.1) ((hagree c).2.2.2.2.2)
        ⟨(h c).1.trans ((Cert.ScanReferenceIdeal.Out.outs_eq _ _ _ _ _ _).trans e.1),
          (h c).2.1.trans ((Cert.ScanReferenceIdeal.Out.written_eq _ _ _ _ _ _).trans e.2), (h c).2.2⟩)
      (Cert.ScanReferenceIdeal.StepRun.run_iter m' ρ' (scanIter m') (fun _ => rfl) fun _ _ => rfl)⟩

theorem claim : Cert.Claim := ⟨Cert.Rowmm.Gen.facts, Cert.RowmmIdeal.Gen.facts, Cert.RowmmReferenceIdeal.Gen.facts, Cert.Scan.Gen.facts, Cert.ScanIdeal.Gen.facts, Cert.ScanReferenceIdeal.Gen.facts, Cert.Layers.Gen.facts, Cert.LayersIdeal.Gen.facts, Cert.LayersReferenceIdeal.Gen.facts, Cert.Memvec.Gen.facts, Cert.MemvecIdeal.Gen.facts, Cert.MemvecReferenceIdeal.Gen.facts, Cert.Logits.Gen.facts, Cert.LogitsIdeal.Gen.facts, Cert.LogitsReferenceIdeal.Gen.facts, Cert.Pre_scan_finite.Gen.facts, Cert.Pre_layers_finite.Gen.facts,
  fun m ρ _ => Cert.Rowmm.Gen.frame m ρ,
  fun m ρ _ => Cert.RowmmIdeal.Gen.frame m ρ,
  rowmmRef,
  fun m ρ _ => Cert.Scan.Gen.frame m ρ,
  fun m ρ _ => Cert.ScanIdeal.Gen.frame m ρ,
  fun m ρ _ => Cert.ScanIdeal.Gen.frame m ρ,
  scanRef,
  fun m ρ _ => scanRef m ρ trivial,
  fun m ρ _ => Cert.Layers.Gen.frame m ρ,
  fun m ρ _ => Cert.LayersIdeal.Gen.frame m ρ,
  fun m ρ _ => Cert.LayersIdeal.Gen.frame m ρ,
  layersRef,
  fun m ρ _ => layersRef m ρ trivial,
  fun m ρ _ => Cert.Memvec.Gen.frame m ρ,
  fun m ρ _ => Cert.MemvecIdeal.Gen.frame m ρ,
  memvecRef,
  fun m ρ _ => Cert.Logits.Gen.frame m ρ,
  fun m ρ _ => Cert.LogitsIdeal.Gen.frame m ρ,
  logitsRef,
  trivial,
  rowmm,
  trivial,
  scan,
  IdealRules.named_const.statement _ _ _ _ _ rfl,
  layers,
  trivial,
  memvec,
  trivial,
  logits⟩

end Cert.Proof

end
